-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_experts_in_range [hPre_experts_in_range : Cert.Pre_experts_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_experts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_in_range [hPre_experts_in_range : Cert.Pre_experts_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_experts_in_range [hKernelIdeal : Cert.KernelIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_experts_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_experts_in_range [hReferenceIdeal : Cert.ReferenceIdeal.Facts] [hPre_experts_in_range : Cert.Pre_experts_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def preserves_Kernel_KernelIdeal : Prop :=
  True

def algebraic_KernelIdeal_ReferenceIdeal_pre_experts_in_range [hKernelIdeal : Cert.KernelIdeal.Facts] [hReferenceIdeal : Cert.ReferenceIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_experts_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v94) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v62) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v57) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v37) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1_0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v55) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v1_0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v206) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_experts_in_range : Cert.Pre_experts_in_range.Facts),
    quiescent_Kernel (hKernel := hKernel)
    ∧ quiescent_KernelIdeal (hKernelIdeal := hKernelIdeal)
    ∧ quiescent_KernelIdeal_pre_experts_in_range (hKernelIdeal := hKernelIdeal) (hPre_experts_in_range := hPre_experts_in_range)
    ∧ quiescent_ReferenceIdeal (hReferenceIdeal := hReferenceIdeal)
    ∧ quiescent_ReferenceIdeal_pre_experts_in_range (hReferenceIdeal := hReferenceIdeal) (hPre_experts_in_range := hPre_experts_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_experts_in_range (hKernelIdeal := hKernelIdeal) (hReferenceIdeal := hReferenceIdeal) (hPre_experts_in_range := hPre_experts_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_experts_in_range.lean ====
abbrev S2x8448x1024 : Shape := ⟨3, ![2, 8448, 1024]⟩
abbrev S2x8448x128 : Shape := ⟨3, ![2, 8448, 128]⟩
abbrev S8x1024x3584 : Shape := ⟨3, ![8, 1024, 3584]⟩
abbrev S8x3584x1024 : Shape := ⟨3, ![8, 3584, 1024]⟩
abbrev S2x8448x2 : Shape := ⟨3, ![2, 8448, 2]⟩
abbrev S_ : Shape := ⟨0, ![]⟩

class Facts : Prop where
  slices_S2x8448x128_S2x8448x2_0_0_2 : S2x8448x128.Slices ![0, 0, 2] S2x8448x2
  bcast_S_S2x8448x2 : S_.BroadcastsInDim S2x8448x2 (![] : Fin 0 → Fin S2x8448x2.rank)
  reducesTo_S2x8448x2_S_d0_1_2 : S2x8448x2.ReducesTo [0, 1, 2] S_
  h_S_ : 0 < S_.numel

variable [Facts]

def fn {F : FTy → Type} [FloatOps F] (main_arg0 : FVec F S2x8448x1024 .bf16) (main_arg1 : FVec F S2x8448x128 .f32) (main_arg2 : FVec F S8x1024x3584 .f32) (main_arg3 : FVec F S8x1024x3584 .f32) (main_arg4 : FVec F S8x3584x1024 .f32) : IVec S_ 1 :=
  let main_v0 : FVec F S2x8448x2 .f32 := (extractStridedSlice S2x8448x2 ![0, 0, 2] · slices_S2x8448x128_S2x8448x2_0_0_2) main_arg1
  let main_v1 : IVec S2x8448x2 32 := fptosi 32 main_v0
  let main_c : IVec S_ 32 := constantI S_ 32 0#32
  let main_v2 : IVec S2x8448x2 32 := broadcastInDim S2x8448x2 ![] bcast_S_S2x8448x2 main_c
  let main_v3 : IVec S2x8448x2 1 := cmpi .sge main_v1 main_v2
  let main_c_0 : IVec S_ 32 := constantI S_ 32 8#32
  let main_v4 : IVec S2x8448x2 32 := broadcastInDim S2x8448x2 ![] bcast_S_S2x8448x2 main_c_0
  let main_v5 : IVec S2x8448x2 1 := cmpi .slt main_v1 main_v4
  let main_v6 : IVec S2x8448x2 1 := andi main_v3 main_v5
  let main_c_1 : IVec S_ 1 := constantI S_ 1 1#1
  let main_v7 : IVec S_ 1 := (fun x v => Host.reduce IntOp.andi x v reducesTo_S2x8448x2_S_d0_1_2 h_S_) main_v6 main_c_1
  main_v7
-- ==== Kernel.lean ====
abbrev S2x8448x1024 : Shape := ⟨3, ![2, 8448, 1024]⟩
abbrev S2x8448x128 : Shape := ⟨3, ![2, 8448, 128]⟩
abbrev S8x1024x3584 : Shape := ⟨3, ![8, 1024, 3584]⟩
abbrev S8x3584x1024 : Shape := ⟨3, ![8, 3584, 1024]⟩
abbrev S16896x128 : Shape := ⟨2, ![16896, 128]⟩
abbrev S16896x1 : Shape := ⟨2, ![16896, 1]⟩
abbrev S16896 : Shape := ⟨1, ![16896]⟩
abbrev S33792 : Shape := ⟨1, ![33792]⟩
abbrev S33792x1 : Shape := ⟨2, ![33792, 1]⟩
abbrev S8 : Shape := ⟨1, ![8]⟩
abbrev S1x8 : Shape := ⟨2, ![1, 8]⟩
abbrev S33792x8 : Shape := ⟨2, ![33792, 8]⟩
abbrev S_ : Shape := ⟨0, ![]⟩
abbrev S74 : Shape := ⟨1, ![74]⟩
abbrev S74x1 : Shape := ⟨2, ![74, 1]⟩
abbrev S74x8 : Shape := ⟨2, ![74, 8]⟩
abbrev S1 : Shape := ⟨1, ![1]⟩
abbrev S37888 : Shape := ⟨1, ![37888]⟩
abbrev S16896x1024 : Shape := ⟨2, ![16896, 1024]⟩
abbrev S37888x1024 : Shape := ⟨2, ![37888, 1024]⟩
abbrev S37888x1 : Shape := ⟨2, ![37888, 1]⟩
abbrev S1x1 : Shape := ⟨2, ![1, 1]⟩
abbrev S512x1024 : Shape := ⟨2, ![512, 1024]⟩
abbrev S1x1024x1792 : Shape := ⟨3, ![1, 1024, 1792]⟩
abbrev S1x1792x1024 : Shape := ⟨3, ![1, 1792, 1024]⟩
abbrev S1024x1792 : Shape := ⟨2, ![1024, 1792]⟩
abbrev S512x1792 : Shape := ⟨2, ![512, 1792]⟩
abbrev S1792x1024 : Shape := ⟨2, ![1792, 1024]⟩
abbrev S33792x1024 : Shape := ⟨2, ![33792, 1024]⟩
abbrev S2x2x8448x1024 : Shape := ⟨4, ![2, 2, 8448, 1024]⟩

abbrev nBuf : Space → Nat
  | .hbm => 162
  | .vmem => 11
  | .smem => 2
  | _ => 0

abbrev hbmTy0_0 (i : Nat) : BufTy := match i % 128 with
  | 0 => ⟨S2x8448x1024, .bf16⟩
  | 1 => ⟨S2x8448x128, .f32⟩
  | 2 => ⟨S8x1024x3584, .f32⟩
  | 3 => ⟨S8x1024x3584, .f32⟩
  | 4 => ⟨S8x3584x1024, .f32⟩
  | 5 => ⟨S8x1024x3584, .bf16⟩
  | 6 => ⟨S8x1024x3584, .bf16⟩
  | 7 => ⟨S8x3584x1024, .bf16⟩
  | 8 => ⟨S16896x128, .f32⟩
  | 9 => ⟨S16896x1, .f32⟩
  | 10 => ⟨S16896, .f32⟩
  | 11 => ⟨S16896x1, .f32⟩
  | 12 => ⟨S16896, .f32⟩
  | 13 => ⟨S33792, .f32⟩
  | 14 => ⟨S33792, .i32⟩
  | 15 => ⟨S16896, .i32⟩
  | 16 => ⟨S33792, .i32⟩
  | 17 => ⟨S33792x1, .i32⟩
  | 18 => ⟨S8, .i32⟩
  | 19 => ⟨S1x8, .i32⟩
  | 20 => ⟨S33792x8, .i32⟩
  | 21 => ⟨S33792x8, .i32⟩
  | 22 => ⟨S33792x8, .i1⟩
  | 23 => ⟨S33792x8, .i32⟩
  | 24 => ⟨S_, .i32⟩
  | 25 => ⟨S8, .i32⟩
  | 26 => ⟨S_, .i32⟩
  | 27 => ⟨S_, .i32⟩
  | 28 => ⟨S33792x8, .i32⟩
  | 29 => ⟨S33792x8, .i32⟩
  | 30 => ⟨S33792x8, .i32⟩
  | 31 => ⟨S_, .i32⟩
  | 32 => ⟨S33792, .i32⟩
  | 33 => ⟨S_, .i32⟩
  | 34 => ⟨S8, .i32⟩
  | 35 => ⟨S8, .i32⟩
  | 36 => ⟨S_, .i32⟩
  | 37 => ⟨S8, .i32⟩
  | 38 => ⟨S8, .i32⟩
  | 39 => ⟨S_, .i32⟩
  | 40 => ⟨S_, .i32⟩
  | 41 => ⟨S8, .i32⟩
  | 42 => ⟨S8, .i32⟩
  | 43 => ⟨S8, .i32⟩
  | 44 => ⟨S_, .i32⟩
  | 45 => ⟨S8, .i32⟩
  | 46 => ⟨S8, .i1⟩
  | 47 => ⟨S8, .i32⟩
  | 48 => ⟨S8, .i32⟩
  | 49 => ⟨S_, .i32⟩
  | 50 => ⟨S8, .i32⟩
  | 51 => ⟨S8, .i1⟩
  | 52 => ⟨S8, .i1⟩
  | 53 => ⟨S_, .i32⟩
  | 54 => ⟨S8, .i32⟩
  | 55 => ⟨S8, .i32⟩
  | 56 => ⟨S8, .i32⟩
  | 57 => ⟨S_, .i32⟩
  | 58 => ⟨S8, .i32⟩
  | 59 => ⟨S8, .i32⟩
  | 60 => ⟨S_, .i32⟩
  | 61 => ⟨S_, .i32⟩
  | 62 => ⟨S8, .i32⟩
  | 63 => ⟨S8, .i32⟩
  | 64 => ⟨S1x8, .i32⟩
  | 65 => ⟨S33792x8, .i32⟩
  | 66 => ⟨S33792x8, .i32⟩
  | 67 => ⟨S_, .i32⟩
  | 68 => ⟨S33792, .i32⟩
  | 69 => ⟨S33792, .i32⟩
  | 70 => ⟨S74, .i32⟩
  | 71 => ⟨S_, .i32⟩
  | 72 => ⟨S74, .i32⟩
  | 73 => ⟨S74, .i32⟩
  | 74 => ⟨S1x8, .i32⟩
  | 75 => ⟨S74x1, .i32⟩
  | 76 => ⟨S74x8, .i32⟩
  | 77 => ⟨S74x8, .i32⟩
  | 78 => ⟨S74x8, .i1⟩
  | 79 => ⟨S74x8, .i32⟩
  | 80 => ⟨S_, .i32⟩
  | 81 => ⟨S74, .i32⟩
  | 82 => ⟨S_, .i32⟩
  | 83 => ⟨S74, .i32⟩
  | 84 => ⟨S1, .i32⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S_, .i1⟩
  | 95 => ⟨S_, .i1⟩
  | 96 => ⟨S_, .i32⟩
  | 97 => ⟨S_, .i32⟩
  | 98 => ⟨S_, .i32⟩
  | 99 => ⟨S_, .i32⟩
  | 100 => ⟨S37888, .i32⟩
  | 101 => ⟨S_, .i32⟩
  | 102 => ⟨S33792, .i32⟩
  | 103 => ⟨S33792, .i1⟩
  | 104 => ⟨S_, .i32⟩
  | 105 => ⟨S33792, .i32⟩
  | 106 => ⟨S33792, .i32⟩
  | 107 => ⟨S33792, .i32⟩
  | 108 => ⟨S33792x1, .i32⟩
  | 109 => ⟨S37888, .i32⟩
  | 110 => ⟨S16896x1024, .bf16⟩
  | 111 => ⟨S_, .i32⟩
  | 112 => ⟨S_, .bf16⟩
  | 113 => ⟨S37888x1024, .bf16⟩
  | 114 => ⟨S_, .i32⟩
  | 115 => ⟨S37888, .i32⟩
  | 116 => ⟨S37888, .i1⟩
  | 117 => ⟨S_, .i32⟩
  | 118 => ⟨S37888, .i32⟩
  | 119 => ⟨S37888, .i32⟩
  | 120 => ⟨S37888, .i32⟩
  | 121 => ⟨S37888x1, .i32⟩
  | 122 => ⟨S1, .i32⟩
  | 123 => ⟨S_, .i32⟩
  | 124 => ⟨S37888x1, .i32⟩
  | 125 => ⟨S37888x1, .i1⟩
  | 126 => ⟨S1x1, .i32⟩
  | 127 => ⟨S37888x1, .i32⟩
  | _ => ⟨S2x8448x1024, .bf16⟩

abbrev hbmTy0_1 (i : Nat) : BufTy := match i % 128 with
  | 0 => ⟨S37888x1, .i1⟩
  | 1 => ⟨S37888x1, .i1⟩
  | 2 => ⟨S_, .i1⟩
  | 3 => ⟨S37888, .i1⟩
  | 4 => ⟨S37888x1024, .bf16⟩
  | 5 => ⟨S37888x1024, .i1⟩
  | 6 => ⟨S_, .bf16⟩
  | 7 => ⟨S37888x1024, .bf16⟩
  | 8 => ⟨S37888x1024, .bf16⟩
  | 9 => ⟨S37888x1024, .bf16⟩
  | 10 => ⟨S_, .i32⟩
  | 11 => ⟨S33792, .i32⟩
  | 12 => ⟨S33792, .i1⟩
  | 13 => ⟨S_, .i32⟩
  | 14 => ⟨S33792, .i32⟩
  | 15 => ⟨S33792, .i32⟩
  | 16 => ⟨S33792, .i32⟩
  | 17 => ⟨S33792x1, .i32⟩
  | 18 => ⟨S1, .i32⟩
  | 19 => ⟨S_, .i32⟩
  | 20 => ⟨S33792x1, .i32⟩
  | 21 => ⟨S33792x1, .i1⟩
  | 22 => ⟨S1x1, .i32⟩
  | 23 => ⟨S33792x1, .i32⟩
  | 24 => ⟨S33792x1, .i1⟩
  | 25 => ⟨S33792x1, .i1⟩
  | 26 => ⟨S_, .i1⟩
  | 27 => ⟨S33792, .i1⟩
  | 28 => ⟨S33792x1024, .bf16⟩
  | 29 => ⟨S33792x1024, .i1⟩
  | 30 => ⟨S_, .bf16⟩
  | 31 => ⟨S33792x1024, .bf16⟩
  | 32 => ⟨S33792x1024, .bf16⟩
  | 33 => ⟨S2x2x8448x1024, .bf16⟩
  | _ => ⟨S2x8448x1024, .bf16⟩

abbrev hbmTy (i : Nat) : BufTy := match i / 128 with
  | 0 => hbmTy0_0 i
  | 1 => hbmTy0_1 i
  | _ => ⟨S2x8448x1024, .bf16⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .smem, ⟨0, _⟩ => ⟨S74, .i32⟩
  | .local _ .smem, ⟨1, _⟩ => ⟨S1, .i32⟩
  | _, _ => ⟨S2x8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c : Ref sig .tc := ⟨.hbm, 24, rfl⟩
abbrev main_v19 : Ref sig .tc := ⟨.hbm, 25, rfl⟩
abbrev main_call0_call0_c : Ref sig .tc := ⟨.hbm, 26, rfl⟩
abbrev main_call0_call0_v0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_0 : Ref sig .tc := ⟨.hbm, 31, rfl⟩
abbrev main_v23 : Ref sig .tc := ⟨.hbm, 32, rfl⟩
abbrev main_c_1 : Ref sig .tc := ⟨.hbm, 33, rfl⟩
abbrev main_v24 : Ref sig .tc := ⟨.hbm, 34, rfl⟩
abbrev main_v25 : Ref sig .tc := ⟨.hbm, 35, rfl⟩
abbrev main_c_2 : Ref sig .tc := ⟨.hbm, 36, rfl⟩
abbrev main_v26 : Ref sig .tc := ⟨.hbm, 37, rfl⟩
abbrev main_v27 : Ref sig .tc := ⟨.hbm, 38, rfl⟩
abbrev main_c_3 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_c : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_0 : Ref sig .tc := ⟨.hbm, 53, rfl⟩
abbrev main_call1_v12 : Ref sig .tc := ⟨.hbm, 54, rfl⟩
abbrev main_call1_v13 : Ref sig .tc := ⟨.hbm, 55, rfl⟩
abbrev main_v28 : Ref sig .tc := ⟨.hbm, 56, rfl⟩
abbrev main_c_4 : Ref sig .tc := ⟨.hbm, 57, rfl⟩
abbrev main_v29 : Ref sig .tc := ⟨.hbm, 58, rfl⟩
abbrev main_v30 : Ref sig .tc := ⟨.hbm, 59, rfl⟩
abbrev main_call2_call0_c : Ref sig .tc := ⟨.hbm, 60, rfl⟩
abbrev main_call2_call0_v0 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_c_5 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_c_6 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_c_7 : Ref sig .tc := ⟨.hbm, 80, rfl⟩
abbrev main_v47 : Ref sig .tc := ⟨.hbm, 81, rfl⟩
abbrev main_c_8 : Ref sig .tc := ⟨.hbm, 82, rfl⟩
abbrev main_v48 : Ref sig .tc := ⟨.hbm, 83, rfl⟩
abbrev main_v50 : Ref sig .tc := ⟨.hbm, 84, rfl⟩
abbrev main_v51 : Ref sig .tc := ⟨.hbm, 85, rfl⟩
abbrev main_c_9 : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_v5 : Ref sig .tc := ⟨.hbm, 92, rfl⟩
abbrev main_call3_c : Ref sig .tc := ⟨.hbm, 93, rfl⟩
abbrev main_call3_v6 : Ref sig .tc := ⟨.hbm, 94, rfl⟩
abbrev main_call3_v7 : Ref sig .tc := ⟨.hbm, 95, rfl⟩
abbrev main_call3_c_0 : Ref sig .tc := ⟨.hbm, 96, rfl⟩
abbrev main_call3_v8 : Ref sig .tc := ⟨.hbm, 97, rfl⟩
abbrev main_v52 : Ref sig .tc := ⟨.hbm, 98, rfl⟩
abbrev main_c_10 : Ref sig .tc := ⟨.hbm, 99, rfl⟩
abbrev main_v54 : Ref sig .tc := ⟨.hbm, 100, rfl⟩
abbrev main_c_11 : Ref sig .tc := ⟨.hbm, 101, rfl⟩
abbrev main_v55 : Ref sig .tc := ⟨.hbm, 102, rfl⟩
abbrev main_v56 : Ref sig .tc := ⟨.hbm, 103, rfl⟩
abbrev main_c_12 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_c_13 : Ref sig .tc := ⟨.hbm, 111, rfl⟩
abbrev main_call4_v0 : Ref sig .tc := ⟨.hbm, 112, rfl⟩
abbrev main_v63 : Ref sig .tc := ⟨.hbm, 113, rfl⟩
abbrev main_call5_c : Ref sig .tc := ⟨.hbm, 114, rfl⟩
abbrev main_call5_v0 : Ref sig .tc := ⟨.hbm, 115, rfl⟩
abbrev main_call5_v1 : Ref sig .tc := ⟨.hbm, 116, rfl⟩
abbrev main_call5_c_0 : Ref sig .tc := ⟨.hbm, 117, rfl⟩
abbrev main_call5_v2 : Ref sig .tc := ⟨.hbm, 118, rfl⟩
abbrev main_call5_v3 : Ref sig .tc := ⟨.hbm, 119, rfl⟩
abbrev main_call5_v4 : Ref sig .tc := ⟨.hbm, 120, rfl⟩
abbrev main_call5_v5 : Ref sig .tc := ⟨.hbm, 121, rfl⟩
abbrev main_call5_c_1 : Ref sig .tc := ⟨.hbm, 122, rfl⟩
abbrev main_call5_c_2 : Ref sig .tc := ⟨.hbm, 123, rfl⟩
abbrev main_call5_v6 : Ref sig .tc := ⟨.hbm, 124, rfl⟩
abbrev main_call5_v7 : Ref sig .tc := ⟨.hbm, 125, rfl⟩
abbrev main_call5_v8 : Ref sig .tc := ⟨.hbm, 126, rfl⟩
abbrev main_call5_v9 : Ref sig .tc := ⟨.hbm, 127, rfl⟩
abbrev main_call5_v10 : Ref sig .tc := ⟨.hbm, 128, rfl⟩
abbrev main_call5_v11 : Ref sig .tc := ⟨.hbm, 129, rfl⟩
abbrev main_call5_c_3 : Ref sig .tc := ⟨.hbm, 130, rfl⟩
abbrev main_call5_v12 : Ref sig .tc := ⟨.hbm, 131, rfl⟩
abbrev main_call5_v13 : Ref sig .tc := ⟨.hbm, 132, rfl⟩
abbrev main_call5_v14 : Ref sig .tc := ⟨.hbm, 133, rfl⟩
abbrev main_call5_cst : Ref sig .tc := ⟨.hbm, 134, rfl⟩
abbrev main_call5_v15 : Ref sig .tc := ⟨.hbm, 135, rfl⟩
abbrev main_v64 : Ref sig .tc := ⟨.hbm, 136, rfl⟩
abbrev main_v65 : Ref sig .tc := ⟨.hbm, 137, rfl⟩
abbrev main_call6_c : Ref sig .tc := ⟨.hbm, 138, rfl⟩
abbrev main_call6_v0 : Ref sig .tc := ⟨.hbm, 139, rfl⟩
abbrev main_call6_v1 : Ref sig .tc := ⟨.hbm, 140, rfl⟩
abbrev main_call6_c_0 : Ref sig .tc := ⟨.hbm, 141, rfl⟩
abbrev main_call6_v2 : Ref sig .tc := ⟨.hbm, 142, rfl⟩
abbrev main_call6_v3 : Ref sig .tc := ⟨.hbm, 143, rfl⟩
abbrev main_call6_v4 : Ref sig .tc := ⟨.hbm, 144, rfl⟩
abbrev main_call6_v5 : Ref sig .tc := ⟨.hbm, 145, rfl⟩
abbrev main_call6_c_1 : Ref sig .tc := ⟨.hbm, 146, rfl⟩
abbrev main_call6_c_2 : Ref sig .tc := ⟨.hbm, 147, rfl⟩
abbrev main_call6_v6 : Ref sig .tc := ⟨.hbm, 148, rfl⟩
abbrev main_call6_v7 : Ref sig .tc := ⟨.hbm, 149, rfl⟩
abbrev main_call6_v8 : Ref sig .tc := ⟨.hbm, 150, rfl⟩
abbrev main_call6_v9 : Ref sig .tc := ⟨.hbm, 151, rfl⟩
abbrev main_call6_v10 : Ref sig .tc := ⟨.hbm, 152, rfl⟩
abbrev main_call6_v11 : Ref sig .tc := ⟨.hbm, 153, rfl⟩
abbrev main_call6_c_3 : Ref sig .tc := ⟨.hbm, 154, rfl⟩
abbrev main_call6_v12 : Ref sig .tc := ⟨.hbm, 155, rfl⟩
abbrev main_call6_v13 : Ref sig .tc := ⟨.hbm, 156, rfl⟩
abbrev main_call6_v14 : Ref sig .tc := ⟨.hbm, 157, rfl⟩
abbrev main_call6_cst : Ref sig .tc := ⟨.hbm, 158, rfl⟩
abbrev main_call6_v15 : Ref sig .tc := ⟨.hbm, 159, rfl⟩
abbrev main_v66 : Ref sig .tc := ⟨.hbm, 160, rfl⟩
abbrev main_v67 : Ref sig .tc := ⟨.hbm, 161, rfl⟩
abbrev main_v49 : Ref sig .tc := ⟨.smem, 0, rfl⟩
abbrev main_v53 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![74, 2], ![false, false]⟩

abbrev pre0 : Pipeline.Prefetch sig := ⟨2, ![main_v49.idx, main_v53.idx], fun | 0 => main_v49.names | 1 => main_v53.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c1_i32 : BitVec 32 := 1#32
  let v7 : BitVec 1 := Scalar.cmpi .eq arg1 c1_i32
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S74.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S74) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S74.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S74) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S74.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S74) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S2x8448x1024 : Shape := ⟨3, ![2, 8448, 1024]⟩
abbrev S2x8448x128 : Shape := ⟨3, ![2, 8448, 128]⟩
abbrev S8x1024x3584 : Shape := ⟨3, ![8, 1024, 3584]⟩
abbrev S8x3584x1024 : Shape := ⟨3, ![8, 3584, 1024]⟩
abbrev S2x8448x1 : Shape := ⟨3, ![2, 8448, 1]⟩
abbrev S2x8448 : Shape := ⟨2, ![2, 8448]⟩
abbrev S1x2x8448 : Shape := ⟨3, ![1, 2, 8448]⟩
abbrev S2x2x8448 : Shape := ⟨3, ![2, 2, 8448]⟩
abbrev S2x2x8448x1 : Shape := ⟨4, ![2, 2, 8448, 1]⟩
abbrev S1x1x1x8 : Shape := ⟨4, ![1, 1, 1, 8]⟩
abbrev S2x2x8448x8 : Shape := ⟨4, ![2, 2, 8448, 8]⟩
abbrev S_ : Shape := ⟨0, ![]⟩
abbrev S2x2x8448x1024 : Shape := ⟨4, ![2, 2, 8448, 1024]⟩
abbrev S1x1024x3584 : Shape := ⟨3, ![1, 1024, 3584]⟩
abbrev S1024x3584 : Shape := ⟨2, ![1024, 3584]⟩
abbrev S2x8448x3584 : Shape := ⟨3, ![2, 8448, 3584]⟩
abbrev S1x3584x1024 : Shape := ⟨3, ![1, 3584, 1024]⟩
abbrev S3584x1024 : Shape := ⟨2, ![3584, 1024]⟩
abbrev S1x2x8448x1024 : Shape := ⟨4, ![1, 2, 8448, 1024]⟩

abbrev nBuf : Space → Nat
  | .hbm => 223
  | .vmem => 0
  | .smem => 0
  | _ => 0

abbrev hbmTy0_0 (i : Nat) : BufTy := match i % 128 with
  | 0 => ⟨S2x8448x1024, .bf16⟩
  | 1 => ⟨S2x8448x128, .f32⟩
  | 2 => ⟨S8x1024x3584, .f32⟩
  | 3 => ⟨S8x1024x3584, .f32⟩
  | 4 => ⟨S8x3584x1024, .f32⟩
  | 5 => ⟨S2x8448x1024, .f32⟩
  | 6 => ⟨S2x8448x1, .f32⟩
  | 7 => ⟨S2x8448, .f32⟩
  | 8 => ⟨S2x8448x1, .f32⟩
  | 9 => ⟨S2x8448, .f32⟩
  | 10 => ⟨S1x2x8448, .f32⟩
  | 11 => ⟨S1x2x8448, .f32⟩
  | 12 => ⟨S2x2x8448, .f32⟩
  | 13 => ⟨S2x2x8448, .i32⟩
  | 14 => ⟨S2x2x8448x1, .i32⟩
  | 15 => ⟨S1x1x1x8, .i32⟩
  | 16 => ⟨S2x2x8448x8, .i32⟩
  | 17 => ⟨S2x2x8448x8, .i32⟩
  | 18 => ⟨S2x2x8448x8, .i1⟩
  | 19 => ⟨S2x2x8448x8, .f32⟩
  | 20 => ⟨S_, .f32⟩
  | 21 => ⟨S2x2x8448x1024, .f32⟩
  | 22 => ⟨S1x1024x3584, .f32⟩
  | 23 => ⟨S1024x3584, .f32⟩
  | 24 => ⟨S2x8448x3584, .f32⟩
  | 25 => ⟨S2x8448x3584, .f32⟩
  | 26 => ⟨S2x8448x3584, .f32⟩
  | 27 => ⟨S_, .f32⟩
  | 28 => ⟨S2x8448x3584, .f32⟩
  | 29 => ⟨S2x8448x3584, .f32⟩
  | 30 => ⟨S_, .f32⟩
  | 31 => ⟨S2x8448x3584, .f32⟩
  | 32 => ⟨S2x8448x3584, .f32⟩
  | 33 => ⟨S2x8448x3584, .f32⟩
  | 34 => ⟨S1x1024x3584, .f32⟩
  | 35 => ⟨S1024x3584, .f32⟩
  | 36 => ⟨S2x8448x3584, .f32⟩
  | 37 => ⟨S2x8448x3584, .f32⟩
  | 38 => ⟨S1x3584x1024, .f32⟩
  | 39 => ⟨S3584x1024, .f32⟩
  | 40 => ⟨S2x8448x1024, .f32⟩
  | 41 => ⟨S2x2x8448x1, .f32⟩
  | 42 => ⟨S1x2x8448x1024, .f32⟩
  | 43 => ⟨S2x2x8448x1024, .f32⟩
  | 44 => ⟨S2x2x8448x1024, .f32⟩
  | 45 => ⟨S2x2x8448x1024, .f32⟩
  | 46 => ⟨S2x2x8448x1024, .f32⟩
  | 47 => ⟨S1x1024x3584, .f32⟩
  | 48 => ⟨S1024x3584, .f32⟩
  | 49 => ⟨S2x8448x3584, .f32⟩
  | 50 => ⟨S2x8448x3584, .f32⟩
  | 51 => ⟨S2x8448x3584, .f32⟩
  | 52 => ⟨S_, .f32⟩
  | 53 => ⟨S2x8448x3584, .f32⟩
  | 54 => ⟨S2x8448x3584, .f32⟩
  | 55 => ⟨S_, .f32⟩
  | 56 => ⟨S2x8448x3584, .f32⟩
  | 57 => ⟨S2x8448x3584, .f32⟩
  | 58 => ⟨S2x8448x3584, .f32⟩
  | 59 => ⟨S1x1024x3584, .f32⟩
  | 60 => ⟨S1024x3584, .f32⟩
  | 61 => ⟨S2x8448x3584, .f32⟩
  | 62 => ⟨S2x8448x3584, .f32⟩
  | 63 => ⟨S1x3584x1024, .f32⟩
  | 64 => ⟨S3584x1024, .f32⟩
  | 65 => ⟨S2x8448x1024, .f32⟩
  | 66 => ⟨S2x2x8448x1, .f32⟩
  | 67 => ⟨S1x2x8448x1024, .f32⟩
  | 68 => ⟨S2x2x8448x1024, .f32⟩
  | 69 => ⟨S2x2x8448x1024, .f32⟩
  | 70 => ⟨S2x2x8448x1024, .f32⟩
  | 71 => ⟨S2x2x8448x1024, .f32⟩
  | 72 => ⟨S1x1024x3584, .f32⟩
  | 73 => ⟨S1024x3584, .f32⟩
  | 74 => ⟨S2x8448x3584, .f32⟩
  | 75 => ⟨S2x8448x3584, .f32⟩
  | 76 => ⟨S2x8448x3584, .f32⟩
  | 77 => ⟨S_, .f32⟩
  | 78 => ⟨S2x8448x3584, .f32⟩
  | 79 => ⟨S2x8448x3584, .f32⟩
  | 80 => ⟨S_, .f32⟩
  | 81 => ⟨S2x8448x3584, .f32⟩
  | 82 => ⟨S2x8448x3584, .f32⟩
  | 83 => ⟨S2x8448x3584, .f32⟩
  | 84 => ⟨S1x1024x3584, .f32⟩
  | 85 => ⟨S1024x3584, .f32⟩
  | 86 => ⟨S2x8448x3584, .f32⟩
  | 87 => ⟨S2x8448x3584, .f32⟩
  | 88 => ⟨S1x3584x1024, .f32⟩
  | 89 => ⟨S3584x1024, .f32⟩
  | 90 => ⟨S2x8448x1024, .f32⟩
  | 91 => ⟨S2x2x8448x1, .f32⟩
  | 92 => ⟨S1x2x8448x1024, .f32⟩
  | 93 => ⟨S2x2x8448x1024, .f32⟩
  | 94 => ⟨S2x2x8448x1024, .f32⟩
  | 95 => ⟨S2x2x8448x1024, .f32⟩
  | 96 => ⟨S2x2x8448x1024, .f32⟩
  | 97 => ⟨S1x1024x3584, .f32⟩
  | 98 => ⟨S1024x3584, .f32⟩
  | 99 => ⟨S2x8448x3584, .f32⟩
  | 100 => ⟨S2x8448x3584, .f32⟩
  | 101 => ⟨S2x8448x3584, .f32⟩
  | 102 => ⟨S_, .f32⟩
  | 103 => ⟨S2x8448x3584, .f32⟩
  | 104 => ⟨S2x8448x3584, .f32⟩
  | 105 => ⟨S_, .f32⟩
  | 106 => ⟨S2x8448x3584, .f32⟩
  | 107 => ⟨S2x8448x3584, .f32⟩
  | 108 => ⟨S2x8448x3584, .f32⟩
  | 109 => ⟨S1x1024x3584, .f32⟩
  | 110 => ⟨S1024x3584, .f32⟩
  | 111 => ⟨S2x8448x3584, .f32⟩
  | 112 => ⟨S2x8448x3584, .f32⟩
  | 113 => ⟨S1x3584x1024, .f32⟩
  | 114 => ⟨S3584x1024, .f32⟩
  | 115 => ⟨S2x8448x1024, .f32⟩
  | 116 => ⟨S2x2x8448x1, .f32⟩
  | 117 => ⟨S1x2x8448x1024, .f32⟩
  | 118 => ⟨S2x2x8448x1024, .f32⟩
  | 119 => ⟨S2x2x8448x1024, .f32⟩
  | 120 => ⟨S2x2x8448x1024, .f32⟩
  | 121 => ⟨S2x2x8448x1024, .f32⟩
  | 122 => ⟨S1x1024x3584, .f32⟩
  | 123 => ⟨S1024x3584, .f32⟩
  | 124 => ⟨S2x8448x3584, .f32⟩
  | 125 => ⟨S2x8448x3584, .f32⟩
  | 126 => ⟨S2x8448x3584, .f32⟩
  | 127 => ⟨S_, .f32⟩
  | _ => ⟨S2x8448x1024, .bf16⟩

abbrev hbmTy0_1 (i : Nat) : BufTy := match i % 128 with
  | 0 => ⟨S2x8448x3584, .f32⟩
  | 1 => ⟨S2x8448x3584, .f32⟩
  | 2 => ⟨S_, .f32⟩
  | 3 => ⟨S2x8448x3584, .f32⟩
  | 4 => ⟨S2x8448x3584, .f32⟩
  | 5 => ⟨S2x8448x3584, .f32⟩
  | 6 => ⟨S1x1024x3584, .f32⟩
  | 7 => ⟨S1024x3584, .f32⟩
  | 8 => ⟨S2x8448x3584, .f32⟩
  | 9 => ⟨S2x8448x3584, .f32⟩
  | 10 => ⟨S1x3584x1024, .f32⟩
  | 11 => ⟨S3584x1024, .f32⟩
  | 12 => ⟨S2x8448x1024, .f32⟩
  | 13 => ⟨S2x2x8448x1, .f32⟩
  | 14 => ⟨S1x2x8448x1024, .f32⟩
  | 15 => ⟨S2x2x8448x1024, .f32⟩
  | 16 => ⟨S2x2x8448x1024, .f32⟩
  | 17 => ⟨S2x2x8448x1024, .f32⟩
  | 18 => ⟨S2x2x8448x1024, .f32⟩
  | 19 => ⟨S1x1024x3584, .f32⟩
  | 20 => ⟨S1024x3584, .f32⟩
  | 21 => ⟨S2x8448x3584, .f32⟩
  | 22 => ⟨S2x8448x3584, .f32⟩
  | 23 => ⟨S2x8448x3584, .f32⟩
  | 24 => ⟨S_, .f32⟩
  | 25 => ⟨S2x8448x3584, .f32⟩
  | 26 => ⟨S2x8448x3584, .f32⟩
  | 27 => ⟨S_, .f32⟩
  | 28 => ⟨S2x8448x3584, .f32⟩
  | 29 => ⟨S2x8448x3584, .f32⟩
  | 30 => ⟨S2x8448x3584, .f32⟩
  | 31 => ⟨S1x1024x3584, .f32⟩
  | 32 => ⟨S1024x3584, .f32⟩
  | 33 => ⟨S2x8448x3584, .f32⟩
  | 34 => ⟨S2x8448x3584, .f32⟩
  | 35 => ⟨S1x3584x1024, .f32⟩
  | 36 => ⟨S3584x1024, .f32⟩
  | 37 => ⟨S2x8448x1024, .f32⟩
  | 38 => ⟨S2x2x8448x1, .f32⟩
  | 39 => ⟨S1x2x8448x1024, .f32⟩
  | 40 => ⟨S2x2x8448x1024, .f32⟩
  | 41 => ⟨S2x2x8448x1024, .f32⟩
  | 42 => ⟨S2x2x8448x1024, .f32⟩
  | 43 => ⟨S2x2x8448x1024, .f32⟩
  | 44 => ⟨S1x1024x3584, .f32⟩
  | 45 => ⟨S1024x3584, .f32⟩
  | 46 => ⟨S2x8448x3584, .f32⟩
  | 47 => ⟨S2x8448x3584, .f32⟩
  | 48 => ⟨S2x8448x3584, .f32⟩
  | 49 => ⟨S_, .f32⟩
  | 50 => ⟨S2x8448x3584, .f32⟩
  | 51 => ⟨S2x8448x3584, .f32⟩
  | 52 => ⟨S_, .f32⟩
  | 53 => ⟨S2x8448x3584, .f32⟩
  | 54 => ⟨S2x8448x3584, .f32⟩
  | 55 => ⟨S2x8448x3584, .f32⟩
  | 56 => ⟨S1x1024x3584, .f32⟩
  | 57 => ⟨S1024x3584, .f32⟩
  | 58 => ⟨S2x8448x3584, .f32⟩
  | 59 => ⟨S2x8448x3584, .f32⟩
  | 60 => ⟨S1x3584x1024, .f32⟩
  | 61 => ⟨S3584x1024, .f32⟩
  | 62 => ⟨S2x8448x1024, .f32⟩
  | 63 => ⟨S2x2x8448x1, .f32⟩
  | 64 => ⟨S1x2x8448x1024, .f32⟩
  | 65 => ⟨S2x2x8448x1024, .f32⟩
  | 66 => ⟨S2x2x8448x1024, .f32⟩
  | 67 => ⟨S2x2x8448x1024, .f32⟩
  | 68 => ⟨S2x2x8448x1024, .f32⟩
  | 69 => ⟨S1x1024x3584, .f32⟩
  | 70 => ⟨S1024x3584, .f32⟩
  | 71 => ⟨S2x8448x3584, .f32⟩
  | 72 => ⟨S2x8448x3584, .f32⟩
  | 73 => ⟨S2x8448x3584, .f32⟩
  | 74 => ⟨S_, .f32⟩
  | 75 => ⟨S2x8448x3584, .f32⟩
  | 76 => ⟨S2x8448x3584, .f32⟩
  | 77 => ⟨S_, .f32⟩
  | 78 => ⟨S2x8448x3584, .f32⟩
  | 79 => ⟨S2x8448x3584, .f32⟩
  | 80 => ⟨S2x8448x3584, .f32⟩
  | 81 => ⟨S1x1024x3584, .f32⟩
  | 82 => ⟨S1024x3584, .f32⟩
  | 83 => ⟨S2x8448x3584, .f32⟩
  | 84 => ⟨S2x8448x3584, .f32⟩
  | 85 => ⟨S1x3584x1024, .f32⟩
  | 86 => ⟨S3584x1024, .f32⟩
  | 87 => ⟨S2x8448x1024, .f32⟩
  | 88 => ⟨S2x2x8448x1, .f32⟩
  | 89 => ⟨S1x2x8448x1024, .f32⟩
  | 90 => ⟨S2x2x8448x1024, .f32⟩
  | 91 => ⟨S2x2x8448x1024, .f32⟩
  | 92 => ⟨S2x2x8448x1024, .f32⟩
  | 93 => ⟨S2x2x8448x1024, .f32⟩
  | 94 => ⟨S2x2x8448x1024, .bf16⟩
  | _ => ⟨S2x8448x1024, .bf16⟩

abbrev hbmTy (i : Nat) : BufTy := match i / 128 with
  | 0 => hbmTy0_0 i
  | 1 => hbmTy0_1 i
  | _ => ⟨S2x8448x1024, .bf16⟩

abbrev bufTy : (tb : Table) → Fin (tcTables nBuf tb) → BufTy
  | .hbm, ⟨i, _⟩ => hbmTy i
  | _, _ => ⟨S2x8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call2_v0 : Ref sig .tc := ⟨.hbm, 50, rfl⟩
abbrev main_call2_v1 : Ref sig .tc := ⟨.hbm, 51, rfl⟩
abbrev main_call2_cst : Ref sig .tc := ⟨.hbm, 52, rfl⟩
abbrev main_call2_v2 : Ref sig .tc := ⟨.hbm, 53, rfl⟩
abbrev main_call2_v3 : Ref sig .tc := ⟨.hbm, 54, rfl⟩
abbrev main_call2_cst_0 : Ref sig .tc := ⟨.hbm, 55, rfl⟩
abbrev main_call2_v4 : Ref sig .tc := ⟨.hbm, 56, rfl⟩
abbrev main_call2_v5 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_call3_v0 : Ref sig .tc := ⟨.hbm, 75, rfl⟩
abbrev main_call3_v1 : Ref sig .tc := ⟨.hbm, 76, rfl⟩
abbrev main_call3_cst : Ref sig .tc := ⟨.hbm, 77, rfl⟩
abbrev main_call3_v2 : Ref sig .tc := ⟨.hbm, 78, rfl⟩
abbrev main_call3_v3 : Ref sig .tc := ⟨.hbm, 79, rfl⟩
abbrev main_call3_cst_0 : Ref sig .tc := ⟨.hbm, 80, rfl⟩
abbrev main_call3_v4 : Ref sig .tc := ⟨.hbm, 81, rfl⟩
abbrev main_call3_v5 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_call4_v0 : Ref sig .tc := ⟨.hbm, 100, rfl⟩
abbrev main_call4_v1 : Ref sig .tc := ⟨.hbm, 101, rfl⟩
abbrev main_call4_cst : Ref sig .tc := ⟨.hbm, 102, rfl⟩
abbrev main_call4_v2 : Ref sig .tc := ⟨.hbm, 103, rfl⟩
abbrev main_call4_v3 : Ref sig .tc := ⟨.hbm, 104, rfl⟩
abbrev main_call4_cst_0 : Ref sig .tc := ⟨.hbm, 105, rfl⟩
abbrev main_call4_v4 : Ref sig .tc := ⟨.hbm, 106, rfl⟩
abbrev main_call4_v5 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_call5_v0 : Ref sig .tc := ⟨.hbm, 125, rfl⟩
abbrev main_call5_v1 : Ref sig .tc := ⟨.hbm, 126, rfl⟩
abbrev main_call5_cst : Ref sig .tc := ⟨.hbm, 127, rfl⟩
abbrev main_call5_v2 : Ref sig .tc := ⟨.hbm, 128, rfl⟩
abbrev main_call5_v3 : Ref sig .tc := ⟨.hbm, 129, rfl⟩
abbrev main_call5_cst_0 : Ref sig .tc := ⟨.hbm, 130, rfl⟩
abbrev main_call5_v4 : Ref sig .tc := ⟨.hbm, 131, rfl⟩
abbrev main_call5_v5 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_call6_v0 : Ref sig .tc := ⟨.hbm, 150, rfl⟩
abbrev main_call6_v1 : Ref sig .tc := ⟨.hbm, 151, rfl⟩
abbrev main_call6_cst : Ref sig .tc := ⟨.hbm, 152, rfl⟩
abbrev main_call6_v2 : Ref sig .tc := ⟨.hbm, 153, rfl⟩
abbrev main_call6_v3 : Ref sig .tc := ⟨.hbm, 154, rfl⟩
abbrev main_call6_cst_0 : Ref sig .tc := ⟨.hbm, 155, rfl⟩
abbrev main_call6_v4 : Ref sig .tc := ⟨.hbm, 156, rfl⟩
abbrev main_call6_v5 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_call7_v0 : Ref sig .tc := ⟨.hbm, 175, rfl⟩
abbrev main_call7_v1 : Ref sig .tc := ⟨.hbm, 176, rfl⟩
abbrev main_call7_cst : Ref sig .tc := ⟨.hbm, 177, rfl⟩
abbrev main_call7_v2 : Ref sig .tc := ⟨.hbm, 178, rfl⟩
abbrev main_call7_v3 : Ref sig .tc := ⟨.hbm, 179, rfl⟩
abbrev main_call7_cst_0 : Ref sig .tc := ⟨.hbm, 180, rfl⟩
abbrev main_call7_v4 : Ref sig .tc := ⟨.hbm, 181, rfl⟩
abbrev main_call7_v5 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_call8_v0 : Ref sig .tc := ⟨.hbm, 200, rfl⟩
abbrev main_call8_v1 : Ref sig .tc := ⟨.hbm, 201, rfl⟩
abbrev main_call8_cst : Ref sig .tc := ⟨.hbm, 202, rfl⟩
abbrev main_call8_v2 : Ref sig .tc := ⟨.hbm, 203, rfl⟩
abbrev main_call8_v3 : Ref sig .tc := ⟨.hbm, 204, rfl⟩
abbrev main_call8_cst_0 : Ref sig .tc := ⟨.hbm, 205, rfl⟩
abbrev main_call8_v4 : Ref sig .tc := ⟨.hbm, 206, rfl⟩
abbrev main_call8_v5 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_v146 : Ref sig .tc := ⟨.hbm, 221, rfl⟩
abbrev main_v147 : Ref sig .tc := ⟨.hbm, 222, rfl⟩

abbrev nD : Nat := 1
abbrev τ : Topo := Topo.v7x

variable {F : FTy → Type} [FloatOps F]
-- ==== Kernel2.lean ====
abbrev S2x8448x1024 : Shape := ⟨3, ![2, 8448, 1024]⟩
abbrev S2x2x6144 : Shape := ⟨3, ![2, 2, 6144]⟩
abbrev S1x1024 : Shape := ⟨2, ![1, 1024]⟩
abbrev S1024x2816 : Shape := ⟨2, ![1024, 2816]⟩
abbrev S2816x1024 : Shape := ⟨2, ![2816, 1024]⟩
abbrev S1x528x1024 : Shape := ⟨3, ![1, 528, 1024]⟩
abbrev S1x2x6144 : Shape := ⟨3, ![1, 2, 6144]⟩
abbrev S1024x1408 : Shape := ⟨2, ![1024, 1408]⟩
abbrev S1408x1024 : Shape := ⟨2, ![1408, 1024]⟩
abbrev S528x1024 : Shape := ⟨2, ![528, 1024]⟩
abbrev S528x1 : Shape := ⟨2, ![528, 1]⟩
abbrev S1x1x1024 : Shape := ⟨3, ![1, 1, 1024]⟩
abbrev S528 : Shape := ⟨1, ![528]⟩
abbrev S528x1408 : Shape := ⟨2, ![528, 1408]⟩

abbrev nBuf : Space → Nat
  | .hbm => 11
  | .vmem => 16
  | .smem => 0
  | _ => 0

abbrev bufTy : (tb : Table) → Fin (tcTables nBuf tb) → BufTy
  | .hbm, ⟨0, _⟩ => ⟨S2x8448x1024, .f32⟩
  | .hbm, ⟨1, _⟩ => ⟨S2x2x6144, .f32⟩
  | .hbm, ⟨2, _⟩ => ⟨S1x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S2x8448x1024, .f32⟩
  | .local _ .vmem, ⟨0, _⟩ => ⟨S1x528x1024, .f32⟩
  | .local _ .vmem, ⟨1, _⟩ => ⟨S1x528x1024, .f32⟩
  | .local _ .vmem, ⟨2, _⟩ => ⟨S1x2x6144, .f32⟩
  | .local _ .vmem, ⟨3, _⟩ => ⟨S1x2x6144, .f32⟩
  | .local _ .vmem, ⟨4, _⟩ => ⟨S1x1024, .f32⟩
  | .local _ .vmem, ⟨5, _⟩ => ⟨S1x1024, .f32⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1408x1024, .bf16⟩
  | .local _ .vmem, ⟨11, _⟩ => ⟨S1408x1024, .bf16⟩
  | .local _ .vmem, ⟨12, _⟩ => ⟨S1x528x1024, .f32⟩
  | .local _ .vmem, ⟨13, _⟩ => ⟨S1x528x1024, .f32⟩
  | .local _ .vmem, ⟨14, _⟩ => ⟨S528x1024, .bf16⟩
  | .local _ .vmem, ⟨15, _⟩ => ⟨S528x1024, .f32⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![2, 16, 2], ![false, false, false]⟩

def k0_cond2 (i : grid0.Coords) : BitVec 1 :=
  let arg2 : BitVec 32 := BitVec.ofNat 32 (i 2).val
  let c1_i32 : BitVec 32 := 1#32
  let v22 : BitVec 1 := Scalar.cmpi .eq arg2 c1_i32
  let v23 : BitVec 32 := Scalar.extui v22
  let c0_i32_14 : BitVec 32 := 0#32
  let v24 : BitVec 1 := Scalar.cmpi .ne v23 c0_i32_14
  v24

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x528x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x528x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference2Ideal.lean ====
abbrev S2x8448x1024 : Shape := ⟨3, ![2, 8448, 1024]⟩
abbrev S2x2x6144 : Shape := ⟨3, ![2, 2, 6144]⟩
abbrev S1x1024 : Shape := ⟨2, ![1, 1024]⟩
abbrev S1024x2816 : Shape := ⟨2, ![1024, 2816]⟩
abbrev S2816x1024 : Shape := ⟨2, ![2816, 1024]⟩
abbrev S2x8192x1024 : Shape := ⟨3, ![2, 8192, 1024]⟩
abbrev S2x256x1024 : Shape := ⟨3, ![2, 256, 1024]⟩
abbrev S2x1x6144 : Shape := ⟨3, ![2, 1, 6144]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x256 : Shape := ⟨2, ![2, 256]⟩
abbrev S2x256x1 : Shape := ⟨3, ![2, 256, 1]⟩
abbrev S2x8448x2816 : Shape := ⟨3, ![2, 8448, 2816]⟩

abbrev nBuf : Space → Nat
  | .hbm => 124
  | .vmem => 0
  | .smem => 0
  | _ => 0

abbrev bufTy : (tb : Table) → Fin (tcTables nBuf tb) → BufTy
  | .hbm, ⟨0, _⟩ => ⟨S2x8448x1024, .f32⟩
  | .hbm, ⟨1, _⟩ => ⟨S2x2x6144, .f32⟩
  | .hbm, ⟨2, _⟩ => ⟨S1x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S2x8192x1024, .f32⟩
  | .hbm, ⟨8, _⟩ => ⟨S2x256x1024, .f32⟩
  | .hbm, ⟨9, _⟩ => ⟨S2x1x6144, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S2x1x1024, .f32⟩
  | .hbm, ⟨16, _⟩ => ⟨S2x1x6144, .f32⟩
  | .hbm, ⟨17, _⟩ => ⟨S2x1x1024, .f32⟩
  | .hbm, ⟨18, _⟩ => ⟨S2x1x1024, .f32⟩
  | .hbm, ⟨19, _⟩ => ⟨S2x1x1024, .f32⟩
  | .hbm, ⟨20, _⟩ => ⟨S2x1x1024, .f32⟩
  | .hbm, ⟨21, _⟩ => ⟨S2x1x1024, .f32⟩
  | .hbm, ⟨22, _⟩ => ⟨S2x1x1024, .f32⟩
  | .hbm, ⟨23, _⟩ => ⟨S2x8192x1024, .f32⟩
  | .hbm, ⟨24, _⟩ => ⟨S_, .f32⟩
  | .hbm, ⟨25, _⟩ => ⟨S2x8192, .f32⟩
  | .hbm, ⟨26, _⟩ => ⟨S2x8192x1, .f32⟩
  | .hbm, ⟨27, _⟩ => ⟨S_, .f32⟩
  | .hbm, ⟨28, _⟩ => ⟨S2x8192x1, .f32⟩
  | .hbm, ⟨29, _⟩ => ⟨S2x8192x1, .f32⟩
  | .hbm, ⟨30, _⟩ => ⟨S_, .f32⟩
  | .hbm, ⟨31, _⟩ => ⟨S2x8192x1, .f32⟩
  | .hbm, ⟨32, _⟩ => ⟨S2x8192x1, .f32⟩
  | .hbm, ⟨33, _⟩ => ⟨S2x8192x1, .f32⟩
  | .hbm, ⟨34, _⟩ => ⟨S2x8192x1024, .f32⟩
  | .hbm, ⟨35, _⟩ => ⟨S2x8192x1024, .f32⟩
  | .hbm, ⟨36, _⟩ => ⟨S1x1x1024, .f32⟩
  | .hbm, ⟨37, _⟩ => ⟨S2x8192x1024, .f32⟩
  | .hbm, ⟨38, _⟩ => ⟨S2x8192x1024, .f32⟩
  | .hbm, ⟨39, _⟩ => ⟨S_, .f32⟩
  | .hbm, ⟨40, _⟩ => ⟨S2x1x1024, .f32⟩
  | .hbm, ⟨41, _⟩ => ⟨S2x1x1024, .f32⟩
  | .hbm, ⟨42, _⟩ => ⟨S2x8192x1024, .f32⟩
  | .hbm, ⟨43, _⟩ => ⟨S2x8192x1024, .f32⟩
  | .hbm, ⟨44, _⟩ => ⟨S2x8192x1024, .f32⟩
  | .hbm, ⟨45, _⟩ => ⟨S2x8192x1024, .f32⟩
  | .hbm, ⟨46, _⟩ => ⟨S2x256x1024, .f32⟩
  | .hbm, ⟨47, _⟩ => ⟨S_, .f32⟩
  | .hbm, ⟨48, _⟩ => ⟨S2x256, .f32⟩
  | .hbm, ⟨49, _⟩ => ⟨S2x256x1, .f32⟩
  | .hbm, ⟨50, _⟩ => ⟨S_, .f32⟩
  | .hbm, ⟨51, _⟩ => ⟨S2x256x1, .f32⟩
  | .hbm, ⟨52, _⟩ => ⟨S2x256x1, .f32⟩
  | .hbm, ⟨53, _⟩ => ⟨S_, .f32⟩
  | .hbm, ⟨54, _⟩ => ⟨S2x256x1, .f32⟩
  | .hbm, ⟨55, _⟩ => ⟨S2x256x1, .f32⟩
  | .hbm, ⟨56, _⟩ => ⟨S2x256x1, .f32⟩
  | .hbm, ⟨57, _⟩ => ⟨S2x256x1024, .f32⟩
  | .hbm, ⟨58, _⟩ => ⟨S2x256x1024, .f32⟩
  | .hbm, ⟨59, _⟩ => ⟨S1x1x1024, .f32⟩
  | .hbm, ⟨60, _⟩ => ⟨S2x256x1024, .f32⟩
  | .hbm, ⟨61, _⟩ => ⟨S2x256x1024, .f32⟩
  | .hbm, ⟨62, _⟩ => ⟨S_, .f32⟩
  | .hbm, ⟨63, _⟩ => ⟨S2x1x1024, .f32⟩
  | .hbm, ⟨64, _⟩ => ⟨S2x1x1024, .f32⟩
  | .hbm, ⟨65, _⟩ => ⟨S2x256x1024, .f32⟩
  | .hbm, ⟨66, _⟩ => ⟨S2x256x1024, .f32⟩
  | .hbm, ⟨67, _⟩ => ⟨S2x256x1024, .f32⟩
  | .hbm, ⟨68, _⟩ => ⟨S2x256x1024, .f32⟩
  | .hbm, ⟨69, _⟩ => ⟨S2x8448x1024, .f32⟩
  | .hbm, ⟨70, _⟩ => ⟨S2x8448x2816, .f32⟩
  | .hbm, ⟨71, _⟩ => ⟨S2x8448x2816, .f32⟩
  | .hbm, ⟨72, _⟩ => ⟨S2x8448x2816, .f32⟩
  | .hbm, ⟨73, _⟩ => ⟨S_, .f32⟩
  | .hbm, ⟨74, _⟩ => ⟨S2x8448x2816, .f32⟩
  | .hbm, ⟨75, _⟩ => ⟨S2x8448x2816, .f32⟩
  | .hbm, ⟨76, _⟩ => ⟨S_, .f32⟩
  | .hbm, ⟨77, _⟩ => ⟨S2x8448x2816, .f32⟩
  | .hbm, ⟨78, _⟩ => ⟨S2x8448x2816, .f32⟩
  | .hbm, ⟨79, _⟩ => ⟨S2x8448x2816, .f32⟩
  | .hbm, ⟨80, _⟩ => ⟨S2x8448x2816, .f32⟩
  | .hbm, ⟨81, _⟩ => ⟨S2x8448x2816, .f32⟩
  | .hbm, ⟨82, _⟩ => ⟨S2x8448x1024, .f32⟩
  | .hbm, ⟨83, _⟩ => ⟨S2x8192x1024, .f32⟩
  | .hbm, ⟨84, _⟩ => ⟨S2x8192x1024, .f32⟩
  | .hbm, ⟨85, _⟩ => ⟨S_, .f32⟩
  | .hbm, ⟨86, _⟩ => ⟨S2x8192, .f32⟩
  | .hbm, ⟨87, _⟩ => ⟨S2x8192x1, .f32⟩
  | .hbm, ⟨88, _⟩ => ⟨S_, .f32⟩
  | .hbm, ⟨89, _⟩ => ⟨S2x8192x1, .f32⟩
  | .hbm, ⟨90, _⟩ => ⟨S2x8192x1, .f32⟩
  | .hbm, ⟨91, _⟩ => ⟨S_, .f32⟩
  | .hbm, ⟨92, _⟩ => ⟨S2x8192x1, .f32⟩
  | .hbm, ⟨93, _⟩ => ⟨S2x8192x1, .f32⟩
  | .hbm, ⟨94, _⟩ => ⟨S2x8192x1, .f32⟩
  | .hbm, ⟨95, _⟩ => ⟨S2x8192x1024, .f32⟩
  | .hbm, ⟨96, _⟩ => ⟨S2x8192x1024, .f32⟩
  | .hbm, ⟨97, _⟩ => ⟨S1x1x1024, .f32⟩
  | .hbm, ⟨98, _⟩ => ⟨S2x8192x1024, .f32⟩
  | .hbm, ⟨99, _⟩ => ⟨S2x8192x1024, .f32⟩
  | .hbm, ⟨100, _⟩ => ⟨S2x8192x1024, .f32⟩
  | .hbm, ⟨101, _⟩ => ⟨S2x8192x1024, .f32⟩
  | .hbm, ⟨102, _⟩ => ⟨S2x8192x1024, .f32⟩
  | .hbm, ⟨103, _⟩ => ⟨S2x256x1024, .f32⟩
  | .hbm, ⟨104, _⟩ => ⟨S2x256x1024, .f32⟩
  | .hbm, ⟨105, _⟩ => ⟨S_, .f32⟩
  | .hbm, ⟨106, _⟩ => ⟨S2x256, .f32⟩
  | .hbm, ⟨107, _⟩ => ⟨S2x256x1, .f32⟩
  | .hbm, ⟨108, _⟩ => ⟨S_, .f32⟩
  | .hbm, ⟨109, _⟩ => ⟨S2x256x1, .f32⟩
  | .hbm, ⟨110, _⟩ => ⟨S2x256x1, .f32⟩
  | .hbm, ⟨111, _⟩ => ⟨S_, .f32⟩
  | .hbm, ⟨112, _⟩ => ⟨S2x256x1, .f32⟩
  | .hbm, ⟨113, _⟩ => ⟨S2x256x1, .f32⟩
  | .hbm, ⟨114, _⟩ => ⟨S2x256x1, .f32⟩
  | .hbm, ⟨115, _⟩ => ⟨S2x256x1024, .f32⟩
  | .hbm, ⟨116, _⟩ => ⟨S2x256x1024, .f32⟩
  | .hbm, ⟨117, _⟩ => ⟨S1x1x1024, .f32⟩
  | .hbm, ⟨118, _⟩ => ⟨S2x256x1024, .f32⟩
  | .hbm, ⟨119, _⟩ => ⟨S2x256x1024, .f32⟩
  | .hbm, ⟨120, _⟩ => ⟨S2x256x1024, .f32⟩
  | .hbm, ⟨121, _⟩ => ⟨S2x256x1024, .f32⟩
  | .hbm, ⟨122, _⟩ => ⟨S2x256x1024, .f32⟩
  | .hbm, ⟨123, _⟩ => ⟨S2x8448x1024, .f32⟩
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_6 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_call0_v0 : Ref sig .tc := ⟨.hbm, 71, rfl⟩
abbrev main_call0_v1 : Ref sig .tc := ⟨.hbm, 72, rfl⟩
abbrev main_call0_cst : Ref sig .tc := ⟨.hbm, 73, rfl⟩
abbrev main_call0_v2 : Ref sig .tc := ⟨.hbm, 74, rfl⟩
abbrev main_call0_v3 : Ref sig .tc := ⟨.hbm, 75, rfl⟩
abbrev main_call0_cst_0 : Ref sig .tc := ⟨.hbm, 76, rfl⟩
abbrev main_call0_v4 : Ref sig .tc := ⟨.hbm, 77, rfl⟩
abbrev main_call0_v5 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_7 : Ref sig .tc := ⟨.hbm, 85, rfl⟩
abbrev main_v62 : Ref sig .tc := ⟨.hbm, 86, rfl⟩
abbrev main_v63 : Ref sig .tc := ⟨.hbm, 87, rfl⟩
abbrev main_cst_8 : Ref sig .tc := ⟨.hbm, 88, rfl⟩
abbrev main_v64 : Ref sig .tc := ⟨.hbm, 89, rfl⟩
abbrev main_v65 : Ref sig .tc := ⟨.hbm, 90, rfl⟩
abbrev main_cst_9 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_10 : Ref sig .tc := ⟨.hbm, 105, rfl⟩
abbrev main_v79 : Ref sig .tc := ⟨.hbm, 106, rfl⟩
abbrev main_v80 : Ref sig .tc := ⟨.hbm, 107, rfl⟩
abbrev main_cst_11 : Ref sig .tc := ⟨.hbm, 108, rfl⟩
abbrev main_v81 : Ref sig .tc := ⟨.hbm, 109, rfl⟩
abbrev main_v82 : Ref sig .tc := ⟨.hbm, 110, rfl⟩
abbrev main_cst_12 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩

abbrev nD : Nat := 1
abbrev τ : Topo := Topo.v7x

variable {F : FTy → Type} [FloatOps F]
-- ==== Kernel3.lean ====
abbrev S2x8448x256 : Shape := ⟨3, ![2, 8448, 256]⟩
abbrev S1024x1024 : Shape := ⟨2, ![1024, 1024]⟩
abbrev S2x8448x1024 : Shape := ⟨3, ![2, 8448, 1024]⟩
abbrev S2x2x6144 : Shape := ⟨3, ![2, 2, 6144]⟩
abbrev S1x1024 : Shape := ⟨2, ![1, 1024]⟩
abbrev S1x528x256 : Shape := ⟨3, ![1, 528, 256]⟩
abbrev S1x528x1024 : Shape := ⟨3, ![1, 528, 1024]⟩
abbrev S1x2x6144 : Shape := ⟨3, ![1, 2, 6144]⟩
abbrev S528x256 : Shape := ⟨2, ![528, 256]⟩
abbrev S256x1024 : Shape := ⟨2, ![256, 1024]⟩
abbrev S528x1024 : Shape := ⟨2, ![528, 1024]⟩
abbrev S528x1 : Shape := ⟨2, ![528, 1]⟩
abbrev S1x1x1024 : Shape := ⟨3, ![1, 1, 1024]⟩
abbrev S528 : Shape := ⟨1, ![528]⟩

abbrev nBuf : Space → Nat
  | .hbm => 10
  | .vmem => 16
  | .smem => 0
  | _ => 0

abbrev bufTy : (tb : Table) → Fin (tcTables nBuf tb) → BufTy
  | .hbm, ⟨0, _⟩ => ⟨S2x8448x256, .bf16⟩
  | .hbm, ⟨1, _⟩ => ⟨S2x8448x256, .bf16⟩
  | .hbm, ⟨2, _⟩ => ⟨S2x8448x256, .bf16⟩
  | .hbm, ⟨3, _⟩ => ⟨S2x8448x256, .bf16⟩
  | .hbm, ⟨4, _⟩ => ⟨S1024x1024, .f32⟩
  | .hbm, ⟨5, _⟩ => ⟨S2x8448x1024, .f32⟩
  | .hbm, ⟨6, _⟩ => ⟨S2x2x6144, .f32⟩
  | .hbm, ⟨7, _⟩ => ⟨S1x1024, .f32⟩
  | .hbm, ⟨8, _⟩ => ⟨S1024x1024, .bf16⟩
  | .hbm, ⟨9, _⟩ => ⟨S2x8448x1024, .f32⟩
  | .local _ .vmem, ⟨0, _⟩ => ⟨S1x528x256, .bf16⟩
  | .local _ .vmem, ⟨1, _⟩ => ⟨S1x528x256, .bf16⟩
  | .local _ .vmem, ⟨2, _⟩ => ⟨S1x528x256, .bf16⟩
  | .local _ .vmem, ⟨3, _⟩ => ⟨S1x528x256, .bf16⟩
  | .local _ .vmem, ⟨4, _⟩ => ⟨S1x528x256, .bf16⟩
  | .local _ .vmem, ⟨5, _⟩ => ⟨S1x528x256, .bf16⟩
  | .local _ .vmem, ⟨6, _⟩ => ⟨S1x528x256, .bf16⟩
  | .local _ .vmem, ⟨7, _⟩ => ⟨S1x528x256, .bf16⟩
  | .local _ .vmem, ⟨8, _⟩ => ⟨S1024x1024, .bf16⟩
  | .local _ .vmem, ⟨9, _⟩ => ⟨S1x528x1024, .f32⟩
  | .local _ .vmem, ⟨10, _⟩ => ⟨S1x528x1024, .f32⟩
  | .local _ .vmem, ⟨11, _⟩ => ⟨S1x2x6144, .f32⟩
  | .local _ .vmem, ⟨12, _⟩ => ⟨S1x2x6144, .f32⟩
  | .local _ .vmem, ⟨13, _⟩ => ⟨S1x1024, .f32⟩
  | .local _ .vmem, ⟨14, _⟩ => ⟨S1x528x1024, .f32⟩
  | .local _ .vmem, ⟨15, _⟩ => ⟨S1x528x1024, .f32⟩
  | _, _ => ⟨S2x8448x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x528x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x528x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x528x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x528x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x528x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x6144 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x528x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S2x8448x256 : Shape := ⟨3, ![2, 8448, 256]⟩
abbrev S1024x1024 : Shape := ⟨2, ![1024, 1024]⟩
abbrev S2x8448x1024 : Shape := ⟨3, ![2, 8448, 1024]⟩
abbrev S2x2x6144 : Shape := ⟨3, ![2, 2, 6144]⟩
abbrev S1x1024 : Shape := ⟨2, ![1, 1024]⟩
abbrev S2x8192x1024 : Shape := ⟨3, ![2, 8192, 1024]⟩
abbrev S2x256x1024 : Shape := ⟨3, ![2, 256, 1024]⟩
abbrev S2x1x6144 : Shape := ⟨3, ![2, 1, 6144]⟩
abbrev S2x1x1024 : Shape := ⟨3, ![2, 1, 1024]⟩
abbrev S2x8192x256 : Shape := ⟨3, ![2, 8192, 256]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x256x256 : Shape := ⟨3, ![2, 256, 256]⟩
abbrev S2x256 : Shape := ⟨2, ![2, 256]⟩
abbrev S2x256x1 : Shape := ⟨3, ![2, 256, 1]⟩

abbrev nBuf : Space → Nat
  | .hbm => 77
  | .vmem => 0
  | .smem => 0
  | _ => 0

abbrev bufTy : (tb : Table) → Fin (tcTables nBuf tb) → BufTy
  | .hbm, ⟨0, _⟩ => ⟨S2x8448x256, .bf16⟩
  | .hbm, ⟨1, _⟩ => ⟨S2x8448x256, .bf16⟩
  | .hbm, ⟨2, _⟩ => ⟨S2x8448x256, .bf16⟩
  | .hbm, ⟨3, _⟩ => ⟨S2x8448x256, .bf16⟩
  | .hbm, ⟨4, _⟩ => ⟨S1024x1024, .f32⟩
  | .hbm, ⟨5, _⟩ => ⟨S2x8448x1024, .f32⟩
  | .hbm, ⟨6, _⟩ => ⟨S2x2x6144, .f32⟩
  | .hbm, ⟨7, _⟩ => ⟨S1x1024, .f32⟩
  | .hbm, ⟨8, _⟩ => ⟨S2x8192x1024, .f32⟩
  | .hbm, ⟨9, _⟩ => ⟨S2x256x1024, .f32⟩
  | .hbm, ⟨10, _⟩ => ⟨S2x1x6144, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S2x1x6144, .f32⟩
  | .hbm, ⟨18, _⟩ => ⟨S2x1x1024, .f32⟩
  | .hbm, ⟨19, _⟩ => ⟨S2x1x1024, .f32⟩
  | .hbm, ⟨20, _⟩ => ⟨S2x1x1024, .f32⟩
  | .hbm, ⟨21, _⟩ => ⟨S2x1x1024, .f32⟩
  | .hbm, ⟨22, _⟩ => ⟨S2x1x1024, .f32⟩
  | .hbm, ⟨23, _⟩ => ⟨S2x1x1024, .f32⟩
  | .hbm, ⟨24, _⟩ => ⟨S2x8192x256, .bf16⟩
  | .hbm, ⟨25, _⟩ => ⟨S2x8192x256, .bf16⟩
  | .hbm, ⟨26, _⟩ => ⟨S2x8192x256, .bf16⟩
  | .hbm, ⟨27, _⟩ => ⟨S2x8192x256, .bf16⟩
  | .hbm, ⟨28, _⟩ => ⟨S2x8192x1024, .bf16⟩
  | .hbm, ⟨29, _⟩ => ⟨S2x8192x1024, .f32⟩
  | .hbm, ⟨30, _⟩ => ⟨S2x8192x1024, .f32⟩
  | .hbm, ⟨31, _⟩ => ⟨S2x8192x1024, .f32⟩
  | .hbm, ⟨32, _⟩ => ⟨S_, .f32⟩
  | .hbm, ⟨33, _⟩ => ⟨S2x8192, .f32⟩
  | .hbm, ⟨34, _⟩ => ⟨S2x8192x1, .f32⟩
  | .hbm, ⟨35, _⟩ => ⟨S_, .f32⟩
  | .hbm, ⟨36, _⟩ => ⟨S2x8192x1, .f32⟩
  | .hbm, ⟨37, _⟩ => ⟨S2x8192x1, .f32⟩
  | .hbm, ⟨38, _⟩ => ⟨S_, .f32⟩
  | .hbm, ⟨39, _⟩ => ⟨S2x8192x1, .f32⟩
  | .hbm, ⟨40, _⟩ => ⟨S2x8192x1, .f32⟩
  | .hbm, ⟨41, _⟩ => ⟨S2x8192x1, .f32⟩
  | .hbm, ⟨42, _⟩ => ⟨S2x8192x1024, .f32⟩
  | .hbm, ⟨43, _⟩ => ⟨S2x8192x1024, .f32⟩
  | .hbm, ⟨44, _⟩ => ⟨S1x1x1024, .f32⟩
  | .hbm, ⟨45, _⟩ => ⟨S2x8192x1024, .f32⟩
  | .hbm, ⟨46, _⟩ => ⟨S2x8192x1024, .f32⟩
  | .hbm, ⟨47, _⟩ => ⟨S2x8192x1024, .f32⟩
  | .hbm, ⟨48, _⟩ => ⟨S2x8192x1024, .f32⟩
  | .hbm, ⟨49, _⟩ => ⟨S2x8192x1024, .f32⟩
  | .hbm, ⟨50, _⟩ => ⟨S2x256x256, .bf16⟩
  | .hbm, ⟨51, _⟩ => ⟨S2x256x256, .bf16⟩
  | .hbm, ⟨52, _⟩ => ⟨S2x256x256, .bf16⟩
  | .hbm, ⟨53, _⟩ => ⟨S2x256x256, .bf16⟩
  | .hbm, ⟨54, _⟩ => ⟨S2x256x1024, .bf16⟩
  | .hbm, ⟨55, _⟩ => ⟨S2x256x1024, .f32⟩
  | .hbm, ⟨56, _⟩ => ⟨S2x256x1024, .f32⟩
  | .hbm, ⟨57, _⟩ => ⟨S2x256x1024, .f32⟩
  | .hbm, ⟨58, _⟩ => ⟨S_, .f32⟩
  | .hbm, ⟨59, _⟩ => ⟨S2x256, .f32⟩
  | .hbm, ⟨60, _⟩ => ⟨S2x256x1, .f32⟩
  | .hbm, ⟨61, _⟩ => ⟨S_, .f32⟩
  | .hbm, ⟨62, _⟩ => ⟨S2x256x1, .f32⟩
  | .hbm, ⟨63, _⟩ => ⟨S2x256x1, .f32⟩
  | .hbm, ⟨64, _⟩ => ⟨S_, .f32⟩
  | .hbm, ⟨65, _⟩ => ⟨S2x256x1, .f32⟩
  | .hbm, ⟨66, _⟩ => ⟨S2x256x1, .f32⟩
  | .hbm, ⟨67, _⟩ => ⟨S2x256x1, .f32⟩
  | .hbm, ⟨68, _⟩ => ⟨S2x256x1024, .f32⟩
  | .hbm, ⟨69, _⟩ => ⟨S2x256x1024, .f32⟩
  | .hbm, ⟨70, _⟩ => ⟨S1x1x1024, .f32⟩
  | .hbm, ⟨71, _⟩ => ⟨S2x256x1024, .f32⟩
  | .hbm, ⟨72, _⟩ => ⟨S2x256x1024, .f32⟩
  | .hbm, ⟨73, _⟩ => ⟨S2x256x1024, .f32⟩
  | .hbm, ⟨74, _⟩ => ⟨S2x256x1024, .f32⟩
  | .hbm, ⟨75, _⟩ => ⟨S2x256x1024, .f32⟩
  | .hbm, ⟨76, _⟩ => ⟨S2x8448x1024, .f32⟩
  | _, _ => ⟨S2x8448x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_v25 : Ref sig .tc := ⟨.hbm, 34, rfl⟩
abbrev main_cst_0 : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_2 : Ref sig .tc := ⟨.hbm, 58, rfl⟩
abbrev main_v47 : Ref sig .tc := ⟨.hbm, 59, rfl⟩
abbrev main_v48 : Ref sig .tc := ⟨.hbm, 60, rfl⟩
abbrev main_cst_3 : Ref sig .tc := ⟨.hbm, 61, rfl⟩
abbrev main_v49 : Ref sig .tc := ⟨.hbm, 62, rfl⟩
abbrev main_v50 : Ref sig .tc := ⟨.hbm, 63, rfl⟩
abbrev main_cst_4 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩

abbrev nD : Nat := 1
abbrev τ : Topo := Topo.v7x

variable {F : FTy → Type} [FloatOps F]
-- ==== Kernel4.lean ====
abbrev S2x2x8448x1024 : Shape := ⟨4, ![2, 2, 8448, 1024]⟩
abbrev S2x8448x128 : Shape := ⟨3, ![2, 8448, 128]⟩
abbrev S2x8448x1024 : Shape := ⟨3, ![2, 8448, 1024]⟩
abbrev S2x2x6144 : Shape := ⟨3, ![2, 2, 6144]⟩
abbrev S1x1024 : Shape := ⟨2, ![1, 1024]⟩
abbrev S1x1x528x1024 : Shape := ⟨4, ![1, 1, 528, 1024]⟩
abbrev S1x528x128 : Shape := ⟨3, ![1, 528, 128]⟩
abbrev S1x528x1024 : Shape := ⟨3, ![1, 528, 1024]⟩
abbrev S1x2x6144 : Shape := ⟨3, ![1, 2, 6144]⟩
abbrev S1x528x1 : Shape := ⟨3, ![1, 528, 1]⟩
abbrev S528x1 : Shape := ⟨2, ![528, 1]⟩
abbrev S528x1024 : Shape := ⟨2, ![528, 1024]⟩
abbrev S1x1x1024 : Shape := ⟨3, ![1, 1, 1024]⟩
abbrev S528 : Shape := ⟨1, ![528]⟩

abbrev nBuf : Space → Nat
  | .hbm => 6
  | .vmem => 13
  | .smem => 0
  | _ => 0

abbrev bufTy : (tb : Table) → Fin (tcTables nBuf tb) → BufTy
  | .hbm, ⟨0, _⟩ => ⟨S2x2x8448x1024, .bf16⟩
  | .hbm, ⟨1, _⟩ => ⟨S2x8448x128, .f32⟩
  | .hbm, ⟨2, _⟩ => ⟨S2x8448x1024, .f32⟩
  | .hbm, ⟨3, _⟩ => ⟨S2x2x6144, .f32⟩
  | .hbm, ⟨4, _⟩ => ⟨S1x1024, .f32⟩
  | .hbm, ⟨5, _⟩ => ⟨S2x8448x1024, .f32⟩
  | .local _ .vmem, ⟨0, _⟩ => ⟨S1x1x528x1024, .bf16⟩
  | .local _ .vmem, ⟨1, _⟩ => ⟨S1x1x528x1024, .bf16⟩
  | .local _ .vmem, ⟨2, _⟩ => ⟨S1x1x528x1024, .bf16⟩
  | .local _ .vmem, ⟨3, _⟩ => ⟨S1x1x528x1024, .bf16⟩
  | .local _ .vmem, ⟨4, _⟩ => ⟨S1x528x128, .f32⟩
  | .local _ .vmem, ⟨5, _⟩ => ⟨S1x528x128, .f32⟩
  | .local _ .vmem, ⟨6, _⟩ => ⟨S1x528x1024, .f32⟩
  | .local _ .vmem, ⟨7, _⟩ => ⟨S1x528x1024, .f32⟩
  | .local _ .vmem, ⟨8, _⟩ => ⟨S1x2x6144, .f32⟩
  | .local _ .vmem, ⟨9, _⟩ => ⟨S1x2x6144, .f32⟩
  | .local _ .vmem, ⟨10, _⟩ => ⟨S1x1024, .f32⟩
  | .local _ .vmem, ⟨11, _⟩ => ⟨S1x528x1024, .f32⟩
  | .local _ .vmem, ⟨12, _⟩ => ⟨S1x528x1024, .f32⟩
  | _, _ => ⟨S2x2x8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x528x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x528x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x528x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x528x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x528x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S2x2x8448x1024 : Shape := ⟨4, ![2, 2, 8448, 1024]⟩
abbrev S2x8448x128 : Shape := ⟨3, ![2, 8448, 128]⟩
abbrev S2x8448x1024 : Shape := ⟨3, ![2, 8448, 1024]⟩
abbrev S2x2x6144 : Shape := ⟨3, ![2, 2, 6144]⟩
abbrev S1x1024 : Shape := ⟨2, ![1, 1024]⟩
abbrev S2x8192x1024 : Shape := ⟨3, ![2, 8192, 1024]⟩
abbrev S2x256x1024 : Shape := ⟨3, ![2, 256, 1024]⟩
abbrev S2x1x6144 : Shape := ⟨3, ![2, 1, 6144]⟩
abbrev S2x1x1024 : Shape := ⟨3, ![2, 1, 1024]⟩
abbrev S2x8448x2 : Shape := ⟨3, ![2, 8448, 2]⟩
abbrev S2x2x8448 : Shape := ⟨3, ![2, 2, 8448]⟩
abbrev S2x2x8448x1 : Shape := ⟨4, ![2, 2, 8448, 1]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x256 : Shape := ⟨2, ![2, 256]⟩
abbrev S2x256x1 : Shape := ⟨3, ![2, 256, 1]⟩

abbrev nBuf : Space → Nat
  | .hbm => 70
  | .vmem => 0
  | .smem => 0
  | _ => 0

abbrev bufTy : (tb : Table) → Fin (tcTables nBuf tb) → BufTy
  | .hbm, ⟨0, _⟩ => ⟨S2x2x8448x1024, .bf16⟩
  | .hbm, ⟨1, _⟩ => ⟨S2x8448x128, .f32⟩
  | .hbm, ⟨2, _⟩ => ⟨S2x8448x1024, .f32⟩
  | .hbm, ⟨3, _⟩ => ⟨S2x2x6144, .f32⟩
  | .hbm, ⟨4, _⟩ => ⟨S1x1024, .f32⟩
  | .hbm, ⟨5, _⟩ => ⟨S2x8192x1024, .f32⟩
  | .hbm, ⟨6, _⟩ => ⟨S2x256x1024, .f32⟩
  | .hbm, ⟨7, _⟩ => ⟨S2x1x6144, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x1x6144, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S2x1x1024, .f32⟩
  | .hbm, ⟨19, _⟩ => ⟨S2x1x1024, .f32⟩
  | .hbm, ⟨20, _⟩ => ⟨S2x1x1024, .f32⟩
  | .hbm, ⟨21, _⟩ => ⟨S2x8448x2, .f32⟩
  | .hbm, ⟨22, _⟩ => ⟨S2x2x8448, .f32⟩
  | .hbm, ⟨23, _⟩ => ⟨S2x2x8448x1, .f32⟩
  | .hbm, ⟨24, _⟩ => ⟨S2x2x8448x1024, .f32⟩
  | .hbm, ⟨25, _⟩ => ⟨S2x2x8448x1024, .f32⟩
  | .hbm, ⟨26, _⟩ => ⟨S2x2x8448x1024, .f32⟩
  | .hbm, ⟨27, _⟩ => ⟨S_, .f32⟩
  | .hbm, ⟨28, _⟩ => ⟨S2x8448x1024, .f32⟩
  | .hbm, ⟨29, _⟩ => ⟨S2x8192x1024, .f32⟩
  | .hbm, ⟨30, _⟩ => ⟨S2x8192x1024, .f32⟩
  | .hbm, ⟨31, _⟩ => ⟨S_, .f32⟩
  | .hbm, ⟨32, _⟩ => ⟨S2x8192, .f32⟩
  | .hbm, ⟨33, _⟩ => ⟨S2x8192x1, .f32⟩
  | .hbm, ⟨34, _⟩ => ⟨S_, .f32⟩
  | .hbm, ⟨35, _⟩ => ⟨S2x8192x1, .f32⟩
  | .hbm, ⟨36, _⟩ => ⟨S2x8192x1, .f32⟩
  | .hbm, ⟨37, _⟩ => ⟨S_, .f32⟩
  | .hbm, ⟨38, _⟩ => ⟨S2x8192x1, .f32⟩
  | .hbm, ⟨39, _⟩ => ⟨S2x8192x1, .f32⟩
  | .hbm, ⟨40, _⟩ => ⟨S2x8192x1, .f32⟩
  | .hbm, ⟨41, _⟩ => ⟨S2x8192x1024, .f32⟩
  | .hbm, ⟨42, _⟩ => ⟨S2x8192x1024, .f32⟩
  | .hbm, ⟨43, _⟩ => ⟨S1x1x1024, .f32⟩
  | .hbm, ⟨44, _⟩ => ⟨S2x8192x1024, .f32⟩
  | .hbm, ⟨45, _⟩ => ⟨S2x8192x1024, .f32⟩
  | .hbm, ⟨46, _⟩ => ⟨S2x8192x1024, .f32⟩
  | .hbm, ⟨47, _⟩ => ⟨S2x8192x1024, .f32⟩
  | .hbm, ⟨48, _⟩ => ⟨S2x8192x1024, .f32⟩
  | .hbm, ⟨49, _⟩ => ⟨S2x256x1024, .f32⟩
  | .hbm, ⟨50, _⟩ => ⟨S2x256x1024, .f32⟩
  | .hbm, ⟨51, _⟩ => ⟨S_, .f32⟩
  | .hbm, ⟨52, _⟩ => ⟨S2x256, .f32⟩
  | .hbm, ⟨53, _⟩ => ⟨S2x256x1, .f32⟩
  | .hbm, ⟨54, _⟩ => ⟨S_, .f32⟩
  | .hbm, ⟨55, _⟩ => ⟨S2x256x1, .f32⟩
  | .hbm, ⟨56, _⟩ => ⟨S2x256x1, .f32⟩
  | .hbm, ⟨57, _⟩ => ⟨S_, .f32⟩
  | .hbm, ⟨58, _⟩ => ⟨S2x256x1, .f32⟩
  | .hbm, ⟨59, _⟩ => ⟨S2x256x1, .f32⟩
  | .hbm, ⟨60, _⟩ => ⟨S2x256x1, .f32⟩
  | .hbm, ⟨61, _⟩ => ⟨S2x256x1024, .f32⟩
  | .hbm, ⟨62, _⟩ => ⟨S2x256x1024, .f32⟩
  | .hbm, ⟨63, _⟩ => ⟨S1x1x1024, .f32⟩
  | .hbm, ⟨64, _⟩ => ⟨S2x256x1024, .f32⟩
  | .hbm, ⟨65, _⟩ => ⟨S2x256x1024, .f32⟩
  | .hbm, ⟨66, _⟩ => ⟨S2x256x1024, .f32⟩
  | .hbm, ⟨67, _⟩ => ⟨S2x256x1024, .f32⟩
  | .hbm, ⟨68, _⟩ => ⟨S2x256x1024, .f32⟩
  | .hbm, ⟨69, _⟩ => ⟨S2x8448x1024, .f32⟩
  | _, _ => ⟨S2x2x8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_3 : Ref sig .tc := ⟨.hbm, 51, rfl⟩
abbrev main_v42 : Ref sig .tc := ⟨.hbm, 52, rfl⟩
abbrev main_v43 : Ref sig .tc := ⟨.hbm, 53, rfl⟩
abbrev main_cst_4 : Ref sig .tc := ⟨.hbm, 54, rfl⟩
abbrev main_v44 : Ref sig .tc := ⟨.hbm, 55, rfl⟩
abbrev main_v45 : Ref sig .tc := ⟨.hbm, 56, rfl⟩
abbrev main_cst_5 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩

abbrev nD : Nat := 1
abbrev τ : Topo := Topo.v7x

variable {F : FTy → Type} [FloatOps F]
-- ==== Kernel5.lean ====
abbrev S8x1024 : Shape := ⟨2, ![8, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x8x6144 : Shape := ⟨3, ![4, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8x1024 : Shape := ⟨2, ![8, 1024]⟩
abbrev S4x1024x6144 : Shape := ⟨3, ![4, 1024, 6144]⟩
abbrev S4x6144 : Shape := ⟨2, ![4, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S4x8x6144 : Shape := ⟨3, ![4, 8, 6144]⟩

abbrev nBuf : Space → Nat
  | .hbm => 49
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S1x1024x6144, .f32⟩
  | .hbm, ⟨21, _⟩ => ⟨S1024x6144, .f32⟩
  | .hbm, ⟨22, _⟩ => ⟨S8x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S8x6144, .f32⟩
  | .hbm, ⟨27, _⟩ => ⟨S8x6144, .f32⟩
  | .hbm, ⟨28, _⟩ => ⟨S1x1024x6144, .f32⟩
  | .hbm, ⟨29, _⟩ => ⟨S1024x6144, .f32⟩
  | .hbm, ⟨30, _⟩ => ⟨S8x6144, .f32⟩
  | .hbm, ⟨31, _⟩ => ⟨S1x6144, .f32⟩
  | .hbm, ⟨32, _⟩ => ⟨S6144, .f32⟩
  | .hbm, ⟨33, _⟩ => ⟨S1x6144, .f32⟩
  | .hbm, ⟨34, _⟩ => ⟨S8x6144, .f32⟩
  | .hbm, ⟨35, _⟩ => ⟨S8x6144, .f32⟩
  | .hbm, ⟨36, _⟩ => ⟨S1x1024x6144, .f32⟩
  | .hbm, ⟨37, _⟩ => ⟨S1024x6144, .f32⟩
  | .hbm, ⟨38, _⟩ => ⟨S8x6144, .f32⟩
  | .hbm, ⟨39, _⟩ => ⟨S1x6144, .f32⟩
  | .hbm, ⟨40, _⟩ => ⟨S6144, .f32⟩
  | .hbm, ⟨41, _⟩ => ⟨S1x6144, .f32⟩
  | .hbm, ⟨42, _⟩ => ⟨S8x6144, .f32⟩
  | .hbm, ⟨43, _⟩ => ⟨S8x6144, .f32⟩
  | .hbm, ⟨44, _⟩ => ⟨S1x8x6144, .f32⟩
  | .hbm, ⟨45, _⟩ => ⟨S1x8x6144, .f32⟩
  | .hbm, ⟨46, _⟩ => ⟨S1x8x6144, .f32⟩
  | .hbm, ⟨47, _⟩ => ⟨S1x8x6144, .f32⟩
  | .hbm, ⟨48, _⟩ => ⟨S4x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Kernel6.lean ====
abbrev S2x8448x1024 : Shape := ⟨3, ![2, 8448, 1024]⟩
abbrev S2x2x6144 : Shape := ⟨3, ![2, 2, 6144]⟩
abbrev S1x1024 : Shape := ⟨2, ![1, 1024]⟩
abbrev S1024x8 : Shape := ⟨2, ![1024, 8]⟩
abbrev S_ : Shape := ⟨0, ![]⟩
abbrev S1024x128 : Shape := ⟨2, ![1024, 128]⟩
abbrev S2x8448x128 : Shape := ⟨3, ![2, 8448, 128]⟩
abbrev S1x528x1024 : Shape := ⟨3, ![1, 528, 1024]⟩
abbrev S1x2x6144 : Shape := ⟨3, ![1, 2, 6144]⟩
abbrev S1x528x128 : Shape := ⟨3, ![1, 528, 128]⟩
abbrev S528x1 : Shape := ⟨2, ![528, 1]⟩
abbrev S1x1x1024 : Shape := ⟨3, ![1, 1, 1024]⟩
abbrev S528x1024 : Shape := ⟨2, ![528, 1024]⟩
abbrev S528 : Shape := ⟨1, ![528]⟩
abbrev S528x128 : Shape := ⟨2, ![528, 128]⟩

abbrev nBuf : Space → Nat
  | .hbm => 9
  | .vmem => 10
  | .smem => 0
  | _ => 0

abbrev bufTy : (tb : Table) → Fin (tcTables nBuf tb) → BufTy
  | .hbm, ⟨0, _⟩ => ⟨S2x8448x1024, .f32⟩
  | .hbm, ⟨1, _⟩ => ⟨S2x2x6144, .f32⟩
  | .hbm, ⟨2, _⟩ => ⟨S1x1024, .f32⟩
  | .hbm, ⟨3, _⟩ => ⟨S1024x8, .f32⟩
  | .hbm, ⟨4, _⟩ => ⟨S_, .i32⟩
  | .hbm, ⟨5, _⟩ => ⟨S_, .f32⟩
  | .hbm, ⟨6, _⟩ => ⟨S1024x128, .f32⟩
  | .hbm, ⟨7, _⟩ => ⟨S2x8448x1024, .bf16⟩
  | .hbm, ⟨8, _⟩ => ⟨S2x8448x128, .f32⟩
  | .local _ .vmem, ⟨0, _⟩ => ⟨S1x528x1024, .f32⟩
  | .local _ .vmem, ⟨1, _⟩ => ⟨S1x528x1024, .f32⟩
  | .local _ .vmem, ⟨2, _⟩ => ⟨S1x2x6144, .f32⟩
  | .local _ .vmem, ⟨3, _⟩ => ⟨S1x2x6144, .f32⟩
  | .local _ .vmem, ⟨4, _⟩ => ⟨S1x1024, .f32⟩
  | .local _ .vmem, ⟨5, _⟩ => ⟨S1024x128, .f32⟩
  | .local _ .vmem, ⟨6, _⟩ => ⟨S1x528x1024, .bf16⟩
  | .local _ .vmem, ⟨7, _⟩ => ⟨S1x528x1024, .bf16⟩
  | .local _ .vmem, ⟨8, _⟩ => ⟨S1x528x128, .f32⟩
  | .local _ .vmem, ⟨9, _⟩ => ⟨S1x528x128, .f32⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x528x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x528x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x528x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S2x8448x1024 : Shape := ⟨3, ![2, 8448, 1024]⟩
abbrev S2x2x6144 : Shape := ⟨3, ![2, 2, 6144]⟩
abbrev S1x1024 : Shape := ⟨2, ![1, 1024]⟩
abbrev S1024x8 : Shape := ⟨2, ![1024, 8]⟩
abbrev S2x8192x1024 : Shape := ⟨3, ![2, 8192, 1024]⟩
abbrev S2x256x1024 : Shape := ⟨3, ![2, 256, 1024]⟩
abbrev S2x1x6144 : Shape := ⟨3, ![2, 1, 6144]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x256 : Shape := ⟨2, ![2, 256]⟩
abbrev S2x256x1 : Shape := ⟨3, ![2, 256, 1]⟩

abbrev nBuf : Space → Nat
  | .hbm => 68
  | .vmem => 0
  | .smem => 0
  | _ => 0

abbrev bufTy : (tb : Table) → Fin (tcTables nBuf tb) → BufTy
  | .hbm, ⟨0, _⟩ => ⟨S2x8448x1024, .f32⟩
  | .hbm, ⟨1, _⟩ => ⟨S2x2x6144, .f32⟩
  | .hbm, ⟨2, _⟩ => ⟨S1x1024, .f32⟩
  | .hbm, ⟨3, _⟩ => ⟨S1024x8, .f32⟩
  | .hbm, ⟨4, _⟩ => ⟨S2x8192x1024, .f32⟩
  | .hbm, ⟨5, _⟩ => ⟨S2x256x1024, .f32⟩
  | .hbm, ⟨6, _⟩ => ⟨S2x1x6144, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x1x6144, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S2x1x1024, .f32⟩
  | .hbm, ⟨19, _⟩ => ⟨S2x1x1024, .f32⟩
  | .hbm, ⟨20, _⟩ => ⟨S2x8192x1024, .f32⟩
  | .hbm, ⟨21, _⟩ => ⟨S_, .f32⟩
  | .hbm, ⟨22, _⟩ => ⟨S2x8192, .f32⟩
  | .hbm, ⟨23, _⟩ => ⟨S2x8192x1, .f32⟩
  | .hbm, ⟨24, _⟩ => ⟨S_, .f32⟩
  | .hbm, ⟨25, _⟩ => ⟨S2x8192x1, .f32⟩
  | .hbm, ⟨26, _⟩ => ⟨S2x8192x1, .f32⟩
  | .hbm, ⟨27, _⟩ => ⟨S_, .f32⟩
  | .hbm, ⟨28, _⟩ => ⟨S2x8192x1, .f32⟩
  | .hbm, ⟨29, _⟩ => ⟨S2x8192x1, .f32⟩
  | .hbm, ⟨30, _⟩ => ⟨S2x8192x1, .f32⟩
  | .hbm, ⟨31, _⟩ => ⟨S2x8192x1024, .f32⟩
  | .hbm, ⟨32, _⟩ => ⟨S2x8192x1024, .f32⟩
  | .hbm, ⟨33, _⟩ => ⟨S1x1x1024, .f32⟩
  | .hbm, ⟨34, _⟩ => ⟨S2x8192x1024, .f32⟩
  | .hbm, ⟨35, _⟩ => ⟨S2x8192x1024, .f32⟩
  | .hbm, ⟨36, _⟩ => ⟨S_, .f32⟩
  | .hbm, ⟨37, _⟩ => ⟨S2x1x1024, .f32⟩
  | .hbm, ⟨38, _⟩ => ⟨S2x1x1024, .f32⟩
  | .hbm, ⟨39, _⟩ => ⟨S2x8192x1024, .f32⟩
  | .hbm, ⟨40, _⟩ => ⟨S2x8192x1024, .f32⟩
  | .hbm, ⟨41, _⟩ => ⟨S2x8192x1024, .f32⟩
  | .hbm, ⟨42, _⟩ => ⟨S2x8192x1024, .f32⟩
  | .hbm, ⟨43, _⟩ => ⟨S2x256x1024, .f32⟩
  | .hbm, ⟨44, _⟩ => ⟨S_, .f32⟩
  | .hbm, ⟨45, _⟩ => ⟨S2x256, .f32⟩
  | .hbm, ⟨46, _⟩ => ⟨S2x256x1, .f32⟩
  | .hbm, ⟨47, _⟩ => ⟨S_, .f32⟩
  | .hbm, ⟨48, _⟩ => ⟨S2x256x1, .f32⟩
  | .hbm, ⟨49, _⟩ => ⟨S2x256x1, .f32⟩
  | .hbm, ⟨50, _⟩ => ⟨S_, .f32⟩
  | .hbm, ⟨51, _⟩ => ⟨S2x256x1, .f32⟩
  | .hbm, ⟨52, _⟩ => ⟨S2x256x1, .f32⟩
  | .hbm, ⟨53, _⟩ => ⟨S2x256x1, .f32⟩
  | .hbm, ⟨54, _⟩ => ⟨S2x256x1024, .f32⟩
  | .hbm, ⟨55, _⟩ => ⟨S2x256x1024, .f32⟩
  | .hbm, ⟨56, _⟩ => ⟨S1x1x1024, .f32⟩
  | .hbm, ⟨57, _⟩ => ⟨S2x256x1024, .f32⟩
  | .hbm, ⟨58, _⟩ => ⟨S2x256x1024, .f32⟩
  | .hbm, ⟨59, _⟩ => ⟨S_, .f32⟩
  | .hbm, ⟨60, _⟩ => ⟨S2x1x1024, .f32⟩
  | .hbm, ⟨61, _⟩ => ⟨S2x1x1024, .f32⟩
  | .hbm, ⟨62, _⟩ => ⟨S2x256x1024, .f32⟩
  | .hbm, ⟨63, _⟩ => ⟨S2x256x1024, .f32⟩
  | .hbm, ⟨64, _⟩ => ⟨S2x256x1024, .f32⟩
  | .hbm, ⟨65, _⟩ => ⟨S2x256x1024, .f32⟩
  | .hbm, ⟨66, _⟩ => ⟨S2x8448x1024, .f32⟩
  | .hbm, ⟨67, _⟩ => ⟨S2x8448x1024, .bf16⟩
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩

abbrev nD : Nat := 1
abbrev τ : Topo := Topo.v7x

variable {F : FTy → Type} [FloatOps F]
-- ==== Kernel7.lean ====
abbrev S2x8448x1024 : Shape := ⟨3, ![2, 8448, 1024]⟩
abbrev S2x2x6144 : Shape := ⟨3, ![2, 2, 6144]⟩
abbrev S1x1024 : Shape := ⟨2, ![1, 1024]⟩
abbrev S1024x2816 : Shape := ⟨2, ![1024, 2816]⟩
abbrev S8448x256 : Shape := ⟨2, ![8448, 256]⟩
abbrev S2x8448x2816 : Shape := ⟨3, ![2, 8448, 2816]⟩
abbrev S2x256x8448 : Shape := ⟨3, ![2, 256, 8448]⟩
abbrev S2x4x80x8448 : Shape := ⟨4, ![2, 4, 80, 8448]⟩
abbrev S2x1056x2048 : Shape := ⟨3, ![2, 1056, 2048]⟩
abbrev S1x768x1024 : Shape := ⟨3, ![1, 768, 1024]⟩
abbrev S1x2x6144 : Shape := ⟨3, ![1, 2, 6144]⟩
abbrev S768x256 : Shape := ⟨2, ![768, 256]⟩
abbrev S1x768x2816 : Shape := ⟨3, ![1, 768, 2816]⟩
abbrev S1x256x768 : Shape := ⟨3, ![1, 256, 768]⟩
abbrev S1x4x80x768 : Shape := ⟨4, ![1, 4, 80, 768]⟩
abbrev S1x96x2048 : Shape := ⟨3, ![1, 96, 2048]⟩
abbrev S2x768x128 : Shape := ⟨3, ![2, 768, 128]⟩
abbrev S768x1 : Shape := ⟨2, ![768, 1]⟩
abbrev S1x1x1024 : Shape := ⟨3, ![1, 1, 1024]⟩
abbrev S768x1024 : Shape := ⟨2, ![768, 1024]⟩
abbrev S768 : Shape := ⟨1, ![768]⟩
abbrev S1024x256 : Shape := ⟨2, ![1024, 256]⟩
abbrev S1x768x256 : Shape := ⟨3, ![1, 768, 256]⟩
abbrev S256x768 : Shape := ⟨2, ![256, 768]⟩
abbrev S4x64x768 : Shape := ⟨3, ![4, 64, 768]⟩
abbrev S1x4x64x768 : Shape := ⟨4, ![1, 4, 64, 768]⟩
abbrev S4x16x768 : Shape := ⟨3, ![4, 16, 768]⟩
abbrev S1x4x16x768 : Shape := ⟨4, ![1, 4, 16, 768]⟩
abbrev S768x128 : Shape := ⟨2, ![768, 128]⟩
abbrev S1x768x128 : Shape := ⟨3, ![1, 768, 128]⟩
abbrev S1x96x128 : Shape := ⟨3, ![1, 96, 128]⟩
abbrev S96x128 : Shape := ⟨2, ![96, 128]⟩

abbrev nBuf : Space → Nat
  | .hbm => 13
  | .vmem => 23
  | .smem => 0
  | _ => 0

abbrev bufTy : (tb : Table) → Fin (tcTables nBuf tb) → BufTy
  | .hbm, ⟨0, _⟩ => ⟨S2x8448x1024, .f32⟩
  | .hbm, ⟨1, _⟩ => ⟨S2x2x6144, .f32⟩
  | .hbm, ⟨2, _⟩ => ⟨S1x1024, .f32⟩
  | .hbm, ⟨3, _⟩ => ⟨S1024x2816, .f32⟩
  | .hbm, ⟨4, _⟩ => ⟨S8448x256, .f32⟩
  | .hbm, ⟨5, _⟩ => ⟨S8448x256, .f32⟩
  | .hbm, ⟨6, _⟩ => ⟨S8448x256, .f32⟩
  | .hbm, ⟨7, _⟩ => ⟨S8448x256, .f32⟩
  | .hbm, ⟨8, _⟩ => ⟨S1024x2816, .bf16⟩
  | .hbm, ⟨9, _⟩ => ⟨S2x8448x2816, .bf16⟩
  | .hbm, ⟨10, _⟩ => ⟨S2x256x8448, .bf16⟩
  | .hbm, ⟨11, _⟩ => ⟨S2x4x80x8448, .bf16⟩
  | .hbm, ⟨12, _⟩ => ⟨S2x1056x2048, .bf16⟩
  | .local _ .vmem, ⟨0, _⟩ => ⟨S1x768x1024, .f32⟩
  | .local _ .vmem, ⟨1, _⟩ => ⟨S1x768x1024, .f32⟩
  | .local _ .vmem, ⟨2, _⟩ => ⟨S1x2x6144, .f32⟩
  | .local _ .vmem, ⟨3, _⟩ => ⟨S1x2x6144, .f32⟩
  | .local _ .vmem, ⟨4, _⟩ => ⟨S1x1024, .f32⟩
  | .local _ .vmem, ⟨5, _⟩ => ⟨S1024x2816, .bf16⟩
  | .local _ .vmem, ⟨6, _⟩ => ⟨S768x256, .f32⟩
  | .local _ .vmem, ⟨7, _⟩ => ⟨S768x256, .f32⟩
  | .local _ .vmem, ⟨8, _⟩ => ⟨S768x256, .f32⟩
  | .local _ .vmem, ⟨9, _⟩ => ⟨S768x256, .f32⟩
  | .local _ .vmem, ⟨10, _⟩ => ⟨S768x256, .f32⟩
  | .local _ .vmem, ⟨11, _⟩ => ⟨S768x256, .f32⟩
  | .local _ .vmem, ⟨12, _⟩ => ⟨S768x256, .f32⟩
  | .local _ .vmem, ⟨13, _⟩ => ⟨S768x256, .f32⟩
  | .local _ .vmem, ⟨14, _⟩ => ⟨S1x768x2816, .bf16⟩
  | .local _ .vmem, ⟨15, _⟩ => ⟨S1x768x2816, .bf16⟩
  | .local _ .vmem, ⟨16, _⟩ => ⟨S1x256x768, .bf16⟩
  | .local _ .vmem, ⟨17, _⟩ => ⟨S1x256x768, .bf16⟩
  | .local _ .vmem, ⟨18, _⟩ => ⟨S1x4x80x768, .bf16⟩
  | .local _ .vmem, ⟨19, _⟩ => ⟨S1x4x80x768, .bf16⟩
  | .local _ .vmem, ⟨20, _⟩ => ⟨S1x96x2048, .bf16⟩
  | .local _ .vmem, ⟨21, _⟩ => ⟨S1x96x2048, .bf16⟩
  | .local _ .vmem, ⟨22, _⟩ => ⟨S2x768x128, .f32⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![2, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S768x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S768x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S768x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S768x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x768x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x80x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x96x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference7Ideal.lean ====
abbrev S2x8448x1024 : Shape := ⟨3, ![2, 8448, 1024]⟩
abbrev S2x2x6144 : Shape := ⟨3, ![2, 2, 6144]⟩
abbrev S1x1024 : Shape := ⟨2, ![1, 1024]⟩
abbrev S1024x2816 : Shape := ⟨2, ![1024, 2816]⟩
abbrev S8448x256 : Shape := ⟨2, ![8448, 256]⟩
abbrev S2x8192x1024 : Shape := ⟨3, ![2, 8192, 1024]⟩
abbrev S2x256x1024 : Shape := ⟨3, ![2, 256, 1024]⟩
abbrev S2x1x6144 : Shape := ⟨3, ![2, 1, 6144]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x256 : Shape := ⟨2, ![2, 256]⟩
abbrev S2x256x1 : Shape := ⟨3, ![2, 256, 1]⟩
abbrev S2x8448x2816 : Shape := ⟨3, ![2, 8448, 2816]⟩
abbrev S2x8448x256 : Shape := ⟨3, ![2, 8448, 256]⟩
abbrev S2x8448x16x2x8 : Shape := ⟨5, ![2, 8448, 16, 2, 8]⟩
abbrev S8448x16x2x8 : Shape := ⟨4, ![8448, 16, 2, 8]⟩
abbrev S2x8448x16x1x8 : Shape := ⟨5, ![2, 8448, 16, 1, 8]⟩
abbrev S2x8448x16x8 : Shape := ⟨4, ![2, 8448, 16, 8]⟩
abbrev S8448x16x1x8 : Shape := ⟨4, ![8448, 16, 1, 8]⟩
abbrev S8448x16x8 : Shape := ⟨3, ![8448, 16, 8]⟩
abbrev S1x8448x16x8 : Shape := ⟨4, ![1, 8448, 16, 8]⟩
abbrev S2x8448x8x2x16 : Shape := ⟨5, ![2, 8448, 8, 2, 16]⟩
abbrev S8448x8x2x16 : Shape := ⟨4, ![8448, 8, 2, 16]⟩
abbrev S2x8448x8x1x16 : Shape := ⟨5, ![2, 8448, 8, 1, 16]⟩
abbrev S2x8448x8x16 : Shape := ⟨4, ![2, 8448, 8, 16]⟩
abbrev S8448x8x1x16 : Shape := ⟨4, ![8448, 8, 1, 16]⟩
abbrev S8448x8x16 : Shape := ⟨3, ![8448, 8, 16]⟩
abbrev S1x8448x8x16 : Shape := ⟨4, ![1, 8448, 8, 16]⟩

abbrev nBuf : Space → Nat
  | .hbm => 226
  | .vmem => 0
  | .smem => 0
  | _ => 0

abbrev hbmTy0_0 (i : Nat) : BufTy := match i % 128 with
  | 0 => ⟨S2x8448x1024, .f32⟩
  | 1 => ⟨S2x2x6144, .f32⟩
  | 2 => ⟨S1x1024, .f32⟩
  | 3 => ⟨S1024x2816, .f32⟩
  | 4 => ⟨S8448x256, .f32⟩
  | 5 => ⟨S8448x256, .f32⟩
  | 6 => ⟨S8448x256, .f32⟩
  | 7 => ⟨S8448x256, .f32⟩
  | 8 => ⟨S2x8192x1024, .f32⟩
  | 9 => ⟨S2x256x1024, .f32⟩
  | 10 => ⟨S2x1x6144, .f32⟩
  | 11 => ⟨S2x1x1024, .f32⟩
  | 12 => ⟨S2x1x1024, .f32⟩
  | 13 => ⟨S2x1x1024, .f32⟩
  | 14 => ⟨S2x1x1024, .f32⟩
  | 15 => ⟨S2x1x1024, .f32⟩
  | 16 => ⟨S2x1x1024, .f32⟩
  | 17 => ⟨S2x1x6144, .f32⟩
  | 18 => ⟨S2x1x1024, .f32⟩
  | 19 => ⟨S2x1x1024, .f32⟩
  | 20 => ⟨S2x1x1024, .f32⟩
  | 21 => ⟨S2x1x1024, .f32⟩
  | 22 => ⟨S2x1x1024, .f32⟩
  | 23 => ⟨S2x1x1024, .f32⟩
  | 24 => ⟨S2x8192x1024, .f32⟩
  | 25 => ⟨S_, .f32⟩
  | 26 => ⟨S2x8192, .f32⟩
  | 27 => ⟨S2x8192x1, .f32⟩
  | 28 => ⟨S_, .f32⟩
  | 29 => ⟨S2x8192x1, .f32⟩
  | 30 => ⟨S2x8192x1, .f32⟩
  | 31 => ⟨S_, .f32⟩
  | 32 => ⟨S2x8192x1, .f32⟩
  | 33 => ⟨S2x8192x1, .f32⟩
  | 34 => ⟨S2x8192x1, .f32⟩
  | 35 => ⟨S2x8192x1024, .f32⟩
  | 36 => ⟨S2x8192x1024, .f32⟩
  | 37 => ⟨S1x1x1024, .f32⟩
  | 38 => ⟨S2x8192x1024, .f32⟩
  | 39 => ⟨S2x8192x1024, .f32⟩
  | 40 => ⟨S_, .f32⟩
  | 41 => ⟨S2x1x1024, .f32⟩
  | 42 => ⟨S2x1x1024, .f32⟩
  | 43 => ⟨S2x8192x1024, .f32⟩
  | 44 => ⟨S2x8192x1024, .f32⟩
  | 45 => ⟨S2x8192x1024, .f32⟩
  | 46 => ⟨S2x8192x1024, .f32⟩
  | 47 => ⟨S2x256x1024, .f32⟩
  | 48 => ⟨S_, .f32⟩
  | 49 => ⟨S2x256, .f32⟩
  | 50 => ⟨S2x256x1, .f32⟩
  | 51 => ⟨S_, .f32⟩
  | 52 => ⟨S2x256x1, .f32⟩
  | 53 => ⟨S2x256x1, .f32⟩
  | 54 => ⟨S_, .f32⟩
  | 55 => ⟨S2x256x1, .f32⟩
  | 56 => ⟨S2x256x1, .f32⟩
  | 57 => ⟨S2x256x1, .f32⟩
  | 58 => ⟨S2x256x1024, .f32⟩
  | 59 => ⟨S2x256x1024, .f32⟩
  | 60 => ⟨S1x1x1024, .f32⟩
  | 61 => ⟨S2x256x1024, .f32⟩
  | 62 => ⟨S2x256x1024, .f32⟩
  | 63 => ⟨S_, .f32⟩
  | 64 => ⟨S2x1x1024, .f32⟩
  | 65 => ⟨S2x1x1024, .f32⟩
  | 66 => ⟨S2x256x1024, .f32⟩
  | 67 => ⟨S2x256x1024, .f32⟩
  | 68 => ⟨S2x256x1024, .f32⟩
  | 69 => ⟨S2x256x1024, .f32⟩
  | 70 => ⟨S2x8448x1024, .f32⟩
  | 71 => ⟨S2x8448x2816, .f32⟩
  | 72 => ⟨S2x8448x256, .f32⟩
  | 73 => ⟨S2x8448x256, .f32⟩
  | 74 => ⟨S2x8448x256, .f32⟩
  | 75 => ⟨S2x8448x256, .f32⟩
  | 76 => ⟨S2x8448x256, .f32⟩
  | 77 => ⟨S2x8448x256, .f32⟩
  | 78 => ⟨S2x8448x256, .f32⟩
  | 79 => ⟨S2x8448x256, .f32⟩
  | 80 => ⟨S2x8448x256, .f32⟩
  | 81 => ⟨S2x8448x256, .f32⟩
  | 82 => ⟨S2x8448x256, .f32⟩
  | 83 => ⟨S2x8448x16x2x8, .f32⟩
  | 84 => ⟨S8448x16x2x8, .f32⟩
  | 85 => ⟨S8448x16x2x8, .f32⟩
  | 86 => ⟨S2x8448x16x1x8, .f32⟩
  | 87 => ⟨S2x8448x16x8, .f32⟩
  | 88 => ⟨S2x8448x16x1x8, .f32⟩
  | 89 => ⟨S2x8448x16x8, .f32⟩
  | 90 => ⟨S8448x16x1x8, .f32⟩
  | 91 => ⟨S8448x16x8, .f32⟩
  | 92 => ⟨S1x8448x16x8, .f32⟩
  | 93 => ⟨S2x8448x16x8, .f32⟩
  | 94 => ⟨S2x8448x16x8, .f32⟩
  | 95 => ⟨S8448x16x1x8, .f32⟩
  | 96 => ⟨S8448x16x8, .f32⟩
  | 97 => ⟨S1x8448x16x8, .f32⟩
  | 98 => ⟨S2x8448x16x8, .f32⟩
  | 99 => ⟨S2x8448x16x8, .f32⟩
  | 100 => ⟨S2x8448x16x8, .f32⟩
  | 101 => ⟨S8448x16x1x8, .f32⟩
  | 102 => ⟨S8448x16x8, .f32⟩
  | 103 => ⟨S1x8448x16x8, .f32⟩
  | 104 => ⟨S2x8448x16x8, .f32⟩
  | 105 => ⟨S2x8448x16x8, .f32⟩
  | 106 => ⟨S8448x16x1x8, .f32⟩
  | 107 => ⟨S8448x16x8, .f32⟩
  | 108 => ⟨S1x8448x16x8, .f32⟩
  | 109 => ⟨S2x8448x16x8, .f32⟩
  | 110 => ⟨S2x8448x16x8, .f32⟩
  | 111 => ⟨S2x8448x16x8, .f32⟩
  | 112 => ⟨S2x8448x16x1x8, .f32⟩
  | 113 => ⟨S2x8448x16x1x8, .f32⟩
  | 114 => ⟨S2x8448x16x2x8, .f32⟩
  | 115 => ⟨S2x8448x256, .f32⟩
  | 116 => ⟨S_, .f32⟩
  | 117 => ⟨S2x8448x256, .f32⟩
  | 118 => ⟨S2x8448x256, .f32⟩
  | 119 => ⟨S2x8448x16x2x8, .f32⟩
  | 120 => ⟨S8448x16x2x8, .f32⟩
  | 121 => ⟨S8448x16x2x8, .f32⟩
  | 122 => ⟨S2x8448x16x1x8, .f32⟩
  | 123 => ⟨S2x8448x16x8, .f32⟩
  | 124 => ⟨S2x8448x16x1x8, .f32⟩
  | 125 => ⟨S2x8448x16x8, .f32⟩
  | 126 => ⟨S8448x16x1x8, .f32⟩
  | 127 => ⟨S8448x16x8, .f32⟩
  | _ => ⟨S2x8448x1024, .f32⟩

abbrev hbmTy0_1 (i : Nat) : BufTy := match i % 128 with
  | 0 => ⟨S1x8448x16x8, .f32⟩
  | 1 => ⟨S2x8448x16x8, .f32⟩
  | 2 => ⟨S2x8448x16x8, .f32⟩
  | 3 => ⟨S8448x16x1x8, .f32⟩
  | 4 => ⟨S8448x16x8, .f32⟩
  | 5 => ⟨S1x8448x16x8, .f32⟩
  | 6 => ⟨S2x8448x16x8, .f32⟩
  | 7 => ⟨S2x8448x16x8, .f32⟩
  | 8 => ⟨S2x8448x16x8, .f32⟩
  | 9 => ⟨S8448x16x1x8, .f32⟩
  | 10 => ⟨S8448x16x8, .f32⟩
  | 11 => ⟨S1x8448x16x8, .f32⟩
  | 12 => ⟨S2x8448x16x8, .f32⟩
  | 13 => ⟨S2x8448x16x8, .f32⟩
  | 14 => ⟨S8448x16x1x8, .f32⟩
  | 15 => ⟨S8448x16x8, .f32⟩
  | 16 => ⟨S1x8448x16x8, .f32⟩
  | 17 => ⟨S2x8448x16x8, .f32⟩
  | 18 => ⟨S2x8448x16x8, .f32⟩
  | 19 => ⟨S2x8448x16x8, .f32⟩
  | 20 => ⟨S2x8448x16x1x8, .f32⟩
  | 21 => ⟨S2x8448x16x1x8, .f32⟩
  | 22 => ⟨S2x8448x16x2x8, .f32⟩
  | 23 => ⟨S2x8448x256, .f32⟩
  | 24 => ⟨S2x8448x8x2x16, .f32⟩
  | 25 => ⟨S8448x8x2x16, .f32⟩
  | 26 => ⟨S8448x8x2x16, .f32⟩
  | 27 => ⟨S2x8448x8x1x16, .f32⟩
  | 28 => ⟨S2x8448x8x16, .f32⟩
  | 29 => ⟨S2x8448x8x1x16, .f32⟩
  | 30 => ⟨S2x8448x8x16, .f32⟩
  | 31 => ⟨S8448x8x1x16, .f32⟩
  | 32 => ⟨S8448x8x16, .f32⟩
  | 33 => ⟨S1x8448x8x16, .f32⟩
  | 34 => ⟨S2x8448x8x16, .f32⟩
  | 35 => ⟨S2x8448x8x16, .f32⟩
  | 36 => ⟨S8448x8x1x16, .f32⟩
  | 37 => ⟨S8448x8x16, .f32⟩
  | 38 => ⟨S1x8448x8x16, .f32⟩
  | 39 => ⟨S2x8448x8x16, .f32⟩
  | 40 => ⟨S2x8448x8x16, .f32⟩
  | 41 => ⟨S2x8448x8x16, .f32⟩
  | 42 => ⟨S8448x8x1x16, .f32⟩
  | 43 => ⟨S8448x8x16, .f32⟩
  | 44 => ⟨S1x8448x8x16, .f32⟩
  | 45 => ⟨S2x8448x8x16, .f32⟩
  | 46 => ⟨S2x8448x8x16, .f32⟩
  | 47 => ⟨S8448x8x1x16, .f32⟩
  | 48 => ⟨S8448x8x16, .f32⟩
  | 49 => ⟨S1x8448x8x16, .f32⟩
  | 50 => ⟨S2x8448x8x16, .f32⟩
  | 51 => ⟨S2x8448x8x16, .f32⟩
  | 52 => ⟨S2x8448x8x16, .f32⟩
  | 53 => ⟨S2x8448x8x1x16, .f32⟩
  | 54 => ⟨S2x8448x8x1x16, .f32⟩
  | 55 => ⟨S2x8448x8x2x16, .f32⟩
  | 56 => ⟨S2x8448x256, .f32⟩
  | 57 => ⟨S2x8448x8x2x16, .f32⟩
  | 58 => ⟨S8448x8x2x16, .f32⟩
  | 59 => ⟨S8448x8x2x16, .f32⟩
  | 60 => ⟨S2x8448x8x1x16, .f32⟩
  | 61 => ⟨S2x8448x8x16, .f32⟩
  | 62 => ⟨S2x8448x8x1x16, .f32⟩
  | 63 => ⟨S2x8448x8x16, .f32⟩
  | 64 => ⟨S8448x8x1x16, .f32⟩
  | 65 => ⟨S8448x8x16, .f32⟩
  | 66 => ⟨S1x8448x8x16, .f32⟩
  | 67 => ⟨S2x8448x8x16, .f32⟩
  | 68 => ⟨S2x8448x8x16, .f32⟩
  | 69 => ⟨S8448x8x1x16, .f32⟩
  | 70 => ⟨S8448x8x16, .f32⟩
  | 71 => ⟨S1x8448x8x16, .f32⟩
  | 72 => ⟨S2x8448x8x16, .f32⟩
  | 73 => ⟨S2x8448x8x16, .f32⟩
  | 74 => ⟨S2x8448x8x16, .f32⟩
  | 75 => ⟨S8448x8x1x16, .f32⟩
  | 76 => ⟨S8448x8x16, .f32⟩
  | 77 => ⟨S1x8448x8x16, .f32⟩
  | 78 => ⟨S2x8448x8x16, .f32⟩
  | 79 => ⟨S2x8448x8x16, .f32⟩
  | 80 => ⟨S8448x8x1x16, .f32⟩
  | 81 => ⟨S8448x8x16, .f32⟩
  | 82 => ⟨S1x8448x8x16, .f32⟩
  | 83 => ⟨S2x8448x8x16, .f32⟩
  | 84 => ⟨S2x8448x8x16, .f32⟩
  | 85 => ⟨S2x8448x8x16, .f32⟩
  | 86 => ⟨S2x8448x8x1x16, .f32⟩
  | 87 => ⟨S2x8448x8x1x16, .f32⟩
  | 88 => ⟨S2x8448x8x2x16, .f32⟩
  | 89 => ⟨S2x8448x256, .f32⟩
  | 90 => ⟨S_, .f32⟩
  | 91 => ⟨S2x8448x256, .f32⟩
  | 92 => ⟨S2x8448x256, .f32⟩
  | 93 => ⟨S_, .f32⟩
  | 94 => ⟨S2x8448x256, .f32⟩
  | 95 => ⟨S2x8448x256, .f32⟩
  | 96 => ⟨S2x8448x2816, .f32⟩
  | 97 => ⟨S2x8448x2816, .bf16⟩
  | _ => ⟨S2x8448x1024, .f32⟩

abbrev hbmTy (i : Nat) : BufTy := match i / 128 with
  | 0 => hbmTy0_0 i
  | 1 => hbmTy0_1 i
  | _ => ⟨S2x8448x1024, .f32⟩

abbrev bufTy : (tb : Table) → Fin (tcTables nBuf tb) → BufTy
  | .hbm, ⟨i, _⟩ => hbmTy i
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_cst_7 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_cst_8 : Ref sig .tc := ⟨.hbm, 218, rfl⟩
abbrev main_v201 : Ref sig .tc := ⟨.hbm, 219, rfl⟩
abbrev main_v202 : Ref sig .tc := ⟨.hbm, 220, rfl⟩
abbrev main_cst_9 : Ref sig .tc := ⟨.hbm, 221, rfl⟩
abbrev main_v203 : Ref sig .tc := ⟨.hbm, 222, rfl⟩
abbrev main_v204 : Ref sig .tc := ⟨.hbm, 223, rfl⟩
abbrev main_v205 : Ref sig .tc := ⟨.hbm, 224, rfl⟩
abbrev main_v206 : Ref sig .tc := ⟨.hbm, 225, rfl⟩

abbrev nD : Nat := 1
abbrev τ : Topo := Topo.v7x

variable {F : FTy → Type} [FloatOps F]
-- ==== Proof.Stages.lean ====
/- The words the program computes before its launch, one definition per array, in the program's own operations: the
   expert of each assignment, the one-hot table, the counts, the rows, the tiles' experts, and the rows of the input
   gathered into the grouped layout. -/
module

public import proofs.«01_k».proof.Proof.Gen.KernelIdeal

@[expose] public section

noncomputable section

namespace Cert.KernelIdeal.Stages

open Idealize.ShloMosaic Cert.KernelIdeal Cert.KernelIdeal.Gen

variable {F : FTy → Type} [FloatOps F]

/-- Rows 0…16895 are the tokens' first experts, the rest their second. -/
def expertW (route : FVec F S2x8448x128 .f32) : IVec S33792 32 :=
  fptosi 32 (concatenate S33792 0
    [⟨S16896, shapeCast S16896 (extractStridedSlice S16896x1 ![0, 2] (shapeCast S16896x128 route shapeCasts_S2x8448x128_S16896x128) slices_S16896x128_S16896x1_0_2) shapeCasts_S16896x1_S16896⟩,
     ⟨S16896, shapeCast S16896 (extractStridedSlice S16896x1 ![0, 3] (shapeCast S16896x128 route shapeCasts_S2x8448x128_S16896x128) slices_S16896x128_S16896x1_0_3) shapeCasts_S16896x1_S16896⟩]
    concatenates_S16896_S16896_S33792_d0 : FVec F S33792 .f32)

/-- The token of each assignment. -/
def tokenW : IVec S33792 32 :=
  concatenate S33792 0 [⟨S16896, iotaInDim S16896 32 0⟩, ⟨S16896, iotaInDim S16896 32 0⟩] concatenates_S16896_S16896_S33792_d0

/-- The one-hot table: row `q` has a one in the column of its expert. -/
def hotW (e : IVec S33792 32) : IVec S33792x8 32 :=
  extui 32 (cmpi .eq
    (broadcastInDim S33792x8 ![0, 1] bcast_S33792x1_S33792x8_0_1 (broadcastInDim S33792x1 ![0] bcast_S33792_S33792x1_0 e))
    (broadcastInDim S33792x8 ![0, 1] bcast_S1x8_S33792x8_0_1 (broadcastInDim S1x8 ![1] bcast_S8_S1x8_1 (iotaInDim S8 32 0))))
    natLt_1_32

/-- The assignments of each expert, counted. -/
def countW (e : IVec S33792 32) : IVec S8 32 :=
  Host.reduce IntOp.addi (hotW e) (constantI S_ 32 0#32) reducesTo_S33792x8_S8_d0 h_S_

/-- The running sums of the one-hot table's columns. -/
def runW (e : IVec S33792 32) : IVec S33792x8 32 :=
  Host.reduceWindow IntOp.addi ![33792, 1] ![1, 1] ![33791, 0] ![0, 0] (hotW e)
    (broadcastInDim S_ ![] bcast_S_S_ (constantI S_ 32 0#32)) reduceWindows_S33792x8_S33792x8_w33792s1p33791_0_w1s1p0_0 h_S_

/-- Each assignment's place among those of its expert. -/
def rankW (e : IVec S33792 32) : IVec S33792 32 :=
  Host.reduce IntOp.addi (muli (subi (runW e) (hotW e)) (hotW e)) (constantI S_ 32 0#32) reducesTo_S33792x8_S33792_d1 h_S_

/-- The dividend of the rounding up. -/
def upW (e : IVec S33792 32) : IVec S8 32 :=
  subi (addi (countW e) (broadcastInDim S8 ![] bcast_S_S8 (constantI S_ 32 512#32)))
    (broadcastInDim S8 ![] bcast_S_S8 (constantI S_ 32 1#32))

/-- Division rounded to minus infinity by one scalar, elementwise on eight words. -/
def floorDiv8 (x : IVec S8 32) (d : IVec S_ 32) : IVec S8 32 :=
  select
    (andi (cmpi .ne (signi x) (broadcastInDim S8 ![] bcast_S_S8 (signi d)))
      (cmpi .ne (Host.remsi x (broadcastInDim S8 ![] bcast_S_S8 d)) (broadcastInDim S8 ![] bcast_S_S8 (constantI S_ 32 0#32))))
    (subi (Host.divsi x (broadcastInDim S8 ![] bcast_S_S8 d)) (broadcastInDim S8 ![] bcast_S_S8 (constantI S_ 32 1#32)))
    (Host.divsi x (broadcastInDim S8 ![] bcast_S_S8 d))

/-- The rows kept for each expert. -/
def padW (e : IVec S33792 32) : IVec S8 32 :=
  muli (floorDiv8 (upW e) (constantI S_ 32 512#32)) (broadcastInDim S8 ![] bcast_S_S8 (constantI S_ 32 512#32))

/-- Where each expert's rows end. -/
def endW (e : IVec S33792 32) : IVec S8 32 :=
  Host.reduceWindow IntOp.addi ![8] ![1] ![7] ![0] (padW e)
    (broadcastInDim S_ ![] bcast_S_S_ (constantI S_ 32 0#32)) reduceWindows_S8_S8_w8s1p7_0 h_S_

/-- The row of each assignment. -/
def posW (e : IVec S33792 32) : IVec S33792 32 :=
  addi
    (Host.reduce IntOp.addi
      (muli (hotW e)
        (broadcastInDim S33792x8 ![0, 1] bcast_S1x8_S33792x8_0_1 (broadcastInDim S1x8 ![1] bcast_S8_S1x8_1 (subi (endW e) (padW e)))))
      (constantI S_ 32 0#32) reducesTo_S33792x8_S33792_d1 h_S_)
    (rankW e)

/-- Which experts' rows end at or before each tile's first row. -/
def pastW (e : IVec S33792 32) : IVec S74x8 1 :=
  cmpi .sle
    (broadcastInDim S74x8 ![0, 1] bcast_S1x8_S74x8_0_1 (broadcastInDim S1x8 ![1] bcast_S8_S1x8_1 (endW e)))
    (broadcastInDim S74x8 ![0, 1] bcast_S74x1_S74x8_0_1 (broadcastInDim S74x1 ![0] bcast_S74_S74x1_0
      (muli (iotaInDim S74 32 0) (broadcastInDim S74 ![] bcast_S_S74 (constantI S_ 32 512#32)))))

/-- The number of such experts, at most seven. -/
def firstW (past : IVec S74x8 1) : IVec S74 32 :=
  minsi (Host.reduce IntOp.addi (extui 32 past natLt_1_32) (constantI S_ 32 0#32) reducesTo_S74x8_S74_d1 h_S_)
    (broadcastInDim S74 ![] bcast_S_S74 (constantI S_ 32 7#32))

/-- Division rounded to minus infinity, of one word. -/
def floorDiv0 (x d : IVec S_ 32) : IVec S_ 32 :=
  select (andi (cmpi .ne (signi x) (signi d)) (cmpi .ne (Host.remsi x d) (constantI S_ 32 0#32)))
    (subi (Host.divsi x d) (constantI S_ 32 1#32)) (Host.divsi x d)

/-- The number of tiles in use. -/
def usedW (e : IVec S33792 32) : IVec S1 32 :=
  shapeCast S1 (floorDiv0 (shapeCast S_ (extractStridedSlice S1 ![7] (endW e) slices_S8_S1_7) shapeCasts_S1_S_) (constantI S_ 32 512#32)) shapeCasts_S_S1

/-- The rows as scatter and gather indices: a negative word counted from the end of the 37888 rows. -/
def indexW (p : IVec S33792 32) : IVec S33792x1 32 :=
  broadcastInDim S33792x1 ![0] bcast_S33792_S33792x1_0
    (select (cmpi .slt p (broadcastInDim S33792 ![] bcast_S_S33792 (constantI S_ 32 0#32)))
      (addi p (broadcastInDim S33792 ![] bcast_S_S33792 (constantI S_ 32 37888#32))) p)

/-- The token of each row: `0` where no assignment has the row. -/
def rowTokenW (p : IVec S33792 32) : IVec S37888 32 :=
  Host.scatter scatter_S37888_S33792x1_S33792_n_0_0_1 (fun _ b => b)
    (broadcastInDim S37888 ![] bcast_S_S37888 (constantI S_ 32 0#32)) (indexW p) tokenW

/-- The tokens, followed by rows of zeros. -/
def inputW (h : FVec F S2x8448x1024 .bf16) : FVec F S37888x1024 .bf16 :=
  pad S37888x1024 ![0, 0] ![20992, 0] ![0, 0] (shapeCast S16896x1024 h shapeCasts_S2x8448x1024_S16896x1024)
    (sitofp .bf16 (constantI S_ 32 0#32)) pads_S16896x1024_S37888x1024_0209920_000 h_S_

/-- The tokens of the rows as gather indices. -/
def rowIndexW (r : IVec S37888 32) : IVec S37888x1 32 :=
  broadcastInDim S37888x1 ![0] bcast_S37888_S37888x1_0
    (select (cmpi .slt r (broadcastInDim S37888 ![] bcast_S_S37888 (constantI S_ 32 0#32)))
      (addi r (broadcastInDim S37888 ![] bcast_S_S37888 (constantI S_ 32 37888#32))) r)

/-- The rows gathered, at indices `i`; where an index is outside the array, the filling value. -/
def gatherRows (x : FVec F S37888x1024 .bf16) (i : IVec S37888x1 32) : FVec F S37888x1024 .bf16 :=
  select
    (broadcastInDim S37888x1024 ![0] bcast_S37888_S37888x1024_0
      (Host.reduce IntOp.andi
        (andi (cmpi .sge i (broadcastInDim S37888x1 ![] bcast_S_S37888x1 (constantI S_ 32 0#32)))
          (cmpi .sle i (broadcastInDim S37888x1 ![0, 1] bcast_S1x1_S37888x1_0_1 (broadcastInDim S1x1 ![1] bcast_S1_S1x1_1 (constantI S1 32 37887#32)))))
        (constantI S_ 1 1#1) reducesTo_S37888x1_S37888_d1 h_S_))
    (Host.gather gather_S37888x1024_S37888x1_S37888x1024_1_0_n_n_0_1_11024 x i)
    (broadcastInDim S37888x1024 ![] bcast_S_S37888x1024 (constant S_ .bf16 0x7FC0#16))

/-- The result's rows gathered back to the assignments. -/
def gatherBack (x : FVec F S37888x1024 .bf16) (i : IVec S33792x1 32) : FVec F S33792x1024 .bf16 :=
  select
    (broadcastInDim S33792x1024 ![0] bcast_S33792_S33792x1024_0
      (Host.reduce IntOp.andi
        (andi (cmpi .sge i (broadcastInDim S33792x1 ![] bcast_S_S33792x1 (constantI S_ 32 0#32)))
          (cmpi .sle i (broadcastInDim S33792x1 ![0, 1] bcast_S1x1_S33792x1_0_1 (broadcastInDim S1x1 ![1] bcast_S1_S1x1_1 (constantI S1 32 37887#32)))))
        (constantI S_ 1 1#1) reducesTo_S33792x1_S33792_d1 h_S_))
    (Host.gather gather_S37888x1024_S33792x1_S33792x1024_1_0_n_n_0_1_11024 x i)
    (broadcastInDim S33792x1024 ![] bcast_S_S33792x1024 (constant S_ .bf16 0x7FC0#16))

/-- The two halves of the assignments, as the result's array. -/
def splitBack (x : FVec F S33792x1024 .bf16) : FVec F S2x2x8448x1024 .bf16 :=
  shapeCast S2x2x8448x1024 x shapeCasts_S33792x1024_S2x2x8448x1024

end Cert.KernelIdeal.Stages

end
-- ==== Proof.Slots.lean ====
/- The counting behind the grouped layout. `e q` is the expert of assignment `q` (of `N`), every expert below `8`. The
   assignments of one expert get consecutive rows, each expert's group padded to a whole number of tiles of 512 rows.
   Stated over the naturals alone: every assignment has a row of its own, below the number of rows, inside a used tile,
   and the tile it lies in is one of its expert's. -/
module

public import Mathlib.Data.Nat.Count
public import Mathlib.Tactic.Ring
public import Mathlib.Algebra.BigOperators.Fin
public import Mathlib.Algebra.BigOperators.Intervals
public import Mathlib.Algebra.Order.BigOperators.Group.Finset

@[expose] public section

namespace Cert.Slots

open Finset

variable (N : ℕ) (e : ℕ → ℕ)

/-- How many of the `N` assignments go to expert `k`. -/
def cnt (k : ℕ) : ℕ := Nat.count (fun q => e q = k) N

/-- How many assignments before `q` go to the same expert. -/
def rank (q : ℕ) : ℕ := Nat.count (fun p => e p = e q) q

/-- The rows kept for expert `k`: its count rounded up to whole tiles. -/
def pad (k : ℕ) : ℕ := (cnt N e k + 511) / 512 * 512

/-- The end of expert `k`'s rows. -/
def ends (k : ℕ) : ℕ := ∑ j ∈ range (k + 1), pad N e j

/-- The row of assignment `q`. -/
def pos (q : ℕ) : ℕ := (ends N e (e q) - pad N e (e q)) + rank e q

/-- The expert of tile `t`: how many experts' rows end at or before the tile's first row, at most `7`. -/
def tileExpert (t : ℕ) : ℕ := min (Nat.count (fun k => ends N e k ≤ 512 * t) 8) 7

/-- The number of tiles in use. -/
def used : ℕ := ends N e 7 / 512

theorem pad_mod (k : ℕ) : ∃ a, pad N e k = 512 * a := ⟨(cnt N e k + 511) / 512, Nat.mul_comm _ _⟩

theorem cnt_le_pad (k : ℕ) : cnt N e k ≤ pad N e k := by
  unfold pad; omega

theorem pad_le (k : ℕ) : pad N e k ≤ cnt N e k + 511 := by
  unfold pad; omega

theorem ends_mod (k : ℕ) : ∃ a, ends N e k = 512 * a := by
  refine ⟨∑ j ∈ range (k + 1), (cnt N e j + 511) / 512, ?_⟩
  unfold ends pad
  rw [Finset.mul_sum]
  exact Finset.sum_congr rfl fun j _ => Nat.mul_comm _ _

theorem ends_succ (k : ℕ) : ends N e (k + 1) = ends N e k + pad N e (k + 1) := by
  unfold ends; rw [Finset.sum_range_succ]

theorem pad_le_ends (k : ℕ) : pad N e k ≤ ends N e k := by
  unfold ends
  exact Finset.single_le_sum (f := fun j => pad N e j) (fun _ _ => Nat.zero_le _) (Finset.mem_range.2 (Nat.lt_succ_self k))

theorem ends_mono {k l : ℕ} (h : k ≤ l) : ends N e k ≤ ends N e l := by
  unfold ends
  exact Finset.sum_le_sum_of_subset (fun j hj => Finset.mem_range.2 (by have := Finset.mem_range.1 hj; omega))

/-- The start of a later expert's rows is at or after the end of an earlier expert's. -/
theorem ends_le_start {k l : ℕ} (h : k < l) : ends N e k ≤ ends N e l - pad N e l := by
  obtain ⟨l, rfl⟩ : ∃ l', l = l' + 1 := ⟨l - 1, by omega⟩
  rw [ends_succ]
  have := ends_mono N e (show k ≤ l by omega)
  omega

/-- Counting the assignments expert by expert counts each once. -/
theorem sum_cnt (he : ∀ q < N, e q < 8) : ∑ k ∈ range 8, cnt N e k = N := by
  unfold cnt
  induction N with
  | zero => simp
  | succ n ih =>
    simp only [Nat.count_succ, Finset.sum_add_distrib]
    rw [ih fun q hq => he q (by omega), Finset.sum_ite_eq, if_pos (Finset.mem_range.2 (he n (by omega)))]

theorem ends_le (he : ∀ q < N, e q < 8) : ends N e 7 ≤ N + 8 * 511 := by
  have h : ends N e 7 ≤ ∑ k ∈ range 8, (cnt N e k + 511) := Finset.sum_le_sum fun k _ => pad_le N e k
  rw [Finset.sum_add_distrib, sum_cnt N e he] at h
  simpa using h

theorem rank_lt {q : ℕ} (hq : q < N) : rank e q < cnt N e (e q) := by
  unfold rank cnt
  exact Nat.count_strict_mono (p := fun p => e p = e q) rfl hq

theorem start_le_pos (q : ℕ) : ends N e (e q) - pad N e (e q) ≤ pos N e q := Nat.le_add_right _ _

theorem pos_lt_ends {q : ℕ} (hq : q < N) : pos N e q < ends N e (e q) := by
  have h1 := rank_lt N e hq
  have h2 := cnt_le_pad N e (e q)
  have h3 := pad_le_ends N e (e q)
  unfold pos; omega

/-- Every row lies before the end of the last expert's rows. -/
theorem pos_lt_ends7 {q : ℕ} (hq : q < N) (he : e q < 8) : pos N e q < ends N e 7 :=
  lt_of_lt_of_le (pos_lt_ends N e hq) (ends_mono N e (by omega))

/-- Two assignments never share a row. -/
theorem pos_inj {p q : ℕ} (hp : p < N) (hq : q < N) (h : pos N e p = pos N e q) : p = q := by
  have key : ∀ {p q : ℕ}, p < N → q < N → pos N e p = pos N e q → ¬ e p < e q := by
    intro p q hp _ h hlt
    have h1 := pos_lt_ends N e hp
    have h2 := ends_le_start N e hlt
    have h3 := start_le_pos N e q
    omega
  have hee : e p = e q := by
    rcases Nat.lt_trichotomy (e p) (e q) with h' | h' | h'
    · exact absurd h' (key hp hq h)
    · exact h'
    · exact absurd h' (key hq hp h.symm)
  have hr : rank e p = rank e q := by
    unfold pos at h; rw [hee] at h; omega
  unfold rank at hr
  rw [hee] at hr
  rcases Nat.lt_trichotomy p q with h' | h' | h'
  · have := Nat.count_strict_mono (p := fun x => e x = e q) hee h'; omega
  · exact h'
  · have := Nat.count_strict_mono (p := fun x => e x = e q) rfl h'; omega

/-- The tile an assignment's row lies in is one of its expert's tiles. -/
theorem tileExpert_pos {q : ℕ} (hq : q < N) (he : e q < 8) : tileExpert N e (pos N e q / 512) = e q := by
  have hlo : ends N e (e q) - pad N e (e q) ≤ 512 * (pos N e q / 512) := by
    obtain ⟨a, ha⟩ := ends_mod N e (e q)
    obtain ⟨b, hb⟩ := pad_mod N e (e q)
    have := start_le_pos N e q
    omega
  have hhi : 512 * (pos N e q / 512) < ends N e (e q) := by
    have := pos_lt_ends N e hq
    omega
  have hiff : ∀ k, ends N e k ≤ 512 * (pos N e q / 512) ↔ k < e q := fun k => by
    constructor
    · intro h
      by_contra hk
      have := ends_mono N e (show e q ≤ k by omega)
      omega
    · intro h
      have := ends_le_start N e h
      omega
  have hc : Nat.count (fun k => ends N e k ≤ 512 * (pos N e q / 512)) 8 = e q := by
    rw [Nat.count_eq_card_filter_range]
    have : (range 8).filter (fun k => ends N e k ≤ 512 * (pos N e q / 512)) = range (e q) := by
      ext k
      simp only [Finset.mem_filter, Finset.mem_range, hiff]
      omega
    rw [this, Finset.card_range]
  unfold tileExpert
  rw [hc]
  omega

/-- … and it is one of the tiles in use. -/
theorem pos_lt_used {q : ℕ} (hq : q < N) (he : e q < 8) : pos N e q / 512 < used N e := by
  obtain ⟨a, ha⟩ := ends_mod N e 7
  have := pos_lt_ends7 N e hq he
  unfold used
  omega

/-- The tile's expert is always one of the eight. -/
theorem tileExpert_lt (t : ℕ) : tileExpert N e t < 8 := by
  unfold tileExpert; omega

end Cert.Slots

end
-- ==== Proof.Sums.lean ====
/- Sums of words along one axis of a table, and a scatter of scalars that sets, read at an entry, at any extents. -/
module

public import Idealize.ShloMosaic.Lib.Routing.Ops
public import Idealize.ShloMosaic.Lib.Routing.OpsSet
public import Idealize.ShloMosaic.Lib.Routing.OpsPair
public import Idealize.ShloMosaic.Lib.StableHlo.Predicate

@[expose] public section

namespace Cert.Sums

open Idealize.ShloMosaic Idealize.ShloMosaic.Routing Idealize.ShloMosaic.ValueIdx

/-- A sum of words that hold naturals holds the sum of the naturals. -/
theorem fold_ofNat {ι : Type} (S : Finset ι) (g : ι → BitVec 32) (f : ι → ℕ) (h : ∀ i ∈ S, g i = BitVec.ofNat 32 (f i)) :
    S.fold IntOp.addi 0#32 g = BitVec.ofNat 32 (∑ i ∈ S, f i) := by
  classical
  induction S using Finset.cons_induction with
  | empty => rfl
  | cons a S ha ih =>
    rw [Finset.fold_cons, Finset.sum_cons, ih fun i hi => h i (Finset.mem_cons_of_mem hi), h a (Finset.mem_cons_self a S)]
    exact (BitVec.ofNat_add _ _).symm

/-- The sum along the columns of a table, at row `p`. -/
theorem reduce_cols {n m : ℕ} (x : IVec (shape2 n m) 32) (f : ℕ → ℕ) (p : Fin n)
    (hx : ∀ q : Fin m, x (ix2 p q) = BitVec.ofNat 32 (f q.val)) (h : (shape2 n m).ReducesTo [1] (shape1 n)) (hu : 0 < shape0.numel) :
    Host.reduce IntOp.addi x (constantI shape0 32 0#32) h hu (ix1 p) = BitVec.ofNat 32 (∑ q ∈ Finset.range m, f q) := by
  classical
  rw [Host.reduce_eq_fold]
  have hdrop : ∀ i : (shape2 n m).Idx, h.drop i = ix1 p ↔ i 0 = p := by
    intro i
    have hv : (h.drop i 0 : ℕ) = i 0 := Shape.ReducesTo.drop_apply_val h i 0
    constructor
    · intro e; rw [e] at hv; exact Fin.ext hv.symm
    · intro e; funext b; have hb : b = 0 := Subsingleton.elim _ _; subst hb; exact Fin.ext (hv.trans (congrArg Fin.val e))
  have hback : ∀ i : (shape2 n m).Idx, i 0 = p → ix2 p (i 1) = i := fun i h0 => by
    funext b; match b with
    | ⟨0, _⟩ => exact h0.symm
    | ⟨1, _⟩ => rfl
  refine (fold_ofNat _ _ (fun i => f (i 1).val) fun i hi => ?_).trans ?_
  · rw [← hback i ((hdrop i).1 (Finset.mem_filter.1 hi).2)]; exact hx _
  · rw [Finset.sum_range]
    refine congrArg _ (Finset.sum_bij' (fun i _ => i 1) (fun q _ => ix2 p q) (fun _ _ => Finset.mem_univ _)
      (fun q _ => Finset.mem_filter.2 ⟨Finset.mem_univ _, (hdrop _).2 rfl⟩)
      (fun i hi => hback i ((hdrop i).1 (Finset.mem_filter.1 hi).2)) (fun _ _ => rfl) (fun _ _ => rfl))

/-- The sum along the rows of a table, at column `q`. -/
theorem reduce_rows {n m : ℕ} (x : IVec (shape2 n m) 32) (f : ℕ → ℕ) (q : Fin m)
    (hx : ∀ p : Fin n, x (ix2 p q) = BitVec.ofNat 32 (f p.val)) (h : (shape2 n m).ReducesTo [0] (shape1 m)) (hu : 0 < shape0.numel) :
    Host.reduce IntOp.addi x (constantI shape0 32 0#32) h hu (ix1 q) = BitVec.ofNat 32 (∑ p ∈ Finset.range n, f p) := by
  classical
  rw [Host.reduce_eq_fold]
  have hdrop : ∀ i : (shape2 n m).Idx, h.drop i = ix1 q ↔ i 1 = q := by
    intro i
    have hv : (h.drop i 0 : ℕ) = i 1 := Shape.ReducesTo.drop_apply_val h i 0
    constructor
    · intro e; rw [e] at hv; exact Fin.ext hv.symm
    · intro e; funext b; have hb : b = 0 := Subsingleton.elim _ _; subst hb; exact Fin.ext (hv.trans (congrArg Fin.val e))
  have hback : ∀ i : (shape2 n m).Idx, i 1 = q → ix2 (i 0) q = i := fun i h0 => by
    funext b; match b with
    | ⟨0, _⟩ => rfl
    | ⟨1, _⟩ => exact h0.symm
  refine (fold_ofNat _ _ (fun i => f (i 0).val) fun i hi => ?_).trans ?_
  · rw [← hback i ((hdrop i).1 (Finset.mem_filter.1 hi).2)]; exact hx _
  · rw [Finset.sum_range]
    refine congrArg _ (Finset.sum_bij' (fun i _ => i 0) (fun p _ => ix2 p q) (fun _ _ => Finset.mem_univ _)
      (fun p _ => Finset.mem_filter.2 ⟨Finset.mem_univ _, (hdrop _).2 rfl⟩)
      (fun i hi => hback i ((hdrop i).1 (Finset.mem_filter.1 hi).2)) (fun _ _ => rfl) (fun _ _ => rfl))

/-- A mask's bits along an axis of extent one, all of them: the bit. -/
theorem reduce_and_one {n : ℕ} (x : IVec (shape2 n 1) 1) (p : Fin n) (hx : x (ix2 p (0 : Fin 1)) = 1#1)
    (h : (shape2 n 1).ReducesTo [1] (shape1 n)) (hu : 0 < shape0.numel) :
    Host.reduce IntOp.andi x (constantI shape0 1 1#1) h hu (ix1 p) = 1#1 := by
  classical
  rw [Host.reduce_eq_foldl]
  have hmem : ∀ i ∈ ((List.finRange (shape2 n 1).numel).map (shape2 n 1).rowMajor.symm).filter fun i => h.drop i = ix1 p, x i = 1#1 := by
    intro i hi
    have hd := of_decide_eq_true (List.mem_filter.1 hi).2
    have hv : (h.drop i 0 : ℕ) = i 0 := Shape.ReducesTo.drop_apply_val h i 0
    rw [hd] at hv
    have hi2 : i = ix2 p (0 : Fin 1) := by
      funext b; match b with
      | ⟨0, _⟩ => exact Fin.ext hv.symm
      | ⟨1, _⟩ => exact Subsingleton.elim (α := Fin 1) _ _
    rw [hi2]; exact hx
  generalize ((List.finRange (shape2 n 1).numel).map (shape2 n 1).rowMajor.symm).filter (fun i => h.drop i = ix1 p) = l at hmem
  show l.foldl (fun r i => IntOp.andi r (x i)) 1#1 = 1#1
  induction l with
  | nil => rfl
  | cons a l ih =>
    rw [List.foldl_cons, hmem a List.mem_cons_self]
    exact ih fun i hi => hmem i (List.mem_cons_of_mem _ hi)

/-- Update `k` of a scatter of `M` scalars into a vector of `N`, one index word each, lands at `x` exactly when its word, read signed, is `x`. -/
theorem scatter_lands {M N : ℕ} (d : ScatterDims (shape1 N) (shape2 M 1) (shape1 M)) (hiw : d.insertedWindowDims = [0])
    (hsd : d.scatterDimsToOperandDims = [0]) (hivd : d.indexVectorDim = 1) (idx : IVec (shape2 M 1) 32) (k : Fin M) (x : Fin N) :
    d.resultIdx? (ix1 k) idx = some (ix1 x) ↔ (idx (ix2 k (0 : Fin 1))).toInt = (x.val : ℤ) := by
  have hm : (0 : Fin 1) ∈ d.scatterDimsToOperandDims := by rw [hsd]; exact List.mem_singleton.2 rfl
  have hwin : d.window (ix1 k) 0 = 0 := by
    unfold ScatterDims.window
    rw [dif_neg fun h => (of_decide_eq_true (List.mem_filter.1 h).2) (by rw [hiw]; exact List.mem_singleton.2 rfl)]
  have hstart : d.start (ix1 k) idx 0 = (idx (ix2 k (0 : Fin 1))).toInt := by
    unfold ScatterDims.start
    rw [dif_pos hm]
    refine congrArg (fun j => (idx j).toInt) (funext fun b => Fin.ext ?_)
    match b with
    | ⟨0, _⟩ =>
      unfold ScatterDims.siIdx
      rw [dif_neg (by rw [hivd]; exact Nat.zero_ne_one)]
      unfold ScatterDims.siCoord
      simp only [Fin.val_cast]
      have e : ∀ X : Fin 1, (ix1 k X).val = k.val := fun X => by
        obtain rfl : X = 0 := Subsingleton.elim _ _
        rfl
      exact e _
    | ⟨1, _⟩ => exact congrArg Fin.val (Subsingleton.elim (α := Fin 1) _ _)
  rw [resultIdx?_ix1, hwin, hstart]
  simp

end Cert.Sums

end
-- ==== Proof.Words.lean ====
/- The words of the routing, read as naturals: where every assignment's expert is below eight, the program's counts, ranks, rows and tiles are
   those of `Slots`. -/
module

public import proofs.«01_k».proof.Proof.Stages
public import proofs.«01_k».proof.Proof.Slots
public import proofs.«01_k».proof.Proof.Sums
public import Idealize.ShloMosaic.Lib.Routing.Ops
public import Idealize.ShloMosaic.Lib.Routing.OpsOne
public import Idealize.ShloMosaic.Lib.Routing.OpsSearch
public import Idealize.ShloMosaic.Lib.Routing.Words
public import Idealize.ShloMosaic.Lib.WordCmp

@[expose] public section

namespace Cert.KernelIdeal.Words

open Idealize.ShloMosaic Idealize.ShloMosaic.Routing Idealize.ShloMosaic.ValueIdx Cert.KernelIdeal Cert.KernelIdeal.Gen Cert.KernelIdeal.Stages Cert.Slots Cert.Sums

variable (e : IVec S33792 32) (E : ℕ → ℕ) (he : ∀ q : Fin 33792, e (ix1 q) = BitVec.ofNat 32 (E q.val)) (hE : ∀ q < 33792, E q < 8)

/-- The words of two naturals below 2³² are equal exactly when the naturals are. -/
theorem ofNat_inj {a b : ℕ} (ha : a < 2 ^ 32) (hb : b < 2 ^ 32) : BitVec.ofNat 32 a = BitVec.ofNat 32 b ↔ a = b := by
  constructor
  · intro h
    have := congrArg BitVec.toNat h
    rw [BitVec.toNat_ofNat, BitVec.toNat_ofNat, Nat.mod_eq_of_lt ha, Nat.mod_eq_of_lt hb] at this
    exact this
  · intro h; rw [h]

/-- The difference of the words of two naturals, the second no greater. -/
theorem ofNat_sub {a b : ℕ} (h : b ≤ a) : BitVec.ofNat 32 a - BitVec.ofNat 32 b = BitVec.ofNat 32 (a - b) := by
  obtain ⟨c, rfl⟩ := Nat.exists_eq_add_of_le h
  rw [Nat.add_sub_cancel_left, BitVec.ofNat_add, BitVec.add_comm, BitVec.add_sub_cancel]

include he hE in
/-- The one-hot table's entry: one exactly in the assignment's expert's column. -/
theorem hotW_at (q : Fin 33792) (k : Fin 8) : hotW e (ix2 q k) = BitVec.ofNat 32 (if E q.val = k.val then 1 else 0) := by
  have h := hE q.val q.isLt
  have hk := k.isLt
  unfold hotW
  rw [WordCmp.extui_at, WordCmp.cmpi_at]
  have h1 : broadcastInDim S33792x8 ![0, 1] bcast_S33792x1_S33792x8_0_1 (broadcastInDim S33792x1 ![0] bcast_S33792_S33792x1_0 e) (ix2 q k) = e (ix1 q) :=
    bcRows bcast_S33792_S33792x1_0 bcast_S33792x1_S33792x8_0_1 e q k
  have h2 : broadcastInDim S33792x8 ![0, 1] bcast_S1x8_S33792x8_0_1 (broadcastInDim S1x8 ![1] bcast_S8_S1x8_1 (iotaInDim S8 32 0)) (ix2 q k) = BitVec.ofNat 32 k.val :=
    (bcCols bcast_S8_S1x8_1 bcast_S1x8_S33792x8_0_1 (iotaInDim S8 32 0) q k).trans (iota1_ap k)
  rw [h1, h2, he q]
  by_cases hq : E q.val = k.val
  · rw [if_pos hq, hq]
    simp [IntOp.cmpi]
  · rw [if_neg hq]
    have hne : BitVec.ofNat 32 (E q.val) ≠ BitVec.ofNat 32 k.val := fun h' => hq ((ofNat_inj (by omega) (by omega)).1 h')
    show (BitVec.ofBool (BitVec.ofNat 32 (E q.val) == BitVec.ofNat 32 k.val)).setWidth 32 = _
    rw [beq_eq_false_iff_ne.2 hne]; rfl

/-- A sum of indicators counts. -/
theorem sum_ite (P : ℕ → Prop) [DecidablePred P] (n : ℕ) : (∑ q ∈ Finset.range n, if P q then 1 else 0) = Nat.count P n := by
  rw [Nat.count_eq_card_filter_range, Finset.card_filter]

include he hE in
/-- The counts. -/
theorem countW_at (k : Fin 8) : countW e (ix1 k) = BitVec.ofNat 32 (cnt 33792 E k.val) := by
  unfold countW
  refine (reduce_rows (hotW e) (fun q => if E q = k.val then 1 else 0) k (fun q => hotW_at e E he hE q k) _ _).trans ?_
  rw [sum_ite]; rfl

include he hE in
/-- The running sums: how many of the assignments up to `q` go to expert `k`. -/
theorem runW_at (q : Fin 33792) (k : Fin 8) : runW e (ix2 q k) = BitVec.ofNat 32 (Nat.count (fun p => E p = k.val) (q.val + 1)) := by
  unfold runW
  refine (cumsum_rows (Rm1 := 33791) rfl (hotW e) (fun p k => if E p = k then 1 else 0) (fun p k => hotW_at e E he hE p k) _
    ((bc0 _ _ _).trans rfl) _ _ q k).trans ?_
  rw [← sum_ite, Finset.sum_eq_multiset_sum]
  rfl

include he hE in
/-- An assignment's place: how many before it go to the same expert. -/
theorem rankW_at (q : Fin 33792) : rankW e (ix1 q) = BitVec.ofNat 32 (rank E q.val) := by
  have h := hE q.val q.isLt
  unfold rankW
  refine (reduce_cols _ (fun k => if E q.val = k then rank E q.val else 0) q (fun k => ?_) _ _).trans ?_
  · rw [muli_ap, subi_ap, runW_at e E he hE q k, hotW_at e E he hE q k]
    by_cases hk : E q.val = k.val
    · have hr : Nat.count (fun p => E p = k.val) (q.val + 1) = rank E q.val + 1 := by
        unfold rank; rw [Nat.count_succ, if_pos hk, hk]
      rw [if_pos hk, if_pos hk, hr, ofNat_sub (by omega), ← BitVec.ofNat_mul]
      simp
    · rw [if_neg hk, if_neg hk]; simp
  · rw [Finset.sum_ite_eq, if_pos (Finset.mem_range.2 h)]

include he hE in
/-- The rows kept for an expert. -/
theorem padW_at (k : Fin 8) : padW e (ix1 k) = BitVec.ofNat 32 (pad 33792 E k.val) := by
  have hc : cnt 33792 E k.val ≤ 33792 := Nat.count_le _
  have hup : upW e (ix1 k) = BitVec.ofNat 32 (cnt 33792 E k.val + 511) := by
    unfold upW
    rw [subi_ap, addi_ap, countW_at e E he hE k]
    have b1 : broadcastInDim S8 ![] bcast_S_S8 (constantI S_ 32 512#32) (ix1 k) = BitVec.ofNat 32 512 := bc0 _ _ _
    have b2 : broadcastInDim S8 ![] bcast_S_S8 (constantI S_ 32 1#32) (ix1 k) = BitVec.ofNat 32 1 := bc0 _ _ _
    rw [b1, b2, ← BitVec.ofNat_add, ofNat_sub (by omega)]
    congr 1
  unfold padW
  rw [muli_ap]
  have b1 : broadcastInDim S8 ![] bcast_S_S8 (constantI S_ 32 512#32) (ix1 k) = BitVec.ofNat 32 512 := bc0 _ _ _
  have hd : floorDiv8 (upW e) (constantI S_ 32 512#32) (ix1 k) = BitVec.ofNat 32 ((cnt 33792 E k.val + 511) / 512) :=
    pyDiv_ap bcast_S_S8 (upW e) (constantI S_ 32 512#32) (ix1 k) hup rfl (by omega) (by omega) (by omega)
  rw [b1, hd, ← BitVec.ofNat_mul]
  rfl

include he hE in
/-- The end of an expert's rows. -/
theorem endW_at (k : Fin 8) : endW e (ix1 k) = BitVec.ofNat 32 (ends 33792 E k.val) := by
  unfold endW
  refine (cumsum1 (Nm1 := 7) rfl (padW e) (pad 33792 E) (fun k => padW_at e E he hE k) _ ((bc0 _ _ _).trans rfl) _ _ k).trans ?_
  rfl

include hE in
/-- An end is at most the number of rows. -/
theorem ends_lt (k : ℕ) (hk : k < 8) : ends 33792 E k ≤ 37888 := by
  obtain ⟨a, ha⟩ := ends_mod 33792 E 7
  have := ends_le 33792 E hE
  have := ends_mono 33792 E (show k ≤ 7 by omega)
  omega

include hE in
/-- A row of an assignment is a row of the array. -/
theorem pos_lt (q : ℕ) (hq : q < 33792) : pos 33792 E q < 37888 :=
  lt_of_lt_of_le (pos_lt_ends7 33792 E hq (hE q hq)) (ends_lt E hE 7 (by omega))

include he hE in
/-- The row of an assignment. -/
theorem posW_at (q : Fin 33792) : posW e (ix1 q) = BitVec.ofNat 32 (pos 33792 E q.val) := by
  have h := hE q.val q.isLt
  unfold posW
  rw [addi_ap, rankW_at e E he hE q]
  have hs : Host.reduce IntOp.addi
      (muli (hotW e)
        (broadcastInDim S33792x8 ![0, 1] bcast_S1x8_S33792x8_0_1 (broadcastInDim S1x8 ![1] bcast_S8_S1x8_1 (subi (endW e) (padW e)))))
      (constantI S_ 32 0#32) reducesTo_S33792x8_S33792_d1 h_S_ (ix1 q) = BitVec.ofNat 32 (ends 33792 E (E q.val) - pad 33792 E (E q.val)) := by
    refine (reduce_cols _ (fun k => if E q.val = k then ends 33792 E k - pad 33792 E k else 0) q (fun k => ?_) _ _).trans ?_
    · rw [muli_ap, hotW_at e E he hE q k]
      have h2 : broadcastInDim S33792x8 ![0, 1] bcast_S1x8_S33792x8_0_1 (broadcastInDim S1x8 ![1] bcast_S8_S1x8_1 (subi (endW e) (padW e))) (ix2 q k)
          = subi (endW e) (padW e) (ix1 k) := bcCols bcast_S8_S1x8_1 bcast_S1x8_S33792x8_0_1 _ q k
      rw [h2, subi_ap, endW_at e E he hE k, padW_at e E he hE k, ofNat_sub (pad_le_ends _ _ _)]
      by_cases hk : E q.val = k.val
      · rw [if_pos hk, if_pos hk]; simp
      · rw [if_neg hk, if_neg hk]; simp
    · rw [Finset.sum_ite_eq, if_pos (Finset.mem_range.2 h)]
  rw [hs, ← BitVec.ofNat_add]
  rfl

/-- The lesser of the words of two small naturals is the word of the lesser. -/
theorem minsi_ofNat {a b : ℕ} (ha : a < 2 ^ 31) (hb : b < 2 ^ 31) : IntOp.minsi (BitVec.ofNat 32 a) (BitVec.ofNat 32 b) = BitVec.ofNat 32 (min a b) := by
  unfold IntOp.minsi
  rw [slt_ofNat32 ha hb]
  by_cases h : a < b
  · rw [if_pos (decide_eq_true h), min_eq_left (by omega)]
  · rw [if_neg (by simpa using h), min_eq_right (by omega)]

/-- Whatever the mask, a tile's expert is the word of a natural at most seven. -/
theorem firstW_at (past : IVec S74x8 1) (t : Fin 74) (Q : ℕ → Prop) [DecidablePred Q] (hQ : ∀ k : Fin 8, past (ix2 t k) = 1#1 ↔ Q k.val) :
    firstW past (ix1 t) = BitVec.ofNat 32 (min (Nat.count Q 8) 7) := by
  have hc : Nat.count Q 8 ≤ 8 := Nat.count_le _
  have h1 : Host.reduce IntOp.addi (extui 32 past natLt_1_32) (constantI S_ 32 0#32) reducesTo_S74x8_S74_d1 h_S_ (ix1 t) = BitVec.ofNat 32 (Nat.count Q 8) :=
    reduce_count (by omega) past natLt_1_32 reducesTo_S74x8_S74_d1 h_S_ t Q hQ
  have b1 : broadcastInDim S74 ![] bcast_S_S74 (constantI S_ 32 7#32) (ix1 t) = BitVec.ofNat 32 7 := bc0 _ _ _
  show IntOp.minsi (Host.reduce IntOp.addi (extui 32 past natLt_1_32) (constantI S_ 32 0#32) reducesTo_S74x8_S74_d1 h_S_ (ix1 t))
    (broadcastInDim S74 ![] bcast_S_S74 (constantI S_ 32 7#32) (ix1 t)) = _
  rw [h1, b1, minsi_ofNat (by omega) (by omega)]

/-- Whatever the mask, a tile's expert is at most seven. -/
theorem firstW_le (past : IVec S74x8 1) (t : Fin 74) : (firstW past (ix1 t)).toNat ≤ 7 := by
  rw [firstW_at past t (fun k => ∃ h : k < 8, past (ix2 t ⟨k, h⟩) = 1#1) fun k => ⟨fun h => ⟨k.isLt, h⟩, fun h => h.2⟩, BitVec.toNat_ofNat]
  omega

include he hE in
/-- The expert of each tile. -/
theorem tileW_at (t : Fin 74) : firstW (pastW e) (ix1 t) = BitVec.ofNat 32 (tileExpert 33792 E t.val) := by
  have ht := t.isLt
  refine firstW_at (pastW e) t (fun k => ends 33792 E k ≤ 512 * t.val) fun k => ?_
  have hk := ends_lt E hE k.val k.isLt
  have h1 : broadcastInDim S74x8 ![0, 1] bcast_S1x8_S74x8_0_1 (broadcastInDim S1x8 ![1] bcast_S8_S1x8_1 (endW e)) (ix2 t k) = BitVec.ofNat 32 (ends 33792 E k.val) :=
    (bcCols bcast_S8_S1x8_1 bcast_S1x8_S74x8_0_1 (endW e) t k).trans (endW_at e E he hE k)
  have h2 : broadcastInDim S74x8 ![0, 1] bcast_S74x1_S74x8_0_1 (broadcastInDim S74x1 ![0] bcast_S74_S74x1_0
      (muli (iotaInDim S74 32 0) (broadcastInDim S74 ![] bcast_S_S74 (constantI S_ 32 512#32)))) (ix2 t k) = BitVec.ofNat 32 (t.val * 512) := by
    refine (bcRows bcast_S74_S74x1_0 bcast_S74x1_S74x8_0_1 _ t k).trans ?_
    have b1 : broadcastInDim S74 ![] bcast_S_S74 (constantI S_ 32 512#32) (ix1 t) = BitVec.ofNat 32 512 := bc0 _ _ _
    have b2 : iotaInDim S74 32 0 (ix1 t) = BitVec.ofNat 32 t.val := iota1_ap t
    rw [muli_ap, b1, b2, ← BitVec.ofNat_mul]
  show cmpi .sle _ _ (ix2 t k) = 1#1 ↔ _
  rw [WordCmp.cmpi_at, h1, h2, Nat.mul_comm]
  exact StableHlo.Predicate.sle_ofNat_iff _ _ (by omega) (by omega)

include he hE in
/-- The number of tiles in use. -/
theorem usedW_at : usedW e (ix1 (0 : Fin 1)) = BitVec.ofNat 32 (used 33792 E) := by
  have hk := ends_lt E hE 7 (by omega)
  have h1 : shapeCast S_ (extractStridedSlice S1 ![7] (endW e) slices_S8_S1_7) shapeCasts_S1_S_ ValueIdx.ix0 = BitVec.ofNat 32 (ends 33792 E 7) := by
    refine (shapeCast_apply _ shapeCasts_S1_S_ _ (ix1 (0 : Fin 1)) rfl).trans ?_
    exact (slice1 7 (endW e) slices_S8_S1_7 (0 : Fin 1) (by decide)).trans (endW_at e E he hE 7)
  unfold usedW
  refine (shapeCast_apply _ shapeCasts_S_S1 _ ValueIdx.ix0 rfl).trans ?_
  exact pyDiv0_ap _ _ h1 rfl (by omega) (by omega) (by omega)

end Cert.KernelIdeal.Words

end
-- ==== Proof.Rows.lean ====
/- The layout of the rows: which token's row each assignment's row of the grouped array is, and how the result's rows return to the assignments. -/
module

public import proofs.«01_k».proof.Proof.Words
public import Idealize.ShloMosaic.Lib.Pipeline.Value
public import Idealize.ShloMosaic.Lib.KernelVsHost

@[expose] public section

noncomputable section

namespace Cert.KernelIdeal.Rows

open Idealize.ShloMosaic Idealize.ShloMosaic.Routing Idealize.ShloMosaic.ValueIdx Cert.KernelIdeal Cert.KernelIdeal.Gen Cert.KernelIdeal.Stages Cert.Slots Cert.Sums

variable {F : FTy → Type} [FloatOps F]

/-- The token of assignment `q` as a batch and a position. -/
abbrev bat (q : Fin 33792) : Fin 2 := ⟨q.val % 16896 / 8448, by omega⟩
/-- The position. -/
abbrev tk (q : Fin 33792) : Fin 8448 := ⟨q.val % 16896 % 8448, by omega⟩

/-- One of the two columns of the routing argument that hold the experts, as a vector over the tokens. -/
theorem column_at (route : FVec F S2x8448x128 .f32) (o : ℕ) (ho : o < 128) (h : S16896x128.Slices ![0, o] S16896x1) (n : Fin 16896) :
    shapeCast S16896 (extractStridedSlice S16896x1 ![0, o] (shapeCast S16896x128 route shapeCasts_S2x8448x128_S16896x128) h) shapeCasts_S16896x1_S16896 (ix1 n)
      = route (ix3 (⟨n.val / 8448, by omega⟩ : Fin 2) (⟨n.val % 8448, by omega⟩ : Fin 8448) (⟨o, ho⟩ : Fin 128)) := by
  refine (cast21 _ shapeCasts_S16896x1_S16896 n (0 : Fin 1) n (by simp)).trans ?_
  refine (extractStridedSlice_apply ![0, o] _ h _ (ix2 n (⟨o, ho⟩ : Fin 128)) fun a => ?_).trans ?_
  · match a with
    | ⟨0, _⟩ => exact (Nat.zero_add _).symm
    | ⟨1, _⟩ => rfl
  · refine shapeCast_apply _ _ _ _ ?_
    rw [Shape.rowMajor_val_two, Shape.rowMajor_val_three]
    show (n.val / 8448 * 8448 + n.val % 8448) * 128 + o = n.val * 128 + o
    omega

/-- The expert word of assignment `q`: its token's entry of column 2 or column 3, as an integer. -/
theorem expertW_at (route : FVec F S2x8448x128 .f32) (q : Fin 33792) :
    expertW route (ix1 q) = fptosi 32 route (ix3 (bat q) (tk q) (⟨2 + q.val / 16896, by omega⟩ : Fin 128)) := by
  have hq := q.isLt
  unfold expertW
  refine congrArg (FloatOps.fptosi 32) ?_
  by_cases h : q.val < 16896
  · refine (concatenate_pair_apply_left 0 _ _ concatenates_S16896_S16896_S33792_d0 _ rfl (ix1 (⟨q.val, h⟩ : Fin 16896)) fun b => ?_).trans ?_
    · match b with
      | ⟨0, _⟩ => rfl
    · refine (column_at route 2 (by omega) _ _).trans (congrArg route ?_)
      funext b; match b with
      | ⟨0, _⟩ => exact Fin.ext (show q.val / 8448 = q.val % 16896 / 8448 by omega)
      | ⟨1, _⟩ => exact Fin.ext (show q.val % 8448 = q.val % 16896 % 8448 by omega)
      | ⟨2, _⟩ => exact Fin.ext (show 2 = 2 + q.val / 16896 by omega)
  · refine (concatenate_pair_apply_right 0 _ _ concatenates_S16896_S16896_S33792_d0 _ rfl rfl (ix1 (⟨q.val - 16896, by omega⟩ : Fin 16896)) (fun b hb => ?_) ?_).trans ?_
    · match b with
      | ⟨0, _⟩ => exact absurd rfl hb
    · show q.val - 16896 + 16896 = q.val
      omega
    · refine (column_at route 3 (by omega) _ _).trans (congrArg route ?_)
      funext b; match b with
      | ⟨0, _⟩ => exact Fin.ext (show (q.val - 16896) / 8448 = q.val % 16896 / 8448 by omega)
      | ⟨1, _⟩ => exact Fin.ext (show (q.val - 16896) % 8448 = q.val % 16896 % 8448 by omega)
      | ⟨2, _⟩ => exact Fin.ext (show 3 = 2 + q.val / 16896 by omega)

/-- The token word of assignment `q`. -/
theorem tokenW_at (q : Fin 33792) : tokenW (ix1 q) = BitVec.ofNat 32 (q.val % 16896) := by
  have hq := q.isLt
  unfold tokenW
  by_cases h : q.val < 16896
  · refine (concatenate_pair_apply_left 0 _ _ concatenates_S16896_S16896_S33792_d0 _ rfl (ix1 (⟨q.val, h⟩ : Fin 16896)) fun b => ?_).trans ?_
    · match b with
      | ⟨0, _⟩ => rfl
    · refine (iota1_ap _).trans ?_
      rw [Nat.mod_eq_of_lt h]
  · refine (concatenate_pair_apply_right 0 _ _ concatenates_S16896_S16896_S33792_d0 _ rfl rfl (ix1 (⟨q.val - 16896, by omega⟩ : Fin 16896)) (fun b hb => ?_) ?_).trans ?_
    · match b with
      | ⟨0, _⟩ => exact absurd rfl hb
    · show q.val - 16896 + 16896 = q.val
      omega
    · refine (iota1_ap _).trans ?_
      show BitVec.ofNat 32 (q.val - 16896) = _
      rw [show q.val - 16896 = q.val % 16896 by omega]

/-- An index that is a small natural is left as it is. -/
theorem indexW_at (p : IVec S33792 32) (q : Fin 33792) {a : ℕ} (ha : a < 2 ^ 31) (hp : p (ix1 q) = BitVec.ofNat 32 a) :
    indexW p (ix2 q (0 : Fin 1)) = BitVec.ofNat 32 a := by
  unfold indexW
  refine (bcCol _ _ q).trans ?_
  have b0 : broadcastInDim S33792 ![] bcast_S_S33792 (constantI S_ 32 0#32) (ix1 q) = 0#32 := bc0 _ _ _
  rw [WordCmp.select_at, WordCmp.cmpi_at, hp, b0]
  refine wrap_of_lt _ _ ?_
  exact (by rw [BitVec.toNat_ofNat, Nat.mod_eq_of_lt (by omega)]; exact ha)

/-- The same of the rows' token indices. -/
theorem rowIndexW_at (p : IVec S37888 32) (q : Fin 37888) {a : ℕ} (ha : a < 2 ^ 31) (hp : p (ix1 q) = BitVec.ofNat 32 a) :
    rowIndexW p (ix2 q (0 : Fin 1)) = BitVec.ofNat 32 a := by
  unfold rowIndexW
  refine (bcCol _ _ q).trans ?_
  have b0 : broadcastInDim S37888 ![] bcast_S_S37888 (constantI S_ 32 0#32) (ix1 q) = 0#32 := bc0 _ _ _
  rw [WordCmp.select_at, WordCmp.cmpi_at, hp, b0]
  refine wrap_of_lt _ _ ?_
  exact (by rw [BitVec.toNat_ofNat, Nat.mod_eq_of_lt (by omega)]; exact ha)

/-- Where the assignments' rows are distinct, the row of assignment `q` holds its token. -/
theorem rowTokenW_at (p : IVec S33792 32) (f : ℕ → ℕ) (hf : ∀ q : Fin 33792, p (ix1 q) = BitVec.ofNat 32 (f q.val)) (hlt : ∀ q < 33792, f q < 37888)
    (hinj : ∀ q q', q < 33792 → q' < 33792 → f q = f q' → q = q') (q : Fin 33792) :
    rowTokenW p (ix1 (⟨f q.val, hlt _ q.isLt⟩ : Fin 37888)) = BitVec.ofNat 32 (q.val % 16896) := by
  have key : ∀ (k : Fin 33792) (x : Fin 37888), (scatter_S37888_S33792x1_S33792_n_0_0_1).resultIdx? (ix1 k) (indexW p) = some (ix1 x) ↔ f k.val = x.val := fun k x => by
    refine (scatter_lands scatter_S37888_S33792x1_S33792_n_0_0_1 rfl rfl rfl (indexW p) k x).trans ?_
    have h1 := hlt _ k.isLt
    rw [indexW_at p k (by omega) (hf k), StableHlo.Predicate.toInt_ofNat_small _ (by omega)]
    exact Nat.cast_inj
  unfold rowTokenW
  refine scatter_set_hit _ _ _ _ _ _ (fun k hk => ?_) (ix1 q) ((key q _).2 rfl)
  obtain ⟨k', rfl⟩ : ∃ k' : Fin 33792, k = ix1 k' := ⟨k 0, eq_ix1 k⟩
  have := (key k' _).1 hk
  have e := hinj _ _ k'.isLt q.isLt this
  rw [tokenW_at, e]

/-- A token's row of the padded input. -/
theorem inputW_at (h : FVec F S2x8448x1024 .bf16) (n : Fin 37888) (hn : n.val < 16896) (d : Fin 1024) :
    inputW h (ix2 n d) = h (ix3 (⟨n.val / 8448, by omega⟩ : Fin 2) (⟨n.val % 8448, by omega⟩ : Fin 8448) d) := by
  unfold inputW
  refine (pad_apply_of_inside _ _ _ _ _ pads_S16896x1024_S37888x1024_0209920_000 h_S_ _ (ix2 (⟨n.val, hn⟩ : Fin 16896) d) fun a => ?_).trans ?_
  · match a with
    | ⟨0, _⟩ => show n.val = 0 + n.val * (0 + 1); omega
    | ⟨1, _⟩ => show d.val = 0 + d.val * (0 + 1); omega
  · refine shapeCast_apply _ _ _ _ ?_
    rw [Shape.rowMajor_val_two, Shape.rowMajor_val_three]
    show (n.val / 8448 * 8448 + n.val % 8448) * 1024 + d.val = n.val * 1024 + d.val
    omega

/-- The mask of an index in range is one. -/
theorem mask_one {N : ℕ} (i : IVec (shape2 N 1) 32) (z w : IVec (shape2 N 1) 32) (r : Fin N) (b : ℕ) (hb : b < 37888)
    (hi : i (ix2 r (0 : Fin 1)) = BitVec.ofNat 32 b) (hz : z (ix2 r (0 : Fin 1)) = BitVec.ofNat 32 0) (hw : w (ix2 r (0 : Fin 1)) = BitVec.ofNat 32 37887) :
    andi (cmpi .sge i z) (cmpi .sle i w) (ix2 r (0 : Fin 1)) = 1#1 := by
  rw [WordCmp.andi_at, WordCmp.cmpi_at, WordCmp.cmpi_at, hi, hz, hw]
  have h1 : IntOp.cmpi .sge (BitVec.ofNat 32 b) (BitVec.ofNat 32 0) = 1#1 :=
    (StableHlo.Predicate.sle_ofNat_iff 0 b (by omega) (by omega)).2 (Nat.zero_le _)
  have h2 : IntOp.cmpi .sle (BitVec.ofNat 32 b) (BitVec.ofNat 32 37887) = 1#1 :=
    (StableHlo.Predicate.sle_ofNat_iff b 37887 (by omega) (by omega)).2 (by omega)
  rw [h1, h2]; rfl

/-- A row gathered at an index in range is that row. -/
theorem gatherRows_at (x : FVec F S37888x1024 .bf16) (i : IVec S37888x1 32) (r b : Fin 37888) (d : Fin 1024)
    (hi : i (ix2 r (0 : Fin 1)) = BitVec.ofNat 32 b.val) : gatherRows x i (ix2 r d) = x (ix2 b d) := by
  unfold gatherRows
  rw [WordCmp.select_at]
  have hm : broadcastInDim S37888x1024 ![0] bcast_S37888_S37888x1024_0
      (Host.reduce IntOp.andi
        (andi (cmpi .sge i (broadcastInDim S37888x1 ![] bcast_S_S37888x1 (constantI S_ 32 0#32)))
          (cmpi .sle i (broadcastInDim S37888x1 ![0, 1] bcast_S1x1_S37888x1_0_1 (broadcastInDim S1x1 ![1] bcast_S1_S1x1_1 (constantI S1 32 37887#32)))))
        (constantI S_ 1 1#1) reducesTo_S37888x1_S37888_d1 h_S_) (ix2 r d) = 1#1 := by
    refine (broadcastInDim_apply _ _ _ _ (ix1 r) fun a => ?_).trans ?_
    · match a with
      | ⟨0, _⟩ => rfl
    · exact reduce_and_one _ r (mask_one i _ _ r b.val b.isLt hi (bc0 _ _ _) (bcCols bcast_S1_S1x1_1 bcast_S1x1_S37888x1_0_1 (constantI S1 32 37887#32) r (0 : Fin 1))) _ _
  rw [hm]
  exact gather_row gather_S37888x1024_S37888x1_S37888x1024_1_0_n_n_0_1_11024 rfl rfl rfl rfl rfl x i r d b hi (by omega)

/-- The same of the result's rows. -/
theorem gatherBack_at (x : FVec F S37888x1024 .bf16) (i : IVec S33792x1 32) (r : Fin 33792) (b : Fin 37888) (d : Fin 1024)
    (hi : i (ix2 r (0 : Fin 1)) = BitVec.ofNat 32 b.val) : gatherBack x i (ix2 r d) = x (ix2 b d) := by
  unfold gatherBack
  rw [WordCmp.select_at]
  have hm : broadcastInDim S33792x1024 ![0] bcast_S33792_S33792x1024_0
      (Host.reduce IntOp.andi
        (andi (cmpi .sge i (broadcastInDim S33792x1 ![] bcast_S_S33792x1 (constantI S_ 32 0#32)))
          (cmpi .sle i (broadcastInDim S33792x1 ![0, 1] bcast_S1x1_S33792x1_0_1 (broadcastInDim S1x1 ![1] bcast_S1_S1x1_1 (constantI S1 32 37887#32)))))
        (constantI S_ 1 1#1) reducesTo_S33792x1_S33792_d1 h_S_) (ix2 r d) = 1#1 := by
    refine (broadcastInDim_apply _ _ _ _ (ix1 r) fun a => ?_).trans ?_
    · match a with
      | ⟨0, _⟩ => rfl
    · exact reduce_and_one _ r (mask_one i _ _ r b.val b.isLt hi (bc0 _ _ _) (bcCols bcast_S1_S1x1_1 bcast_S1x1_S33792x1_0_1 (constantI S1 32 37887#32) r (0 : Fin 1))) _ _
  rw [hm]
  exact gather_row gather_S37888x1024_S33792x1_S33792x1024_1_0_n_n_0_1_11024 rfl rfl rfl rfl rfl x i r d b hi (by omega)

/-- The assignment of an entry of the result: its choice, its batch, its position. -/
abbrev asg (k : Fin 2) (b : Fin 2) (t : Fin 8448) : Fin 33792 := ⟨k.val * 16896 + b.val * 8448 + t.val, by omega⟩

/-- The result's entry is its assignment's. -/
theorem splitBack_at (x : FVec F S33792x1024 .bf16) (k b : Fin 2) (t : Fin 8448) (d : Fin 1024) :
    splitBack x (ix4 k b t d) = x (ix2 (asg k b t) d) := by
  unfold splitBack
  refine shapeCast_apply _ _ _ _ ?_
  rw [Shape.rowMajor_val_two, Shape.rowMajor_val_four]
  show (k.val * 16896 + b.val * 8448 + t.val) * 1024 + d.val = ((k.val * 2 + b.val) * 8448 + t.val) * 1024 + d.val
  omega

variable (e : IVec S33792 32) (E : ℕ → ℕ) (he : ∀ q : Fin 33792, e (ix1 q) = BitVec.ofNat 32 (E q.val)) (hE : ∀ q < 33792, E q < 8)

/-- The row of assignment `q`. -/
abbrev row (q : Fin 33792) : Fin 37888 := ⟨pos 33792 E q.val, Words.pos_lt E hE _ q.isLt⟩

include he in
/-- The grouped input's row of an assignment is its token's row of the input. -/
theorem grouped_at (h : FVec F S2x8448x1024 .bf16) (q : Fin 33792) (d : Fin 1024) :
    gatherRows (inputW h) (rowIndexW (rowTokenW (posW e))) (ix2 (row E hE q) d) = h (ix3 (bat q) (tk q) d) := by
  have hq := q.isLt
  have h1 := rowTokenW_at (posW e) (pos 33792 E) (fun q => Words.posW_at e E he hE q) (Words.pos_lt E hE)
    (fun _ _ => pos_inj 33792 E) q
  refine (gatherRows_at (inputW h) _ _ (⟨q.val % 16896, by omega⟩ : Fin 37888) d (rowIndexW_at _ _ (by omega) h1)).trans ?_
  exact inputW_at h _ (by show q.val % 16896 < 16896; omega) d

include he in
/-- The result's entry is the grouped result's, in its assignment's row. -/
theorem result_at (x : FVec F S37888x1024 .bf16) (k b : Fin 2) (t : Fin 8448) (d : Fin 1024) :
    splitBack (gatherBack x (indexW (posW e))) (ix4 k b t d) = x (ix2 (row E hE (asg k b t)) d) := by
  rw [splitBack_at]
  have h1 := Words.pos_lt E hE _ (asg k b t).isLt
  exact gatherBack_at x _ _ (row E hE (asg k b t)) d (indexW_at _ _ (by omega) (Words.posW_at e E he hE _))

end Cert.KernelIdeal.Rows

end
-- ==== Proof.Range.lean ====
/- What the precondition says: every routed expert lies between 0 and 7. -/
module

public import proofs.«01_k».proof.Defs
public import proofs.«01_k».proof.Proof.Rows
public import Idealize.ShloMosaic.Lib.ReduceAll
public import Idealize.ShloMosaic.Lib.Affine

@[expose] public section

set_option maxRecDepth 16384

noncomputable section

namespace Cert.Range

open Idealize.ShloMosaic Idealize.ShloMosaic.ValueIdx

/-- The precondition's side conditions. -/
theorem preFacts : Cert.Pre_experts_in_range.Facts where
  slices_S2x8448x128_S2x8448x2_0_0_2 := by decide
  bcast_S_S2x8448x2 := by decide
  reducesTo_S2x8448x2_S_d0_1_2 := by decide
  h_S_ := by decide

section
variable [Cert.Pre_experts_in_range.Facts]
open Cert.Pre_experts_in_range

/-- The word at an entry of columns 2 and 3 is one of the eight experts. -/
theorem word_lt (a0 : FVec Ideal S2x8448x1024 .bf16) (a1 : FVec Ideal S2x8448x128 .f32) (a2 a3 : FVec Ideal S8x1024x3584 .f32) (a4 : FVec Ideal S8x3584x1024 .f32)
    (h : fn (F := Ideal) a0 a1 a2 a3 a4 = fun _ => 1#1) (b : Fin 2) (t : Fin 8448) (k : Fin 2) :
    (fptosi (F := Ideal) 32 a1 (ix3 b t (⟨2 + k.val, by omega⟩ : Fin 128)) : BitVec 32).toNat < 8 := by
  have h0 := congrFun h ValueIdx.ix0
  unfold fn at h0
  haveI : Subsingleton S_.Idx := ⟨fun a b => funext fun i => i.elim0⟩
  have h1 := Host.reduce_andi_all _ _ _ _ _ h0 (ix3 b t k)
  have hs : extractStridedSlice S2x8448x2 ![0, 0, 2] a1 Facts.slices_S2x8448x128_S2x8448x2_0_0_2 (ix3 b t k) = a1 (ix3 b t (⟨2 + k.val, by omega⟩ : Fin 128)) :=
    extractStridedSlice_apply ![0, 0, 2] a1 _ (ix3 b t k) _ fun a => match a with
      | ⟨0, _⟩ => (Nat.zero_add _).symm
      | ⟨1, _⟩ => (Nat.zero_add _).symm
      | ⟨2, _⟩ => rfl
  have h2 : IntOp.andi (IntOp.cmpi .sge (FloatOps.fptosi (F := Ideal) (φ := .f32) 32 (extractStridedSlice S2x8448x2 ![0, 0, 2] a1 Facts.slices_S2x8448x128_S2x8448x2_0_0_2 (ix3 b t k))) 0#32)
      (IntOp.cmpi .slt (FloatOps.fptosi (F := Ideal) (φ := .f32) 32 (extractStridedSlice S2x8448x2 ![0, 0, 2] a1 Facts.slices_S2x8448x128_S2x8448x2_0_0_2 (ix3 b t k))) 8#32) = 1#1 := h1
  rw [hs] at h2
  show (FloatOps.fptosi (F := Ideal) (φ := .f32) 32 (a1 (ix3 b t (⟨2 + k.val, by omega⟩ : Fin 128))) : BitVec 32).toNat < 8
  generalize (FloatOps.fptosi (F := Ideal) (φ := .f32) 32 (a1 (ix3 b t (⟨2 + k.val, by omega⟩ : Fin 128))) : BitVec 32) = w at h2
  have h3 := IntOp.andi_eq_one.mp h2
  have h4 := IntOp.cmpi_sge.mp h3.1
  have h5 := IntOp.cmpi_slt.mp h3.2
  simp only [BitVec.toInt_eq_toNat_cond, BitVec.toNat_ofNat] at h4 h5
  have := w.isLt
  split at h4 <;> simp at h4 h5 <;> omega

end

end Cert.Range

end
-- ==== Proof.RunIdeal.lean ====
/- The run of the program: what the output block and the accumulator hold per case and point by point, the body at any
   point, and the whole launch with its frame. The launch's set-up follows
   the library's generated one; the four equations of the point-by-point contents (`outsAt0_A` … `outsAt0_D`) are proved by
   rewriting with the prefetched tables' reads. -/
module

public import proofs.«01_k».proof.Proof.Gen.KernelIdeal.Frame.RunD
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 4 (the window is idle at its points and not written back there):
    no pieces — a placeholder (junk read back) that nothing consults, since at these points the window is neither
    written back nor read at the next point (Lib/Pipeline.lean "Idle points"). -/
def out0_A_4 (c : Dev nD) (i : grid0.Coords) (arg4 : Memref sig .tc .vmem S512x1024 .bf16) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .bf16) (harg8 : arg8.IsWhole) (arg9 : Memref sig .tc .vmem S512x1024 .f32) (harg9 : arg9.IsWhole) (hc0 : cond0_0 i) (hc2 : ¬cond0_2 i)
    (x0 : Vec F S512x1024 .bf16) (x1 : Vec F S1x1024x1792 .bf16) (x2 : Vec F S1x1024x1792 .bf16) (x3 : Vec F S1x1792x1024 .bf16) (xt0 : TbBuf0 (F := F) c tbM0_0) (xt1 : TbBuf0 (F := F) c tbM0_1) (hc1 : cond0_1 i (tbM0_1.view.readAt (Elt F) (Rect.unit (s := S1) ![0] S1.size inb_S1_S1_0).toLoadRect xt1 (Shape.Idx.first (numel1_S1.symm ▸ Nat.one_pos)))) : Vec F S512x1024 .bf16 :=
  VO0_4.read (Elt F) (VO0_4.writes (Elt F) VO0_4.junk (kernelRun0_A c i arg4 harg4 arg5 harg5 arg6 harg6 arg7 harg7 arg8 harg8 arg9 harg9 hc0 hc2 x0 x1 x2 x3 xt0 xt1 hc1).1)

/-- Case A's pieces for scratch `arg9`, which the kernel carries between points, cover it: 2 pieces of `S512x1024` tiling it (Lib/Ring.lean `Piece.tiledL`). -/
theorem scover0_A_0 (c : Dev nD) (i : grid0.Coords) (arg4 : Memref sig .tc .vmem S512x1024 .bf16) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .bf16) (harg8 : arg8.IsWhole) (arg9 : Memref sig .tc .vmem S512x1024 .f32) (harg9 : arg9.IsWhole) (hc0 : cond0_0 i) (hc2 : ¬cond0_2 i)
    (x0 : Vec F S512x1024 .bf16) (x1 : Vec F S1x1024x1792 .bf16) (x2 : Vec F S1x1024x1792 .bf16) (x3 : Vec F S1x1792x1024 .bf16) (xt0 : TbBuf0 (F := F) c tbM0_0) (xt1 : TbBuf0 (F := F) c tbM0_1) (hc1 : cond0_1 i (tbM0_1.view.readAt (Elt F) (Rect.unit (s := S1) ![0] S1.size inb_S1_S1_0).toLoadRect xt1 (Shape.Idx.first (numel1_S1.symm ▸ Nat.one_pos)))) (y : S512x1024.Idx) :
    ∃ pc ∈ (kernelRun0_A c i arg4 harg4 arg5 harg5 arg6 harg6 arg7 harg7 arg8 harg8 arg9 harg9 hc0 hc2 x0 x1 x2 x3 xt0 xt1 hc1).2.1, y ∈ pc.1.set :=
  View.cover_of_tiledL (kernelRun0_A c i arg4 harg4 arg5 harg5 arg6 harg6 arg7 harg7 arg8 harg8 arg9 harg9 hc0 hc2 x0 x1 x2 x3 xt0 xt1 hc1).2.1 S512x1024.size (by sl_kernel_rfl) y

/-- What case A leaves in scratch `arg9`: its pieces read back over junk. -/
def sout0_A_0 (c : Dev nD) (i : grid0.Coords) (arg4 : Memref sig .tc .vmem S512x1024 .bf16) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .bf16) (harg8 : arg8.IsWhole) (arg9 : Memref sig .tc .vmem S512x1024 .f32) (harg9 : arg9.IsWhole) (hc0 : cond0_0 i) (hc2 : ¬cond0_2 i)
    (x0 : Vec F S512x1024 .bf16) (x1 : Vec F S1x1024x1792 .bf16) (x2 : Vec F S1x1024x1792 .bf16) (x3 : Vec F S1x1792x1024 .bf16) (xt0 : TbBuf0 (F := F) c tbM0_0) (xt1 : TbBuf0 (F := F) c tbM0_1) (hc1 : cond0_1 i (tbM0_1.view.readAt (Elt F) (Rect.unit (s := S1) ![0] S1.size inb_S1_S1_0).toLoadRect xt1 (Shape.Idx.first (numel1_S1.symm ▸ Nat.one_pos)))) : Vec F S512x1024 .f32 :=
  VS0_0.read (Elt F) (VS0_0.writes (Elt F) VS0_0.junk (kernelRun0_A c i arg4 harg4 arg5 harg5 arg6 harg6 arg7 harg7 arg8 harg8 arg9 harg9 hc0 hc2 x0 x1 x2 x3 xt0 xt1 hc1).2.1)

/-- Case B stores nothing into output 4 (the window is idle at its points and not written back there):
    no pieces — a placeholder (junk read back) that nothing consults, since at these points the window is neither
    written back nor read at the next point (Lib/Pipeline.lean "Idle points"). -/
def out0_B_4 (c : Dev nD) (i : grid0.Coords) (arg4 : Memref sig .tc .vmem S512x1024 .bf16) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .bf16) (harg8 : arg8.IsWhole) (arg9 : Memref sig .tc .vmem S512x1024 .f32) (harg9 : arg9.IsWhole) (hc0 : cond0_0 i) (hc2 : ¬cond0_2 i)
    (x0 : Vec F S512x1024 .bf16) (x1 : Vec F S1x1024x1792 .bf16) (x2 : Vec F S1x1024x1792 .bf16) (x3 : Vec F S1x1792x1024 .bf16) (xt0 : TbBuf0 (F := F) c tbM0_0) (xt1 : TbBuf0 (F := F) c tbM0_1) (hc1 : ¬cond0_1 i (tbM0_1.view.readAt (Elt F) (Rect.unit (s := S1) ![0] S1.size inb_S1_S1_0).toLoadRect xt1 (Shape.Idx.first (numel1_S1.symm ▸ Nat.one_pos)))) : Vec F S512x1024 .bf16 :=
  VO0_4.read (Elt F) (VO0_4.writes (Elt F) VO0_4.junk (kernelRun0_B c i arg4 harg4 arg5 harg5 arg6 harg6 arg7 harg7 arg8 harg8 arg9 harg9 hc0 hc2 x0 x1 x2 x3 xt0 xt1 hc1).1)

/-- Case B's pieces for scratch `arg9`, which the kernel carries between points, cover it: 1 piece of `S512x1024` tiling it (Lib/Ring.lean `Piece.tiledL`). -/
theorem scover0_B_0 (c : Dev nD) (i : grid0.Coords) (arg4 : Memref sig .tc .vmem S512x1024 .bf16) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .bf16) (harg8 : arg8.IsWhole) (arg9 : Memref sig .tc .vmem S512x1024 .f32) (harg9 : arg9.IsWhole) (hc0 : cond0_0 i) (hc2 : ¬cond0_2 i)
    (x0 : Vec F S512x1024 .bf16) (x1 : Vec F S1x1024x1792 .bf16) (x2 : Vec F S1x1024x1792 .bf16) (x3 : Vec F S1x1792x1024 .bf16) (xt0 : TbBuf0 (F := F) c tbM0_0) (xt1 : TbBuf0 (F := F) c tbM0_1) (hc1 : ¬cond0_1 i (tbM0_1.view.readAt (Elt F) (Rect.unit (s := S1) ![0] S1.size inb_S1_S1_0).toLoadRect xt1 (Shape.Idx.first (numel1_S1.symm ▸ Nat.one_pos)))) (y : S512x1024.Idx) :
    ∃ pc ∈ (kernelRun0_B c i arg4 harg4 arg5 harg5 arg6 harg6 arg7 harg7 arg8 harg8 arg9 harg9 hc0 hc2 x0 x1 x2 x3 xt0 xt1 hc1).2.1, y ∈ pc.1.set :=
  View.cover_of_tiledL (kernelRun0_B c i arg4 harg4 arg5 harg5 arg6 harg6 arg7 harg7 arg8 harg8 arg9 harg9 hc0 hc2 x0 x1 x2 x3 xt0 xt1 hc1).2.1 S512x1024.size (by sl_kernel_rfl) y

/-- What case B leaves in scratch `arg9`: its pieces read back over junk. -/
def sout0_B_0 (c : Dev nD) (i : grid0.Coords) (arg4 : Memref sig .tc .vmem S512x1024 .bf16) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .bf16) (harg8 : arg8.IsWhole) (arg9 : Memref sig .tc .vmem S512x1024 .f32) (harg9 : arg9.IsWhole) (hc0 : cond0_0 i) (hc2 : ¬cond0_2 i)
    (x0 : Vec F S512x1024 .bf16) (x1 : Vec F S1x1024x1792 .bf16) (x2 : Vec F S1x1024x1792 .bf16) (x3 : Vec F S1x1792x1024 .bf16) (xt0 : TbBuf0 (F := F) c tbM0_0) (xt1 : TbBuf0 (F := F) c tbM0_1) (hc1 : ¬cond0_1 i (tbM0_1.view.readAt (Elt F) (Rect.unit (s := S1) ![0] S1.size inb_S1_S1_0).toLoadRect xt1 (Shape.Idx.first (numel1_S1.symm ▸ Nat.one_pos)))) : Vec F S512x1024 .f32 :=
  VS0_0.read (Elt F) (VS0_0.writes (Elt F) VS0_0.junk (kernelRun0_B c i arg4 harg4 arg5 harg5 arg6 harg6 arg7 harg7 arg8 harg8 arg9 harg9 hc0 hc2 x0 x1 x2 x3 xt0 xt1 hc1).2.1)

/-- Case C's pieces for output 4 tile its block (1 store of `S512x1024`, checked by the kernel's evaluation: Lib/Ring.lean `Piece.tiledL`, linear in the pieces, through a loop's `@[irreducible]` trip theorem too), so they cover it. -/
theorem cover0_C_4 (c : Dev nD) (i : grid0.Coords) (arg4 : Memref sig .tc .vmem S512x1024 .bf16) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc2 : cond0_2 i)
    (x0 : Vec F S512x1024 .bf16) (x1 : Vec F S1x1024x1792 .bf16) (x2 : Vec F S1x1024x1792 .bf16) (x3 : Vec F S1x1792x1024 .bf16) (xt0 : TbBuf0 (F := F) c tbM0_0) (xt1 : TbBuf0 (F := F) c tbM0_1) (xs0 : Vec F S512x1024 .f32) (hc1 : cond0_1 i (tbM0_1.view.readAt (Elt F) (Rect.unit (s := S1) ![0] S1.size inb_S1_S1_0).toLoadRect xt1 (Shape.Idx.first (numel1_S1.symm ▸ Nat.one_pos)))) (y : S512x1024.Idx) :
    ∃ pc ∈ (kernelRun0_C c i arg4 harg4 arg5 harg5 arg6 harg6 arg7 harg7 arg8 harg8 arg9 harg9 hc0 hc2 x0 x1 x2 x3 xt0 xt1 xs0 hc1).1, y ∈ pc.1.set :=
  View.cover_of_tiledL (kernelRun0_C c i arg4 harg4 arg5 harg5 arg6 harg6 arg7 harg7 arg8 harg8 arg9 harg9 hc0 hc2 x0 x1 x2 x3 xt0 xt1 xs0 hc1).1 S512x1024.size (by sl_kernel_rfl) y

/-- What case C leaves in output 4's staging buffer: its pieces read back over junk. -/
def out0_C_4 (c : Dev nD) (i : grid0.Coords) (arg4 : Memref sig .tc .vmem S512x1024 .bf16) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc2 : cond0_2 i)
    (x0 : Vec F S512x1024 .bf16) (x1 : Vec F S1x1024x1792 .bf16) (x2 : Vec F S1x1024x1792 .bf16) (x3 : Vec F S1x1792x1024 .bf16) (xt0 : TbBuf0 (F := F) c tbM0_0) (xt1 : TbBuf0 (F := F) c tbM0_1) (xs0 : Vec F S512x1024 .f32) (hc1 : cond0_1 i (tbM0_1.view.readAt (Elt F) (Rect.unit (s := S1) ![0] S1.size inb_S1_S1_0).toLoadRect xt1 (Shape.Idx.first (numel1_S1.symm ▸ Nat.one_pos)))) : Vec F S512x1024 .bf16 :=
  VO0_4.read (Elt F) (VO0_4.writes (Elt F) VO0_4.junk (kernelRun0_C c i arg4 harg4 arg5 harg5 arg6 harg6 arg7 harg7 arg8 harg8 arg9 harg9 hc0 hc2 x0 x1 x2 x3 xt0 xt1 xs0 hc1).1)

/-- Case C's pieces for scratch `arg9`, which the kernel carries between points, cover it: 1 piece of `S512x1024` tiling it (Lib/Ring.lean `Piece.tiledL`). -/
theorem scover0_C_0 (c : Dev nD) (i : grid0.Coords) (arg4 : Memref sig .tc .vmem S512x1024 .bf16) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc2 : cond0_2 i)
    (x0 : Vec F S512x1024 .bf16) (x1 : Vec F S1x1024x1792 .bf16) (x2 : Vec F S1x1024x1792 .bf16) (x3 : Vec F S1x1792x1024 .bf16) (xt0 : TbBuf0 (F := F) c tbM0_0) (xt1 : TbBuf0 (F := F) c tbM0_1) (xs0 : Vec F S512x1024 .f32) (hc1 : cond0_1 i (tbM0_1.view.readAt (Elt F) (Rect.unit (s := S1) ![0] S1.size inb_S1_S1_0).toLoadRect xt1 (Shape.Idx.first (numel1_S1.symm ▸ Nat.one_pos)))) (y : S512x1024.Idx) :
    ∃ pc ∈ (kernelRun0_C c i arg4 harg4 arg5 harg5 arg6 harg6 arg7 harg7 arg8 harg8 arg9 harg9 hc0 hc2 x0 x1 x2 x3 xt0 xt1 xs0 hc1).2.1, y ∈ pc.1.set :=
  View.cover_of_tiledL (kernelRun0_C c i arg4 harg4 arg5 harg5 arg6 harg6 arg7 harg7 arg8 harg8 arg9 harg9 hc0 hc2 x0 x1 x2 x3 xt0 xt1 xs0 hc1).2.1 S512x1024.size (by sl_kernel_rfl) y

/-- What case C leaves in scratch `arg9`: its pieces read back over junk. -/
def sout0_C_0 (c : Dev nD) (i : grid0.Coords) (arg4 : Memref sig .tc .vmem S512x1024 .bf16) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc2 : cond0_2 i)
    (x0 : Vec F S512x1024 .bf16) (x1 : Vec F S1x1024x1792 .bf16) (x2 : Vec F S1x1024x1792 .bf16) (x3 : Vec F S1x1792x1024 .bf16) (xt0 : TbBuf0 (F := F) c tbM0_0) (xt1 : TbBuf0 (F := F) c tbM0_1) (xs0 : Vec F S512x1024 .f32) (hc1 : cond0_1 i (tbM0_1.view.readAt (Elt F) (Rect.unit (s := S1) ![0] S1.size inb_S1_S1_0).toLoadRect xt1 (Shape.Idx.first (numel1_S1.symm ▸ Nat.one_pos)))) : Vec F S512x1024 .f32 :=
  VS0_0.read (Elt F) (VS0_0.writes (Elt F) VS0_0.junk (kernelRun0_C c i arg4 harg4 arg5 harg5 arg6 harg6 arg7 harg7 arg8 harg8 arg9 harg9 hc0 hc2 x0 x1 x2 x3 xt0 xt1 xs0 hc1).2.1)

/-- Case D's pieces for output 4 tile its block (1 store of `S512x1024`, checked by the kernel's evaluation: Lib/Ring.lean `Piece.tiledL`, linear in the pieces, through a loop's `@[irreducible]` trip theorem too), so they cover it. -/
theorem cover0_D_4 (c : Dev nD) (i : grid0.Coords) (arg4 : Memref sig .tc .vmem S512x1024 .bf16) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc2 : cond0_2 i)
    (x0 : Vec F S512x1024 .bf16) (x1 : Vec F S1x1024x1792 .bf16) (x2 : Vec F S1x1024x1792 .bf16) (x3 : Vec F S1x1792x1024 .bf16) (xt0 : TbBuf0 (F := F) c tbM0_0) (xt1 : TbBuf0 (F := F) c tbM0_1) (xs0 : Vec F S512x1024 .f32) (hc1 : ¬cond0_1 i (tbM0_1.view.readAt (Elt F) (Rect.unit (s := S1) ![0] S1.size inb_S1_S1_0).toLoadRect xt1 (Shape.Idx.first (numel1_S1.symm ▸ Nat.one_pos)))) (y : S512x1024.Idx) :
    ∃ pc ∈ (kernelRun0_D c i arg4 harg4 arg5 harg5 arg6 harg6 arg7 harg7 arg8 harg8 arg9 harg9 hc0 hc2 x0 x1 x2 x3 xt0 xt1 xs0 hc1).1, y ∈ pc.1.set :=
  View.cover_of_tiledL (kernelRun0_D c i arg4 harg4 arg5 harg5 arg6 harg6 arg7 harg7 arg8 harg8 arg9 harg9 hc0 hc2 x0 x1 x2 x3 xt0 xt1 xs0 hc1).1 S512x1024.size (by sl_kernel_rfl) y

/-- What case D leaves in output 4's staging buffer: its pieces read back over junk. -/
def out0_D_4 (c : Dev nD) (i : grid0.Coords) (arg4 : Memref sig .tc .vmem S512x1024 .bf16) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc2 : cond0_2 i)
    (x0 : Vec F S512x1024 .bf16) (x1 : Vec F S1x1024x1792 .bf16) (x2 : Vec F S1x1024x1792 .bf16) (x3 : Vec F S1x1792x1024 .bf16) (xt0 : TbBuf0 (F := F) c tbM0_0) (xt1 : TbBuf0 (F := F) c tbM0_1) (xs0 : Vec F S512x1024 .f32) (hc1 : ¬cond0_1 i (tbM0_1.view.readAt (Elt F) (Rect.unit (s := S1) ![0] S1.size inb_S1_S1_0).toLoadRect xt1 (Shape.Idx.first (numel1_S1.symm ▸ Nat.one_pos)))) : Vec F S512x1024 .bf16 :=
  VO0_4.read (Elt F) (VO0_4.writes (Elt F) VO0_4.junk (kernelRun0_D c i arg4 harg4 arg5 harg5 arg6 harg6 arg7 harg7 arg8 harg8 arg9 harg9 hc0 hc2 x0 x1 x2 x3 xt0 xt1 xs0 hc1).1)

/-- Case D stores nothing into scratch `arg9`: it holds what the point before left. -/
def sout0_D_0 (c : Dev nD) (i : grid0.Coords) (arg4 : Memref sig .tc .vmem S512x1024 .bf16) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc2 : cond0_2 i)
    (x0 : Vec F S512x1024 .bf16) (x1 : Vec F S1x1024x1792 .bf16) (x2 : Vec F S1x1024x1792 .bf16) (x3 : Vec F S1x1792x1024 .bf16) (xt0 : TbBuf0 (F := F) c tbM0_0) (xt1 : TbBuf0 (F := F) c tbM0_1) (xs0 : Vec F S512x1024 .f32) (hc1 : ¬cond0_1 i (tbM0_1.view.readAt (Elt F) (Rect.unit (s := S1) ![0] S1.size inb_S1_S1_0).toLoadRect xt1 (Shape.Idx.first (numel1_S1.symm ▸ Nat.one_pos)))) : Vec F S512x1024 .f32 := xs0

/-! ## What the outputs hold after each point -/

/-- THE ACCUMULATION. What the outputs' staging buffers and the scratch the kernel carries between points hold after the body at position `n` (a tuple: the outputs in window order, then the scratch):
    the case the closed forms and the word conditions select at `n`, run at the point's memrefs and input blocks, an output it reads before covering
    at what this leaves at `n - 1` (its buffer is not written back between: `before0_W_κ`). An assignment of the conditions no point meets is no case (`False.elim`). -/
def outsAt0 (hO : Ok m) (c : Dev nD) : (n : ℕ) → n < (cfgM m hO).N → Vec F S512x1024 .bf16 × Vec F S512x1024 .f32
  | 0, hn => if h1 : cond0_1 (grid0.coords ⟨0, hn⟩) (tbM0_1.view.readAt (Elt F) (Rect.unit (s := S1) ![0] S1.size inb_S1_S1_0).toLoadRect (tbl m 1) (Shape.Idx.first (numel1_S1.symm ▸ Nat.one_pos))) then
      (out0_A_4 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) h1, sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) h1)
    else
      (out0_B_4 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) h1, sout0_B_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) h1)
  | n + 1, hn =>
    if h1 : cond0_1 (grid0.coords ⟨n + 1, hn⟩) (tbM0_1.view.readAt (Elt F) (Rect.unit (s := S1) ![0] S1.size inb_S1_S1_0).toLoadRect (tbl m 1) (Shape.Idx.first (numel1_S1.symm ▸ Nat.one_pos))) then
      if h0 : (n + 1) % 2 = 0 then
        if h2 : (n + 1) % 2 = 1 then
          False.elim (by have hN : n + 1 < 148 := lt_of_lt_of_eq hn (show (cfgM m hO).N = 148 from N_0); omega)
        else
          (out0_A_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) h1, sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) h1)
      else
        if h2 : (n + 1) % 2 = 1 then
          (out0_C_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2 h1, sout0_C_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2 h1)
        else
          False.elim (by have hN : n + 1 < 148 := lt_of_lt_of_eq hn (show (cfgM m hO).N = 148 from N_0); omega)
    else
      if h0 : (n + 1) % 2 = 0 then
        if h2 : (n + 1) % 2 = 1 then
          False.elim (by have hN : n + 1 < 148 := lt_of_lt_of_eq hn (show (cfgM m hO).N = 148 from N_0); omega)
        else
          (out0_B_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) h1, sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) h1)
      else
        if h2 : (n + 1) % 2 = 1 then
          (out0_D_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2 h1, sout0_D_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2 h1)
        else
          False.elim (by have hN : n + 1 < 148 := lt_of_lt_of_eq hn (show (cfgM m hO).N = 148 from N_0); omega)

/-- `outsAt0` at a point of case A: that case's contents. -/
theorem outsAt0_A (hO : Ok m) (c : Dev nD) (t : Fin (cfgM m hO).N) (h0 : t.val % 2 = 0) (h1 : cond0_1 (grid0.coords t) (tbM0_1.view.readAt (Elt F) (Rect.unit (s := S1) ![0] S1.size inb_S1_S1_0).toLoadRect (tbl m 1) (Shape.Idx.first (numel1_S1.symm ▸ Nat.one_pos)))) (h2 : ¬t.val % 2 = 1) :
    outsAt0 m hO c t.val t.isLt = (out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) ((hcond0_0 t).mpr h0) (fun h => h2 ((hcond0_2 t).mp h)) (iblk m hO c 0 t) (iblk m hO c 1 t) (iblk m hO c 2 t) (iblk m hO c 3 t) (tbl m 0) (tbl m 1) h1, sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) ((hcond0_0 t).mpr h0) (fun h => h2 ((hcond0_2 t).mp h)) (iblk m hO c 0 t) (iblk m hO c 1 t) (iblk m hO c 2 t) (iblk m hO c 3 t) (tbl m 0) (tbl m 1) h1) := by
  obtain ⟨n, hn⟩ := t
  cases n with
  | zero => exact (dif_pos h1).trans rfl
  | succ n => simp only [outsAt0, dif_pos h1, dif_pos h0, dif_neg h2]

/-- `outsAt0` at a point of case B: that case's contents. -/
theorem outsAt0_B (hO : Ok m) (c : Dev nD) (t : Fin (cfgM m hO).N) (h0 : t.val % 2 = 0) (h1 : ¬cond0_1 (grid0.coords t) (tbM0_1.view.readAt (Elt F) (Rect.unit (s := S1) ![0] S1.size inb_S1_S1_0).toLoadRect (tbl m 1) (Shape.Idx.first (numel1_S1.symm ▸ Nat.one_pos)))) (h2 : ¬t.val % 2 = 1) :
    outsAt0 m hO c t.val t.isLt = (out0_B_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) ((hcond0_0 t).mpr h0) (fun h => h2 ((hcond0_2 t).mp h)) (iblk m hO c 0 t) (iblk m hO c 1 t) (iblk m hO c 2 t) (iblk m hO c 3 t) (tbl m 0) (tbl m 1) h1, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) ((hcond0_0 t).mpr h0) (fun h => h2 ((hcond0_2 t).mp h)) (iblk m hO c 0 t) (iblk m hO c 1 t) (iblk m hO c 2 t) (iblk m hO c 3 t) (tbl m 0) (tbl m 1) h1) := by
  obtain ⟨n, hn⟩ := t
  cases n with
  | zero => exact (dif_neg h1).trans rfl
  | succ n => simp only [outsAt0, dif_neg h1, dif_pos h0, dif_neg h2]

/-- `outsAt0` at a point of case C: that case's contents, over what the point before left. -/
theorem outsAt0_C (hO : Ok m) (c : Dev nD) (t : Fin (cfgM m hO).N) (h0 : ¬t.val % 2 = 0) (h1 : cond0_1 (grid0.coords t) (tbM0_1.view.readAt (Elt F) (Rect.unit (s := S1) ![0] S1.size inb_S1_S1_0).toLoadRect (tbl m 1) (Shape.Idx.first (numel1_S1.symm ▸ Nat.one_pos)))) (h2 : t.val % 2 = 1) :
    outsAt0 m hO c t.val t.isLt = (out0_C_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) ((hcond0_2 t).mpr h2) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2 h1, sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) ((hcond0_2 t).mpr h2) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2 h1) := by
  obtain ⟨n, hn⟩ := t
  cases n with
  | zero => exact (by exfalso; (try dsimp only at h0); exact absurd (Nat.zero_mod _) h0)
  | succ n => simp only [outsAt0, dif_pos h1, dif_neg h0, dif_pos h2, Nat.add_sub_cancel]

/-- `outsAt0` at a point of case D: that case's contents, over what the point before left. -/
theorem outsAt0_D (hO : Ok m) (c : Dev nD) (t : Fin (cfgM m hO).N) (h0 : ¬t.val % 2 = 0) (h1 : ¬cond0_1 (grid0.coords t) (tbM0_1.view.readAt (Elt F) (Rect.unit (s := S1) ![0] S1.size inb_S1_S1_0).toLoadRect (tbl m 1) (Shape.Idx.first (numel1_S1.symm ▸ Nat.one_pos)))) (h2 : t.val % 2 = 1) :
    outsAt0 m hO c t.val t.isLt = (out0_D_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) ((hcond0_2 t).mpr h2) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2 h1, sout0_D_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) ((hcond0_2 t).mpr h2) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2 h1) := by
  obtain ⟨n, hn⟩ := t
  cases n with
  | zero => exact (by exfalso; (try dsimp only at h0); exact absurd (Nat.zero_mod _) h0)
  | succ n => simp only [outsAt0, dif_neg h1, dif_neg h0, dif_pos h2, Nat.add_sub_cancel]

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t.val t.isLt).1
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t.val t.isLt).1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 148 := lt_of_lt_of_eq t.isLt (show (cfgM m hO).N = 148 from N_0)
  by_cases h0 : t.val % 2 = 0
  · by_cases h1 : cond0_1 (grid0.coords t) (tbM0_1.view.readAt (Elt F) (Rect.unit (s := S1) ![0] S1.size inb_S1_S1_0).toLoadRect (tbl m 1) (Shape.Idx.first (numel1_S1.symm ▸ Nat.one_pos)))
    · by_cases h2 : t.val % 2 = 1
      · exfalso; omega
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [Dat.leavesExact_idle (dats m hO 0 c) 4 t (idleAt0_4_A m hO t ((hcond0_0 t).mpr h0) (fun h => h2 ((hcond0_2 t).mp h))) (noFlush0_4_A m hO t ((hcond0_0 t).mpr h0) (fun h => h2 ((hcond0_2 t).mp h)))]
        by_cases hz : t.val = 0
        · rw [PhiS_castSucc m hO c t, PhiS_zero m hO c _ _ hz, PhiT0_eq, PhiA0_eq]
          rw [outsAt0_A m hO c t h0 h1 h2]
          unfold sout0_A_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩⟩
          iapply ((kernelRun0_A c (grid0.coords t) _ _ _ _ _ _ _ _ _ _ _ _ ((hcond0_0 t).mpr h0) (fun h => h2 ((hcond0_2 t).mp h)) (iblk m hO c 0 t) (iblk m hO c 1 t) (iblk m hO c 2 t) (iblk m hO c 3 t) (tbl m 0) (tbl m 1) h1).2.2 _ Set.univ _)
          isplitl [H0]; · iexact H0
          isplitl [H1]; · iexact H1
          isplitl [H2]; · iexact H2
          isplitl [H3]; · iexact H3
          isplitl [H4]; · iexact H4
          isplitl [HS0]; · iexact HS0
          isplitl [HT0]; · iexact HT0
          isplitl [HT1]; · iexact HT1
          iintro ⟨H0, H1, H2, H3, H4, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          iexists _; iexact H4
        · rw [PhiS_castSucc m hO c t, PhiS_pos m hO c _ _ hz, PhiT0_eq]
          rw [outsAt0_A m hO c t h0 h1 h2]
          unfold sout0_A_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩⟩
          iapply ((kernelRun0_A c (grid0.coords t) _ _ _ _ _ _ _ _ _ _ _ _ ((hcond0_0 t).mpr h0) (fun h => h2 ((hcond0_2 t).mp h)) (iblk m hO c 0 t) (iblk m hO c 1 t) (iblk m hO c 2 t) (iblk m hO c 3 t) (tbl m 0) (tbl m 1) h1).2.2 _ Set.univ _)
          isplitl [H0]; · iexact H0
          isplitl [H1]; · iexact H1
          isplitl [H2]; · iexact H2
          isplitl [H3]; · iexact H3
          isplitl [H4]; · iexact H4
          isplitl [HS0]; · iexists _; iexact HS0
          isplitl [HT0]; · iexact HT0
          isplitl [HT1]; · iexact HT1
          iintro ⟨H0, H1, H2, H3, H4, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          iexists _; iexact H4
    · by_cases h2 : t.val % 2 = 1
      · exfalso; omega
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [Dat.leavesExact_idle (dats m hO 0 c) 4 t (idleAt0_4_B m hO t ((hcond0_0 t).mpr h0) (fun h => h2 ((hcond0_2 t).mp h))) (noFlush0_4_B m hO t ((hcond0_0 t).mpr h0) (fun h => h2 ((hcond0_2 t).mp h)))]
        by_cases hz : t.val = 0
        · rw [PhiS_castSucc m hO c t, PhiS_zero m hO c _ _ hz, PhiT0_eq, PhiA0_eq]
          rw [outsAt0_B m hO c t h0 h1 h2]
          unfold sout0_B_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩⟩
          iapply ((kernelRun0_B c (grid0.coords t) _ _ _ _ _ _ _ _ _ _ _ _ ((hcond0_0 t).mpr h0) (fun h => h2 ((hcond0_2 t).mp h)) (iblk m hO c 0 t) (iblk m hO c 1 t) (iblk m hO c 2 t) (iblk m hO c 3 t) (tbl m 0) (tbl m 1) h1).2.2 _ Set.univ _)
          isplitl [H0]; · iexact H0
          isplitl [H1]; · iexact H1
          isplitl [H2]; · iexact H2
          isplitl [H3]; · iexact H3
          isplitl [H4]; · iexact H4
          isplitl [HS0]; · iexact HS0
          isplitl [HT0]; · iexact HT0
          isplitl [HT1]; · iexact HT1
          iintro ⟨H0, H1, H2, H3, H4, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          iexists _; iexact H4
        · rw [PhiS_castSucc m hO c t, PhiS_pos m hO c _ _ hz, PhiT0_eq]
          rw [outsAt0_B m hO c t h0 h1 h2]
          unfold sout0_B_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩⟩
          iapply ((kernelRun0_B c (grid0.coords t) _ _ _ _ _ _ _ _ _ _ _ _ ((hcond0_0 t).mpr h0) (fun h => h2 ((hcond0_2 t).mp h)) (iblk m hO c 0 t) (iblk m hO c 1 t) (iblk m hO c 2 t) (iblk m hO c 3 t) (tbl m 0) (tbl m 1) h1).2.2 _ Set.univ _)
          isplitl [H0]; · iexact H0
          isplitl [H1]; · iexact H1
          isplitl [H2]; · iexact H2
          isplitl [H3]; · iexact H3
          isplitl [H4]; · iexact H4
          isplitl [HS0]; · iexists _; iexact HS0
          isplitl [HT0]; · iexact HT0
          isplitl [HT1]; · iexact HT1
          iintro ⟨H0, H1, H2, H3, H4, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          iexists _; iexact H4
  · by_cases h1 : cond0_1 (grid0.coords t) (tbM0_1.view.readAt (Elt F) (Rect.unit (s := S1) ![0] S1.size inb_S1_S1_0).toLoadRect (tbl m 1) (Shape.Idx.first (numel1_S1.symm ▸ Nat.one_pos)))
    · by_cases h2 : t.val % 2 = 1
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4_C m hO t (fun h => h0 ((hcond0_0 t).mp h)) ((hcond0_2 t).mpr h2)]; try rfl, after0_4]
        by_cases hz : t.val = 0
        · exfalso; have hN : t.val < 148 := lt_of_lt_of_eq t.isLt (show (cfgM m hO).N = 148 from N_0); omega
        · rw [PhiS_castSucc m hO c t, PhiS_pos m hO c _ _ hz, PhiT0_eq]
          rw [outsAt0_C m hO c t h0 h1 h2]
          unfold out0_C_4 sout0_C_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩⟩
          iapply ((kernelRun0_C c (grid0.coords t) _ _ _ _ _ _ _ _ _ _ _ _ (fun h => h0 ((hcond0_0 t).mp h)) ((hcond0_2 t).mpr h2) (iblk m hO c 0 t) (iblk m hO c 1 t) (iblk m hO c 2 t) (iblk m hO c 3 t) (tbl m 0) (tbl m 1) _ h1).2.2 Set.univ _)
          isplitl [H0]; · iexact H0
          isplitl [H1]; · iexact H1
          isplitl [H2]; · iexact H2
          isplitl [H3]; · iexact H3
          isplitl [H4]; · iexists _; iexact H4
          isplitl [HS0]; · iexact HS0
          isplitl [HT0]; · iexact HT0
          isplitl [HT1]; · iexact HT1
          iintro ⟨H0, H1, H2, H3, ⟨%e4, H4⟩, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover0_C_4 c _ _ _ _ _ _ _ _ _ _ _ _ _ _ _ _ _ _ _ _ _ _ _)
      · exfalso; omega
    · by_cases h2 : t.val % 2 = 1
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4_D m hO t (fun h => h0 ((hcond0_0 t).mp h)) ((hcond0_2 t).mpr h2)]; try rfl, after0_4]
        by_cases hz : t.val = 0
        · exfalso; have hN : t.val < 148 := lt_of_lt_of_eq t.isLt (show (cfgM m hO).N = 148 from N_0); omega
        · rw [PhiS_castSucc m hO c t, PhiS_pos m hO c _ _ hz, PhiT0_eq]
          rw [outsAt0_D m hO c t h0 h1 h2]
          unfold out0_D_4 sout0_D_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩⟩
          iapply ((kernelRun0_D c (grid0.coords t) _ _ _ _ _ _ _ _ _ _ _ _ (fun h => h0 ((hcond0_0 t).mp h)) ((hcond0_2 t).mpr h2) (iblk m hO c 0 t) (iblk m hO c 1 t) (iblk m hO c 2 t) (iblk m hO c 3 t) (tbl m 0) (tbl m 1) _ h1).2.2 Set.univ _)
          isplitl [H0]; · iexact H0
          isplitl [H1]; · iexact H1
          isplitl [H2]; · iexact H2
          isplitl [H3]; · iexact H3
          isplitl [H4]; · iexists _; iexact H4
          isplitl [HS0]; · iexact HS0
          isplitl [HT0]; · iexact HT0
          isplitl [HT1]; · iexact HT1
          iintro ⟨H0, H1, H2, H3, ⟨%e4, H4⟩, HS0, HT0, HT1⟩
          isplitl [HS0 Hg HT0 HT1]
          · isplitl [HS0 Hg]
            · isplitl [HS0]
              · iexact HS0
              iexact Hg
            isplitl [HT0]; · iexact HT0
            iexact HT1
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover0_D_4 c _ _ _ _ _ _ _ _ _ _ _ _ _ _ _ _ _ _ _ _ _ _ _)
      · exfalso; omega

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 148 := N_0; omega)

/-! ## The run and the frame -/

-- `θ_run_frameP_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1, hostOps1_1])) r ∧ r.2.sem = fun _ => 0) :=
  Pipeline.θ_run_frameP_around_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m hO) (hpf := V_pre m) (hin := hin m hO) (hout := hout m hO)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) [hostOps1, hostOps1_1])) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

/-- The frame: from any memory with zero counters the program ends without fault, leaves its arguments as they were and
    every counter at zero, if the prefetched tables meet the launch's side condition `Ok`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.KernelIdeal.Gen

end
-- ==== Proof.Block.lean ====
/- What one tile's two grid points leave, as the payloads of the blocks they read: the first point of a used tile leaves
   in the accumulator the first half's product over zero, the second writes back the accumulator with the second half's
   product added. -/
module

public import proofs.«01_k».proof.Proof.RunIdeal
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.ShloMosaic.Pipeline (Dat Cfg Window)

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- The first point of a used tile leaves in the accumulator the product of its half of the hidden columns over zero. -/
theorem scratch_first (c : Dev nD) (i : grid0.Coords) (arg4 : Memref sig .tc .vmem S512x1024 .bf16) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .bf16) (harg8 : arg8.IsWhole) (arg9 : Memref sig .tc .vmem S512x1024 .f32) (harg9 : arg9.IsWhole) (hc0 : cond0_0 i) (hc2 : ¬cond0_2 i)
    (x0 : Vec F S512x1024 .bf16) (x1 : Vec F S1x1024x1792 .bf16) (x2 : Vec F S1x1024x1792 .bf16) (x3 : Vec F S1x1792x1024 .bf16) (xt0 : TbBuf0 (F := F) c tbM0_0) (xt1 : TbBuf0 (F := F) c tbM0_1) (hc1 : cond0_1 i (tbM0_1.view.readAt (Elt F) (Rect.unit (s := S1) ![0] S1.size inb_S1_S1_0).toLoadRect xt1 (Shape.Idx.first (numel1_S1.symm ▸ Nat.one_pos)))) :
    sout0_A_0 c i arg4 harg4 arg5 harg5 arg6 harg6 arg7 harg7 arg8 harg8 arg9 harg9 hc0 hc2 x0 x1 x2 x3 xt0 xt1 hc1 = k0_pay2 x0 x1 x2 k0_pay1 x3 := by
  unfold sout0_A_0
  rw [View.read_writes_eq_canon _ _ _ (scover0_A_0 c i arg4 harg4 arg5 harg5 arg6 harg6 arg7 harg7 arg8 harg8 arg9 harg9 hc0 hc2 x0 x1 x2 x3 xt0 xt1 hc1)]
  unfold kernelRun0_A
  dsimp only
  sl_unfold_words
  rw [View.canon_cons_unit_zero (S := S512x1024) zero2, View.readCov_unit_zero (S := S512x1024) _ zero2]
  simp only [View.readAt_eq_ld, harg4.read_unread, harg5.read_unread, harg6.read_unread, harg7.read_unread,
    View.ld_unit_zero (S := S512x1024) zero2, View.ld_unit_zero (S := S1x1024x1792) zero3, View.ld_unit_zero (S := S1x1792x1024) zero3]

/-- The second point of a used tile writes back the accumulator with the other half's product added, at the narrow format. -/
theorem block_second (c : Dev nD) (i : grid0.Coords) (arg4 : Memref sig .tc .vmem S512x1024 .bf16) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc2 : cond0_2 i)
    (x0 : Vec F S512x1024 .bf16) (x1 : Vec F S1x1024x1792 .bf16) (x2 : Vec F S1x1024x1792 .bf16) (x3 : Vec F S1x1792x1024 .bf16) (xt0 : TbBuf0 (F := F) c tbM0_0) (xt1 : TbBuf0 (F := F) c tbM0_1) (xs0 : Vec F S512x1024 .f32) (hc1 : cond0_1 i (tbM0_1.view.readAt (Elt F) (Rect.unit (s := S1) ![0] S1.size inb_S1_S1_0).toLoadRect xt1 (Shape.Idx.first (numel1_S1.symm ▸ Nat.one_pos)))) :
    out0_C_4 c i arg4 harg4 arg5 harg5 arg6 harg6 arg7 harg7 arg8 harg8 arg9 harg9 hc0 hc2 x0 x1 x2 x3 xt0 xt1 xs0 hc1 = k0_pay3 (k0_pay2 x0 x1 x2 xs0 x3) := by
  unfold out0_C_4
  rw [View.read_writes_eq_canon _ _ _ (cover0_C_4 c i arg4 harg4 arg5 harg5 arg6 harg6 arg7 harg7 arg8 harg8 arg9 harg9 hc0 hc2 x0 x1 x2 x3 xt0 xt1 xs0 hc1)]
  unfold kernelRun0_C
  dsimp only
  sl_unfold_words
  rw [View.canon_cons_unit_zero (S := S512x1024) zero2, View.readCov_unit_zero (S := S512x1024) _ zero2]
  simp only [View.readAt_eq_ld, harg4.read_unread, harg5.read_unread, harg6.read_unread, harg7.read_unread, harg9.read_unread,
    View.ld_unit_zero (S := S512x1024) zero2, View.ld_unit_zero (S := S1x1024x1792) zero3, View.ld_unit_zero (S := S1x1792x1024) zero3]

end Cert.KernelIdeal.Gen

end
-- ==== Proof.Reads.lean ====
/- What each array the launch reads holds when it starts, as a function of the arguments: the operations before the
   launch are followed segment by segment, each segment read over the contents the one before left. -/
module

public import proofs.«01_k».proof.Proof.Stages
public import proofs.«01_k».proof.Proof.Gen.KernelIdeal.Frame.Runs
public import Idealize.ShloMosaic.Lib.StableHlo.RunRead

@[expose] public section

-- a read of a segment recurses once per operation
set_option maxRecDepth 16384

noncomputable section

namespace Cert.KernelIdeal.Reads

open Idealize.ShloMosaic Idealize.ShloMosaic.TcCoe Cert.KernelIdeal Cert.KernelIdeal.Gen Cert.KernelIdeal.Stages

variable {F : FTy → Type} [FloatOps F]
variable (m : (ℓ : Loc nD τ sig) → Buf (Elt F) ℓ) (c : Dev nD)

/-- The experts, from the routing argument. -/
def ex : IVec S33792 32 := expertW (F := F) (m ((c : Thread nD τ).loc main_arg1))

/-! ## The contents after each segment -/

def W0 : Valuation τ sig (Elt F) := StableHlo.after hostOps0 (fun b => m (c, b))
def W1 : Valuation τ sig (Elt F) := StableHlo.after hostOps0_1 (W0 m c)
def W2 : Valuation τ sig (Elt F) := StableHlo.after hostOps0_2 (W1 m c)
def W3 : Valuation τ sig (Elt F) := StableHlo.after hostOps0_3 (W2 m c)
def W4 : Valuation τ sig (Elt F) := StableHlo.after hostOps0_4 (W3 m c)
def W5 : Valuation τ sig (Elt F) := StableHlo.after hostOps0_5 (W4 m c)
def W6 : Valuation τ sig (Elt F) := StableHlo.after hostOps0_6 (W5 m c)
def W7 : Valuation τ sig (Elt F) := StableHlo.after hostOps0_7 (W6 m c)
def W8 : Valuation τ sig (Elt F) := StableHlo.after hostOps0_8 (W7 m c)
def W9 : Valuation τ sig (Elt F) := StableHlo.after hostOps0_9 (W8 m c)
def W10 : Valuation τ sig (Elt F) := StableHlo.after hostOps0_10 (W9 m c)

/-- The launch starts from the last of them. -/
theorem V0_eq : V0 m c = W10 m c := by
  unfold V0 W10 W9 W8 W7 W6 W5 W4 W3 W2 W1 W0
  simp only [List.flatten_cons, List.flatten_nil, List.append_nil, StableHlo.after_append]

theorem V_eq (b : Ref sig .tc) : V m c b = W10 m c (Proc.devRef .tc b) := congrFun (V0_eq m c) _

/-! ## The first segment -/

theorem first_read : StableHlo.upto (τ := τ) (Val := Elt F) hostOps0 (fun b => m (c, b)) 8 (Proc.devRef .tc main_v5)
    = shapeCast S16896 (extractStridedSlice S16896x1 ![0, 2] (shapeCast S16896x128 (m ((c : Thread nD τ).loc main_arg1)) shapeCasts_S2x8448x128_S16896x128) slices_S16896x128_S16896x1_0_2) shapeCasts_S16896x1_S16896 := by
  after_reads_simp
  rfl
theorem second_read : StableHlo.upto (τ := τ) (Val := Elt F) hostOps0 (fun b => m (c, b)) 8 (Proc.devRef .tc main_v7)
    = shapeCast S16896 (extractStridedSlice S16896x1 ![0, 3] (shapeCast S16896x128 (m ((c : Thread nD τ).loc main_arg1)) shapeCasts_S2x8448x128_S16896x128) slices_S16896x128_S16896x1_0_3) shapeCasts_S16896x1_S16896 := by
  after_reads_simp
  rfl
theorem iota_read : StableHlo.upto (τ := τ) (Val := Elt F) hostOps0 (fun b => m (c, b)) 11 (Proc.devRef .tc main_v10)
    = iotaInDim S16896 32 0 := by
  after_reads_simp
theorem W0_v11 : W0 m c (Proc.devRef .tc main_v11) = tokenW := by
  unfold W0
  after_reads_simp
  rw [iota_read]
  rfl
theorem W0_v18 : W0 m c (Proc.devRef .tc main_v18) = hotW (ex m c) := by
  unfold W0
  after_reads_simp
  rw [first_read, second_read]
  rfl
theorem W0_v19 : W0 m c (Proc.devRef .tc main_v19) = countW (ex m c) := by
  unfold W0
  after_reads_simp
  rw [first_read, second_read]
  rfl
theorem W0_v0 : W0 m c (Proc.devRef .tc main_v0) = truncf .bf16 (m ((c : Thread nD τ).loc main_arg2)) bitsLt_bf16_f32 := by
  unfold W0
  after_reads_simp
theorem W0_v1 : W0 m c (Proc.devRef .tc main_v1) = truncf .bf16 (m ((c : Thread nD τ).loc main_arg3)) bitsLt_bf16_f32 := by
  unfold W0
  after_reads_simp
theorem W0_v2 : W0 m c (Proc.devRef .tc main_v2) = truncf .bf16 (m ((c : Thread nD τ).loc main_arg4)) bitsLt_bf16_f32 := by
  unfold W0
  after_reads_simp
theorem W0_arg0 : W0 m c (Proc.devRef .tc main_arg0) = m ((c : Thread nD τ).loc main_arg0) := by
  unfold W0
  after_reads_simp

/-! ## The ranks and the counts -/

theorem W1_v20 : W1 m c (Proc.devRef .tc main_v20) = runW (ex m c) := by
  unfold W1
  after_reads_simp
  simp only [StableHlo.TRef.ofBuf_toBuf, StableHlo.TRef.toBuf, StableHlo.TRef.ofBuf, cast_eq, W0_v18]
  rfl
theorem W1_v18 : W1 m c (Proc.devRef .tc main_v18) = hotW (ex m c) := by
  unfold W1
  after_reads_simp
  exact W0_v18 m c
theorem W2_v18 : W2 m c (Proc.devRef .tc main_v18) = hotW (ex m c) := by
  unfold W2
  after_reads_simp
  exact W1_v18 m c
theorem W2_v23 : W2 m c (Proc.devRef .tc main_v23) = rankW (ex m c) := by
  unfold W2
  after_reads_simp
  rw [W1_v18, W1_v20]
  rfl
theorem W2_v27 : W2 m c (Proc.devRef .tc main_v27) = upW (ex m c) := by
  unfold W2 W1
  after_reads_simp
  rw [W0_v19]
  rfl
theorem W2_c3 : W2 m c (Proc.devRef .tc main_c_3) = constantI S_ 32 512#32 := by
  unfold W2
  after_reads_simp

/-! ## The groups -/

theorem W3_v28 : W3 m c (Proc.devRef .tc main_v28) = floorDiv8 (upW (ex m c)) (constantI S_ 32 512#32) := by
  unfold W3
  after_reads_simp
  rw [W2_v27, W2_c3]
  generalize upW (ex m c) = x
  generalize constantI S_ 32 512#32 = d
  simp only [StableHlo.TRef.ofBuf_toBuf]
  simp only [StableHlo.TRef.toBuf, StableHlo.TRef.ofBuf, cast_eq, id_eq]
  rfl
theorem W4_v30 : W4 m c (Proc.devRef .tc main_v30) = padW (ex m c) := by
  unfold W4
  after_reads_simp
  rw [W3_v28]
  rfl
theorem W4_v18 : W4 m c (Proc.devRef .tc main_v18) = hotW (ex m c) := by
  unfold W4 W3
  after_reads_simp
  exact W2_v18 m c
theorem W4_v23 : W4 m c (Proc.devRef .tc main_v23) = rankW (ex m c) := by
  unfold W4 W3
  after_reads_simp
  exact W2_v23 m c
theorem W5_v31 : W5 m c (Proc.devRef .tc main_v31) = endW (ex m c) := by
  unfold W5
  after_reads_simp
  rw [W4_v30]
  unfold endW
  generalize padW (ex m c) = x
  simp only [StableHlo.TRef.ofBuf_toBuf]
  simp only [StableHlo.TRef.toBuf, StableHlo.TRef.ofBuf, cast_eq]
theorem W5_v30 : W5 m c (Proc.devRef .tc main_v30) = padW (ex m c) := by
  unfold W5
  after_reads_simp
  exact W4_v30 m c
theorem W5_v18 : W5 m c (Proc.devRef .tc main_v18) = hotW (ex m c) := by
  unfold W5
  after_reads_simp
  exact W4_v18 m c
theorem W5_v23 : W5 m c (Proc.devRef .tc main_v23) = rankW (ex m c) := by
  unfold W5
  after_reads_simp
  exact W4_v23 m c

/-! ## The rows and the tiles -/

theorem W6_v37 : W6 m c (Proc.devRef .tc main_v37) = posW (ex m c) := by
  unfold W6
  after_reads_simp
  rw [W5_v18, W5_v23, W5_v30, W5_v31]
  rfl
theorem W6_v49 : W6 m c (Proc.devRef .tc main_v49) = firstW (pastW (ex m c)) := by
  unfold W6
  after_reads_simp
  rw [W5_v31]
  rfl
theorem W6_v51 : W6 m c (Proc.devRef .tc main_v51) = shapeCast S_ (extractStridedSlice S1 ![7] (endW (ex m c)) slices_S8_S1_7) shapeCasts_S1_S_ := by
  unfold W6
  after_reads_simp
  rw [W5_v31]
  rfl
theorem W6_c9 : W6 m c (Proc.devRef .tc main_c_9) = constantI S_ 32 512#32 := by
  unfold W6
  after_reads_simp
theorem W7_v52 : W7 m c (Proc.devRef .tc main_v52) = floorDiv0 (shapeCast S_ (extractStridedSlice S1 ![7] (endW (ex m c)) slices_S8_S1_7) shapeCasts_S1_S_) (constantI S_ 32 512#32) := by
  unfold W7
  after_reads_simp
  rw [W6_v51, W6_c9]
  generalize shapeCast S_ (extractStridedSlice S1 ![7] (endW (ex m c)) slices_S8_S1_7) shapeCasts_S1_S_ = x
  generalize constantI S_ 32 512#32 = d
  simp only [StableHlo.TRef.ofBuf_toBuf]
  simp only [StableHlo.TRef.toBuf, StableHlo.TRef.ofBuf, cast_eq, id_eq]
  rfl
theorem W7_v37 : W7 m c (Proc.devRef .tc main_v37) = posW (ex m c) := by
  unfold W7
  after_reads_simp
  exact W6_v37 m c
theorem W7_v11 : W7 m c (Proc.devRef .tc main_v11) = tokenW := by
  unfold W7 W6 W5 W4 W3 W2 W1
  after_reads_simp
  exact W0_v11 m c
theorem W7_arg0 : W7 m c (Proc.devRef .tc main_arg0) = m ((c : Thread nD τ).loc main_arg0) := by
  unfold W7 W6 W5 W4 W3 W2 W1
  after_reads_simp
  exact W0_arg0 m c

/-! ## The gathered rows -/

theorem W8_v53 : W8 m c (Proc.devRef .tc main_v53) = usedW (ex m c) := by
  unfold W8
  after_reads_simp
  rw [W7_v52]
  rfl
theorem W8_v61 : W8 m c (Proc.devRef .tc main_v61) = rowTokenW (posW (ex m c)) := by
  unfold W8
  after_reads_simp
  rw [W7_v37, W7_v11]
  rfl
theorem W8_v62 : W8 m c (Proc.devRef .tc main_v62) = shapeCast S16896x1024 (m ((c : Thread nD τ).loc main_arg0)) shapeCasts_S2x8448x1024_S16896x1024 := by
  unfold W8
  after_reads_simp
  rw [W7_arg0]
  rfl
theorem W8_c13 : W8 m c (Proc.devRef .tc main_c_13) = constantI S_ 32 0#32 := by
  unfold W8
  after_reads_simp
theorem W9_v63 : W9 m c (Proc.devRef .tc main_v63) = inputW (m ((c : Thread nD τ).loc main_arg0)) := by
  unfold W9
  after_reads_simp
  simp only [StableHlo.TRef.ofBuf_toBuf, StableHlo.TRef.toBuf, StableHlo.TRef.ofBuf, cast_eq, W8_v62, W8_c13]
  rfl
theorem W9_v61 : W9 m c (Proc.devRef .tc main_v61) = rowTokenW (posW (ex m c)) := by
  unfold W9
  after_reads_simp
  exact W8_v61 m c

/-! ## At the launch -/

/-- The rows of the grouped layout. -/
theorem V_input : V m c main_v64 = gatherRows (inputW (m ((c : Thread nD τ).loc main_arg0))) (rowIndexW (rowTokenW (posW (ex m c)))) := by
  rw [V_eq]
  unfold W10
  after_reads_simp
  rw [W9_v63, W9_v61]
  generalize inputW (m ((c : Thread nD τ).loc main_arg0)) = x
  generalize rowTokenW (posW (ex m c)) = r
  simp only [StableHlo.TRef.ofBuf_toBuf]
  have h1 : ∀ p q s (z : IVec S37888 32), (StableHlo.TRef.of main_v61 p q s : StableHlo.TRef sig ⟨S37888, .i32⟩).ofBuf (Val := Elt F) z = z := fun _ _ _ _ => rfl
  have h2 : ∀ p q s (z : FVec F S37888x1024 .bf16), (StableHlo.TRef.of main_v63 p q s : StableHlo.TRef sig ⟨S37888x1024, .bf16⟩).ofBuf (Val := Elt F) z = z := fun _ _ _ _ => rfl
  have h3 : ∀ p q s (z : FVec F S37888x1024 .bf16), (StableHlo.TRef.of main_v64 p q s : StableHlo.TRef sig ⟨S37888x1024, .bf16⟩).toBuf (Val := Elt F) z = z := fun _ _ _ _ => rfl
  rw [h1, h2]
  refine (h3 _ _ _ _).trans ?_
  rfl
/-- The tiles' experts. -/
theorem V_tileExpert : V m c main_v49 = firstW (pastW (ex m c)) := by
  rw [V_eq]
  unfold W10 W9 W8 W7
  after_reads_simp
  exact W6_v49 m c
/-- The number of tiles in use. -/
theorem V_used : V m c main_v53 = usedW (ex m c) := by
  rw [V_eq]
  unfold W10 W9
  after_reads_simp
  exact W8_v53 m c
/-- The assignments' rows. -/
theorem V_pos : V m c main_v37 = posW (ex m c) := by
  rw [V_eq]
  unfold W10 W9 W8
  after_reads_simp
  exact W7_v37 m c
/-- The weights, at the format the kernel reads. -/
theorem V_weights0 : V m c main_v0 = truncf .bf16 (m ((c : Thread nD τ).loc main_arg2)) bitsLt_bf16_f32 := by
  rw [V_eq]
  unfold W10 W9 W8 W7 W6 W5 W4 W3 W2 W1
  after_reads_simp
  exact W0_v0 m c
theorem V_weights1 : V m c main_v1 = truncf .bf16 (m ((c : Thread nD τ).loc main_arg3)) bitsLt_bf16_f32 := by
  rw [V_eq]
  unfold W10 W9 W8 W7 W6 W5 W4 W3 W2 W1
  after_reads_simp
  exact W0_v1 m c
theorem V_weights2 : V m c main_v2 = truncf .bf16 (m ((c : Thread nD τ).loc main_arg4)) bitsLt_bf16_f32 := by
  rw [V_eq]
  unfold W10 W9 W8 W7 W6 W5 W4 W3 W2 W1
  after_reads_simp
  exact W0_v2 m c

end Cert.KernelIdeal.Reads

end
-- ==== Proof.OkIdeal.lean ====
/- The launch's side condition holds from any memory: a tile's expert is at most seven, so each weight block a tile reads lies inside its array. -/
module

public import proofs.«01_k».proof.Proof.Reads
public import proofs.«01_k».proof.Proof.Words

@[expose] public section

noncomputable section

namespace Cert.KernelIdeal.Gen

open Idealize.ShloMosaic Idealize.ShloMosaic.TcCoe Cert.KernelIdeal Cert.KernelIdeal.Stages

variable {F : FTy → Type} [FloatOps F]
variable (m : (ℓ : Loc nD τ sig) → Buf (Elt F) ℓ)

/-- The expert the index maps read for a tile is the tile's entry of the table. -/
theorem tile_read (i : grid0.Coords) :
    (Cert.KernelIdeal.Gen.tbl m).at 0 (Rect.unit (s := S74) (k0_off1 i) S1.size (k0_off1_inb i)) numel1_S1
      = firstW (pastW (Reads.ex m 0)) (ValueIdx.ix1 (i 0)) := by
  have h : Cert.KernelIdeal.Gen.tbl m 0 = firstW (pastW (Reads.ex m 0)) := Reads.V_tileExpert m 0
  show Cert.KernelIdeal.Gen.tbl m 0 _ = _
  rw [h]
  refine congrArg (firstW (pastW (Reads.ex m 0))) (funext fun a => Fin.ext ?_)
  match a with
  | ⟨0, _⟩ =>
    have hi : (i 0).val < 74 := (i 0).isLt
    have hw : (BitVec.ofNat 32 (i 0).val).toNat = (i 0).val := by rw [BitVec.toNat_ofNat, Nat.mod_eq_of_lt (by omega)]
    show (BitVec.ofNat 32 (i 0).val).toNat + 1 * 0 = (i 0).val
    exact hw

theorem tile_read_le (i : grid0.Coords) :
    ((Cert.KernelIdeal.Gen.tbl m).at 0 (Rect.unit (s := S74) (k0_off1 i) S1.size (k0_off1_inb i)) numel1_S1 : BitVec 32).toNat ≤ 7 := by
  rw [tile_read]
  exact Words.firstW_le _ _

theorem half_lt (i : grid0.Coords) : (BitVec.ofNat 32 (i 1).val).toNat ≤ 1 := by
  have hi : (i 1).val < 2 := (i 1).isLt
  rw [BitVec.toNat_ofNat, Nat.mod_eq_of_lt (by omega)]; omega

/-- The side condition. -/
theorem ok : Ok m := by
  refine ⟨fun i => ⟨?_, .inr (Affine.block_words_dvd (of_decide_eq_true rfl) (by decide))⟩, fun i => ⟨?_, .inr (Affine.block_words_dvd (of_decide_eq_true rfl) (by decide))⟩,
    fun i => ⟨?_, .inr (Affine.block_words_dvd (of_decide_eq_true rfl) (by decide))⟩⟩
  · have h1 := tile_read_le m i
    have h2 := half_lt i
    intro a
    match a with
    | ⟨0, _⟩ => exact Nat.mul_le_mul_right 1 (Nat.succ_le_succ h1)
    | ⟨1, _⟩ => exact (show (0 + 1) * 1024 ≤ 1024 from by omega)
    | ⟨2, _⟩ => exact (show ((BitVec.ofNat 32 (i 1).val).toNat + 1) * 1792 ≤ 3584 from by omega)
  · have h1 := tile_read_le m i
    have h2 := half_lt i
    intro a
    match a with
    | ⟨0, _⟩ => exact Nat.mul_le_mul_right 1 (Nat.succ_le_succ h1)
    | ⟨1, _⟩ => exact (show (0 + 1) * 1024 ≤ 1024 from by omega)
    | ⟨2, _⟩ => exact (show ((BitVec.ofNat 32 (i 1).val).toNat + 1) * 1792 ≤ 3584 from by omega)
  · have h1 := tile_read_le m i
    have h2 := half_lt i
    intro a
    match a with
    | ⟨0, _⟩ => exact Nat.mul_le_mul_right 1 (Nat.succ_le_succ h1)
    | ⟨1, _⟩ => exact (show ((BitVec.ofNat 32 (i 1).val).toNat + 1) * 1792 ≤ 3584 from by omega)
    | ⟨2, _⟩ => exact (show (0 + 1) * 1024 ≤ 1024 from by omega)

end Cert.KernelIdeal.Gen

end
-- ==== Proof.Array.lean ====
/- The pipeline's result array, entry by entry: row `ρ` holds what the second grid point of its tile leaves, and each input
   block is read off its array at coordinates. -/
module

public import proofs.«01_k».proof.Proof.Block
public import proofs.«01_k».proof.Proof.OkIdeal
public import Idealize.ShloMosaic.Lib.Pipeline.ValueKit.Geometry

@[expose] public section

set_option maxRecDepth 16384

noncomputable section

namespace Cert.KernelIdeal.Gen

open Idealize.ShloMosaic Idealize.ShloMosaic.TcCoe Idealize.ShloMosaic.Tactic
open Cert.KernelIdeal Cert.KernelIdeal.Stages
open Idealize.ShloMosaic.ValueIdx (ix1 ix2 ix3)
open Idealize.ShloMosaic.Pipeline (Dat Cfg Window)

variable {F : FTy → Type} [FloatOps F]
variable (m : (ℓ : Loc nD τ sig) → Buf (Elt F) ℓ)

/-- The second grid point of a tile. -/
def second (t : Fin 74) : Fin grid0.N := ⟨2 * t.val + 1, by rw [show grid0.N = 148 from N_0]; omega⟩
/-- The first grid point of a tile. -/
def first (t : Fin 74) : Fin grid0.N := ⟨2 * t.val, by rw [show grid0.N = 148 from N_0]; omega⟩

theorem coord_tile (t : Fin grid0.N) : (grid0.coords t 0).val = t.val / 2 := by
  have h := Pipeline.Grid.coords_val (G := grid0) t 0 (S := 2) (B := 74) (by decide) rfl
  have ht : t.val < 148 := lt_of_lt_of_eq t.isLt N_0
  omega

theorem coord_half (t : Fin grid0.N) : (grid0.coords t 1).val = t.val % 2 := by
  have h := Pipeline.Grid.coords_val (G := grid0) t 1 (S := 1) (B := 2) (by decide) rfl
  omega

theorem word_tile (t : Fin grid0.N) : (BitVec.ofNat 32 (grid0.coords t 0).val).toNat = t.val / 2 := by
  have ht : t.val < 148 := lt_of_lt_of_eq t.isLt N_0
  rw [coord_tile, BitVec.toNat_ofNat, Nat.mod_eq_of_lt (by omega)]

theorem word_half (t : Fin grid0.N) : (BitVec.ofNat 32 (grid0.coords t 1).val).toNat = t.val % 2 := by
  rw [coord_half, BitVec.toNat_ofNat, Nat.mod_eq_of_lt (by omega)]

/-- The tile of a row. -/
def tile (ρ : Fin 37888) : Fin 74 := ⟨ρ.val / 512, by omega⟩
/-- The place of a row in its tile. -/
def place (ρ : Fin 37888) : Fin 512 := ⟨ρ.val % 512, Nat.mod_lt _ (by decide)⟩

section
variable (a : (pcfg0 (F := F)).Adm)

/-- The written-back blocks cover the result array. -/
theorem covers : ((cfg0 a).win 4).Covers := by
  refine ⟨fun x => ?_, fun (β : (x : Fin 2) → Fin (((cfg0 a).win 4).nblk x)) => ?_⟩
  · match x with
    | ⟨0, _⟩ => exact (by decide : 0 < 512)
    | ⟨1, _⟩ => exact (by decide : 0 < 1024)
  · have h0' : (β 0).val < (37888 + 512 - 1) / 512 := (β 0).isLt
    have h1' : (β 1).val < (1024 + 1024 - 1) / 1024 := (β 1).isLt
    have h0 : (β 0).val < 74 := by omega
    have h1 : (β 1).val < 1 := by omega
    refine ⟨second ⟨_, h0⟩, (flush0_4 a _).mpr (show (2 * (β 0).val + 1) % 2 = 1 by omega), fun x => ⟨?_, Or.inl rfl⟩⟩
    match x with
    | ⟨0, _⟩ =>
      refine (word_tile (second ⟨_, h0⟩)).trans ?_
      show (2 * (β 0).val + 1) / 2 = (β 0).val
      omega
    | ⟨1, _⟩ => exact (show (0 : Nat) = (β 1).val by omega)

/-- Where the result's block of a grid point lies. -/
theorem out_emb (t : Fin (cfg0 a).N) (r : Fin 512) (d : Fin 1024) (ρ : Fin 37888) (hρ : ρ.val = t.val / 2 * 512 + r.val) :
    (((cfg0 a).win 4).blk t).view.emb (ix2 r d) = ix2 ρ d := by
  refine funext fun x => Fin.ext ?_
  match x with
  | ⟨0, _⟩ =>
    refine (congrArg (fun z => z * 512 + 1 * r.val) (word_tile t)).trans ?_
    show _ = ρ.val
    omega
  | ⟨1, _⟩ => exact (show 0 * 1024 + 1 * d.val = d.val by omega)

/-- Where the rows' block of a grid point lies. -/
theorem rows_emb (t : Fin (cfg0 a).N) (r : Fin 512) (d : Fin 1024) (ρ : Fin 37888) (hρ : ρ.val = t.val / 2 * 512 + r.val) :
    (((cfg0 a).win 0).blk t).view.emb (ix2 r d) = ix2 ρ d := by
  refine funext fun x => Fin.ext ?_
  match x with
  | ⟨0, _⟩ =>
    refine (congrArg (fun z => z * 512 + 1 * r.val) (word_tile t)).trans ?_
    show _ = ρ.val
    omega
  | ⟨1, _⟩ => exact (show 0 * 1024 + 1 * d.val = d.val by omega)

/-- The expert a grid point's index maps read. -/
def expertOf (t : Fin grid0.N) : Nat :=
  (a.1.at 0 (Rect.unit (s := S74) (k0_off1 (grid0.coords t)) S1.size (k0_off1_inb (grid0.coords t))) numel1_S1 : BitVec 32).toNat

/-- Where the gate weights' block of a grid point lies. -/
theorem gate_emb (t : Fin (cfg0 a).N) (d : Fin 1024) (f : Fin 1792) (e : Fin 8) (g : Fin 3584)
    (he : e.val = expertOf a t) (hg : g.val = t.val % 2 * 1792 + f.val) :
    (((cfg0 a).win 1).blk t).view.emb (ix3 (0 : Fin 1) d f) = ix3 e d g := by
  refine funext fun x => Fin.ext ?_
  match x with
  | ⟨0, _⟩ => exact (show expertOf a t * 1 + 1 * 0 = e.val by omega)
  | ⟨1, _⟩ => exact (show 0 * 1024 + 1 * d.val = d.val by omega)
  | ⟨2, _⟩ =>
    refine (congrArg (fun z => z * 1792 + 1 * f.val) (word_half t)).trans ?_
    show _ = g.val
    omega

/-- Where the up weights' block of a grid point lies. -/
theorem up_emb (t : Fin (cfg0 a).N) (d : Fin 1024) (f : Fin 1792) (e : Fin 8) (g : Fin 3584)
    (he : e.val = expertOf a t) (hg : g.val = t.val % 2 * 1792 + f.val) :
    (((cfg0 a).win 2).blk t).view.emb (ix3 (0 : Fin 1) d f) = ix3 e d g := by
  refine funext fun x => Fin.ext ?_
  match x with
  | ⟨0, _⟩ => exact (show expertOf a t * 1 + 1 * 0 = e.val by omega)
  | ⟨1, _⟩ => exact (show 0 * 1024 + 1 * d.val = d.val by omega)
  | ⟨2, _⟩ =>
    refine (congrArg (fun z => z * 1792 + 1 * f.val) (word_half t)).trans ?_
    show _ = g.val
    omega

/-- Where the down weights' block of a grid point lies. -/
theorem down_emb (t : Fin (cfg0 a).N) (f : Fin 1792) (d : Fin 1024) (e : Fin 8) (g : Fin 3584)
    (he : e.val = expertOf a t) (hg : g.val = t.val % 2 * 1792 + f.val) :
    (((cfg0 a).win 3).blk t).view.emb (ix3 (0 : Fin 1) f d) = ix3 e g d := by
  refine funext fun x => Fin.ext ?_
  match x with
  | ⟨0, _⟩ => exact (show expertOf a t * 1 + 1 * 0 = e.val by omega)
  | ⟨1, _⟩ =>
    refine (congrArg (fun z => z * 1792 + 1 * f.val) (word_half t)).trans ?_
    show _ = g.val
    omega
  | ⟨2, _⟩ => exact (show 0 * 1024 + 1 * d.val = d.val by omega)

end

/-- What a grid point leaves in the result's block. -/
def leaves (hO : Ok m) (c : Dev nD) (t : Fin grid0.N) : Vec F S512x1024 .bf16 := (outsAt0 m hO c t.val t.isLt).1

/-- What the second point of a row's tile leaves at the row's place. -/
def left (hO : Ok m) (c : Dev nD) (ρ : Fin 37888) (d : Fin 1024) : Elt F .bf16 :=
  leaves m hO c (second (tile ρ)) (ix2 (place ρ) d)

theorem left_of (hO : Ok m) (c : Dev nD) (ρ : Fin 37888) (d : Fin 1024) (t : Fin grid0.N) (r : Fin 512)
    (ht : t.val % 2 = 1) (hρ : ρ.val = t.val / 2 * 512 + r.val) :
    leaves m hO c t (ix2 r d) = left m hO c ρ d := by
  have hr : r = place ρ := Fin.ext (show r.val = ρ.val % 512 by omega)
  have e : t = second (tile ρ) := Fin.ext (show t.val = 2 * (ρ.val / 512) + 1 by omega)
  subst hr
  exact congrArg (fun t => leaves m hO c t (ix2 (place ρ) d)) e

/-- The result array after the run. -/
theorem array_eq (hO : Ok m) (c : Dev nD) :
    (dats m hO 0 c).arrAt 4 (cfgM m hO).N = fun i : S37888x1024.Idx => left m hO c (i 0) (i 1) := by
  refine (dats m hO 0 c).arrAt_eq_of_covers 4 _ (covers (adm m hO)) fun t hf (y : S512x1024.Idx) => ?_
  have ht : t.val % 2 = 1 := (flush0_4 (adm m hO) t).mp hf
  have hy : y = ix2 (y 0) (y 1) := funext fun a => match a with
    | ⟨0, _⟩ => rfl
    | ⟨1, _⟩ => rfl
  have hρ : t.val / 2 * 512 + (y 0).val < 37888 := by
    have h1 : t.val < 148 := lt_of_lt_of_eq t.isLt N_0
    have h2 : (y 0).val < 512 := (y 0).isLt
    omega
  generalize hr : y 0 = r at hy hρ
  generalize hd : y 1 = d at hy
  subst hy
  have h : ∀ z : S37888x1024.Idx, z = ix2 ⟨_, hρ⟩ d →
      leaves m hO c t (ix2 r d) = left m hO c (z 0) (z 1) := by
    intro z hz
    subst hz
    exact left_of m hO c ⟨_, hρ⟩ d t r ht rfl
  exact h _ (out_emb (adm m hO) t r d ⟨_, hρ⟩ rfl)

/-! ## The input blocks at coordinates -/

theorem rows_block (hO : Ok m) (c : Dev nD) (t : Fin (cfgM m hO).N) (r : Fin 512) (d : Fin 1024) (ρ : Fin 37888) (hρ : ρ.val = t.val / 2 * 512 + r.val) :
    iblk m hO c 0 t (ix2 r d) = V m c main_v64 (ix2 ρ d) :=
  congrArg (V m c main_v64) (rows_emb (adm m hO) t r d ρ hρ)

theorem gate_block (hO : Ok m) (c : Dev nD) (t : Fin (cfgM m hO).N) (d : Fin 1024) (f : Fin 1792) (e : Fin 8) (g : Fin 3584) (he : e.val = expertOf (adm m hO) t) (hg : g.val = t.val % 2 * 1792 + f.val) :
    iblk m hO c 1 t (ix3 (0 : Fin 1) d f) = V m c main_v0 (ix3 e d g) :=
  congrArg (V m c main_v0) (gate_emb (adm m hO) t d f e g he hg)

theorem up_block (hO : Ok m) (c : Dev nD) (t : Fin (cfgM m hO).N) (d : Fin 1024) (f : Fin 1792) (e : Fin 8) (g : Fin 3584) (he : e.val = expertOf (adm m hO) t) (hg : g.val = t.val % 2 * 1792 + f.val) :
    iblk m hO c 2 t (ix3 (0 : Fin 1) d f) = V m c main_v1 (ix3 e d g) :=
  congrArg (V m c main_v1) (up_emb (adm m hO) t d f e g he hg)

theorem down_block (hO : Ok m) (c : Dev nD) (t : Fin (cfgM m hO).N) (f : Fin 1792) (d : Fin 1024) (e : Fin 8) (g : Fin 3584) (he : e.val = expertOf (adm m hO) t) (hg : g.val = t.val % 2 * 1792 + f.val) :
    iblk m hO c 3 t (ix3 (0 : Fin 1) f d) = V m c main_v2 (ix3 e g d) :=
  congrArg (V m c main_v2) (down_emb (adm m hO) t f d e g he hg)

end Cert.KernelIdeal.Gen

end
-- ==== Proof.Leaves.lean ====
/- What the second grid point of a used tile leaves, in the blocks the tile's two points read. -/
module

public import proofs.«01_k».proof.Proof.Array

@[expose] public section

set_option maxRecDepth 16384

noncomputable section

namespace Cert.KernelIdeal.Gen

open Idealize.ShloMosaic Idealize.ShloMosaic.TcCoe
open Cert.KernelIdeal Cert.KernelIdeal.Stages
open Idealize.ShloMosaic.ValueIdx (ix1 ix2 ix3)
open Idealize.ShloMosaic.Pipeline (Dat Cfg Window)

variable {F : FTy → Type} [FloatOps F]
variable (m : (ℓ : Loc nD τ sig) → Buf (Elt F) ℓ)

/-- The number of used tiles, as the body reads it. -/
abbrev usedRead : BitVec 32 :=
  tbM0_1.view.readAt (Elt F) (Rect.unit (s := S1) ![0] S1.size inb_S1_S1_0).toLoadRect (tbl m 1) (Shape.Idx.first (numel1_S1.symm ▸ Nat.one_pos))

theorem read_one (c : Dev nD) (X : TbBuf0 (F := F) c tbM0_1) :
    tbM0_1.view.readAt (Elt F) (Rect.unit (s := S1) ![0] S1.size inb_S1_S1_0).toLoadRect X (Shape.Idx.first (numel1_S1.symm ▸ Nat.one_pos))
      = (show Vec F S1 .i32 from X) (ix1 (0 : Fin 1)) := by
  refine congrArg (show Vec F S1 .i32 from X) (funext fun a => ?_)
  match a with
  | ⟨0, _⟩ => exact Subsingleton.elim (α := Fin 1) _ _

theorem usedRead_eq : usedRead m = usedW (Reads.ex m 0) (ix1 (0 : Fin 1)) := by
  have h : Cert.KernelIdeal.Gen.tbl m 1 = usedW (Reads.ex m 0) := Reads.V_used m 0
  exact (read_one 0 (Cert.KernelIdeal.Gen.tbl m 1)).trans (congrFun h (ix1 (0 : Fin 1)))

/-- The first point of a used tile leaves in the accumulator its half's product over zero. -/
theorem scratch_even (hO : Ok m) (c : Dev nD) (t : Fin (cfgM m hO).N) (h0 : t.val % 2 = 0)
    (h1 : cond0_1 (grid0.coords t) (usedRead m)) (h2 : ¬t.val % 2 = 1) :
    (outsAt0 m hO c t.val t.isLt).2 = k0_pay2 (iblk m hO c 0 t) (iblk m hO c 1 t) (iblk m hO c 2 t) k0_pay1 (iblk m hO c 3 t) := by
  rw [outsAt0_A m hO c t h0 h1 h2]
  have h := scratch_first c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) ((hcond0_0 t).mpr h0) (fun h => h2 ((hcond0_2 t).mp h)) (iblk m hO c 0 t) (iblk m hO c 1 t) (iblk m hO c 2 t) (iblk m hO c 3 t) (tbl m 0) (tbl m 1) h1
  dsimp only
  rw [h]

/-- The second point of a used tile leaves the accumulator with its half's product added, at the narrow format. -/
theorem block_odd (hO : Ok m) (c : Dev nD) (t : Fin (cfgM m hO).N) (h0 : ¬t.val % 2 = 0)
    (h1 : cond0_1 (grid0.coords t) (usedRead m)) (h2 : t.val % 2 = 1) :
    (outsAt0 m hO c t.val t.isLt).1 = k0_pay3 (k0_pay2 (iblk m hO c 0 t) (iblk m hO c 1 t) (iblk m hO c 2 t)
      (outsAt0 m hO c (t.val - 1) (Nat.lt_of_le_of_lt (Nat.sub_le _ _) t.isLt)).2 (iblk m hO c 3 t)) := by
  rw [outsAt0_C m hO c t h0 h1 h2]
  have h := block_second c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) ((hcond0_2 t).mpr h2) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2 h1
  dsimp only
  rw [h]

/-- What the accumulator holds after a point, the point named by a number. -/
theorem scratch_at (hO : Ok m) (c : Dev nD) (t : Fin (cfgM m hO).N) (n : Nat) (hn : n < (cfgM m hO).N) (e : t.val = n) (h0 : t.val % 2 = 0)
    (h1 : cond0_1 (grid0.coords t) (usedRead m)) (h2 : ¬t.val % 2 = 1) :
    (outsAt0 m hO c n hn).2 = k0_pay2 (iblk m hO c 0 t) (iblk m hO c 1 t) (iblk m hO c 2 t) k0_pay1 (iblk m hO c 3 t) := by
  subst e
  exact scratch_even m hO c t h0 h1 h2

/-- The second point `u` of a used tile, after its first `t`, leaves the two halves' products added up, at the narrow format. -/
theorem leaves_eq (hO : Ok m) (c : Dev nD) (t u : Fin (cfgM m hO).N) (h0 : t.val % 2 = 0) (e : u.val = t.val + 1)
    (h1 : cond0_1 (grid0.coords t) (usedRead m)) (h1' : cond0_1 (grid0.coords u) (usedRead m)) :
    leaves m hO c u = k0_pay3 (k0_pay2 (iblk m hO c 0 u) (iblk m hO c 1 u) (iblk m hO c 2 u)
      (k0_pay2 (iblk m hO c 0 t) (iblk m hO c 1 t) (iblk m hO c 2 t) k0_pay1 (iblk m hO c 3 t)) (iblk m hO c 3 u)) := by
  unfold leaves
  rw [block_odd m hO c u (by omega) h1' (by omega), scratch_at m hO c t (u.val - 1) _ (by omega) h0 h1 (by omega)]

/-- A tile below the number of used tiles passes the body's test. -/
theorem used_test (t : Fin grid0.N) (u : Nat) (hu : u < 2 ^ 31) (ht : t.val / 2 < u) :
    cond0_1 (grid0.coords t) (BitVec.ofNat 32 u) := by
  have hb : t.val < 148 := lt_of_lt_of_eq t.isLt N_0
  have h : (BitVec.ofNat 32 (t.val / 2)).slt (BitVec.ofNat 32 u) = true := by
    rw [BitVec.slt_iff_toInt_lt, BitVec.toInt_eq_toNat_of_lt, BitVec.toInt_eq_toNat_of_lt, BitVec.toNat_ofNat, BitVec.toNat_ofNat]
    all_goals (try rw [BitVec.toNat_ofNat]); omega
  show (Scalar.cmpi .ne (Scalar.extui (Scalar.cmpi .slt (BitVec.ofNat 32 (grid0.coords t 0).val) (BitVec.ofNat 32 u))) 0#32) = 1#1
  rw [coord_tile]
  have h' : Scalar.cmpi .slt (BitVec.ofNat 32 (t.val / 2)) (BitVec.ofNat 32 u) = 1#1 := by
    show BitVec.ofBool _ = _
    exact congrArg BitVec.ofBool h
  rw [h']
  decide

end Cert.KernelIdeal.Gen

end
-- ==== Proof.Tile.lean ====
/- The tile's arithmetic over the reals: the entry that a half's product adds to the accumulator. -/
module

public import proofs.«01_k».proof.Proof.Leaves
public import Idealize.ShloMosaic.Lib.Pointwise

@[expose] public section

set_option maxRecDepth 16384

noncomputable section

namespace Cert.KernelIdeal.Tile

open Idealize.ShloMosaic Cert.KernelIdeal Cert.KernelIdeal.Gen

/-- The product of one half of the hidden columns, added to the accumulator. -/
theorem pay2_at (x : Vec Ideal S512x1024 .bf16) (wg wu : Vec Ideal S1x1024x1792 .bf16) (acc : Vec Ideal S512x1024 .f32)
    (wd : Vec Ideal S1x1792x1024 .bf16) (r : Fin 512) (d : Fin 1024) :
    k0_pay2 x wg wu acc wd (ValueIdx.ix2 r d)
      = acc (ValueIdx.ix2 r d) + ∑ f : Fin 1792, ((∑ k : Fin 1024, x (ValueIdx.ix2 r k) * wg (ValueIdx.ix3 (0 : Fin 1) k f))
          * Ideal.logistic (∑ k : Fin 1024, x (ValueIdx.ix2 r k) * wg (ValueIdx.ix3 (0 : Fin 1) k f))
          * ∑ k : Fin 1024, x (ValueIdx.ix2 r k) * wu (ValueIdx.ix3 (0 : Fin 1) k f)) * wd (ValueIdx.ix3 (0 : Fin 1) f d) := by
  unfold k0_pay2
  pointwise
  rfl

theorem pay1_at (r : Fin 512) (d : Fin 1024) : (k0_pay1 (F := Ideal)) (ValueIdx.ix2 r d) = 0 := by
  unfold k0_pay1
  pointwise

theorem pay3_at (x : Vec Ideal S512x1024 .f32) (r : Fin 512) (d : Fin 1024) : k0_pay3 x (ValueIdx.ix2 r d) = x (ValueIdx.ix2 r d) := by
  unfold k0_pay3
  pointwise

end Cert.KernelIdeal.Tile

end
-- ==== Proof.Tail.lean ====
/- What the operations after the launch leave in the result: the rows of the launch's array, gathered back by assignment. -/
module

public import proofs.«01_k».proof.Proof.Reads
public import proofs.«01_k».proof.Proof.RunIdeal

@[expose] public section

set_option maxRecDepth 16384

noncomputable section

namespace Cert.KernelIdeal.Tail

open Idealize.ShloMosaic Idealize.ShloMosaic.TcCoe Cert.KernelIdeal Cert.KernelIdeal.Gen Cert.KernelIdeal.Stages
open Idealize.ShloMosaic.Pipeline

variable {F : FTy → Type} [FloatOps F]

theorem rows_back (W : Valuation τ sig (Elt F)) :
    StableHlo.after hostOps1 W (Proc.devRef .tc main_v66) = gatherBack (F := F) (W (Proc.devRef .tc main_v65)) (indexW (W (Proc.devRef .tc main_v37))) := by
  after_reads_simp
  generalize W (Proc.devRef .tc main_v65) = x
  generalize W (Proc.devRef .tc main_v37) = r
  simp only [StableHlo.TRef.ofBuf_toBuf]
  have h1 : ∀ p q s (z : IVec S33792 32), (StableHlo.TRef.of main_v37 p q s : StableHlo.TRef sig ⟨S33792, .i32⟩).ofBuf (Val := Elt F) z = z := fun _ _ _ _ => rfl
  have h2 : ∀ p q s (z : FVec F S37888x1024 .bf16), (StableHlo.TRef.of main_v65 p q s : StableHlo.TRef sig ⟨S37888x1024, .bf16⟩).ofBuf (Val := Elt F) z = z := fun _ _ _ _ => rfl
  have h3 : ∀ p q s (z : FVec F S33792x1024 .bf16), (StableHlo.TRef.of main_v66 p q s : StableHlo.TRef sig ⟨S33792x1024, .bf16⟩).toBuf (Val := Elt F) z = z := fun _ _ _ _ => rfl
  rw [h1, h2]
  refine (h3 _ _ _ _).trans ?_
  rfl

theorem tail_value (W : Valuation τ sig (Elt F)) :
    StableHlo.after hostOps1_1 (StableHlo.after hostOps1 W) (Proc.devRef .tc main_v67)
      = splitBack (gatherBack (F := F) (W (Proc.devRef .tc main_v65)) (indexW (W (Proc.devRef .tc main_v37)))) := by
  have h := rows_back W
  generalize StableHlo.after hostOps1 W = W' at h
  after_reads_simp
  rw [h]
  rfl

theorem read_rows (c : Dev nD) (V : Valuation τ sig (Elt F)) (A : (w : Fin 5) → Buf (Elt F) ((spec0 w).arr.view.loc (c.tc : Thread nD τ))) :
    withArrays spec0 c V A (Proc.devRef .tc main_v65) = A 4 :=
  withArrays_arr spec0 (by decide) c V A 4

theorem read_positions (c : Dev nD) (V : Valuation τ sig (Elt F)) (A : (w : Fin 5) → Buf (Elt F) ((spec0 w).arr.view.loc (c.tc : Thread nD τ))) :
    withArrays spec0 c V A (Proc.devRef .tc main_v37) = V (Proc.devRef .tc main_v37) :=
  withArrays_of_ne spec0 c V A main_v37 (by decide)

variable (m : (ℓ : Loc nD τ sig) → Buf (Elt F) ℓ)

/-- The result, after the whole program. -/
theorem result_eq (hO : Ok m) (c : Dev nD) :
    Pipeline.afterTail pcfgs (fun _ => adm m hO) (dats m hO) 0 (V0 m) [hostOps1, hostOps1_1] c main_v67
      = splitBack (gatherBack (F := F) ((dats m hO 0 c).arrAt 4 (cfgM m hO).N) (indexW (posW (Reads.ex m c)))) := by
  unfold Pipeline.afterTail
  rw [show [hostOps1, hostOps1_1].flatten = (hostOps1 ++ hostOps1_1 : List (HloOp τ sig (Elt F))) from rfl, StableHlo.after_append]
  rw [tail_value]
  rw [read_rows, read_positions, ← Reads.V_pos m c]

end Cert.KernelIdeal.Tail

end
-- ==== Proof.Entry.lean ====
/- One entry of an expert's output, as a sum over the hidden columns. -/
module

public import Idealize.ShloMosaic.PureOps.Ideal

@[expose] public section

noncomputable section

namespace Cert.Experts

open Idealize.ShloMosaic

/-- One hidden value of the gated layer: the gate's sum passed through `z · logistic z`, times the other sum. -/
def hiddenAt (x wg wu : Fin 1024 → EReal) : EReal :=
  (∑ c, x c * wg c) * Ideal.logistic (∑ c, x c * wg c) * ∑ c, x c * wu c

/-- An expert's output entry. -/
def entry (x : Fin 1024 → EReal) (wg wu : Fin 3584 → Fin 1024 → EReal) (wd : Fin 3584 → EReal) : EReal :=
  ∑ f, hiddenAt x (wg f) (wu f) * wd f

/-- The sum over the hidden columns, as the sum over its two halves. -/
theorem entry_halves (x : Fin 1024 → EReal) (wg wu : Fin 3584 → Fin 1024 → EReal) (wd : Fin 3584 → EReal) :
    entry x wg wu wd
      = (∑ f : Fin 1792, hiddenAt x (wg ⟨f.val, by omega⟩) (wu ⟨f.val, by omega⟩) * wd ⟨f.val, by omega⟩)
        + ∑ f : Fin 1792, hiddenAt x (wg ⟨1792 + f.val, by omega⟩) (wu ⟨1792 + f.val, by omega⟩) * wd ⟨1792 + f.val, by omega⟩ :=
  Fin.sum_univ_add (a := 1792) (b := 1792) fun f => hiddenAt x (wg f) (wu f) * wd f

end Cert.Experts

end
-- ==== Proof.Value.lean ====
/- The kernel's result, entry by entry: the output of the expert that the routing names. -/
module

public import proofs.«01_k».proof.Proof.Tile
public import proofs.«01_k».proof.Proof.Tail
public import proofs.«01_k».proof.Proof.Rows
public import proofs.«01_k».proof.Proof.OkIdeal
public import proofs.«01_k».proof.Proof.Entry

@[expose] public section

set_option maxRecDepth 16384

noncomputable section

namespace Cert.KernelIdeal.Value

open Idealize.ShloMosaic Idealize.ShloMosaic.TcCoe Cert.KernelIdeal Cert.KernelIdeal.Gen Cert.Experts

/-- One half's contribution, with the blocks read as rows and columns of the arrays they come from. -/
theorem half_of (x : Vec Ideal S512x1024 .bf16) (wg wu : Vec Ideal S1x1024x1792 .bf16) (acc : Vec Ideal S512x1024 .f32)
    (wd : Vec Ideal S1x1792x1024 .bf16) (r : Fin 512) (d : Fin 1024)
    (X : Fin 1024 → EReal) (G U : Fin 1792 → Fin 1024 → EReal) (D : Fin 1792 → EReal)
    (hx : ∀ k, x (ValueIdx.ix2 r k) = X k) (hg : ∀ k f, wg (ValueIdx.ix3 (0 : Fin 1) k f) = G f k) (hu : ∀ k f, wu (ValueIdx.ix3 (0 : Fin 1) k f) = U f k)
    (hd : ∀ f, wd (ValueIdx.ix3 (0 : Fin 1) f d) = D f) :
    k0_pay2 x wg wu acc wd (ValueIdx.ix2 r d) = (acc (ValueIdx.ix2 r d) : EReal) + ∑ f : Fin 1792, hiddenAt X (G f) (U f) * D f := by
  rw [Tile.pay2_at]
  simp only [hx, hg, hu, hd]
  rfl

theorem two_halves (z a p S T : EReal) (hz : z = a + T) (ha : a = p + S) (hp : p = 0) : z = S + T := by
  rw [hz, ha, hp, zero_add]

variable (m : (ℓ : Loc nD τ sig) → Buf (Elt Ideal) ℓ)

/-- What a used tile leaves at a row, from the rows and the weights at the launch. -/
theorem left_at (hO : Ok m) (c : Dev nD) (ρ : Fin 37888) (d : Fin 1024) (E : Fin 8)
    (hE : ∀ t : Fin grid0.N, t.val / 2 = ρ.val / 512 → E.val = expertOf (adm m hO) t)
    (hU : ∀ t : Fin grid0.N, t.val / 2 = ρ.val / 512 → cond0_1 (grid0.coords t) (usedRead m)) :
    (left m hO c ρ d : EReal)
      = entry (fun k => V m c main_v64 (ValueIdx.ix2 ρ k)) (fun f k => V m c main_v0 (ValueIdx.ix3 E k f)) (fun f k => V m c main_v1 (ValueIdx.ix3 E k f))
          (fun f => V m c main_v2 (ValueIdx.ix3 E f d)) := by
  have h2 : (second (tile ρ)).val = 2 * (ρ.val / 512) + 1 := rfl
  have h1 : (first (tile ρ)).val = 2 * (ρ.val / 512) := rfl
  have hρ2 : ρ.val = (second (tile ρ)).val / 2 * 512 + (place ρ).val := by
    show ρ.val = (2 * (ρ.val / 512) + 1) / 2 * 512 + ρ.val % 512; omega
  have hρ1 : ρ.val = (first (tile ρ)).val / 2 * 512 + (place ρ).val := by
    show ρ.val = (2 * (ρ.val / 512)) / 2 * 512 + ρ.val % 512; omega
  have e1 : (first (tile ρ)).val / 2 = ρ.val / 512 := by rw [h1]; omega
  have e2 : (second (tile ρ)).val / 2 = ρ.val / 512 := by rw [h2]; omega
  have k1 : (first (tile ρ)).val % 2 = 0 := by rw [h1]; omega
  have k2 : (second (tile ρ)).val = (first (tile ρ)).val + 1 := by rw [h1, h2]
  have g1 : ∀ f : Fin 1792, f.val = (first (tile ρ)).val % 2 * 1792 + f.val := fun f => by rw [k1]; omega
  have g2 : ∀ f : Fin 1792, 1792 + f.val = (second (tile ρ)).val % 2 * 1792 + f.val := fun f => by rw [h2]; omega
  unfold left
  rw [leaves_eq m hO c (first (tile ρ)) (second (tile ρ)) k1 k2 (hU _ e1) (hU _ e2), Tile.pay3_at]
  rw [entry_halves]
  refine two_halves _ _ _ _ _ (half_of _ _ _ _ _ _ _ _ _ _ _ (fun k => rows_block m hO c _ _ k ρ hρ2)
    (fun k f => gate_block m hO c _ k f E ⟨1792 + f.val, by omega⟩ (hE _ e2) (g2 f))
    (fun k f => up_block m hO c _ k f E ⟨1792 + f.val, by omega⟩ (hE _ e2) (g2 f))
    (fun f => down_block m hO c _ f d E ⟨1792 + f.val, by omega⟩ (hE _ e2) (g2 f)))
    (half_of _ _ _ _ _ _ _ _ _ _ _ (fun k => rows_block m hO c _ _ k ρ hρ1)
    (fun k f => gate_block m hO c _ k f E ⟨f.val, by omega⟩ (hE _ e1) (g1 f))
    (fun k f => up_block m hO c _ k f E ⟨f.val, by omega⟩ (hE _ e1) (g1 f))
    (fun f => down_block m hO c _ f d E ⟨f.val, by omega⟩ (hE _ e1) (g1 f))) (Tile.pay1_at _ _)

/-- The kernel's result at an entry: the output of expert `E`, for the assignment whose expert word is `E`. -/
theorem kernel_at (hO : Ok m) (E : ℕ → ℕ) (he : ∀ q : Fin 33792, Reads.ex m 0 (ValueIdx.ix1 q) = BitVec.ofNat 32 (E q.val)) (hE : ∀ q < 33792, E q < 8)
    (k b : Fin 2) (t : Fin 8448) (d : Fin 1024) :
    (Stages.splitBack (Stages.gatherBack (F := Ideal) ((dats m hO 0 0).arrAt 4 (cfgM m hO).N) (Stages.indexW (Stages.posW (Reads.ex m 0)))) (ValueIdx.ix4 k b t d) : EReal)
      = entry (fun i => m (((0 : Dev nD) : Thread nD τ).loc main_arg0) (ValueIdx.ix3 b t i))
          (fun f i => m (((0 : Dev nD) : Thread nD τ).loc main_arg2) (ValueIdx.ix3 (⟨E (Rows.asg k b t).val, hE _ (Rows.asg k b t).isLt⟩ : Fin 8) i f))
          (fun f i => m (((0 : Dev nD) : Thread nD τ).loc main_arg3) (ValueIdx.ix3 (⟨E (Rows.asg k b t).val, hE _ (Rows.asg k b t).isLt⟩ : Fin 8) i f))
          (fun f => m (((0 : Dev nD) : Thread nD τ).loc main_arg4) (ValueIdx.ix3 (⟨E (Rows.asg k b t).val, hE _ (Rows.asg k b t).isLt⟩ : Fin 8) f d)) := by
  have hb := b.isLt
  have hk := k.isLt
  have ht := t.isLt
  have hq := (Rows.asg k b t).isLt
  refine (Rows.result_at (Reads.ex m 0) E he hE _ k b t d).trans ?_
  rw [array_eq m hO 0]
  have hrow : (Rows.row E hE (Rows.asg k b t)).val = Slots.pos 33792 E (Rows.asg k b t).val := rfl
  refine (left_at m hO 0 (Rows.row E hE (Rows.asg k b t)) d ⟨E (Rows.asg k b t).val, hE _ hq⟩ ?_ ?_).trans ?_
  · intro p hp
    show _ = ((tbl m).at 0 (Rect.unit (s := S74) (k0_off1 (grid0.coords p)) S1.size (k0_off1_inb (grid0.coords p))) numel1_S1 : BitVec 32).toNat
    rw [tile_read]
    refine Eq.trans ?_ (congrArg BitVec.toNat (Words.tileW_at (Reads.ex m 0) E he hE (grid0.coords p 0))).symm
    rw [coord_tile, hp, hrow, Slots.tileExpert_pos 33792 E hq (hE _ hq), BitVec.toNat_ofNat]
    have := hE _ hq
    show E (Rows.asg k b t).val = _
    omega
  · intro p hp
    rw [usedRead_eq, Words.usedW_at (Reads.ex m 0) E he hE]
    have h7 := Words.ends_lt E hE 7 (by omega)
    refine used_test p _ ?_ ?_
    · unfold Slots.used; omega
    · rw [hp, hrow]; exact Slots.pos_lt_used 33792 E hq (hE _ hq)
  · have hbat : Rows.bat (Rows.asg k b t) = b := Fin.ext (by
      show (k.val * 16896 + b.val * 8448 + t.val) % 16896 / 8448 = b.val; omega)
    have htk : Rows.tk (Rows.asg k b t) = t := Fin.ext (by
      show (k.val * 16896 + b.val * 8448 + t.val) % 16896 % 8448 = t.val; omega)
    have hx : ∀ i, V m 0 main_v64 (ValueIdx.ix2 (Rows.row E hE (Rows.asg k b t)) i) = m (((0 : Dev nD) : Thread nD τ).loc main_arg0) (ValueIdx.ix3 b t i) := by
      intro i
      rw [Reads.V_input]
      refine (Rows.grouped_at (Reads.ex m 0) E he hE _ _ i).trans ?_
      rw [hbat, htk]
    have h0 := Reads.V_weights0 m 0
    have h1 := Reads.V_weights1 m 0
    have h2 := Reads.V_weights2 m 0
    simp only [hx, h0, h1, h2]
    rfl

end Cert.KernelIdeal.Value

end
-- ==== Proof.RefValue.lean ====
/- The reference's result, entry by entry: the sum over the experts of the chosen mark times the expert's output, and the one
   expert that is chosen. -/
module

public import proofs.«01_k».proof.Proof.Gen.ReferenceIdeal.Read
public import proofs.«01_k».proof.Proof.Entry
public import Idealize.ShloMosaic.Lib.Pointwise

@[expose] public section

noncomputable section

namespace Cert.ReferenceIdeal.Experts

open Idealize.ShloMosaic Idealize.ShloMosaic.TcCoe Cert.ReferenceIdeal Cert.ReferenceIdeal.Gen Cert.ReferenceIdeal.Read Cert.Experts

section
variable (x0 : Vec Ideal S2x8448x1024 .bf16) (x1 : Vec Ideal S2x8448x128 .f32) (x2 x3 : Vec Ideal S8x1024x3584 .f32) (x4 : Vec Ideal S8x3584x1024 .f32)

/-- The feed-forward with one expert's three matrices, as the reference computes it. -/
def ffn (x : FVec Ideal S2x8448x1024 .f32) (o1 o2 : FVec Ideal S2x8448x3584 .f32) (w2 w3 : FVec Ideal S1024x3584 .f32) (w4 : FVec Ideal S3584x1024 .f32) : FVec Ideal S2x8448x1024 .f32 :=
  Host.dotGeneral (F := Ideal) dot_S2x8448x3584_S3584x1024_S2x8448x1024_2_0_01_1_n_n none
    (mulf (mulf (Host.dotGeneral (F := Ideal) dot_S2x8448x1024_S1024x3584_S2x8448x3584_2_0_01_1_n_n none x w2)
      (Host.divf o1 (addf o2
        (Host.exp (Host.negf (Host.dotGeneral (F := Ideal) dot_S2x8448x1024_S1024x3584_S2x8448x3584_2_0_01_1_n_n none x w2))))))
      (Host.dotGeneral (F := Ideal) dot_S2x8448x1024_S1024x3584_S2x8448x3584_2_0_01_1_n_n none x w3)) w4

/-- The feed-forward at one entry, with any three matrices. -/
theorem ffn_at (w2 w3 : FVec Ideal S1024x3584 .f32) (w4 : FVec Ideal S3584x1024 .f32) (b : Fin 2) (t : Fin 8448) (d : Fin 1024) :
    ffn (val_main_v0 (F := Ideal) x0) (val_main_call1_v4 (F := Ideal)) (val_main_call1_v2 (F := Ideal)) w2 w3 w4 (ValueIdx.ix3 b t d)
      = entry (fun c => x0 (ValueIdx.ix3 b t c)) (fun f c => w2 (ValueIdx.ix2 c f)) (fun f c => w3 (ValueIdx.ix2 c f)) (fun f => w4 (ValueIdx.ix2 f d)) := by
  unfold ffn val_main_v0 val_main_call1_v4 val_main_call1_v2 val_main_call1_cst val_main_call1_cst_0 entry hiddenAt
  pointwise
  rfl

/-- What expert `e` gives at one entry. -/
def share (b : Fin 2) (t : Fin 8448) (d : Fin 1024) (e : Fin 8) : EReal :=
  entry (fun c => x0 (ValueIdx.ix3 b t c)) (fun f c => x2 (ValueIdx.ix3 e c f)) (fun f c => x3 (ValueIdx.ix3 e c f)) (fun f => x4 (ValueIdx.ix3 e f d))

/-- Expert `e`'s part of an array of eight matrices, cut out and read without its leading axis. -/
theorem cut_wide (w : FVec Ideal S8x1024x3584 .f32) (e : Fin 8) (hs : S8x1024x3584.Slices ![e.val, 0, 0] S1x1024x3584) (c : Fin 1024) (f : Fin 3584) :
    (shapeCast S1024x3584 (extractStridedSlice S1x1024x3584 ![e.val, 0, 0] w hs) shapeCasts_S1x1024x3584_S1024x3584) (ValueIdx.ix2 c f)
      = w (ValueIdx.ix3 e c f) :=
  (shapeCast_apply _ _ _ (ValueIdx.ix3 (0 : Fin 1) c f) (by
    rw [Shape.rowMajor_val_three, Shape.rowMajor_val_two]
    show (0 * 1024 + c.val) * 3584 + f.val = c.val * 3584 + f.val
    omega)).trans (extractStridedSlice_apply _ w hs _ (ValueIdx.ix3 e c f) fun a => match a with
      | ⟨0, _⟩ => rfl
      | ⟨1, _⟩ => (Nat.zero_add _).symm
      | ⟨2, _⟩ => (Nat.zero_add _).symm)

/-- The same of the eight matrices of the last product. -/
theorem cut_tall (w : FVec Ideal S8x3584x1024 .f32) (e : Fin 8) (hs : S8x3584x1024.Slices ![e.val, 0, 0] S1x3584x1024) (f : Fin 3584) (d : Fin 1024) :
    (shapeCast S3584x1024 (extractStridedSlice S1x3584x1024 ![e.val, 0, 0] w hs) shapeCasts_S1x3584x1024_S3584x1024) (ValueIdx.ix2 f d)
      = w (ValueIdx.ix3 e f d) :=
  (shapeCast_apply _ _ _ (ValueIdx.ix3 (0 : Fin 1) f d) (by
    rw [Shape.rowMajor_val_three, Shape.rowMajor_val_two]
    show (0 * 3584 + f.val) * 1024 + d.val = f.val * 1024 + d.val
    omega)).trans (extractStridedSlice_apply _ w hs _ (ValueIdx.ix3 e f d) fun a => match a with
      | ⟨0, _⟩ => rfl
      | ⟨1, _⟩ => (Nat.zero_add _).symm
      | ⟨2, _⟩ => (Nat.zero_add _).symm)

/-- One turn of the reference's loop, for expert `e`: the marks' column `e`, spread over the features, times the expert's output
    for both assignments, added to what the turns before left. -/
def turn (e : Fin 8) (h1 : S2x2x8448x8.Slices ![0, 0, 0, e.val] S2x2x8448x1) (h2 : S8x1024x3584.Slices ![e.val, 0, 0] S1x1024x3584)
    (h4 : S8x3584x1024.Slices ![e.val, 0, 0] S1x3584x1024) (acc : FVec Ideal S2x2x8448x1024 .f32) (marks : FVec Ideal S2x2x8448x8 .f32) :
    FVec Ideal S2x2x8448x1024 .f32 :=
  addf acc (mulf
    (broadcastInDim S2x2x8448x1024 ![0, 1, 2, 3] bcast_S2x2x8448x1_S2x2x8448x1024_0_1_2_3 (extractStridedSlice S2x2x8448x1 ![0, 0, 0, e.val] marks h1))
    (broadcastInDim S2x2x8448x1024 ![0, 1, 2, 3] bcast_S1x2x8448x1024_S2x2x8448x1024_0_1_2_3
      (broadcastInDim S1x2x8448x1024 ![1, 2, 3] bcast_S2x8448x1024_S1x2x8448x1024_1_2_3
        (ffn (val_main_v0 (F := Ideal) x0) (val_main_call1_v4 (F := Ideal)) (val_main_call1_v2 (F := Ideal))
          (shapeCast S1024x3584 (extractStridedSlice S1x1024x3584 ![e.val, 0, 0] x2 h2) shapeCasts_S1x1024x3584_S1024x3584)
          (shapeCast S1024x3584 (extractStridedSlice S1x1024x3584 ![e.val, 0, 0] x3 h2) shapeCasts_S1x1024x3584_S1024x3584)
          (shapeCast S3584x1024 (extractStridedSlice S1x3584x1024 ![e.val, 0, 0] x4 h4) shapeCasts_S1x3584x1024_S3584x1024)))))

/-- What one turn adds at an entry: the mark for expert `e` times the expert's output. -/
theorem turn_at (e : Fin 8) (h1 h2 h4) (acc : FVec Ideal S2x2x8448x1024 .f32) (marks : FVec Ideal S2x2x8448x8 .f32)
    (k b : Fin 2) (t : Fin 8448) (d : Fin 1024) :
    (turn x0 x2 x3 x4 e h1 h2 h4 acc marks (ValueIdx.ix4 k b t d) : EReal)
      = (acc (ValueIdx.ix4 k b t d) : EReal) + (marks (ValueIdx.ix4 k b t e) : EReal) * share x0 x2 x3 x4 b t d e := by
  unfold turn
  refine congrArg₂ (fun x y : EReal => x + y) rfl (congrArg₂ (fun x y : EReal => x * y) ?_ ?_)
  · refine (broadcastInDim_apply _ _ _ _ (ValueIdx.ix4 k b t (0 : Fin 1)) fun a => match a with
      | ⟨0, _⟩ => rfl
      | ⟨1, _⟩ => rfl
      | ⟨2, _⟩ => rfl
      | ⟨3, _⟩ => rfl).trans ?_
    exact extractStridedSlice_apply _ marks h1 _ (ValueIdx.ix4 k b t e) fun a => match a with
      | ⟨0, _⟩ => (Nat.zero_add _).symm
      | ⟨1, _⟩ => (Nat.zero_add _).symm
      | ⟨2, _⟩ => (Nat.zero_add _).symm
      | ⟨3, _⟩ => rfl
  · refine (broadcastInDim_apply _ _ _ _ (ValueIdx.ix4 (0 : Fin 1) b t d) fun a => match a with
      | ⟨0, _⟩ => rfl
      | ⟨1, _⟩ => rfl
      | ⟨2, _⟩ => rfl
      | ⟨3, _⟩ => rfl).trans ?_
    refine (broadcastInDim_apply _ _ _ _ (ValueIdx.ix3 b t d) fun a => match a with
      | ⟨0, _⟩ => rfl
      | ⟨1, _⟩ => rfl
      | ⟨2, _⟩ => rfl).trans ?_
    refine (ffn_at x0 _ _ _ b t d).trans ?_
    unfold share
    simp only [cut_wide, cut_tall]

/-- The reference's sum over the experts, entry by entry: eight turns from zero. -/
theorem loop_at (k b : Fin 2) (t : Fin 8448) (d : Fin 1024) (M : Fin 8 → EReal)
    (hM : ∀ e, (val_main_v9 (F := Ideal) x1 (ValueIdx.ix4 k b t e) : EReal) = M e) :
    (val_main_v146 (F := Ideal) x0 x1 x2 x3 x4 (ValueIdx.ix4 k b t d) : EReal)
      = (val_main_v10 (F := Ideal) (ValueIdx.ix4 k b t d) : EReal) + M 0 * share x0 x2 x3 x4 b t d 0 + M 1 * share x0 x2 x3 x4 b t d 1
        + M 2 * share x0 x2 x3 x4 b t d 2 + M 3 * share x0 x2 x3 x4 b t d 3 + M 4 * share x0 x2 x3 x4 b t d 4
        + M 5 * share x0 x2 x3 x4 b t d 5 + M 6 * share x0 x2 x3 x4 b t d 6 + M 7 * share x0 x2 x3 x4 b t d 7 := by
  have h1 : ∀ e : Fin 8, S2x2x8448x8.Slices ![0, 0, 0, e.val] S2x2x8448x1 := by decide
  have h2 : ∀ e : Fin 8, S8x1024x3584.Slices ![e.val, 0, 0] S1x1024x3584 := by decide
  have h4 : ∀ e : Fin 8, S8x3584x1024.Slices ![e.val, 0, 0] S1x3584x1024 := by decide
  have go : ∀ (e : Fin 8) (acc next : FVec Ideal S2x2x8448x1024 .f32) (r : EReal),
      next = turn x0 x2 x3 x4 e (h1 e) (h2 e) (h4 e) acc (val_main_v9 (F := Ideal) x1) → (acc (ValueIdx.ix4 k b t d) : EReal) = r →
      (next (ValueIdx.ix4 k b t d) : EReal) = r + M e * share x0 x2 x3 x4 b t d e := by
    intro e acc next r hn hr
    rw [hn, turn_at, hM, hr]
  have s0 := go 0 (val_main_v10 (F := Ideal)) (val_main_v27 (F := Ideal) x0 x1 x2 x3 x4) _ rfl rfl
  have s1 := go 1 _ (val_main_v44 (F := Ideal) x0 x1 x2 x3 x4) _ rfl s0
  have s2 := go 2 _ (val_main_v61 (F := Ideal) x0 x1 x2 x3 x4) _ rfl s1
  have s3 := go 3 _ (val_main_v78 (F := Ideal) x0 x1 x2 x3 x4) _ rfl s2
  have s4 := go 4 _ (val_main_v95 (F := Ideal) x0 x1 x2 x3 x4) _ rfl s3
  have s5 := go 5 _ (val_main_v112 (F := Ideal) x0 x1 x2 x3 x4) _ rfl s4
  have s6 := go 6 _ (val_main_v129 (F := Ideal) x0 x1 x2 x3 x4) _ rfl s5
  exact go 7 _ (val_main_v146 (F := Ideal) x0 x1 x2 x3 x4) _ rfl s6

/-- The routing's word for assignment `k` of a token. -/
def word (k b : Fin 2) (t : Fin 8448) : BitVec 32 :=
  fptosi (F := Ideal) (φ := .f32) 32 x1 (ValueIdx.ix3 b t (⟨2 + k.val, by omega⟩ : Fin 128))

/-- The chosen mark: 1 at the column the routing names. -/
theorem mark_at (k b : Fin 2) (t : Fin 8448) (e : Fin 8) :
    (val_main_v9 (F := Ideal) x1 (ValueIdx.ix4 k b t e) : EReal)
      = if word x1 k b t = BitVec.ofNat 32 e.val then 1 else 0 := by
  have h7 : val_main_v7 (F := Ideal) x1 (ValueIdx.ix3 k b t) = x1 (ValueIdx.ix3 b t (⟨2 + k.val, by omega⟩ : Fin 128)) := by
    have hb := b.isLt
    have ht := t.isLt
    have q0 : (b.val * 8448 + t.val) / 8448 = b.val := by omega
    have q1 : (b.val * 8448 + t.val) / 1 % 8448 = t.val := by omega
    unfold val_main_v7
    match k with
    | ⟨0, _⟩ =>
      refine (concatenate_pair_apply_left 0 _ _ concatenates_S1x2x8448_S1x2x8448_S2x2x8448_d0 _ rfl (ValueIdx.ix3 (0 : Fin 1) b t) fun a => ?_).trans ?_
      · match a with
        | ⟨0, _⟩ => rfl
        | ⟨1, _⟩ => rfl
        | ⟨2, _⟩ => rfl
      · rw [val_main_v5_apply, val_main_v2_apply, val_main_v1_apply]
        refine congrArg x1 (funext fun a => Fin.ext ?_)
        match a with
        | ⟨0, _⟩ => exact q0
        | ⟨1, _⟩ => exact q1
        | ⟨2, _⟩ => rfl
    | ⟨1, _⟩ =>
      refine (concatenate_pair_apply_right 0 _ _ concatenates_S1x2x8448_S1x2x8448_S2x2x8448_d0 _ rfl rfl (ValueIdx.ix3 (0 : Fin 1) b t) (fun a ha => ?_) rfl).trans ?_
      · match a with
        | ⟨0, _⟩ => exact absurd rfl ha
        | ⟨1, _⟩ => rfl
        | ⟨2, _⟩ => rfl
      · rw [val_main_v6_apply, val_main_v4_apply, val_main_v3_apply]
        refine congrArg x1 (funext fun a => Fin.ext ?_)
        match a with
        | ⟨0, _⟩ => exact q0
        | ⟨1, _⟩ => exact q1
        | ⟨2, _⟩ => rfl
  have h2 : val_main_call0_v2 (F := Ideal) x1 (ValueIdx.ix4 k b t e) = FloatOps.fptosi (F := Ideal) (φ := .f32) 32 (val_main_v7 (F := Ideal) x1 (ValueIdx.ix3 k b t)) := by
    rw [val_main_call0_v2_apply, val_main_call0_v0_apply, val_main_v8_apply]
    refine congrArg (fun i => FloatOps.fptosi (F := Ideal) (φ := .f32) 32 (val_main_v7 (F := Ideal) x1 i)) (funext fun a => ?_)
    match a with
    | ⟨0, _⟩ => rfl
    | ⟨1, _⟩ => rfl
    | ⟨2, _⟩ => rfl
  have h3 : val_main_call0_v3 (F := Ideal) (ValueIdx.ix4 k b t e) = BitVec.ofNat 32 e.val := by
    rw [val_main_call0_v3_apply, val_main_call0_v1_apply]
  rw [val_main_v9_apply, val_main_call0_v4_apply, h2, h3, h7]
  change (FloatOps.uitofp .f32 (IntOp.cmpi .eq (word x1 k b t) (BitVec.ofNat 32 e.val)) : Ideal .f32) = _
  generalize word x1 k b t = w
  by_cases h : w = BitVec.ofNat 32 e.val
  · subst h
    rw [if_pos rfl, IntOp.cmpi_eq.mpr rfl]
    show (((1#1 : BitVec 1).toNat : ℝ) : EReal) = 1
    simp
  · rw [if_neg h, show IntOp.cmpi .eq w (BitVec.ofNat 32 e.val) = 0#1 from (BitVec.eq_zero_or_eq_one _).resolve_right fun q => h (IntOp.cmpi_eq.mp q)]
    show (((0#1 : BitVec 1).toNat : ℝ) : EReal) = 0
    simp

/-- Of a sum over the experts with one mark set, the marked term is left. -/
theorem collapse (S : Fin 8 → EReal) (E : Fin 8) :
    (((((((((0 : EReal) + (if E = 0 then 1 else 0) * S 0) + (if E = 1 then 1 else 0) * S 1) + (if E = 2 then 1 else 0) * S 2)
      + (if E = 3 then 1 else 0) * S 3) + (if E = 4 then 1 else 0) * S 4) + (if E = 5 then 1 else 0) * S 5)
      + (if E = 6 then 1 else 0) * S 6) + (if E = 7 then 1 else 0) * S 7) = S E := by
  fin_cases E <;> simp

/-- The reference's result at an entry whose routing names expert `E`. -/
theorem result_at (k b : Fin 2) (t : Fin 8448) (d : Fin 1024) (E : Fin 8)
    (hE : word x1 k b t = BitVec.ofNat 32 E.val) :
    val_main_v147 (F := Ideal) x0 x1 x2 x3 x4 (ValueIdx.ix4 k b t d) = share x0 x2 x3 x4 b t d E := by
  have hm : ∀ e : Fin 8, (val_main_v9 (F := Ideal) x1 (ValueIdx.ix4 k b t e) : EReal) = if E = e then 1 else 0 := by
    intro e
    rw [mark_at, hE]
    refine if_congr ⟨fun h => Fin.ext ?_, fun h => by rw [h]⟩ rfl rfl
    have := congrArg BitVec.toNat h
    simp only [BitVec.toNat_ofNat] at this
    omega
  have h0 : (val_main_v10 (F := Ideal) (ValueIdx.ix4 k b t d) : EReal) = 0 := by
    rw [val_main_v10_apply, val_main_cst_apply]
    exact Ideal.ofBits_zero_f32
  refine Eq.trans ?_ (collapse (share x0 x2 x3 x4 b t d) E)
  refine (show val_main_v147 (F := Ideal) x0 x1 x2 x3 x4 (ValueIdx.ix4 k b t d) = val_main_v146 (F := Ideal) x0 x1 x2 x3 x4 (ValueIdx.ix4 k b t d) from rfl).trans ?_
  rw [loop_at x0 x1 x2 x3 x4 k b t d _ hm, h0]

end

end Cert.ReferenceIdeal.Experts

end
-- ==== Proof.Agree.lean ====
/- The two programs' results are equal entry by entry, from arguments that agree and satisfy the precondition. -/
module

public import proofs.«01_k».proof.Proof.Range
public import proofs.«01_k».proof.Proof.Value
public import proofs.«01_k».proof.Proof.RefValue
public import proofs.«01_k».proof.Proof.Gen.ReferenceIdeal.Run

@[expose] public section

set_option maxRecDepth 16384

noncomputable section

namespace Cert.Agree

open Idealize.ShloMosaic Idealize.ShloMosaic.TcCoe

local instance : Cert.Pre_experts_in_range.Facts := Cert.Range.preFacts

section
open Cert.KernelIdeal Cert.KernelIdeal.Gen

variable (m : (ℓ : Loc nD τ sig) → Buf (Elt Ideal) ℓ)

/-- The expert of each assignment, as a number. -/
def expertNat (q : ℕ) : ℕ := if h : q < 33792 then (Reads.ex m 0 (ValueIdx.ix1 (⟨q, h⟩ : Fin 33792)) : BitVec 32).toNat else 0

theorem expertNat_spec (q : Fin 33792) : Reads.ex m 0 (ValueIdx.ix1 q) = BitVec.ofNat 32 (expertNat m q.val) := by
  unfold expertNat
  rw [dif_pos q.isLt]
  rw [BitVec.ofNat_toNat, BitVec.setWidth_eq]

theorem expertNat_lt (hp : Cert.Pre_KernelIdeal_experts_in_range m) (q : ℕ) (hq : q < 33792) : expertNat m q < 8 := by
  unfold expertNat
  rw [dif_pos hq]
  have h := Cert.Range.word_lt _ _ _ _ _ (hp 0) (Rows.bat ⟨q, hq⟩) (Rows.tk ⟨q, hq⟩) (⟨q / 16896, by omega⟩ : Fin 2)
  unfold Reads.ex
  rw [Rows.expertW_at]
  exact h

/-- The word that the reference reads for an assignment. -/
theorem word_eq (k b : Fin 2) (t : Fin 8448) :
    Cert.ReferenceIdeal.Experts.word (m (((0 : Dev nD) : Thread nD τ).loc main_arg1)) k b t = BitVec.ofNat 32 (expertNat m (Rows.asg k b t).val) := by
  have hb := b.isLt
  have hk := k.isLt
  have ht := t.isLt
  refine Eq.trans ?_ (expertNat_spec m (Rows.asg k b t))
  unfold Reads.ex
  rw [Rows.expertW_at]
  unfold Cert.ReferenceIdeal.Experts.word
  refine congrArg (fptosi (F := Ideal) (φ := .f32) 32 (m (((0 : Dev nD) : Thread nD τ).loc main_arg1))) (funext fun a => ?_)
  match a with
  | ⟨0, _⟩ => exact Fin.ext (show b.val = (k.val * 16896 + b.val * 8448 + t.val) % 16896 / 8448 by omega)
  | ⟨1, _⟩ => exact Fin.ext (show t.val = (k.val * 16896 + b.val * 8448 + t.val) % 16896 % 8448 by omega)
  | ⟨2, _⟩ => exact Fin.ext (show 2 + k.val = 2 + (k.val * 16896 + b.val * 8448 + t.val) / 16896 by omega)

/-- The kernel's result is the reference's function of the arguments. -/
theorem result_eq (hO : Ok m) (hp : Cert.Pre_KernelIdeal_experts_in_range m) :
    Stages.splitBack (Stages.gatherBack (F := Ideal) ((dats m hO 0 0).arrAt 4 (cfgM m hO).N) (Stages.indexW (Stages.posW (Reads.ex m 0))))
      = Cert.ReferenceIdeal.Read.val_main_v147 (F := Ideal) (m (((0 : Dev nD) : Thread nD τ).loc main_arg0)) (m (((0 : Dev nD) : Thread nD τ).loc main_arg1))
          (m (((0 : Dev nD) : Thread nD τ).loc main_arg2)) (m (((0 : Dev nD) : Thread nD τ).loc main_arg3)) (m (((0 : Dev nD) : Thread nD τ).loc main_arg4)) := by
  have key : ∀ (k b : Fin 2) (t : Fin 8448) (d : Fin 1024), Stages.splitBack (Stages.gatherBack (F := Ideal) ((dats m hO 0 0).arrAt 4 (cfgM m hO).N) (Stages.indexW (Stages.posW (Reads.ex m 0)))) (ValueIdx.ix4 k b t d)
      = Cert.ReferenceIdeal.Read.val_main_v147 (F := Ideal) (m (((0 : Dev nD) : Thread nD τ).loc main_arg0)) (m (((0 : Dev nD) : Thread nD τ).loc main_arg1))
          (m (((0 : Dev nD) : Thread nD τ).loc main_arg2)) (m (((0 : Dev nD) : Thread nD τ).loc main_arg3)) (m (((0 : Dev nD) : Thread nD τ).loc main_arg4)) (ValueIdx.ix4 k b t d) := fun k b t d =>
    (Value.kernel_at m hO (expertNat m) (expertNat_spec m) (expertNat_lt m hp) k b t d).trans
      (Cert.ReferenceIdeal.Experts.result_at _ _ _ _ _ k b t d ⟨expertNat m (Rows.asg k b t).val, expertNat_lt m hp _ (Rows.asg k b t).isLt⟩ (word_eq m k b t)).symm
  funext i
  have hi : i = ValueIdx.ix4 (i 0) (i 1) (i 2) (i 3) := funext fun a => match a with
    | ⟨0, _⟩ => rfl
    | ⟨1, _⟩ => rfl
    | ⟨2, _⟩ => rfl
    | ⟨3, _⟩ => rfl
  rw [hi]
  exact key (i 0) (i 1) (i 2) (i 3)

end

end Cert.Agree

end
-- ==== Proof.OkBits.lean ====
/- The launch's side condition of the program at bits holds from any memory: a tile's expert is the lesser of a count and seven, so each weight block
   a tile reads lies inside its array. -/
module

public import proofs.«01_k».proof.Proof.Gen.Kernel.Frame.Runs
public import Idealize.ShloMosaic.Lib.StableHlo.RunRead
public import Idealize.ShloMosaic.Lib.Routing.Ops
public import Idealize.ShloMosaic.Lib.Routing.BitFacts

@[expose] public section

-- a read of a segment recurses once per operation
set_option maxRecDepth 16384

noncomputable section

namespace Cert.Kernel.Gen

open Idealize.ShloMosaic Idealize.ShloMosaic.TcCoe Idealize.ShloMosaic.Routing Cert.Kernel

variable {F : FTy → Type} [FloatOps F]
variable (m : (ℓ : Loc nD τ sig) → Buf (Elt F) ℓ)

/-- The tiles' experts from a mask: the number of set bits of each row, at most seven. -/
def firstOf (past : IVec S74x8 1) : IVec S74 32 :=
  minsi (Host.reduce IntOp.addi (extui 32 past natLt_1_32) (constantI S_ 32 0#32) reducesTo_S74x8_S74_d1 h_S_)
    (broadcastInDim S74 ![] bcast_S_S74 (constantI S_ 32 7#32))

/-- Whatever the mask, a tile's expert is at most seven. -/
theorem firstOf_le (past : IVec S74x8 1) (t : Fin 74) : (firstOf past (ValueIdx.ix1 t)).toNat ≤ 7 := by
  let Q : ℕ → Prop := fun k => ∃ h : k < 8, past (ValueIdx.ix2 t ⟨k, h⟩) = 1#1
  have hc : Nat.count Q 8 ≤ 8 := Nat.count_le _
  have h1 : Host.reduce IntOp.addi (extui 32 past natLt_1_32) (constantI S_ 32 0#32) reducesTo_S74x8_S74_d1 h_S_ (ValueIdx.ix1 t) = BitVec.ofNat 32 (Nat.count Q 8) :=
    reduce_count (by omega) past natLt_1_32 reducesTo_S74x8_S74_d1 h_S_ t Q fun k => ⟨fun h => ⟨k.isLt, h⟩, fun h => h.2⟩
  have b1 : broadcastInDim S74 ![] bcast_S_S74 (constantI S_ 32 7#32) (ValueIdx.ix1 t) = BitVec.ofNat 32 7 := bc0 _ _ _
  show (IntOp.minsi (Host.reduce IntOp.addi (extui 32 past natLt_1_32) (constantI S_ 32 0#32) reducesTo_S74x8_S74_d1 h_S_ (ValueIdx.ix1 t))
    (broadcastInDim S74 ![] bcast_S_S74 (constantI S_ 32 7#32) (ValueIdx.ix1 t))).toNat ≤ 7
  rw [h1, b1]
  unfold IntOp.minsi
  rw [slt_ofNat32 (by omega) (by omega)]
  by_cases h : Nat.count Q 8 < 7
  · rw [if_pos (decide_eq_true h), BitVec.toNat_ofNat, Nat.mod_eq_of_lt (by omega)]; omega
  · rw [if_neg (by simpa using h)]; decide

/-- The seventh segment, from any contents, leaves the tiles' experts of some mask. -/
theorem segment_read (W : Valuation τ sig (Elt F)) : ∃ past, StableHlo.after hostOps0_6 W (Proc.devRef .tc main_v49) = firstOf past := by
  refine ⟨?_, ?_⟩
  rotate_left
  · after_reads_simp
    rfl

/-- The segments after it leave them. -/
theorem later_read (W : Valuation τ sig (Elt F)) :
    StableHlo.after hostOps0_10 (StableHlo.after hostOps0_9 (StableHlo.after hostOps0_8 (StableHlo.after hostOps0_7 W))) (Proc.devRef .tc main_v49) = W (Proc.devRef .tc main_v49) := by
  after_reads_simp

/-- The table of the tiles' experts. -/
theorem tbl_read : ∃ past, Cert.Kernel.Gen.tbl m 0 = firstOf past := by
  have h : Cert.Kernel.Gen.tbl m 0 = V0 m 0 (Proc.devRef .tc main_v49) := rfl
  rw [h]
  unfold V0
  simp only [List.flatten_cons, List.flatten_nil, List.append_nil, StableHlo.after_append]
  rw [later_read]
  exact segment_read _

/-- An index map reads an expert at most seven. -/
theorem tile_read_le (i : grid0.Coords) :
    ((Cert.Kernel.Gen.tbl m).at 0 (Rect.unit (s := S74) (k0_off1 i) S1.size (k0_off1_inb i)) numel1_S1 : BitVec 32).toNat ≤ 7 := by
  obtain ⟨past, h⟩ := tbl_read m
  have hi : (i 0).val < 74 := (i 0).isLt
  have e : ((Cert.Kernel.Gen.tbl m).at 0 (Rect.unit (s := S74) (k0_off1 i) S1.size (k0_off1_inb i)) numel1_S1 : BitVec 32) = firstOf past (ValueIdx.ix1 (i 0)) := by
    show Cert.Kernel.Gen.tbl m 0 _ = _
    rw [h]
    refine congrArg (firstOf past) (funext fun a => Fin.ext ?_)
    match a with
    | ⟨0, _⟩ =>
      have hw : (BitVec.ofNat 32 (i 0).val).toNat = (i 0).val := by rw [BitVec.toNat_ofNat, Nat.mod_eq_of_lt (by omega)]
      exact hw
  rw [e]
  exact firstOf_le _ _

theorem half_lt (i : grid0.Coords) : (BitVec.ofNat 32 (i 1).val).toNat ≤ 1 := by
  have hi : (i 1).val < 2 := (i 1).isLt
  rw [BitVec.toNat_ofNat, Nat.mod_eq_of_lt (by omega)]; omega

/-- The side condition. -/
theorem ok : Ok m := by
  refine ⟨fun i => ⟨?_, .inr (Affine.block_words_dvd (of_decide_eq_true rfl) (by decide))⟩, fun i => ⟨?_, .inr (Affine.block_words_dvd (of_decide_eq_true rfl) (by decide))⟩,
    fun i => ⟨?_, .inr (Affine.block_words_dvd (of_decide_eq_true rfl) (by decide))⟩⟩
  · have h1 := tile_read_le m i
    have h2 := half_lt i
    intro a
    match a with
    | ⟨0, _⟩ => exact Nat.mul_le_mul_right 1 (Nat.succ_le_succ h1)
    | ⟨1, _⟩ => exact (show (0 + 1) * 1024 ≤ 1024 from by omega)
    | ⟨2, _⟩ => exact (show ((BitVec.ofNat 32 (i 1).val).toNat + 1) * 1792 ≤ 3584 from by omega)
  · have h1 := tile_read_le m i
    have h2 := half_lt i
    intro a
    match a with
    | ⟨0, _⟩ => exact Nat.mul_le_mul_right 1 (Nat.succ_le_succ h1)
    | ⟨1, _⟩ => exact (show (0 + 1) * 1024 ≤ 1024 from by omega)
    | ⟨2, _⟩ => exact (show ((BitVec.ofNat 32 (i 1).val).toNat + 1) * 1792 ≤ 3584 from by omega)
  · have h1 := tile_read_le m i
    have h2 := half_lt i
    intro a
    match a with
    | ⟨0, _⟩ => exact Nat.mul_le_mul_right 1 (Nat.succ_le_succ h1)
    | ⟨1, _⟩ => exact (show ((BitVec.ofNat 32 (i 1).val).toNat + 1) * 1792 ≤ 3584 from by omega)
    | ⟨2, _⟩ => exact (show (0 + 1) * 1024 ≤ 1024 from by omega)

end Cert.Kernel.Gen

end
-- ==== Proof.DenseBlock.lean ====
/- What one block of rows' two grid points leave, as the payloads of the blocks they read: the first point leaves the normalised
   and modulated rows in one scratch buffer and the first half's product over zero in the other, the second writes back the
   rows with the normalised and gated sum of both halves added. -/
module

public import proofs.«01_k».proof.Proof.Gen.Kernel2Ideal.Value

@[expose] public section

set_option maxRecDepth 16384

noncomputable section

namespace Cert.Kernel2Ideal.Gen

open Idealize.ShloMosaic Idealize.ShloMosaic.TcCoe Idealize.ShloMosaic.Tactic
open Idealize.ShloMosaic.Pipeline (Dat Cfg Window)

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- One of a batch's two rows of modulation: the 1024 entries from a given column on. -/
abbrev mod1_3 (x1 : Vec F S1x2x6144 .f32) : Vec F S1x1x1024 .f32 := View.ld x1 (Rect.unit ![0, 1, 3072] ![1, 1, 1024] inb_S1x2x6144_S1x1x1024_0_1_3072)
abbrev mod0_3 (x1 : Vec F S1x2x6144 .f32) : Vec F S1x1x1024 .f32 := View.ld x1 (Rect.unit ![0, 0, 3072] ![1, 1, 1024] inb_S1x2x6144_S1x1x1024_0_0_3072)
abbrev mod1_4 (x1 : Vec F S1x2x6144 .f32) : Vec F S1x1x1024 .f32 := View.ld x1 (Rect.unit ![0, 1, 4096] ![1, 1, 1024] inb_S1x2x6144_S1x1x1024_0_1_4096)
abbrev mod0_4 (x1 : Vec F S1x2x6144 .f32) : Vec F S1x1x1024 .f32 := View.ld x1 (Rect.unit ![0, 0, 4096] ![1, 1, 1024] inb_S1x2x6144_S1x1x1024_0_0_4096)
abbrev mod1_5 (x1 : Vec F S1x2x6144 .f32) : Vec F S1x1x1024 .f32 := View.ld x1 (Rect.unit ![0, 1, 5120] ![1, 1, 1024] inb_S1x2x6144_S1x1x1024_0_1_5120)
abbrev mod0_5 (x1 : Vec F S1x2x6144 .f32) : Vec F S1x1x1024 .f32 := View.ld x1 (Rect.unit ![0, 0, 5120] ![1, 1, 1024] inb_S1x2x6144_S1x1x1024_0_0_5120)

/-- The rows the first point keeps: normalised, scaled and shifted. -/
def rowsIn (a : BitVec 32) (x0 : Vec F S1x528x1024 .f32) (x1 : Vec F S1x2x6144 .f32) (x2 : Vec F S1x1024 .f32) : Vec F S528x1024 .bf16 :=
  k0_pay1 (k0_pay4 a (mod1_3 x1) (mod0_3 x1)) (k0_pay5 a (mod1_4 x1) (mod0_4 x1)) (k0_pay6 x0) (k0_pay7 x0) (FloatOps.ofBits FTy.f32 1149239296#32) x2

theorem rows_first (c : Dev nD) (i : grid0.Coords) (arg3 : Memref sig .tc .vmem S1x528x1024 .f32) (harg3 : arg3.IsWhole) (arg4 : Memref sig .tc .vmem S1x2x6144 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1408 .bf16) (harg7 : arg7.IsWhole) (arg8 : Memref sig .tc .vmem S1024x1408 .bf16) (harg8 : arg8.IsWhole) (arg9 : Memref sig .tc .vmem S1408x1024 .bf16) (harg9 : arg9.IsWhole) (arg10 : Memref sig .tc .vmem S1x528x1024 .f32) (harg10 : arg10.IsWhole) (arg11 : Memref sig .tc .vmem S528x1024 .bf16) (harg11 : arg11.IsWhole) (arg12 : Memref sig .tc .vmem S528x1024 .f32) (harg12 : arg12.IsWhole) (hc0 : cond0_0 i) (hc1 : ¬cond0_1 i)
    (x0 : Vec F S1x528x1024 .f32) (x1 : Vec F S1x2x6144 .f32) (x2 : Vec F S1x1024 .f32) (x3 : Vec F S1x1024 .f32) (x4 : Vec F S1024x1408 .bf16) (x5 : Vec F S1024x1408 .bf16) (x6 : Vec F S1408x1024 .bf16) :
    sout0_A_0 c i arg3 harg3 arg4 harg4 arg5 harg5 arg6 harg6 arg7 harg7 arg8 harg8 arg9 harg9 arg10 harg10 arg11 harg11 arg12 harg12 hc0 hc1 x0 x1 x2 x3 x4 x5 x6 = rowsIn (BitVec.ofNat 32 (i 1).val) x0 x1 x2 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_cons_unit_zero (S := S528x1024) zero2]
  simp only [View.readAt_eq_ld, harg3.read_unread, harg4.read_unread, harg5.read_unread, harg6.read_unread, harg7.read_unread, harg8.read_unread, harg9.read_unread, harg11.read_unread, harg12.read_unread,
    View.ld_unit_zero (S := S528x1024) zero2, View.ld_unit_zero (S := S1x1024) zero2, View.ld_unit_zero (S := S1024x1408) zero2, View.ld_unit_zero (S := S1408x1024) zero2, View.ld_unit_zero (S := S1x528x1024) zero3]
  rfl

theorem sum_first (c : Dev nD) (i : grid0.Coords) (arg3 : Memref sig .tc .vmem S1x528x1024 .f32) (harg3 : arg3.IsWhole) (arg4 : Memref sig .tc .vmem S1x2x6144 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1408 .bf16) (harg7 : arg7.IsWhole) (arg8 : Memref sig .tc .vmem S1024x1408 .bf16) (harg8 : arg8.IsWhole) (arg9 : Memref sig .tc .vmem S1408x1024 .bf16) (harg9 : arg9.IsWhole) (arg10 : Memref sig .tc .vmem S1x528x1024 .f32) (harg10 : arg10.IsWhole) (arg11 : Memref sig .tc .vmem S528x1024 .bf16) (harg11 : arg11.IsWhole) (arg12 : Memref sig .tc .vmem S528x1024 .f32) (harg12 : arg12.IsWhole) (hc0 : cond0_0 i) (hc1 : ¬cond0_1 i)
    (x0 : Vec F S1x528x1024 .f32) (x1 : Vec F S1x2x6144 .f32) (x2 : Vec F S1x1024 .f32) (x3 : Vec F S1x1024 .f32) (x4 : Vec F S1024x1408 .bf16) (x5 : Vec F S1024x1408 .bf16) (x6 : Vec F S1408x1024 .bf16) :
    sout0_A_1 c i arg3 harg3 arg4 harg4 arg5 harg5 arg6 harg6 arg7 harg7 arg8 harg8 arg9 harg9 arg10 harg10 arg11 harg11 arg12 harg12 hc0 hc1 x0 x1 x2 x3 x4 x5 x6 = k0_pay3 (rowsIn (BitVec.ofNat 32 (i 1).val) x0 x1 x2) x4 x5 k0_pay2 x6 := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_cons_unit_zero (S := S528x1024) zero2]
  rw [View.readCov_unit_zero (S := S528x1024) _ zero2, View.readCov_unit_zero (S := S528x1024) _ zero2]
  simp only [View.readAt_eq_ld, harg3.read_unread, harg4.read_unread, harg5.read_unread, harg6.read_unread, harg7.read_unread, harg8.read_unread, harg9.read_unread, harg11.read_unread, harg12.read_unread,
    View.ld_unit_zero (S := S528x1024) zero2, View.ld_unit_zero (S := S1x1024) zero2, View.ld_unit_zero (S := S1024x1408) zero2, View.ld_unit_zero (S := S1408x1024) zero2, View.ld_unit_zero (S := S1x528x1024) zero3]
  rfl

theorem block_second (c : Dev nD) (i : grid0.Coords) (arg3 : Memref sig .tc .vmem S1x528x1024 .f32) (harg3 : arg3.IsWhole) (arg4 : Memref sig .tc .vmem S1x2x6144 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1408 .bf16) (harg7 : arg7.IsWhole) (arg8 : Memref sig .tc .vmem S1024x1408 .bf16) (harg8 : arg8.IsWhole) (arg9 : Memref sig .tc .vmem S1408x1024 .bf16) (harg9 : arg9.IsWhole) (arg10 : Memref sig .tc .vmem S1x528x1024 .f32) (harg10 : arg10.IsWhole) (arg11 : Memref sig .tc .vmem S528x1024 .bf16) (harg11 : arg11.IsWhole) (arg12 : Memref sig .tc .vmem S528x1024 .f32) (harg12 : arg12.IsWhole) (hc0 : ¬cond0_0 i) (hc1 : cond0_1 i)
    (x0 : Vec F S1x528x1024 .f32) (x1 : Vec F S1x2x6144 .f32) (x2 : Vec F S1x1024 .f32) (x3 : Vec F S1x1024 .f32) (x4 : Vec F S1024x1408 .bf16) (x5 : Vec F S1024x1408 .bf16) (x6 : Vec F S1408x1024 .bf16) (xs0 : Vec F S528x1024 .bf16) (xs1 : Vec F S528x1024 .f32) :
    out0_B_7 c i arg3 harg3 arg4 harg4 arg5 harg5 arg6 harg6 arg7 harg7 arg8 harg8 arg9 harg9 arg10 harg10 arg11 harg11 arg12 harg12 hc0 hc1 x0 x1 x2 x3 x4 x5 x6 xs0 xs1 = k0_pay8 (BitVec.ofNat 32 (i 1).val) (mod1_5 x1) (mod0_5 x1) x0 (k0_pay3 xs0 x4 x5 xs1 x6) x3 := by
  unfold out0_B_7
  rw [View.read_writes_eq_canon _ _ _ (cover0_B_7 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_B
  dsimp only
  sl_unfold_words
  rw [View.canon_cons_unit_zero (S := S1x528x1024) zero3]
  rw [View.readCov_unit_zero (S := S528x1024) _ zero2]
  simp only [View.readAt_eq_ld, harg3.read_unread, harg4.read_unread, harg5.read_unread, harg6.read_unread, harg7.read_unread, harg8.read_unread, harg9.read_unread, harg11.read_unread, harg12.read_unread,
    View.ld_unit_zero (S := S528x1024) zero2, View.ld_unit_zero (S := S1x1024) zero2, View.ld_unit_zero (S := S1024x1408) zero2, View.ld_unit_zero (S := S1408x1024) zero2, View.ld_unit_zero (S := S1x528x1024) zero3]

end Cert.Kernel2Ideal.Gen

end
-- ==== Proof.DenseEntry.lean ====
/- One row of the dense feed-forward: the normalised and modulated row, the gated layer as a sum over the hidden columns, and the
   residual with the normalised and gated output added. -/
module

public import Idealize.ShloMosaic.PureOps.Ideal

@[expose] public section

noncomputable section

namespace Cert.Dense

open Idealize.ShloMosaic

/-- A row scaled by the reciprocal square root of its mean square and by the gains. -/
def norm (x g : Fin 1024 → EReal) (d : Fin 1024) : EReal :=
  x d * Ideal.rsqrt (Ideal.div (∑ c, x c * x c) (Ideal.ofBits .f32 1149239296#32) + Ideal.ofBits .f32 897988541#32) * g d

/-- The layer's input row. -/
def modulated (x g scale shift : Fin 1024 → EReal) (d : Fin 1024) : EReal := norm x g d * (1 + scale d) + shift d

/-- One hidden value of the gated layer: the gate's sum passed through `z · logistic z`, times the other sum. -/
def hiddenAt (x wg wu : Fin 1024 → EReal) : EReal :=
  (∑ c, x c * wg c) * Ideal.logistic (∑ c, x c * wg c) * ∑ c, x c * wu c

/-- The layer's output row. -/
def fed (x : Fin 1024 → EReal) (wg wu : Fin 2816 → Fin 1024 → EReal) (wd : Fin 2816 → Fin 1024 → EReal) (d : Fin 1024) : EReal :=
  ∑ f, hiddenAt x (wg f) (wu f) * wd f d

/-- The sum over the hidden columns, as the sum over its two halves, added to zero one after the other. -/
theorem fed_halves (x : Fin 1024 → EReal) (wg wu : Fin 2816 → Fin 1024 → EReal) (wd : Fin 2816 → Fin 1024 → EReal) (d : Fin 1024) :
    fed x wg wu wd d
      = 0 + (∑ f : Fin 1408, hiddenAt x (wg ⟨f.val, by omega⟩) (wu ⟨f.val, by omega⟩) * wd ⟨f.val, by omega⟩ d)
        + ∑ f : Fin 1408, hiddenAt x (wg ⟨1408 + f.val, by omega⟩) (wu ⟨1408 + f.val, by omega⟩) * wd ⟨1408 + f.val, by omega⟩ d := by
  rw [zero_add]
  exact Fin.sum_univ_add (a := 1408) (b := 1408) fun f => hiddenAt x (wg f) (wu f) * wd f d

/-- The residual row with the gated, normalised row added. -/
def added (x y g gate : Fin 1024 → EReal) (d : Fin 1024) : EReal := x d + gate d * norm y g d

/-- The row of modulation that a row of the sequence uses: the second from position 8192 on. -/
def kind (ρ : Fin 8448) : Fin 2 := if 8192 ≤ ρ.val then 1 else 0

/-- One entry of the result. -/
def row (x g1 g2 : Fin 1024 → EReal) (md : Fin 6144 → EReal) (wg wu : Fin 2816 → Fin 1024 → EReal) (wd : Fin 2816 → Fin 1024 → EReal) : Fin 1024 → EReal :=
  added x (fed (modulated x g1 (fun d => md ⟨4096 + d.val, by omega⟩) (fun d => md ⟨3072 + d.val, by omega⟩)) wg wu wd) g2
    (fun d => md ⟨5120 + d.val, by omega⟩)

end Cert.Dense

end
-- ==== Proof.DenseTile.lean ====
/- The dense block's arithmetic over the reals: the normalised and modulated rows, the product of one half of the hidden columns,
   and the residual rows, entry by entry. -/
module

public import proofs.«01_k».proof.Proof.DenseBlock
public import proofs.«01_k».proof.Proof.DenseEntry
public import Idealize.ShloMosaic.Lib.Pointwise
public import Idealize.ShloMosaic.Lib.WordCmp
public import Idealize.ShloMosaic.Lib.StableHlo.Predicate
public import Idealize.ShloMosaic.Lib.Pipeline.ValueKit.Tiles

@[expose] public section

set_option maxRecDepth 16384

noncomputable section

namespace Cert.Kernel2Ideal.Tile

open Idealize.ShloMosaic Cert.Kernel2Ideal Cert.Kernel2Ideal.Gen Cert.Dense

/-- The product of one half of the hidden columns, added to the accumulator. -/
theorem pay3_at (x : Vec Ideal S528x1024 .bf16) (wg wu : Vec Ideal S1024x1408 .bf16) (acc : Vec Ideal S528x1024 .f32)
    (wd : Vec Ideal S1408x1024 .bf16) (r : Fin 528) (d : Fin 1024) :
    k0_pay3 x wg wu acc wd (ValueIdx.ix2 r d)
      = acc (ValueIdx.ix2 r d) + ∑ f : Fin 1408, hiddenAt (fun k => x (ValueIdx.ix2 r k)) (fun k => wg (ValueIdx.ix2 k f)) (fun k => wu (ValueIdx.ix2 k f)) * wd (ValueIdx.ix2 f d) := by
  unfold k0_pay3
  pointwise
  rfl

theorem pay2_at (r : Fin 528) (d : Fin 1024) : (k0_pay2 (F := Ideal)) (ValueIdx.ix2 r d) = 0 := by
  unfold k0_pay2
  pointwise

/-- Selecting by a row's number against 8192, at a row of block `n`. -/
theorem pick_at (n : Fin 16) (r : Fin 528) (t : Fin 8448) (ht : t.val = n.val * 528 + r.val) (u : Fin 2 → EReal) :
    Scalar.select (IntOp.cmpi CmpIPredicate.sge (IntOp.addi (Scalar.muli (BitVec.ofNat 32 n.val) 528#32) (BitVec.ofNat 32 r.val)) 8192#32) (u 1) (u 0)
      = u (kind t) := by
  have hn := n.isLt
  have hr := r.isLt
  have e : IntOp.addi (Scalar.muli (BitVec.ofNat 32 n.val) 528#32) (BitVec.ofNat 32 r.val) = BitVec.ofNat 32 t.val := by
    have h1 : Scalar.muli (BitVec.ofNat 32 n.val) 528#32 = BitVec.ofNat 32 (n.val * 528) := WordCmp.muli_ofNat n.val 528
    rw [h1, WordCmp.addi_ofNat, ht]
  rw [e]
  have hc : IntOp.cmpi CmpIPredicate.sge (BitVec.ofNat 32 t.val) 8192#32 = 1#1 ↔ 8192 ≤ t.val :=
    StableHlo.Predicate.sle_ofNat_iff 8192 t.val (by omega) (by omega)
  unfold kind
  by_cases h : 8192 ≤ t.val
  · rw [if_pos h]
    exact if_pos (hc.2 h)
  · rw [if_neg h]
    exact if_neg (fun h' => h (hc.1 h'))

section
variable (n : Fin 16) (x0 : Vec Ideal S1x528x1024 .f32) (x1 : Vec Ideal S1x2x6144 .f32) (x2 x3 : Vec Ideal S1x1024 .f32)

/-- The columns of one row of modulation from a given column on. -/
theorem cols_at (k : Fin 2) (o : Nat) (h : ∀ a, (![0, k.val, o] : Fin 3 → Nat) a + S1x1x1024.size a ≤ S1x2x6144.size a) (d : Fin 1024) (j : Fin 6144) (hj : j.val = o + d.val) :
    View.ld x1 (Rect.unit (s := S1x2x6144) ![0, k.val, o] S1x1x1024.size h) (ValueIdx.ix3 (0 : Fin 1) (0 : Fin 1) d) = x1 (ValueIdx.ix3 (0 : Fin 1) k j) := by
  refine View.ld_unit_apply_of x1 _ _ h _ _ fun a => ?_
  match a with
  | ⟨0, _⟩ => rfl
  | ⟨1, _⟩ => exact (show k.val = k.val + 0 by omega)
  | ⟨2, _⟩ => exact hj

theorem pay4_at (u v : Vec Ideal S1x1x1024 .f32) (r : Fin 528) (d : Fin 1024) :
    k0_pay4 (F := Ideal) (BitVec.ofNat 32 n.val) u v (ValueIdx.ix2 r d)
      = Scalar.select (IntOp.cmpi CmpIPredicate.sge (IntOp.addi (Scalar.muli (BitVec.ofNat 32 n.val) 528#32) (BitVec.ofNat 32 r.val)) 8192#32)
          (u (ValueIdx.ix3 (0 : Fin 1) (0 : Fin 1) d)) (v (ValueIdx.ix3 (0 : Fin 1) (0 : Fin 1) d)) := by
  unfold k0_pay4
  pointwise
  rfl

theorem pay5_at (u v : Vec Ideal S1x1x1024 .f32) (r : Fin 528) (d : Fin 1024) :
    k0_pay5 (F := Ideal) (BitVec.ofNat 32 n.val) u v (ValueIdx.ix2 r d) = k0_pay4 (F := Ideal) (BitVec.ofNat 32 n.val) u v (ValueIdx.ix2 r d) := rfl

/-- The shift of a row. -/
theorem shift_at (r : Fin 528) (d : Fin 1024) (t : Fin 8448) (ht : t.val = n.val * 528 + r.val) :
    k0_pay4 (F := Ideal) (BitVec.ofNat 32 n.val) (mod1_3 x1) (mod0_3 x1) (ValueIdx.ix2 r d) = x1 (ValueIdx.ix3 (0 : Fin 1) (kind t) (⟨3072 + d.val, by omega⟩ : Fin 6144)) := by
  refine Eq.trans ?_ (pick_at n r t ht fun k => x1 (ValueIdx.ix3 (0 : Fin 1) k (⟨3072 + d.val, by omega⟩ : Fin 6144)))
  exact (pay4_at n _ _ r d).trans (congrArg₂ _ (cols_at x1 1 3072 inb_S1x2x6144_S1x1x1024_0_1_3072 d _ rfl) (cols_at x1 0 3072 inb_S1x2x6144_S1x1x1024_0_0_3072 d _ rfl))

/-- The scale of a row. -/
theorem scale_at (r : Fin 528) (d : Fin 1024) (t : Fin 8448) (ht : t.val = n.val * 528 + r.val) :
    k0_pay5 (F := Ideal) (BitVec.ofNat 32 n.val) (mod1_4 x1) (mod0_4 x1) (ValueIdx.ix2 r d) = x1 (ValueIdx.ix3 (0 : Fin 1) (kind t) (⟨4096 + d.val, by omega⟩ : Fin 6144)) := by
  refine Eq.trans ?_ (pick_at n r t ht fun k => x1 (ValueIdx.ix3 (0 : Fin 1) k (⟨4096 + d.val, by omega⟩ : Fin 6144)))
  exact ((pay5_at n _ _ r d).trans (pay4_at n _ _ r d)).trans (congrArg₂ _ (cols_at x1 1 4096 inb_S1x2x6144_S1x1x1024_0_1_4096 d _ rfl) (cols_at x1 0 4096 inb_S1x2x6144_S1x1x1024_0_0_4096 d _ rfl))

/-- The normalised rows with any scales and shifts. -/
theorem pay1_at (s t : Vec Ideal S528x1024 .f32) (r : Fin 528) (d : Fin 1024) :
    k0_pay1 (F := Ideal) s t (k0_pay6 x0) (k0_pay7 x0) (FloatOps.ofBits FTy.f32 1149239296#32) x2 (ValueIdx.ix2 r d)
      = modulated (fun c => x0 (ValueIdx.ix3 (0 : Fin 1) r c)) (fun c => x2 (ValueIdx.ix2 (0 : Fin 1) c)) (fun c => t (ValueIdx.ix2 r c)) (fun c => s (ValueIdx.ix2 r c)) d := by
  unfold k0_pay1 k0_pay7 k0_pay6
  pointwise
  rfl

/-- The layer's input rows. -/
theorem rowsIn_at (r : Fin 528) (d : Fin 1024) (t : Fin 8448) (ht : t.val = n.val * 528 + r.val) :
    rowsIn (F := Ideal) (BitVec.ofNat 32 n.val) x0 x1 x2 (ValueIdx.ix2 r d)
      = modulated (fun c => x0 (ValueIdx.ix3 (0 : Fin 1) r c)) (fun c => x2 (ValueIdx.ix2 (0 : Fin 1) c))
          (fun c => x1 (ValueIdx.ix3 (0 : Fin 1) (kind t) (⟨4096 + c.val, by omega⟩ : Fin 6144))) (fun c => x1 (ValueIdx.ix3 (0 : Fin 1) (kind t) (⟨3072 + c.val, by omega⟩ : Fin 6144))) d := by
  unfold rowsIn
  rw [pay1_at]
  unfold modulated
  dsimp only
  rw [shift_at n x1 r d t ht, scale_at n x1 r d t ht]

theorem pay8_at (u v : Vec Ideal S1x1x1024 .f32) (y : Vec Ideal S528x1024 .f32) (r : Fin 528) (d : Fin 1024) :
    k0_pay8 (F := Ideal) (BitVec.ofNat 32 n.val) u v x0 y x3 (ValueIdx.ix3 (0 : Fin 1) r d)
      = added (fun c => x0 (ValueIdx.ix3 (0 : Fin 1) r c)) (fun c => y (ValueIdx.ix2 r c)) (fun c => x3 (ValueIdx.ix2 (0 : Fin 1) c))
          (fun c => Scalar.select (IntOp.cmpi CmpIPredicate.sge (IntOp.addi (Scalar.muli (BitVec.ofNat 32 n.val) 528#32) (BitVec.ofNat 32 r.val)) 8192#32)
            (u (ValueIdx.ix3 (0 : Fin 1) (0 : Fin 1) c)) (v (ValueIdx.ix3 (0 : Fin 1) (0 : Fin 1) c))) d := by
  unfold k0_pay8
  pointwise
  rfl

/-- The residual rows. -/
theorem rowsOut_at (y : Vec Ideal S528x1024 .f32) (r : Fin 528) (d : Fin 1024) (t : Fin 8448) (ht : t.val = n.val * 528 + r.val) :
    k0_pay8 (F := Ideal) (BitVec.ofNat 32 n.val) (mod1_5 x1) (mod0_5 x1) x0 y x3 (ValueIdx.ix3 (0 : Fin 1) r d)
      = added (fun c => x0 (ValueIdx.ix3 (0 : Fin 1) r c)) (fun c => y (ValueIdx.ix2 r c)) (fun c => x3 (ValueIdx.ix2 (0 : Fin 1) c))
          (fun c => x1 (ValueIdx.ix3 (0 : Fin 1) (kind t) (⟨5120 + c.val, by omega⟩ : Fin 6144))) d := by
  refine (pay8_at n x0 x3 _ _ y r d).trans (congrArg (fun g => added _ _ _ g d) (funext fun c => ?_))
  refine Eq.trans ?_ (pick_at n r t ht fun k => x1 (ValueIdx.ix3 (0 : Fin 1) k (⟨5120 + c.val, by omega⟩ : Fin 6144)))
  exact congrArg₂ _ (cols_at x1 1 5120 inb_S1x2x6144_S1x1x1024_0_1_5120 c _ rfl) (cols_at x1 0 5120 inb_S1x2x6144_S1x1x1024_0_0_5120 c _ rfl)

end

end Cert.Kernel2Ideal.Tile

end
-- ==== Proof.DenseArray.lean ====
/- The dense call's input blocks at coordinates, and what the second point of a block of rows leaves there. -/
module

public import proofs.«01_k».proof.Proof.DenseTile
public import Idealize.ShloMosaic.Lib.Pipeline.ValueKit.Geometry
public import Idealize.ShloMosaic.Lib.StableHlo.RunRead

@[expose] public section

set_option maxRecDepth 16384

noncomputable section

namespace Cert.Kernel2Ideal.Gen

open Idealize.ShloMosaic Idealize.ShloMosaic.TcCoe Idealize.ShloMosaic.Tactic Cert.Dense
open Idealize.ShloMosaic.Pipeline (Dat Cfg Window)

section
variable {F : FTy → Type} [FloatOps F]
variable (m : (ℓ : Loc nD τ sig) → Buf (Elt F) ℓ)

theorem coord_batch (t : Fin grid0.N) : (grid0.coords t 0).val = t.val / 32 := by
  have h := Pipeline.Grid.coords_val (G := grid0) t 0 (S := 32) (B := 2) (by decide) rfl
  have ht : t.val < 64 := lt_of_lt_of_eq t.isLt N_0
  omega

theorem coord_block (t : Fin grid0.N) : (grid0.coords t 1).val = t.val / 2 % 16 :=
  Pipeline.Grid.coords_val (G := grid0) t 1 (S := 2) (B := 16) (by decide) rfl

theorem coord_half (t : Fin grid0.N) : (grid0.coords t 2).val = t.val % 2 := by
  have h := Pipeline.Grid.coords_val (G := grid0) t 2 (S := 1) (B := 2) (by decide) rfl
  omega

theorem word_batch (t : Fin grid0.N) : (BitVec.ofNat 32 (grid0.coords t 0).val).toNat = t.val / 32 := by
  have ht : t.val < 64 := lt_of_lt_of_eq t.isLt N_0
  rw [coord_batch, BitVec.toNat_ofNat, Nat.mod_eq_of_lt (by omega)]

theorem word_block (t : Fin grid0.N) : (BitVec.ofNat 32 (grid0.coords t 1).val).toNat = t.val / 2 % 16 := by
  rw [coord_block, BitVec.toNat_ofNat, Nat.mod_eq_of_lt (by omega)]

theorem word_half (t : Fin grid0.N) : (BitVec.ofNat 32 (grid0.coords t 2).val).toNat = t.val % 2 := by
  rw [coord_half, BitVec.toNat_ofNat, Nat.mod_eq_of_lt (by omega)]

/-- The rows' block. -/
theorem rows_block (c : Dev nD) (t : Fin cfg0.N) (r : Fin 528) (d : Fin 1024) (b : Fin 2) (ρ : Fin 8448) (hb : b.val = t.val / 32)
    (hρ : ρ.val = t.val / 2 % 16 * 528 + r.val) :
    iblk m c 0 t (ValueIdx.ix3 (0 : Fin 1) r d) = V m c main_arg0 (ValueIdx.ix3 b ρ d) := by
  refine congrArg (V m c main_arg0) (funext fun x => Fin.ext ?_)
  match x with
  | ⟨0, _⟩ =>
    refine (congrArg (fun z => z * 1 + 1 * 0) (word_batch t)).trans ?_
    show _ = b.val
    omega
  | ⟨1, _⟩ =>
    refine (congrArg (fun z => z * 528 + 1 * r.val) (word_block t)).trans ?_
    show _ = ρ.val
    omega
  | ⟨2, _⟩ => exact (show 0 * 1024 + 1 * d.val = d.val by omega)

/-- The modulation's block. -/
theorem mod_block (c : Dev nD) (t : Fin cfg0.N) (k : Fin 2) (j : Fin 6144) (b : Fin 2) (hb : b.val = t.val / 32) :
    iblk m c 1 t (ValueIdx.ix3 (0 : Fin 1) k j) = V m c main_arg1 (ValueIdx.ix3 b k j) := by
  refine congrArg (V m c main_arg1) (funext fun x => Fin.ext ?_)
  match x with
  | ⟨0, _⟩ =>
    refine (congrArg (fun z => z * 1 + 1 * 0) (word_batch t)).trans ?_
    show _ = b.val
    omega
  | ⟨1, _⟩ => exact (show 0 * 2 + 1 * k.val = k.val by omega)
  | ⟨2, _⟩ => exact (show 0 * 6144 + 1 * j.val = j.val by omega)

/-- The gains' blocks. -/
theorem gainIn_block (c : Dev nD) (t : Fin cfg0.N) (d : Fin 1024) :
    iblk m c 2 t (ValueIdx.ix2 (0 : Fin 1) d) = V m c main_arg2 (ValueIdx.ix2 (0 : Fin 1) d) := by
  refine congrArg (V m c main_arg2) (funext fun x => Fin.ext ?_)
  match x with
  | ⟨0, _⟩ => rfl
  | ⟨1, _⟩ => exact (show 0 * 1024 + 1 * d.val = d.val by omega)

theorem gainOut_block (c : Dev nD) (t : Fin cfg0.N) (d : Fin 1024) :
    iblk m c 3 t (ValueIdx.ix2 (0 : Fin 1) d) = V m c main_arg3 (ValueIdx.ix2 (0 : Fin 1) d) := by
  refine congrArg (V m c main_arg3) (funext fun x => Fin.ext ?_)
  match x with
  | ⟨0, _⟩ => rfl
  | ⟨1, _⟩ => exact (show 0 * 1024 + 1 * d.val = d.val by omega)

/-- The gate weights' block. -/
theorem gate_block (c : Dev nD) (t : Fin cfg0.N) (d : Fin 1024) (f : Fin 1408) (g : Fin 2816) (hg : g.val = t.val % 2 * 1408 + f.val) :
    iblk m c 4 t (ValueIdx.ix2 d f) = V m c main_v0 (ValueIdx.ix2 d g) := by
  refine congrArg (V m c main_v0) (funext fun x => Fin.ext ?_)
  match x with
  | ⟨0, _⟩ => exact (show 0 * 1024 + 1 * d.val = d.val by omega)
  | ⟨1, _⟩ =>
    refine (congrArg (fun z => z * 1408 + 1 * f.val) (word_half t)).trans ?_
    show _ = g.val
    omega

/-- The up weights' block. -/
theorem up_block (c : Dev nD) (t : Fin cfg0.N) (d : Fin 1024) (f : Fin 1408) (g : Fin 2816) (hg : g.val = t.val % 2 * 1408 + f.val) :
    iblk m c 5 t (ValueIdx.ix2 d f) = V m c main_v1 (ValueIdx.ix2 d g) := by
  refine congrArg (V m c main_v1) (funext fun x => Fin.ext ?_)
  match x with
  | ⟨0, _⟩ => exact (show 0 * 1024 + 1 * d.val = d.val by omega)
  | ⟨1, _⟩ =>
    refine (congrArg (fun z => z * 1408 + 1 * f.val) (word_half t)).trans ?_
    show _ = g.val
    omega

/-- The down weights' block. -/
theorem down_block (c : Dev nD) (t : Fin cfg0.N) (f : Fin 1408) (d : Fin 1024) (g : Fin 2816) (hg : g.val = t.val % 2 * 1408 + f.val) :
    iblk m c 6 t (ValueIdx.ix2 f d) = V m c main_v2 (ValueIdx.ix2 g d) := by
  refine congrArg (V m c main_v2) (funext fun x => Fin.ext ?_)
  match x with
  | ⟨0, _⟩ =>
    refine (congrArg (fun z => z * 1408 + 1 * f.val) (word_half t)).trans ?_
    show _ = g.val
    omega
  | ⟨1, _⟩ => exact (show 0 * 1024 + 1 * d.val = d.val by omega)

/-! ## The weights the host prepares -/

theorem V_gate (c : Dev nD) : V m c main_v0 = truncf .bf16 (m ((c : Thread nD τ).loc main_arg4)) bitsLt_bf16_f32 := by
  unfold V hostOps0
  after_reads_simp

theorem V_up (c : Dev nD) : V m c main_v1 = truncf .bf16 (m ((c : Thread nD τ).loc main_arg5)) bitsLt_bf16_f32 := by
  unfold V hostOps0
  after_reads_simp

theorem V_down (c : Dev nD) : V m c main_v2 = truncf .bf16 (m ((c : Thread nD τ).loc main_arg6)) bitsLt_bf16_f32 := by
  unfold V hostOps0
  after_reads_simp

/-! ## What the two points of a block of rows leave -/

/-- What the second point of a block leaves, over what the first one left. -/
theorem leaves_eq (c : Dev nD) (p q : Fin cfg0.N) (hp : p.val % 2 = 0) (hq : q.val = p.val + 1) :
    (outsAt0 m c q.val q.isLt).1
      = k0_pay8 (BitVec.ofNat 32 (grid0.coords q 1).val) (mod1_5 (iblk m c 1 q)) (mod0_5 (iblk m c 1 q)) (iblk m c 0 q)
          (k0_pay3 (rowsIn (BitVec.ofNat 32 (grid0.coords p 1).val) (iblk m c 0 p) (iblk m c 1 p) (iblk m c 2 p)) (iblk m c 4 q) (iblk m c 5 q)
            (k0_pay3 (rowsIn (BitVec.ofNat 32 (grid0.coords p 1).val) (iblk m c 0 p) (iblk m c 1 p) (iblk m c 2 p)) (iblk m c 4 p) (iblk m c 5 p) k0_pay2 (iblk m c 6 p))
            (iblk m c 6 q)) (iblk m c 3 q) := by
  have hA := outsAt0_A m c p hp (by omega)
  rw [rows_first, sum_first] at hA
  rw [outsAt0_B m c q (by omega) (by omega)]
  dsimp only
  rw [block_second]
  have e : ∀ n (h : n < cfg0.N), n = p.val → outsAt0 m c n h = outsAt0 m c p.val p.isLt := fun n h hn => by subst hn; rfl
  rw [e (q.val - 1) _ (by omega), hA]

end

end Cert.Kernel2Ideal.Gen

end
-- ==== Proof.DenseRef.lean ====
/- The second reference's result, entry by entry. -/
module

public import proofs.«01_k».proof.Proof.Gen.Reference2Ideal.Read
public import proofs.«01_k».proof.Proof.DenseEntry
public import Idealize.ShloMosaic.Lib.Pointwise

@[expose] public section

noncomputable section

namespace Cert.Reference2Ideal.Dense

open Idealize.ShloMosaic Idealize.ShloMosaic.TcCoe Cert.Reference2Ideal Cert.Reference2Ideal.Gen Cert.Reference2Ideal.Read Cert.Dense

variable (x0 : Vec Ideal S2x8448x1024 .f32) (x1 : Vec Ideal S2x2x6144 .f32) (x2 x3 : Vec Ideal S1x1024 .f32) (x4 x5 : Vec Ideal S1024x2816 .f32) (x6 : Vec Ideal S2816x1024 .f32)

/-- The input rows of the first part of the sequence. -/
theorem lat_in (b : Fin 2) (t : Fin 8192) (d : Fin 1024) :
    val_main_v34 (F := Ideal) x0 x1 x2 (ValueIdx.ix3 b t d)
      = modulated (fun c => x0 (ValueIdx.ix3 b (⟨t.val, by omega⟩ : Fin 8448) c)) (fun c => x2 (ValueIdx.ix2 (0 : Fin 1) c))
          (fun c => x1 (ValueIdx.ix3 b (0 : Fin 2) (⟨4096 + c.val, by omega⟩ : Fin 6144))) (fun c => x1 (ValueIdx.ix3 b (0 : Fin 2) (⟨3072 + c.val, by omega⟩ : Fin 6144))) d := by
  unfold val_main_v34 val_main_v32 val_main_v33 val_main_v31 val_main_v30 val_main_v29 val_main_cst_2 val_main_v28 val_main_v27 val_main_v26
    val_main_v25 val_main_v24 val_main_v23 val_main_v22 val_main_v21 val_main_cst_1 val_main_v20 val_main_v19 val_main_cst_0 val_main_v18
    val_main_v17 val_main_cst val_main_v16 val_main_v0 val_main_v6 val_main_v7 val_main_v2
  pointwise
  rfl

/-- The input rows of the last part of the sequence. -/
theorem ctx_in (b : Fin 2) (t : Fin 256) (d : Fin 1024) :
    val_main_v53 (F := Ideal) x0 x1 x2 (ValueIdx.ix3 b t d)
      = modulated (fun c => x0 (ValueIdx.ix3 b (⟨8192 + t.val, by omega⟩ : Fin 8448) c)) (fun c => x2 (ValueIdx.ix2 (0 : Fin 1) c))
          (fun c => x1 (ValueIdx.ix3 b (1 : Fin 2) (⟨4096 + c.val, by omega⟩ : Fin 6144))) (fun c => x1 (ValueIdx.ix3 b (1 : Fin 2) (⟨3072 + c.val, by omega⟩ : Fin 6144))) d := by
  unfold val_main_v53 val_main_v51 val_main_v52 val_main_v50 val_main_v49 val_main_v48 val_main_cst_6 val_main_v47 val_main_v46 val_main_v45
    val_main_v44 val_main_v43 val_main_v42 val_main_v41 val_main_v40 val_main_cst_5 val_main_v39 val_main_v38 val_main_cst_4 val_main_v37
    val_main_v36 val_main_cst_3 val_main_v35 val_main_v1 val_main_v13 val_main_v14 val_main_v9
  pointwise
  rfl

/-- Two stacks of rows, one after the other. -/
theorem stacked_at (y : FVec Ideal S2x8192x1024 .f32) (z : FVec Ideal S2x256x1024 .f32) (b : Fin 2) (t : Fin 8448) (d : Fin 1024) :
    concatenate S2x8448x1024 1 [⟨S2x8192x1024, y⟩, ⟨S2x256x1024, z⟩] concatenates_S2x8192x1024_S2x256x1024_S2x8448x1024_d1 (ValueIdx.ix3 b t d)
      = if h : t.val < 8192 then y (ValueIdx.ix3 b ⟨t.val, h⟩ d) else z (ValueIdx.ix3 b ⟨t.val - 8192, by omega⟩ d) := by
  pointwise
  rfl

theorem kind_lo (t : Fin 8448) (h : t.val < 8192) : kind t = 0 := if_neg (by omega)
theorem kind_hi (t : Fin 8448) (h : ¬t.val < 8192) : kind t = 1 := if_pos (by omega)
theorem back (t : Fin 8448) (h : ¬t.val < 8192) : (⟨8192 + (t.val - 8192), by omega⟩ : Fin 8448) = t := Fin.ext (by show 8192 + (t.val - 8192) = t.val; omega)

/-- The layer's input. -/
theorem in_at (b : Fin 2) (t : Fin 8448) (d : Fin 1024) :
    val_main_v54 (F := Ideal) x0 x1 x2 (ValueIdx.ix3 b t d)
      = modulated (fun c => x0 (ValueIdx.ix3 b t c)) (fun c => x2 (ValueIdx.ix2 (0 : Fin 1) c))
          (fun c => x1 (ValueIdx.ix3 b (kind t) (⟨4096 + c.val, by omega⟩ : Fin 6144))) (fun c => x1 (ValueIdx.ix3 b (kind t) (⟨3072 + c.val, by omega⟩ : Fin 6144))) d := by
  refine (stacked_at _ _ b t d).trans ?_
  by_cases h : t.val < 8192
  · rw [dif_pos h, kind_lo t h, lat_in]
  · rw [dif_neg h, kind_hi t h, ctx_in, back t h]

/-- The gated layer on any rows. -/
theorem fed_at (b : Fin 2) (t : Fin 8448) (d : Fin 1024) :
    val_main_v59 (F := Ideal) x0 x1 x2 x4 x5 x6 (ValueIdx.ix3 b t d)
      = fed (fun c => val_main_v54 (F := Ideal) x0 x1 x2 (ValueIdx.ix3 b t c)) (fun f c => x4 (ValueIdx.ix2 c f)) (fun f c => x5 (ValueIdx.ix2 c f))
          (fun f c => x6 (ValueIdx.ix2 f c)) d := by
  unfold val_main_v59 val_main_v58 val_main_v57 val_main_v56 val_main_call0_v5 val_main_call0_v4 val_main_call0_cst_0 val_main_call0_v3
    val_main_call0_v2 val_main_call0_cst val_main_call0_v1 val_main_call0_v0 val_main_v55
  generalize val_main_v54 (F := Ideal) x0 x1 x2 = y
  pointwise
  rfl

/-- The residual rows of the first part of the sequence. -/
theorem lat_out (b : Fin 2) (t : Fin 8192) (d : Fin 1024) :
    val_main_v76 (F := Ideal) x0 x1 x2 x3 x4 x5 x6 (ValueIdx.ix3 b t d)
      = added (fun c => x0 (ValueIdx.ix3 b (⟨t.val, by omega⟩ : Fin 8448) c)) (fun c => val_main_v59 (F := Ideal) x0 x1 x2 x4 x5 x6 (ValueIdx.ix3 b (⟨t.val, by omega⟩ : Fin 8448) c))
          (fun c => x3 (ValueIdx.ix2 (0 : Fin 1) c)) (fun c => x1 (ValueIdx.ix3 b (0 : Fin 2) (⟨5120 + c.val, by omega⟩ : Fin 6144))) d := by
  unfold val_main_v76 val_main_v75 val_main_v74 val_main_v73 val_main_v72 val_main_v71 val_main_v70 val_main_v69 val_main_v68 val_main_v67
    val_main_v66 val_main_cst_9 val_main_v65 val_main_v64 val_main_cst_8 val_main_v63 val_main_v62 val_main_cst_7 val_main_v61 val_main_v60
    val_main_v0 val_main_v8 val_main_v2
  generalize val_main_v59 (F := Ideal) x0 x1 x2 x4 x5 x6 = y
  pointwise
  rfl

/-- The residual rows of the last part of the sequence. -/
theorem ctx_out (b : Fin 2) (t : Fin 256) (d : Fin 1024) :
    val_main_v93 (F := Ideal) x0 x1 x2 x3 x4 x5 x6 (ValueIdx.ix3 b t d)
      = added (fun c => x0 (ValueIdx.ix3 b (⟨8192 + t.val, by omega⟩ : Fin 8448) c)) (fun c => val_main_v59 (F := Ideal) x0 x1 x2 x4 x5 x6 (ValueIdx.ix3 b (⟨8192 + t.val, by omega⟩ : Fin 8448) c))
          (fun c => x3 (ValueIdx.ix2 (0 : Fin 1) c)) (fun c => x1 (ValueIdx.ix3 b (1 : Fin 2) (⟨5120 + c.val, by omega⟩ : Fin 6144))) d := by
  unfold val_main_v93 val_main_v92 val_main_v91 val_main_v90 val_main_v89 val_main_v88 val_main_v87 val_main_v86 val_main_v85 val_main_v84
    val_main_v83 val_main_cst_12 val_main_v82 val_main_v81 val_main_cst_11 val_main_v80 val_main_v79 val_main_cst_10 val_main_v78 val_main_v77
    val_main_v1 val_main_v15 val_main_v9
  generalize val_main_v59 (F := Ideal) x0 x1 x2 x4 x5 x6 = y
  pointwise
  rfl

/-- The result. -/
theorem result_at (b : Fin 2) (t : Fin 8448) (d : Fin 1024) :
    val_main_v94 (F := Ideal) x0 x1 x2 x3 x4 x5 x6 (ValueIdx.ix3 b t d)
      = row (fun c => x0 (ValueIdx.ix3 b t c)) (fun c => x2 (ValueIdx.ix2 (0 : Fin 1) c)) (fun c => x3 (ValueIdx.ix2 (0 : Fin 1) c))
          (fun j => x1 (ValueIdx.ix3 b (kind t) j)) (fun f c => x4 (ValueIdx.ix2 c f)) (fun f c => x5 (ValueIdx.ix2 c f))
          (fun f c => x6 (ValueIdx.ix2 f c)) d := by
  have hy : (fun c => val_main_v59 (F := Ideal) x0 x1 x2 x4 x5 x6 (ValueIdx.ix3 b t c))
      = fed (modulated (fun c => x0 (ValueIdx.ix3 b t c)) (fun c => x2 (ValueIdx.ix2 (0 : Fin 1) c))
          (fun c => x1 (ValueIdx.ix3 b (kind t) (⟨4096 + c.val, by omega⟩ : Fin 6144))) (fun c => x1 (ValueIdx.ix3 b (kind t) (⟨3072 + c.val, by omega⟩ : Fin 6144))))
          (fun f c => x4 (ValueIdx.ix2 c f)) (fun f c => x5 (ValueIdx.ix2 c f)) (fun f c => x6 (ValueIdx.ix2 f c)) := by
    funext c
    rw [fed_at]
    exact congrArg (fun y => fed y _ _ _ c) (funext fun k => in_at x0 x1 x2 b t k)
  unfold row
  rw [← hy]
  refine (stacked_at _ _ b t d).trans ?_
  by_cases h : t.val < 8192
  · rw [dif_pos h, kind_lo t h, lat_out]
  · rw [dif_neg h, kind_hi t h, ctx_out, back t h]

end Cert.Reference2Ideal.Dense

end
-- ==== Proof.DenseValue.lean ====
/- The dense call's result, entry by entry, and its equality with the reference's. -/
module

public import proofs.«01_k».proof.Proof.DenseArray
public import proofs.«01_k».proof.Proof.DenseRef

@[expose] public section

set_option maxRecDepth 16384

noncomputable section

namespace Cert.Kernel2Ideal.Result

open Idealize.ShloMosaic Idealize.ShloMosaic.TcCoe Cert.Kernel2Ideal Cert.Kernel2Ideal.Gen Cert.Kernel2Ideal.Value Cert.Dense

/-- One half's contribution, with the blocks read as rows and columns of the arrays they come from. -/
theorem half_of (x : Vec Ideal S528x1024 .bf16) (wg wu : Vec Ideal S1024x1408 .bf16) (acc : Vec Ideal S528x1024 .f32)
    (wd : Vec Ideal S1408x1024 .bf16) (r : Fin 528) (d : Fin 1024)
    (X : Fin 1024 → EReal) (G U : Fin 1408 → Fin 1024 → EReal) (D : Fin 1408 → EReal)
    (hx : ∀ k, x (ValueIdx.ix2 r k) = X k) (hg : ∀ k f, wg (ValueIdx.ix2 k f) = G f k) (hu : ∀ k f, wu (ValueIdx.ix2 k f) = U f k)
    (hd : ∀ f, wd (ValueIdx.ix2 f d) = D f) :
    k0_pay3 x wg wu acc wd (ValueIdx.ix2 r d) = (acc (ValueIdx.ix2 r d) : EReal) + ∑ f : Fin 1408, hiddenAt X (G f) (U f) * D f := by
  rw [Tile.pay3_at]
  simp only [hx, hg, hu, hd]

theorem two_halves (z a p S T : EReal) (hz : z = a + T) (ha : a = p + S) (hp : p = 0) : z = 0 + S + T := by
  rw [hz, ha, hp]

/-- The input rows over blocks read off their arrays. -/
theorem rows_of (n : Fin 16) (x0 : Vec Ideal S1x528x1024 .f32) (x1 : Vec Ideal S1x2x6144 .f32) (x2 : Vec Ideal S1x1024 .f32) (r : Fin 528) (t : Fin 8448)
    (ht : t.val = n.val * 528 + r.val) (X g : Fin 1024 → EReal) (M : Fin 6144 → EReal)
    (hx : ∀ k, x0 (ValueIdx.ix3 (0 : Fin 1) r k) = X k) (hm : ∀ j, x1 (ValueIdx.ix3 (0 : Fin 1) (kind t) j) = M j) (hg : ∀ k, x2 (ValueIdx.ix2 (0 : Fin 1) k) = g k) (d : Fin 1024) :
    rowsIn (F := Ideal) (BitVec.ofNat 32 n.val) x0 x1 x2 (ValueIdx.ix2 r d)
      = modulated X g (fun c => M ⟨4096 + c.val, by omega⟩) (fun c => M ⟨3072 + c.val, by omega⟩) d := by
  rw [Tile.rowsIn_at n x0 x1 x2 r d t ht]
  simp only [hx, hm, hg]

/-- The residual rows over blocks read off their arrays. -/
theorem out_of (n : Fin 16) (x0 : Vec Ideal S1x528x1024 .f32) (x1 : Vec Ideal S1x2x6144 .f32) (x3 : Vec Ideal S1x1024 .f32) (y : Vec Ideal S528x1024 .f32) (r : Fin 528) (t : Fin 8448)
    (ht : t.val = n.val * 528 + r.val) (X g Y : Fin 1024 → EReal) (M : Fin 6144 → EReal)
    (hx : ∀ k, x0 (ValueIdx.ix3 (0 : Fin 1) r k) = X k) (hm : ∀ j, x1 (ValueIdx.ix3 (0 : Fin 1) (kind t) j) = M j) (hg : ∀ k, x3 (ValueIdx.ix2 (0 : Fin 1) k) = g k)
    (hy : ∀ k, y (ValueIdx.ix2 r k) = Y k) (d : Fin 1024) :
    k0_pay8 (F := Ideal) (BitVec.ofNat 32 n.val) (mod1_5 x1) (mod0_5 x1) x0 y x3 (ValueIdx.ix3 (0 : Fin 1) r d)
      = added X Y g (fun c => M ⟨5120 + c.val, by omega⟩) d := by
  rw [Tile.rowsOut_at n x0 x1 x3 y r d t ht]
  simp only [hx, hm, hg, hy]

variable (m : (ℓ : Loc nD τ sig) → Buf (Elt Ideal) ℓ)

/-- What the second point of a block leaves at a row, from the arguments. -/
theorem left_at (c : Dev nD) (p q : Fin cfg0.N) (hp : p.val % 2 = 0) (hq : q.val = p.val + 1) (b : Fin 2) (ρ : Fin 8448) (r : Fin 528) (d : Fin 1024)
    (hb : b.val = q.val / 32) (hρ : ρ.val = q.val / 2 % 16 * 528 + r.val) :
    (outsAt0 m c q.val q.isLt).1 (ValueIdx.ix3 (0 : Fin 1) r d)
      = row (fun k => m ((c : Thread nD τ).loc main_arg0) (ValueIdx.ix3 b ρ k)) (fun k => m ((c : Thread nD τ).loc main_arg2) (ValueIdx.ix2 (0 : Fin 1) k))
          (fun k => m ((c : Thread nD τ).loc main_arg3) (ValueIdx.ix2 (0 : Fin 1) k)) (fun j => m ((c : Thread nD τ).loc main_arg1) (ValueIdx.ix3 b (kind ρ) j))
          (fun f k => m ((c : Thread nD τ).loc main_arg4) (ValueIdx.ix2 k f)) (fun f k => m ((c : Thread nD τ).loc main_arg5) (ValueIdx.ix2 k f))
          (fun f k => m ((c : Thread nD τ).loc main_arg6) (ValueIdx.ix2 f k)) d := by
  have hb1 : b.val = p.val / 32 := by omega
  have hρ1 : ρ.val = p.val / 2 % 16 * 528 + r.val := by omega
  have hρn : ρ.val = (grid0.coords q 1).val * 528 + r.val := by rw [coord_block]; exact hρ
  have hρn1 : ρ.val = (grid0.coords p 1).val * 528 + r.val := by rw [coord_block]; exact hρ1
  have g1 : ∀ f : Fin 1408, f.val = p.val % 2 * 1408 + f.val := fun f => by rw [hp]; omega
  have g2 : ∀ f : Fin 1408, 1408 + f.val = q.val % 2 * 1408 + f.val := fun f => by omega
  have hx : ∀ k, iblk m c 0 q (ValueIdx.ix3 (0 : Fin 1) r k) = m ((c : Thread nD τ).loc main_arg0) (ValueIdx.ix3 b ρ k) := fun k =>
    (rows_block m c q r k b ρ hb hρ).trans (congrFun (V_main_arg0 m c) _)
  have hx1 : ∀ k, iblk m c 0 p (ValueIdx.ix3 (0 : Fin 1) r k) = m ((c : Thread nD τ).loc main_arg0) (ValueIdx.ix3 b ρ k) := fun k =>
    (rows_block m c p r k b ρ hb1 hρ1).trans (congrFun (V_main_arg0 m c) _)
  have hm : ∀ j, iblk m c 1 q (ValueIdx.ix3 (0 : Fin 1) (kind ρ) j) = m ((c : Thread nD τ).loc main_arg1) (ValueIdx.ix3 b (kind ρ) j) := fun j =>
    (mod_block m c q (kind ρ) j b hb).trans (congrFun (V_main_arg1 m c) _)
  have hm1 : ∀ j, iblk m c 1 p (ValueIdx.ix3 (0 : Fin 1) (kind ρ) j) = m ((c : Thread nD τ).loc main_arg1) (ValueIdx.ix3 b (kind ρ) j) := fun j =>
    (mod_block m c p (kind ρ) j b hb1).trans (congrFun (V_main_arg1 m c) _)
  have hi : ∀ k, iblk m c 2 p (ValueIdx.ix2 (0 : Fin 1) k) = m ((c : Thread nD τ).loc main_arg2) (ValueIdx.ix2 (0 : Fin 1) k) := fun k =>
    (gainIn_block m c p k).trans (congrFun (V_main_arg2 m c) _)
  have ho : ∀ k, iblk m c 3 q (ValueIdx.ix2 (0 : Fin 1) k) = m ((c : Thread nD τ).loc main_arg3) (ValueIdx.ix2 (0 : Fin 1) k) := fun k =>
    (gainOut_block m c q k).trans (congrFun (V_main_arg3 m c) _)
  have hin := rows_of (grid0.coords p 1) (iblk m c 0 p) (iblk m c 1 p) (iblk m c 2 p) r ρ hρn1 _ _ _ hx1 hm1 hi
  rw [leaves_eq m c p q hp hq]
  unfold row
  refine out_of (grid0.coords q 1) (iblk m c 0 q) (iblk m c 1 q) (iblk m c 3 q) _ r ρ hρn _ _ _ _ hx hm ho (fun k => ?_) d
  rw [fed_halves]
  refine two_halves _ _ _ _ _ (half_of _ _ _ _ _ _ _ _ _ _ _ hin
    (fun i f => (gate_block m c q i f ⟨1408 + f.val, by omega⟩ (g2 f)).trans (congrFun (V_gate m c) _))
    (fun i f => (up_block m c q i f ⟨1408 + f.val, by omega⟩ (g2 f)).trans (congrFun (V_up m c) _))
    (fun f => (down_block m c q f k ⟨1408 + f.val, by omega⟩ (g2 f)).trans (congrFun (V_down m c) _)))
    (half_of _ _ _ _ _ _ _ _ _ _ _ hin
    (fun i f => (gate_block m c p i f ⟨f.val, by omega⟩ (g1 f)).trans (congrFun (V_gate m c) _))
    (fun i f => (up_block m c p i f ⟨f.val, by omega⟩ (g1 f)).trans (congrFun (V_up m c) _))
    (fun f => (down_block m c p f k ⟨f.val, by omega⟩ (g1 f)).trans (congrFun (V_down m c) _))) (Tile.pay2_at _ _)

/-- The result array at an entry. -/
theorem array_at (c : Dev nD) (b : Fin 2) (ρ : Fin 8448) (d : Fin 1024) :
    G7 m c (ValueIdx.ix3 b ρ d)
      = row (fun k => m ((c : Thread nD τ).loc main_arg0) (ValueIdx.ix3 b ρ k)) (fun k => m ((c : Thread nD τ).loc main_arg2) (ValueIdx.ix2 (0 : Fin 1) k))
          (fun k => m ((c : Thread nD τ).loc main_arg3) (ValueIdx.ix2 (0 : Fin 1) k)) (fun j => m ((c : Thread nD τ).loc main_arg1) (ValueIdx.ix3 b (kind ρ) j))
          (fun f k => m ((c : Thread nD τ).loc main_arg4) (ValueIdx.ix2 k f)) (fun f k => m ((c : Thread nD τ).loc main_arg5) (ValueIdx.ix2 k f))
          (fun f k => m ((c : Thread nD τ).loc main_arg6) (ValueIdx.ix2 f k)) d := by
  have hb := b.isLt
  have hρ := ρ.isLt
  have hd := d.isLt
  have hpt : pt7Of (ValueIdx.ix3 b ρ d) = 32 * b.val + 2 * (ρ.val / 528) + 1 := by
    show 2 * (16 * (b.val / 1 - 0) + 1 * (ρ.val / 528 - 0) + 1 * (d.val / 1024 - 0)) + 1 = _
    omega
  have hlt : pt7Of (ValueIdx.ix3 b ρ d) < cfg0.N := by
    rw [hpt, show cfg0.N = 64 from N_0]; omega
  have hlt' : 32 * b.val + 2 * (ρ.val / 528) < cfg0.N := by rw [show cfg0.N = 64 from N_0]; omega
  have hloc : loc7Of (ValueIdx.ix3 b ρ d) = ValueIdx.ix3 (0 : Fin 1) (⟨ρ.val % 528, Nat.mod_lt _ (by decide)⟩ : Fin 528) d := funext fun a => Fin.ext (by
    match a with
    | ⟨0, _⟩ => show b.val % 1 = 0; omega
    | ⟨1, _⟩ => rfl
    | ⟨2, _⟩ => show d.val % 1024 = d.val; omega)
  unfold G7
  rw [dif_pos hlt, ← outsAt0_sweep m c _ hlt, hloc]
  refine left_at m c ⟨_, hlt'⟩ ⟨_, hlt⟩ ?_ hpt b ρ _ d ?_ ?_
  · show (32 * b.val + 2 * (ρ.val / 528)) % 2 = 0
    omega
  · show b.val = pt7Of (ValueIdx.ix3 b ρ d) / 32
    rw [hpt]; omega
  · show ρ.val = pt7Of (ValueIdx.ix3 b ρ d) / 2 % 16 * 528 + ρ.val % 528
    rw [hpt]; omega

/-- The dense call's result is the reference's function of the arguments. -/
theorem result_eq (c : Dev nD) :
    G7 m c = Cert.Reference2Ideal.Read.val_main_v94 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) := by
  have key : ∀ (b : Fin 2) (ρ : Fin 8448) (d : Fin 1024), G7 m c (ValueIdx.ix3 b ρ d)
      = Cert.Reference2Ideal.Read.val_main_v94 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (ValueIdx.ix3 b ρ d) := fun b ρ d =>
    (array_at m c b ρ d).trans (Cert.Reference2Ideal.Dense.result_at _ _ _ _ _ _ _ b ρ d).symm
  funext i
  have hi : i = ValueIdx.ix3 (i 0) (i 1) (i 2) := funext fun a => match a with
    | ⟨0, _⟩ => rfl
    | ⟨1, _⟩ => rfl
    | ⟨2, _⟩ => rfl
  rw [hi]
  exact key (i 0) (i 1) (i 2)

end Cert.Kernel2Ideal.Result

end
-- ==== Proof.OutBlock.lean ====
/- What one grid point of the output projection leaves, as the payloads of the blocks it reads. -/
module

public import proofs.«01_k».proof.Proof.Gen.Kernel3Ideal.Value

@[expose] public section

set_option maxRecDepth 16384

noncomputable section

namespace Cert.Kernel3Ideal.Gen

open Idealize.ShloMosaic Idealize.ShloMosaic.TcCoe Idealize.ShloMosaic.Tactic
open Idealize.ShloMosaic.Pipeline (Dat Cfg Window)

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- One of a batch's two rows of modulation: the 1024 entries from column 2048 on. -/
abbrev mod1_2 (x6 : Vec F S1x2x6144 .f32) : Vec F S1x1x1024 .f32 := View.ld x6 (Rect.unit ![0, 1, 2048] ![1, 1, 1024] inb_S1x2x6144_S1x1x1024_0_1_2048)
abbrev mod0_2 (x6 : Vec F S1x2x6144 .f32) : Vec F S1x1x1024 .f32 := View.ld x6 (Rect.unit ![0, 0, 2048] ![1, 1, 1024] inb_S1x2x6144_S1x1x1024_0_0_2048)

/-- The four blocks of 256 rows of the weights. -/
abbrev part0 (x4 : Vec F S1024x1024 .bf16) : Vec F S256x1024 .bf16 := View.ld x4 (Rect.unit ![0, 0] ![256, 1024] inb_S1024x1024_S256x1024_0_0)
abbrev part1 (x4 : Vec F S1024x1024 .bf16) : Vec F S256x1024 .bf16 := View.ld x4 (Rect.unit ![256, 0] ![256, 1024] inb_S1024x1024_S256x1024_256_0)
abbrev part2 (x4 : Vec F S1024x1024 .bf16) : Vec F S256x1024 .bf16 := View.ld x4 (Rect.unit ![512, 0] ![256, 1024] inb_S1024x1024_S256x1024_512_0)
abbrev part3 (x4 : Vec F S1024x1024 .bf16) : Vec F S256x1024 .bf16 := View.ld x4 (Rect.unit ![768, 0] ![256, 1024] inb_S1024x1024_S256x1024_768_0)

/-- What a grid point leaves. -/
theorem leaves (i : grid0.Coords) (x0 x1 x2 x3 : Vec F S1x528x256 .bf16) (x4 : Vec F S1024x1024 .bf16) (x5 : Vec F S1x528x1024 .f32)
    (x6 : Vec F S1x2x6144 .f32) (x7 : Vec F S1x1024 .f32) :
    out0_8 i x0 x1 x2 x3 x4 x5 x6 x7
      = k0_pay1 (k0_pay2 x0 (part0 x4) x1 (part1 x4) x2 (part2 x4) x3 (part3 x4)) (k0_pay3 i) (mod1_2 x6) (mod0_2 x6) x5 x7 := by
  unfold out0_8
  rw [View.canon_cons_unit_zero (S := S1x528x1024) zero3]
  simp only [View.ld_unit_zero (S := S1x528x256) zero3, View.ld_unit_zero (S := S1x528x1024) zero3, View.ld_unit_zero (S := S1x1024) zero2]

end Cert.Kernel3Ideal.Gen

end
-- ==== Proof.OutEntry.lean ====
/- One row of the output projection: the sum of the four mixers' products, and the residual with the normalised and gated sum
   added. -/
module

public import proofs.«01_k».proof.Proof.DenseEntry

@[expose] public section

noncomputable section

namespace Cert.Out

open Idealize.ShloMosaic Cert.Dense

/-- Four rows of 256 entries side by side. -/
def joined (a r n s : Fin 256 → EReal) (c : Fin 1024) : EReal :=
  if h : c.val < 256 then a ⟨c.val, h⟩
  else if h : c.val - 256 < 256 then r ⟨c.val - 256, h⟩
  else if h : c.val - 256 - 256 < 256 then n ⟨c.val - 256 - 256, h⟩
  else s ⟨c.val - 256 - 256 - 256, by omega⟩

/-- The projected row. -/
def mixed (a r n s : Fin 256 → EReal) (w : Fin 1024 → Fin 1024 → EReal) (d : Fin 1024) : EReal := ∑ c, joined a r n s c * w c d

/-- The sum over the columns, as the sum over the four groups, one after the other. -/
theorem mixed_groups (a r n s : Fin 256 → EReal) (w : Fin 1024 → Fin 1024 → EReal) (d : Fin 1024) :
    mixed a r n s w d
      = (∑ k : Fin 256, a k * w ⟨k.val, by omega⟩ d) + (∑ k : Fin 256, r k * w ⟨256 + k.val, by omega⟩ d)
        + (∑ k : Fin 256, n k * w ⟨512 + k.val, by omega⟩ d) + ∑ k : Fin 256, s k * w ⟨768 + k.val, by omega⟩ d := by
  have e1 := Fin.sum_univ_add (a := 768) (b := 256) fun c : Fin (768 + 256) => joined a r n s c * w c d
  have e2 := Fin.sum_univ_add (a := 512) (b := 256) fun c : Fin (512 + 256) => joined a r n s ⟨c.val, by omega⟩ * w ⟨c.val, by omega⟩ d
  have e3 := Fin.sum_univ_add (a := 256) (b := 256) fun c : Fin (256 + 256) => joined a r n s ⟨c.val, by omega⟩ * w ⟨c.val, by omega⟩ d
  have h0 : ∀ k : Fin 256, joined a r n s ⟨k.val, by omega⟩ = a k := fun k => dif_pos k.isLt
  have h1 : ∀ k : Fin 256, joined a r n s ⟨256 + k.val, by omega⟩ = r k := fun k => by
    unfold joined
    rw [dif_neg (by show ¬256 + k.val < 256; omega), dif_pos (show 256 + k.val - 256 < 256 by omega)]
    exact congrArg r (Fin.ext (by show 256 + k.val - 256 = k.val; omega))
  have h2 : ∀ k : Fin 256, joined a r n s ⟨512 + k.val, by omega⟩ = n k := fun k => by
    unfold joined
    rw [dif_neg (by show ¬512 + k.val < 256; omega), dif_neg (by show ¬512 + k.val - 256 < 256; omega), dif_pos (show 512 + k.val - 256 - 256 < 256 by omega)]
    exact congrArg n (Fin.ext (by show 512 + k.val - 256 - 256 = k.val; omega))
  have h3 : ∀ k : Fin 256, joined a r n s ⟨768 + k.val, by omega⟩ = s k := fun k => by
    unfold joined
    rw [dif_neg (by show ¬768 + k.val < 256; omega), dif_neg (by show ¬768 + k.val - 256 < 256; omega), dif_neg (by show ¬768 + k.val - 256 - 256 < 256; omega)]
    exact congrArg s (Fin.ext (by show 768 + k.val - 256 - 256 - 256 = k.val; omega))
  have f0 : (∑ k : Fin 256, a k * w ⟨k.val, by omega⟩ d) = ∑ k : Fin 256, joined a r n s ⟨k.val, by omega⟩ * w ⟨k.val, by omega⟩ d :=
    Finset.sum_congr rfl fun k _ => by rw [h0]
  have f1 : (∑ k : Fin 256, r k * w ⟨256 + k.val, by omega⟩ d) = ∑ k : Fin 256, joined a r n s ⟨256 + k.val, by omega⟩ * w ⟨256 + k.val, by omega⟩ d :=
    Finset.sum_congr rfl fun k _ => by rw [h1]
  have f2 : (∑ k : Fin 256, n k * w ⟨512 + k.val, by omega⟩ d) = ∑ k : Fin 256, joined a r n s ⟨512 + k.val, by omega⟩ * w ⟨512 + k.val, by omega⟩ d :=
    Finset.sum_congr rfl fun k _ => by rw [h2]
  have f3 : (∑ k : Fin 256, s k * w ⟨768 + k.val, by omega⟩ d) = ∑ k : Fin 256, joined a r n s ⟨768 + k.val, by omega⟩ * w ⟨768 + k.val, by omega⟩ d :=
    Finset.sum_congr rfl fun k _ => by rw [h3]
  rw [f0, f1, f2, f3]
  exact e1.trans (congrArg (· + _) (e2.trans (congrArg (· + _) e3)))

/-- One entry of the result. -/
def outRow (a r n s : Fin 256 → EReal) (w : Fin 1024 → Fin 1024 → EReal) (x g : Fin 1024 → EReal) (md : Fin 6144 → EReal) : Fin 1024 → EReal :=
  added x (mixed a r n s w) g (fun d => md ⟨2048 + d.val, by omega⟩)

end Cert.Out

end
-- ==== Proof.OutTile.lean ====
/- The output projection's arithmetic over the reals, entry by entry of one block of rows. -/
module

public import proofs.«01_k».proof.Proof.OutBlock
public import proofs.«01_k».proof.Proof.OutEntry
public import proofs.«01_k».proof.Proof.DenseTile

@[expose] public section

set_option maxRecDepth 16384

noncomputable section

namespace Cert.Kernel3Ideal.Tile

open Idealize.ShloMosaic Cert.Kernel3Ideal Cert.Kernel3Ideal.Gen Cert.Dense Cert.Out

/-- The sum of the four products. -/
theorem pay2_at (x0 x1 x2 x3 : Vec Ideal S1x528x256 .bf16) (w0 w1 w2 w3 : Vec Ideal S256x1024 .bf16) (r : Fin 528) (d : Fin 1024) :
    k0_pay2 (F := Ideal) x0 w0 x1 w1 x2 w2 x3 w3 (ValueIdx.ix2 r d)
      = (∑ k : Fin 256, x0 (ValueIdx.ix3 (0 : Fin 1) r k) * w0 (ValueIdx.ix2 k d)) + (∑ k : Fin 256, x1 (ValueIdx.ix3 (0 : Fin 1) r k) * w1 (ValueIdx.ix2 k d))
        + (∑ k : Fin 256, x2 (ValueIdx.ix3 (0 : Fin 1) r k) * w2 (ValueIdx.ix2 k d)) + ∑ k : Fin 256, x3 (ValueIdx.ix3 (0 : Fin 1) r k) * w3 (ValueIdx.ix2 k d) := by
  unfold k0_pay2
  pointwise
  rfl

/-- The rows of the weights from a given row on. -/
theorem rows_at (x4 : Vec Ideal S1024x1024 .bf16) (o : Nat) (h : ∀ a, (![o, 0] : Fin 2 → Nat) a + S256x1024.size a ≤ S1024x1024.size a) (k : Fin 256) (d : Fin 1024)
    (j : Fin 1024) (hj : j.val = o + k.val) :
    View.ld x4 (Rect.unit (s := S1024x1024) ![o, 0] S256x1024.size h) (ValueIdx.ix2 k d) = x4 (ValueIdx.ix2 j d) := by
  refine View.ld_unit_apply_of x4 _ _ h _ _ fun a => ?_
  match a with
  | ⟨0, _⟩ => exact hj
  | ⟨1, _⟩ => exact (show d.val = 0 + d.val by omega)

/-- The projected row. -/
theorem mixed_at (x0 x1 x2 x3 : Vec Ideal S1x528x256 .bf16) (x4 : Vec Ideal S1024x1024 .bf16) (r : Fin 528) (d : Fin 1024) :
    k0_pay2 (F := Ideal) x0 (part0 x4) x1 (part1 x4) x2 (part2 x4) x3 (part3 x4) (ValueIdx.ix2 r d)
      = mixed (fun k => x0 (ValueIdx.ix3 (0 : Fin 1) r k)) (fun k => x1 (ValueIdx.ix3 (0 : Fin 1) r k)) (fun k => x2 (ValueIdx.ix3 (0 : Fin 1) r k))
          (fun k => x3 (ValueIdx.ix3 (0 : Fin 1) r k)) (fun c d => x4 (ValueIdx.ix2 c d)) d := by
  rw [mixed_groups]
  refine (pay2_at x0 x1 x2 x3 _ _ _ _ r d).trans ?_
  have h0 := fun k : Fin 256 => rows_at x4 0 inb_S1024x1024_S256x1024_0_0 k d (⟨k.val, by omega⟩ : Fin 1024) (by show k.val = 0 + k.val; omega)
  have h1 := fun k : Fin 256 => rows_at x4 256 inb_S1024x1024_S256x1024_256_0 k d (⟨256 + k.val, by omega⟩ : Fin 1024) rfl
  have h2 := fun k : Fin 256 => rows_at x4 512 inb_S1024x1024_S256x1024_512_0 k d (⟨512 + k.val, by omega⟩ : Fin 1024) rfl
  have h3 := fun k : Fin 256 => rows_at x4 768 inb_S1024x1024_S256x1024_768_0 k d (⟨768 + k.val, by omega⟩ : Fin 1024) rfl
  refine congrArg₂ (· + ·) (congrArg₂ (· + ·) (congrArg₂ (· + ·) ?_ ?_) ?_) ?_
  · exact Finset.sum_congr rfl fun k _ => congrArg _ (h0 k)
  · exact Finset.sum_congr rfl fun k _ => congrArg _ (h1 k)
  · exact Finset.sum_congr rfl fun k _ => congrArg _ (h2 k)
  · exact Finset.sum_congr rfl fun k _ => congrArg _ (h3 k)

theorem pay1_at (i : grid0.Coords) (u v : Vec Ideal S1x1x1024 .f32) (x5 : Vec Ideal S1x528x1024 .f32) (x7 : Vec Ideal S1x1024 .f32) (y : Vec Ideal S528x1024 .f32)
    (r : Fin 528) (d : Fin 1024) :
    k0_pay1 (F := Ideal) y (k0_pay3 i) u v x5 x7 (ValueIdx.ix3 (0 : Fin 1) r d)
      = added (fun c => x5 (ValueIdx.ix3 (0 : Fin 1) r c)) (fun c => y (ValueIdx.ix2 r c)) (fun c => x7 (ValueIdx.ix2 (0 : Fin 1) c))
          (fun c => Scalar.select (IntOp.cmpi CmpIPredicate.sge (IntOp.addi (Scalar.muli (BitVec.ofNat 32 (i 1).val) 528#32) (BitVec.ofNat 32 r.val)) 8192#32)
            (u (ValueIdx.ix3 (0 : Fin 1) (0 : Fin 1) c)) (v (ValueIdx.ix3 (0 : Fin 1) (0 : Fin 1) c))) d := by
  unfold k0_pay1 k0_pay3
  pointwise
  rfl

/-- The rows that a grid point leaves, over blocks read off their arrays. -/
theorem rows_of (i : grid0.Coords) (x0 x1 x2 x3 : Vec Ideal S1x528x256 .bf16) (x4 : Vec Ideal S1024x1024 .bf16) (x5 : Vec Ideal S1x528x1024 .f32)
    (x6 : Vec Ideal S1x2x6144 .f32) (x7 : Vec Ideal S1x1024 .f32) (r : Fin 528) (t : Fin 8448) (ht : t.val = (i 1).val * 528 + r.val)
    (A R N S : Fin 256 → EReal) (W : Fin 1024 → Fin 1024 → EReal) (X g : Fin 1024 → EReal) (M : Fin 6144 → EReal)
    (h0 : ∀ k, x0 (ValueIdx.ix3 (0 : Fin 1) r k) = A k) (h1 : ∀ k, x1 (ValueIdx.ix3 (0 : Fin 1) r k) = R k) (h2 : ∀ k, x2 (ValueIdx.ix3 (0 : Fin 1) r k) = N k)
    (h3 : ∀ k, x3 (ValueIdx.ix3 (0 : Fin 1) r k) = S k) (h4 : ∀ k d, x4 (ValueIdx.ix2 k d) = W k d) (h5 : ∀ k, x5 (ValueIdx.ix3 (0 : Fin 1) r k) = X k)
    (h6 : ∀ j, x6 (ValueIdx.ix3 (0 : Fin 1) (kind t) j) = M j) (h7 : ∀ k, x7 (ValueIdx.ix2 (0 : Fin 1) k) = g k) (d : Fin 1024) :
    out0_8 (F := Ideal) i x0 x1 x2 x3 x4 x5 x6 x7 (ValueIdx.ix3 (0 : Fin 1) r d) = outRow A R N S W X g M d := by
  rw [leaves]
  refine (pay1_at i _ _ x5 x7 _ r d).trans ?_
  have hy : (fun c => k0_pay2 (F := Ideal) x0 (part0 x4) x1 (part1 x4) x2 (part2 x4) x3 (part3 x4) (ValueIdx.ix2 r c)) = mixed A R N S W := funext fun c => by
    rw [mixed_at]
    simp only [h0, h1, h2, h3, h4]
  have hm : ∀ c : Fin 1024, Scalar.select (IntOp.cmpi CmpIPredicate.sge (IntOp.addi (Scalar.muli (BitVec.ofNat 32 (i 1).val) 528#32) (BitVec.ofNat 32 r.val)) 8192#32)
      (mod1_2 x6 (ValueIdx.ix3 (0 : Fin 1) (0 : Fin 1) c) : EReal) (mod0_2 x6 (ValueIdx.ix3 (0 : Fin 1) (0 : Fin 1) c)) = M ⟨2048 + c.val, by omega⟩ := fun c => by
    rw [← h6]
    refine Eq.trans ?_ (Cert.Kernel2Ideal.Tile.pick_at (i 1) r t ht fun k => x6 (ValueIdx.ix3 (0 : Fin 1) k (⟨2048 + c.val, by omega⟩ : Fin 6144)))
    exact congrArg₂ _ (Cert.Kernel2Ideal.Tile.cols_at x6 1 2048 inb_S1x2x6144_S1x1x1024_0_1_2048 c _ rfl)
      (Cert.Kernel2Ideal.Tile.cols_at x6 0 2048 inb_S1x2x6144_S1x1x1024_0_0_2048 c _ rfl)
  unfold outRow
  simp only [h5, h7]
  rw [hy]
  exact congrArg (fun G => added X (mixed A R N S W) g G d) (funext hm)

end Cert.Kernel3Ideal.Tile

end
-- ==== Proof.OutRef.lean ====
/- The third reference's result, entry by entry. -/
module

public import proofs.«01_k».proof.Proof.Gen.Reference3Ideal.Read
public import proofs.«01_k».proof.Proof.OutEntry
public import proofs.«01_k».proof.Proof.DenseRef

@[expose] public section

noncomputable section

namespace Cert.Reference3Ideal.Out

open Idealize.ShloMosaic Idealize.ShloMosaic.TcCoe Cert.Reference3Ideal Cert.Reference3Ideal.Gen Cert.Reference3Ideal.Read Cert.Dense Cert.Out

variable (x0 x1 x2 x3 : Vec Ideal S2x8448x256 .bf16) (x4 : Vec Ideal S1024x1024 .f32) (x5 : Vec Ideal S2x8448x1024 .f32) (x6 : Vec Ideal S2x2x6144 .f32) (x7 : Vec Ideal S1x1024 .f32)

/-- The mixers' rows of the first part of the sequence, side by side. -/
theorem lat_join (b : Fin 2) (t : Fin 8192) (c : Fin 1024) :
    val_main_v20 (F := Ideal) x0 x1 x2 x3 (ValueIdx.ix3 b t c)
      = joined (fun k => x0 (ValueIdx.ix3 b (⟨t.val, by omega⟩ : Fin 8448) k)) (fun k => x1 (ValueIdx.ix3 b (⟨t.val, by omega⟩ : Fin 8448) k))
          (fun k => x2 (ValueIdx.ix3 b (⟨t.val, by omega⟩ : Fin 8448) k)) (fun k => x3 (ValueIdx.ix3 b (⟨t.val, by omega⟩ : Fin 8448) k)) c := by
  unfold joined val_main_v20 val_main_v19 val_main_v18 val_main_v17 val_main_v16
  pointwise
  rfl

/-- The projected rows of the first part of the sequence. -/
theorem lat_mix (b : Fin 2) (t : Fin 8192) (d : Fin 1024) :
    val_main_v22 (F := Ideal) x0 x1 x2 x3 x4 (ValueIdx.ix3 b t d)
      = mixed (fun k => x0 (ValueIdx.ix3 b (⟨t.val, by omega⟩ : Fin 8448) k)) (fun k => x1 (ValueIdx.ix3 b (⟨t.val, by omega⟩ : Fin 8448) k))
          (fun k => x2 (ValueIdx.ix3 b (⟨t.val, by omega⟩ : Fin 8448) k)) (fun k => x3 (ValueIdx.ix3 b (⟨t.val, by omega⟩ : Fin 8448) k)) (fun c d => x4 (ValueIdx.ix2 c d)) d := by
  refine Eq.trans ?_ (Finset.sum_congr rfl fun c _ => congrArg (· * x4 (ValueIdx.ix2 c d)) (lat_join x0 x1 x2 x3 b t c))
  unfold val_main_v22 val_main_v21
  generalize val_main_v20 (F := Ideal) x0 x1 x2 x3 = y
  pointwise
  rfl

/-- The mixers' rows of the last part of the sequence, side by side. -/
theorem ctx_join (b : Fin 2) (t : Fin 256) (c : Fin 1024) :
    val_main_v43 (F := Ideal) x0 x1 x2 x3 (ValueIdx.ix3 b t c)
      = joined (fun k => x0 (ValueIdx.ix3 b (⟨8192 + t.val, by omega⟩ : Fin 8448) k)) (fun k => x1 (ValueIdx.ix3 b (⟨8192 + t.val, by omega⟩ : Fin 8448) k))
          (fun k => x2 (ValueIdx.ix3 b (⟨8192 + t.val, by omega⟩ : Fin 8448) k)) (fun k => x3 (ValueIdx.ix3 b (⟨8192 + t.val, by omega⟩ : Fin 8448) k)) c := by
  unfold joined val_main_v43 val_main_v42 val_main_v41 val_main_v40 val_main_v39
  pointwise
  rfl

/-- The projected rows of the last part of the sequence. -/
theorem ctx_mix (b : Fin 2) (t : Fin 256) (d : Fin 1024) :
    val_main_v45 (F := Ideal) x0 x1 x2 x3 x4 (ValueIdx.ix3 b t d)
      = mixed (fun k => x0 (ValueIdx.ix3 b (⟨8192 + t.val, by omega⟩ : Fin 8448) k)) (fun k => x1 (ValueIdx.ix3 b (⟨8192 + t.val, by omega⟩ : Fin 8448) k))
          (fun k => x2 (ValueIdx.ix3 b (⟨8192 + t.val, by omega⟩ : Fin 8448) k)) (fun k => x3 (ValueIdx.ix3 b (⟨8192 + t.val, by omega⟩ : Fin 8448) k)) (fun c d => x4 (ValueIdx.ix2 c d)) d := by
  refine Eq.trans ?_ (Finset.sum_congr rfl fun c _ => congrArg (· * x4 (ValueIdx.ix2 c d)) (ctx_join x0 x1 x2 x3 b t c))
  unfold val_main_v45 val_main_v44
  generalize val_main_v43 (F := Ideal) x0 x1 x2 x3 = y
  pointwise
  rfl

/-- The residual rows of the first part of the sequence. -/
theorem lat_out (b : Fin 2) (t : Fin 8192) (d : Fin 1024) :
    val_main_v38 (F := Ideal) x0 x1 x2 x3 x4 x5 x6 x7 (ValueIdx.ix3 b t d)
      = added (fun c => x5 (ValueIdx.ix3 b (⟨t.val, by omega⟩ : Fin 8448) c)) (fun c => val_main_v22 (F := Ideal) x0 x1 x2 x3 x4 (ValueIdx.ix3 b t c))
          (fun c => x7 (ValueIdx.ix2 (0 : Fin 1) c)) (fun c => x6 (ValueIdx.ix3 b (0 : Fin 2) (⟨2048 + c.val, by omega⟩ : Fin 6144))) d := by
  unfold val_main_v38 val_main_v37 val_main_v36 val_main_v35 val_main_v34 val_main_v33 val_main_v32 val_main_v31 val_main_v30 val_main_v29 val_main_v28
    val_main_cst_1 val_main_v27 val_main_v26 val_main_cst_0 val_main_v25 val_main_v24 val_main_cst val_main_v23 val_main_v0 val_main_v5 val_main_v2
  generalize val_main_v22 (F := Ideal) x0 x1 x2 x3 x4 = y
  pointwise
  rfl

/-- The residual rows of the last part of the sequence. -/
theorem ctx_out (b : Fin 2) (t : Fin 256) (d : Fin 1024) :
    val_main_v61 (F := Ideal) x0 x1 x2 x3 x4 x5 x6 x7 (ValueIdx.ix3 b t d)
      = added (fun c => x5 (ValueIdx.ix3 b (⟨8192 + t.val, by omega⟩ : Fin 8448) c)) (fun c => val_main_v45 (F := Ideal) x0 x1 x2 x3 x4 (ValueIdx.ix3 b t c))
          (fun c => x7 (ValueIdx.ix2 (0 : Fin 1) c)) (fun c => x6 (ValueIdx.ix3 b (1 : Fin 2) (⟨2048 + c.val, by omega⟩ : Fin 6144))) d := by
  unfold val_main_v61 val_main_v60 val_main_v59 val_main_v58 val_main_v57 val_main_v56 val_main_v55 val_main_v54 val_main_v53 val_main_v52 val_main_v51
    val_main_cst_4 val_main_v50 val_main_v49 val_main_cst_3 val_main_v48 val_main_v47 val_main_cst_2 val_main_v46 val_main_v1 val_main_v12 val_main_v9
  generalize val_main_v45 (F := Ideal) x0 x1 x2 x3 x4 = y
  pointwise
  rfl

/-- The result. -/
theorem result_at (b : Fin 2) (t : Fin 8448) (d : Fin 1024) :
    val_main_v62 (F := Ideal) x0 x1 x2 x3 x4 x5 x6 x7 (ValueIdx.ix3 b t d)
      = outRow (fun k => x0 (ValueIdx.ix3 b t k)) (fun k => x1 (ValueIdx.ix3 b t k)) (fun k => x2 (ValueIdx.ix3 b t k)) (fun k => x3 (ValueIdx.ix3 b t k))
          (fun c d => x4 (ValueIdx.ix2 c d)) (fun c => x5 (ValueIdx.ix3 b t c)) (fun c => x7 (ValueIdx.ix2 (0 : Fin 1) c)) (fun j => x6 (ValueIdx.ix3 b (kind t) j)) d := by
  unfold outRow
  refine (Cert.Reference2Ideal.Dense.stacked_at _ _ b t d).trans ?_
  by_cases h : t.val < 8192
  · rw [dif_pos h, Cert.Reference2Ideal.Dense.kind_lo t h, lat_out]
    exact congrArg (fun y => added _ y _ _ d) (funext fun c => lat_mix x0 x1 x2 x3 x4 b ⟨t.val, h⟩ c)
  · rw [dif_neg h, Cert.Reference2Ideal.Dense.kind_hi t h, ctx_out, Cert.Reference2Ideal.Dense.back t h]
    refine congrArg (fun y => added _ y _ _ d) (funext fun c => (ctx_mix x0 x1 x2 x3 x4 b _ c).trans ?_)
    rw [Cert.Reference2Ideal.Dense.back t h]

end Cert.Reference3Ideal.Out

end
-- ==== Proof.OutValue.lean ====
/- The output projection's blocks at coordinates, its result entry by entry, and its equality with the reference's. -/
module

public import proofs.«01_k».proof.Proof.OutTile
public import proofs.«01_k».proof.Proof.OutRef
public import Idealize.ShloMosaic.Lib.Pipeline.ValueKit.Geometry
public import Idealize.ShloMosaic.Lib.StableHlo.RunRead

@[expose] public section

set_option maxRecDepth 16384

noncomputable section

namespace Cert.Kernel3Ideal.Result

open Idealize.ShloMosaic Idealize.ShloMosaic.TcCoe Idealize.ShloMosaic.Tactic Cert.Kernel3Ideal Cert.Kernel3Ideal.Gen Cert.Kernel3Ideal.Value Cert.Dense Cert.Out
open Idealize.ShloMosaic.Pipeline (Dat Cfg Window)

section
variable {F : FTy → Type} [FloatOps F]
variable (m : (ℓ : Loc nD τ sig) → Buf (Elt F) ℓ)

theorem coord_batch (t : Fin grid0.N) : (grid0.coords t 0).val = t.val / 16 := by
  have h := Pipeline.Grid.coords_val (G := grid0) t 0 (S := 16) (B := 2) (by decide) rfl
  have ht : t.val < 32 := lt_of_lt_of_eq t.isLt N_0
  omega

theorem coord_block (t : Fin grid0.N) : (grid0.coords t 1).val = t.val % 16 := by
  have h := Pipeline.Grid.coords_val (G := grid0) t 1 (S := 1) (B := 16) (by decide) rfl
  omega

theorem word_batch (t : Fin grid0.N) : (BitVec.ofNat 32 (grid0.coords t 0).val).toNat = t.val / 16 := by
  have ht : t.val < 32 := lt_of_lt_of_eq t.isLt N_0
  rw [coord_batch, BitVec.toNat_ofNat, Nat.mod_eq_of_lt (by omega)]

theorem word_block (t : Fin grid0.N) : (BitVec.ofNat 32 (grid0.coords t 1).val).toNat = t.val % 16 := by
  rw [coord_block, BitVec.toNat_ofNat, Nat.mod_eq_of_lt (by omega)]

/-- A block of a mixer's rows, read off any contents of its array. -/
theorem part_block (Z : Vec F S2x8448x256 .bf16) (t : Fin cfg0.N) (r : Fin 528) (k : Fin 256) (b : Fin 2) (ρ : Fin 8448) (hb : b.val = t.val / 16)
    (hρ : ρ.val = t.val % 16 * 528 + r.val) :
    ((cfg0.win 0).blk t).view.read (Elt F) Z (ValueIdx.ix3 (0 : Fin 1) r k) = Z (ValueIdx.ix3 b ρ k) := by
  refine congrArg Z (funext fun x => Fin.ext ?_)
  match x with
  | ⟨0, _⟩ =>
    refine (congrArg (fun z => z * 1 + 1 * 0) (word_batch t)).trans ?_
    show _ = b.val
    omega
  | ⟨1, _⟩ =>
    refine (congrArg (fun z => z * 528 + 1 * r.val) (word_block t)).trans ?_
    show _ = ρ.val
    omega
  | ⟨2, _⟩ => exact (show 0 * 256 + 1 * k.val = k.val by omega)

/-- A block of residual rows, read off any contents of its array. -/
theorem rows_block (Z : Vec F S2x8448x1024 .f32) (t : Fin cfg0.N) (r : Fin 528) (d : Fin 1024) (b : Fin 2) (ρ : Fin 8448) (hb : b.val = t.val / 16)
    (hρ : ρ.val = t.val % 16 * 528 + r.val) :
    ((cfg0.win 5).blk t).view.read (Elt F) Z (ValueIdx.ix3 (0 : Fin 1) r d) = Z (ValueIdx.ix3 b ρ d) := by
  refine congrArg Z (funext fun x => Fin.ext ?_)
  match x with
  | ⟨0, _⟩ =>
    refine (congrArg (fun z => z * 1 + 1 * 0) (word_batch t)).trans ?_
    show _ = b.val
    omega
  | ⟨1, _⟩ =>
    refine (congrArg (fun z => z * 528 + 1 * r.val) (word_block t)).trans ?_
    show _ = ρ.val
    omega
  | ⟨2, _⟩ => exact (show 0 * 1024 + 1 * d.val = d.val by omega)

/-- The weights' block. -/
theorem weight_block (c : Dev nD) (t : Fin cfg0.N) (k d : Fin 1024) : iblk m c 4 t (ValueIdx.ix2 k d) = V m c main_v0 (ValueIdx.ix2 k d) := by
  refine congrArg (V m c main_v0) (funext fun x => Fin.ext ?_)
  match x with
  | ⟨0, _⟩ => exact (show 0 * 1024 + 1 * k.val = k.val by omega)
  | ⟨1, _⟩ => exact (show 0 * 1024 + 1 * d.val = d.val by omega)

/-- The modulation's block. -/
theorem mod_block (c : Dev nD) (t : Fin cfg0.N) (k : Fin 2) (j : Fin 6144) (b : Fin 2) (hb : b.val = t.val / 16) :
    iblk m c 6 t (ValueIdx.ix3 (0 : Fin 1) k j) = V m c main_arg6 (ValueIdx.ix3 b k j) := by
  refine congrArg (V m c main_arg6) (funext fun x => Fin.ext ?_)
  match x with
  | ⟨0, _⟩ =>
    refine (congrArg (fun z => z * 1 + 1 * 0) (word_batch t)).trans ?_
    show _ = b.val
    omega
  | ⟨1, _⟩ => exact (show 0 * 2 + 1 * k.val = k.val by omega)
  | ⟨2, _⟩ => exact (show 0 * 6144 + 1 * j.val = j.val by omega)

/-- The gains' block. -/
theorem gain_block (c : Dev nD) (t : Fin cfg0.N) (d : Fin 1024) : iblk m c 7 t (ValueIdx.ix2 (0 : Fin 1) d) = V m c main_arg7 (ValueIdx.ix2 (0 : Fin 1) d) := by
  refine congrArg (V m c main_arg7) (funext fun x => Fin.ext ?_)
  match x with
  | ⟨0, _⟩ => rfl
  | ⟨1, _⟩ => exact (show 0 * 1024 + 1 * d.val = d.val by omega)

/-- The weights the host prepares. -/
theorem V_weight (c : Dev nD) : V m c main_v0 = truncf .bf16 (m ((c : Thread nD τ).loc main_arg4)) bitsLt_bf16_f32 := by
  unfold V hostOps0
  after_reads_simp

/-- An entry of the result array is the entry of the block that its grid point leaves. -/
theorem array_block (c : Dev nD) (t : Fin cfg0.N) (r : Fin 528) (d : Fin 1024) (b : Fin 2) (ρ : Fin 8448) (hb : b.val = t.val / 16)
    (hρ : ρ.val = t.val % 16 * 528 + r.val) :
    (dats m 0 c).arrAt 8 cfg0.N (ValueIdx.ix3 b ρ d)
      = out0_8 (grid0.coords t) (iblk m c 0 t) (iblk m c 1 t) (iblk m c 2 t) (iblk m c 3 t) (iblk m c 4 t) (iblk m c 5 t) (iblk m c 6 t) (iblk m c 7 t) (ValueIdx.ix3 (0 : Fin 1) r d) := by
  have h := congrFun ((blocks8 m c t (flush0_8 t)).trans (flushed8 m c t)) (ValueIdx.ix3 (0 : Fin 1) r d)
  exact (rows_block ((dats m 0 c).arrAt 8 cfg0.N) t r d b ρ hb hρ).symm.trans h

end

variable (m : (ℓ : Loc nD τ sig) → Buf (Elt Ideal) ℓ)

/-- The result array at an entry. -/
theorem array_at (c : Dev nD) (b : Fin 2) (ρ : Fin 8448) (d : Fin 1024) :
    (dats m 0 c).arrAt 8 cfg0.N (ValueIdx.ix3 b ρ d)
      = outRow (fun k => m ((c : Thread nD τ).loc main_arg0) (ValueIdx.ix3 b ρ k)) (fun k => m ((c : Thread nD τ).loc main_arg1) (ValueIdx.ix3 b ρ k))
          (fun k => m ((c : Thread nD τ).loc main_arg2) (ValueIdx.ix3 b ρ k)) (fun k => m ((c : Thread nD τ).loc main_arg3) (ValueIdx.ix3 b ρ k))
          (fun k d => m ((c : Thread nD τ).loc main_arg4) (ValueIdx.ix2 k d)) (fun k => m ((c : Thread nD τ).loc main_arg5) (ValueIdx.ix3 b ρ k))
          (fun k => m ((c : Thread nD τ).loc main_arg7) (ValueIdx.ix2 (0 : Fin 1) k)) (fun j => m ((c : Thread nD τ).loc main_arg6) (ValueIdx.ix3 b (kind ρ) j)) d := by
  have hb := b.isLt
  have hρ := ρ.isLt
  have hlt : 16 * b.val + ρ.val / 528 < cfg0.N := by rw [show cfg0.N = 32 from N_0]; omega
  have h1 : b.val = (16 * b.val + ρ.val / 528) / 16 := by omega
  have h2 : ρ.val = (16 * b.val + ρ.val / 528) % 16 * 528 + ρ.val % 528 := by omega
  generalize 16 * b.val + ρ.val / 528 = n at hlt h1 h2
  have hc : ρ.val = (grid0.coords ⟨n, hlt⟩ 1).val * 528 + ρ.val % 528 := by rw [coord_block]; exact h2
  refine (array_block m c ⟨n, hlt⟩ ⟨ρ.val % 528, Nat.mod_lt _ (by decide)⟩ d b ρ h1 h2).trans ?_
  exact Tile.rows_of (grid0.coords ⟨n, hlt⟩) _ _ _ _ _ _ _ _ ⟨ρ.val % 528, Nat.mod_lt _ (by decide)⟩ ρ hc _ _ _ _ _ _ _ _
    (fun k => (part_block (V m c main_arg0) ⟨n, hlt⟩ _ k b ρ h1 h2).trans (congrFun (V_main_arg0 m c) _))
    (fun k => (part_block (V m c main_arg1) ⟨n, hlt⟩ _ k b ρ h1 h2).trans (congrFun (V_main_arg1 m c) _))
    (fun k => (part_block (V m c main_arg2) ⟨n, hlt⟩ _ k b ρ h1 h2).trans (congrFun (V_main_arg2 m c) _))
    (fun k => (part_block (V m c main_arg3) ⟨n, hlt⟩ _ k b ρ h1 h2).trans (congrFun (V_main_arg3 m c) _))
    (fun k e => (weight_block m c ⟨n, hlt⟩ k e).trans (congrFun (V_weight m c) _))
    (fun k => (rows_block (V m c main_arg5) ⟨n, hlt⟩ _ k b ρ h1 h2).trans (congrFun (V_main_arg5 m c) _))
    (fun j => (mod_block m c ⟨n, hlt⟩ (kind ρ) j b h1).trans (congrFun (V_main_arg6 m c) _))
    (fun k => (gain_block m c ⟨n, hlt⟩ k).trans (congrFun (V_main_arg7 m c) _)) d

/-- The output projection's result is the reference's function of the arguments. -/
theorem result_eq (c : Dev nD) :
    (dats m 0 c).arrAt 8 cfg0.N = Cert.Reference3Ideal.Read.val_main_v62 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) := by
  funext i
  have hi : i = ValueIdx.ix3 (i 0) (i 1) (i 2) := funext fun a => match a with
    | ⟨0, _⟩ => rfl
    | ⟨1, _⟩ => rfl
    | ⟨2, _⟩ => rfl
  rw [hi]
  exact (array_at m c (i 0) (i 1) (i 2)).trans (Cert.Reference3Ideal.Out.result_at _ _ _ _ _ _ _ _ (i 0) (i 1) (i 2)).symm

end Cert.Kernel3Ideal.Result

end
-- ==== Proof.MixEntry.lean ====
/- One row after the experts: the weighted sum of the two chosen experts' outputs, and the residual with the normalised and gated
   sum added. -/
module

public import proofs.«01_k».proof.Proof.DenseEntry

@[expose] public section

noncomputable section

namespace Cert.Mix

open Idealize.ShloMosaic Cert.Dense

/-- The weighted sum of two rows. -/
def weighted (g : Fin 2 → EReal) (y : Fin 2 → Fin 1024 → EReal) (d : Fin 1024) : EReal := g 0 * y 0 d + g 1 * y 1 d

/-- One entry of the result. -/
def mixRow (g : Fin 2 → EReal) (y : Fin 2 → Fin 1024 → EReal) (x gain : Fin 1024 → EReal) (md : Fin 6144 → EReal) : Fin 1024 → EReal :=
  added x (weighted g y) gain (fun d => md ⟨5120 + d.val, by omega⟩)

end Cert.Mix

end
-- ==== Proof.MixTile.lean ====
/- What one grid point of the call after the experts leaves, and its arithmetic over the reals, entry by entry. -/
module

public import proofs.«01_k».proof.Proof.Gen.Kernel4Ideal.Value
public import proofs.«01_k».proof.Proof.MixEntry
public import proofs.«01_k».proof.Proof.DenseTile

@[expose] public section

set_option maxRecDepth 16384

noncomputable section

namespace Cert.Kernel4Ideal.Tile

open Idealize.ShloMosaic Idealize.ShloMosaic.TcCoe Cert.Kernel4Ideal Cert.Kernel4Ideal.Gen Cert.Dense Cert.Mix

theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

section
variable {F : FTy → Type} [FloatOps F]

/-- One of a batch's two rows of modulation: the 1024 entries from column 5120 on. -/
abbrev mod1_5 (x4 : Vec F S1x2x6144 .f32) : Vec F S1x1x1024 .f32 := View.ld x4 (Rect.unit ![0, 1, 5120] ![1, 1, 1024] inb_S1x2x6144_S1x1x1024_0_1_5120)
abbrev mod0_5 (x4 : Vec F S1x2x6144 .f32) : Vec F S1x1x1024 .f32 := View.ld x4 (Rect.unit ![0, 0, 5120] ![1, 1, 1024] inb_S1x2x6144_S1x1x1024_0_0_5120)

/-- The weights of a block's rows for their first and for their second expert. -/
abbrev weight0 (x2 : Vec F S1x528x128 .f32) : Vec F S1x528x1 .f32 := View.ld x2 (Rect.unit ![0, 0, 0] ![1, 528, 1] inb_S1x528x128_S1x528x1_0_0_0)
abbrev weight1 (x2 : Vec F S1x528x128 .f32) : Vec F S1x528x1 .f32 := View.ld x2 (Rect.unit ![0, 0, 1] ![1, 528, 1] inb_S1x528x128_S1x528x1_0_0_1)

/-- What a grid point leaves. -/
theorem leaves (i : grid0.Coords) (x0 x1 : Vec F S1x1x528x1024 .bf16) (x2 : Vec F S1x528x128 .f32) (x3 : Vec F S1x528x1024 .f32)
    (x4 : Vec F S1x2x6144 .f32) (x5 : Vec F S1x1024 .f32) :
    out0_6 i x0 x1 x2 x3 x4 x5 = k0_pay1 (k0_pay2 (weight0 x2) x0 (weight1 x2) x1) (k0_pay3 i (mod1_5 x4) (mod0_5 x4)) x3 x5 := by
  unfold out0_6
  rw [View.canon_cons_unit_zero (S := S1x528x1024) zero3]
  simp only [View.ld_unit_zero (S := S1x1x528x1024) zero4, View.ld_unit_zero (S := S1x528x1024) zero3, View.ld_unit_zero (S := S1x1024) zero2]

end

/-- The weighted sum, with the weights of a row. -/
theorem pay2_at (v0 v1 : Vec Ideal S1x528x1 .f32) (x0 x1 : Vec Ideal S1x1x528x1024 .bf16) (r : Fin 528) (d : Fin 1024) :
    k0_pay2 (F := Ideal) v0 x0 v1 x1 (ValueIdx.ix2 r d)
      = v0 (ValueIdx.ix3 (0 : Fin 1) r (0 : Fin 1)) * x0 (ValueIdx.ix4 (0 : Fin 1) (0 : Fin 1) r d) + v1 (ValueIdx.ix3 (0 : Fin 1) r (0 : Fin 1)) * x1 (ValueIdx.ix4 (0 : Fin 1) (0 : Fin 1) r d) := by
  unfold k0_pay2
  pointwise
  rfl

/-- A column of the routing. -/
theorem col_at (x2 : Vec Ideal S1x528x128 .f32) (o : Fin 128) (h : ∀ a, (![0, 0, o.val] : Fin 3 → Nat) a + S1x528x1.size a ≤ S1x528x128.size a) (r : Fin 528) :
    View.ld x2 (Rect.unit (s := S1x528x128) ![0, 0, o.val] S1x528x1.size h) (ValueIdx.ix3 (0 : Fin 1) r (0 : Fin 1)) = x2 (ValueIdx.ix3 (0 : Fin 1) r o) := by
  refine View.ld_unit_apply_of x2 _ _ h _ _ fun a => ?_
  match a with
  | ⟨0, _⟩ => rfl
  | ⟨1, _⟩ => exact (show r.val = 0 + r.val by omega)
  | ⟨2, _⟩ => exact (show o.val = o.val + 0 by omega)

theorem pay3_at (i : grid0.Coords) (u v : Vec Ideal S1x1x1024 .f32) (r : Fin 528) (d : Fin 1024) :
    k0_pay3 (F := Ideal) i u v (ValueIdx.ix2 r d)
      = Scalar.select (IntOp.cmpi CmpIPredicate.sge (IntOp.addi (Scalar.muli (BitVec.ofNat 32 (i 1).val) 528#32) (BitVec.ofNat 32 r.val)) 8192#32)
          (u (ValueIdx.ix3 (0 : Fin 1) (0 : Fin 1) d)) (v (ValueIdx.ix3 (0 : Fin 1) (0 : Fin 1) d)) := by
  unfold k0_pay3
  pointwise
  rfl

theorem pay1_at (y g : Vec Ideal S528x1024 .f32) (x3 : Vec Ideal S1x528x1024 .f32) (x5 : Vec Ideal S1x1024 .f32) (r : Fin 528) (d : Fin 1024) :
    k0_pay1 (F := Ideal) y g x3 x5 (ValueIdx.ix3 (0 : Fin 1) r d)
      = added (fun c => x3 (ValueIdx.ix3 (0 : Fin 1) r c)) (fun c => y (ValueIdx.ix2 r c)) (fun c => x5 (ValueIdx.ix2 (0 : Fin 1) c)) (fun c => g (ValueIdx.ix2 r c)) d := by
  unfold k0_pay1
  pointwise
  rfl

/-- The rows that a grid point leaves, over blocks read off their arrays. -/
theorem rows_of (i : grid0.Coords) (x0 x1 : Vec Ideal S1x1x528x1024 .bf16) (x2 : Vec Ideal S1x528x128 .f32) (x3 : Vec Ideal S1x528x1024 .f32)
    (x4 : Vec Ideal S1x2x6144 .f32) (x5 : Vec Ideal S1x1024 .f32) (r : Fin 528) (t : Fin 8448) (ht : t.val = (i 1).val * 528 + r.val)
    (G : Fin 2 → EReal) (Y : Fin 2 → Fin 1024 → EReal) (X g : Fin 1024 → EReal) (M : Fin 6144 → EReal)
    (h0 : ∀ d, x0 (ValueIdx.ix4 (0 : Fin 1) (0 : Fin 1) r d) = Y 0 d) (h1 : ∀ d, x1 (ValueIdx.ix4 (0 : Fin 1) (0 : Fin 1) r d) = Y 1 d)
    (h2 : ∀ k : Fin 2, x2 (ValueIdx.ix3 (0 : Fin 1) r (⟨k.val, by omega⟩ : Fin 128)) = G k) (h3 : ∀ k, x3 (ValueIdx.ix3 (0 : Fin 1) r k) = X k)
    (h4 : ∀ j, x4 (ValueIdx.ix3 (0 : Fin 1) (kind t) j) = M j) (h5 : ∀ k, x5 (ValueIdx.ix2 (0 : Fin 1) k) = g k) (d : Fin 1024) :
    out0_6 (F := Ideal) i x0 x1 x2 x3 x4 x5 (ValueIdx.ix3 (0 : Fin 1) r d) = mixRow G Y X g M d := by
  rw [leaves]
  refine (pay1_at _ _ x3 x5 r d).trans ?_
  have hy : (fun c => k0_pay2 (F := Ideal) (weight0 x2) x0 (weight1 x2) x1 (ValueIdx.ix2 r c)) = weighted G Y := funext fun c => by
    rw [pay2_at, h0, h1]
    unfold weighted
    rw [← h2 0, ← h2 1]
    exact congrArg₂ (· + ·) (congrArg (· * Y 0 c) (col_at x2 0 inb_S1x528x128_S1x528x1_0_0_0 r)) (congrArg (· * Y 1 c) (col_at x2 1 inb_S1x528x128_S1x528x1_0_0_1 r))
  have hm : (fun c : Fin 1024 => k0_pay3 (F := Ideal) i (mod1_5 x4) (mod0_5 x4) (ValueIdx.ix2 r c)) = fun c => M ⟨5120 + c.val, by omega⟩ := funext fun c => by
    rw [← h4]
    refine (pay3_at i _ _ r c).trans (Eq.trans ?_ (Cert.Kernel2Ideal.Tile.pick_at (i 1) r t ht fun k => x4 (ValueIdx.ix3 (0 : Fin 1) k (⟨5120 + c.val, by omega⟩ : Fin 6144))))
    exact congrArg₂ _ (Cert.Kernel2Ideal.Tile.cols_at x4 1 5120 inb_S1x2x6144_S1x1x1024_0_1_5120 c _ rfl)
      (Cert.Kernel2Ideal.Tile.cols_at x4 0 5120 inb_S1x2x6144_S1x1x1024_0_0_5120 c _ rfl)
  unfold mixRow
  simp only [h3, h5]
  rw [hy, hm]

end Cert.Kernel4Ideal.Tile

end
-- ==== Proof.MixRef.lean ====
/- The fourth reference's result, entry by entry. -/
module

public import proofs.«01_k».proof.Proof.Gen.Reference4Ideal.Read
public import proofs.«01_k».proof.Proof.MixEntry
public import proofs.«01_k».proof.Proof.DenseRef

@[expose] public section

noncomputable section

namespace Cert.Reference4Ideal.Mix

open Idealize.ShloMosaic Idealize.ShloMosaic.TcCoe Cert.Reference4Ideal Cert.Reference4Ideal.Gen Cert.Reference4Ideal.Read Cert.Dense Cert.Mix

variable (x0 : Vec Ideal S2x2x8448x1024 .bf16) (x1 : Vec Ideal S2x8448x128 .f32) (x2 : Vec Ideal S2x8448x1024 .f32) (x3 : Vec Ideal S2x2x6144 .f32) (x4 : Vec Ideal S1x1024 .f32)

/-- The weighted sum of the two experts' outputs. -/
theorem weighted_at (b : Fin 2) (t : Fin 8448) (d : Fin 1024) :
    val_main_v22 (F := Ideal) x0 x1 (ValueIdx.ix3 b t d)
      = weighted (fun k => x1 (ValueIdx.ix3 b t (⟨k.val, by omega⟩ : Fin 128))) (fun k d => x0 (ValueIdx.ix4 k b t d)) d := by
  have h : val_main_v22 (F := Ideal) x0 x1 (ValueIdx.ix3 b t d)
      = (∑ k : Fin 2, x1 (ValueIdx.ix3 b t (⟨k.val, by omega⟩ : Fin 128)) * x0 (ValueIdx.ix4 k b t d) : EReal) := by
    unfold val_main_v22 val_main_v21 val_main_v20 val_main_v19 val_main_v18 val_main_v17 val_main_v16 val_main_cst
    pointwise
    rfl
  rw [h, Fin.sum_univ_two]
  rfl

/-- The residual rows of the first part of the sequence. -/
theorem lat_out (b : Fin 2) (t : Fin 8192) (d : Fin 1024) :
    val_main_v39 (F := Ideal) x0 x1 x2 x3 x4 (ValueIdx.ix3 b t d)
      = added (fun c => x2 (ValueIdx.ix3 b (⟨t.val, by omega⟩ : Fin 8448) c)) (fun c => val_main_v22 (F := Ideal) x0 x1 (ValueIdx.ix3 b (⟨t.val, by omega⟩ : Fin 8448) c))
          (fun c => x4 (ValueIdx.ix2 (0 : Fin 1) c)) (fun c => x3 (ValueIdx.ix3 b (0 : Fin 2) (⟨5120 + c.val, by omega⟩ : Fin 6144))) d := by
  unfold val_main_v39 val_main_v38 val_main_v37 val_main_v36 val_main_v35 val_main_v34 val_main_v33 val_main_v32 val_main_v31 val_main_v30 val_main_v29
    val_main_cst_2 val_main_v28 val_main_v27 val_main_cst_1 val_main_v26 val_main_v25 val_main_cst_0 val_main_v24 val_main_v23 val_main_v0 val_main_v8 val_main_v2
  generalize val_main_v22 (F := Ideal) x0 x1 = y
  pointwise
  rfl

/-- The residual rows of the last part of the sequence. -/
theorem ctx_out (b : Fin 2) (t : Fin 256) (d : Fin 1024) :
    val_main_v56 (F := Ideal) x0 x1 x2 x3 x4 (ValueIdx.ix3 b t d)
      = added (fun c => x2 (ValueIdx.ix3 b (⟨8192 + t.val, by omega⟩ : Fin 8448) c)) (fun c => val_main_v22 (F := Ideal) x0 x1 (ValueIdx.ix3 b (⟨8192 + t.val, by omega⟩ : Fin 8448) c))
          (fun c => x4 (ValueIdx.ix2 (0 : Fin 1) c)) (fun c => x3 (ValueIdx.ix3 b (1 : Fin 2) (⟨5120 + c.val, by omega⟩ : Fin 6144))) d := by
  unfold val_main_v56 val_main_v55 val_main_v54 val_main_v53 val_main_v52 val_main_v51 val_main_v50 val_main_v49 val_main_v48 val_main_v47 val_main_v46
    val_main_cst_5 val_main_v45 val_main_v44 val_main_cst_4 val_main_v43 val_main_v42 val_main_cst_3 val_main_v41 val_main_v40 val_main_v1 val_main_v15 val_main_v9
  generalize val_main_v22 (F := Ideal) x0 x1 = y
  pointwise
  rfl

/-- The result. -/
theorem result_at (b : Fin 2) (t : Fin 8448) (d : Fin 1024) :
    val_main_v57 (F := Ideal) x0 x1 x2 x3 x4 (ValueIdx.ix3 b t d)
      = mixRow (fun k => x1 (ValueIdx.ix3 b t (⟨k.val, by omega⟩ : Fin 128))) (fun k d => x0 (ValueIdx.ix4 k b t d)) (fun c => x2 (ValueIdx.ix3 b t c))
          (fun c => x4 (ValueIdx.ix2 (0 : Fin 1) c)) (fun j => x3 (ValueIdx.ix3 b (kind t) j)) d := by
  unfold mixRow
  rw [← funext (weighted_at x0 x1 b t)]
  refine (Cert.Reference2Ideal.Dense.stacked_at _ _ b t d).trans ?_
  by_cases h : t.val < 8192
  · rw [dif_pos h, Cert.Reference2Ideal.Dense.kind_lo t h, lat_out]
  · rw [dif_neg h, Cert.Reference2Ideal.Dense.kind_hi t h, ctx_out, Cert.Reference2Ideal.Dense.back t h]

end Cert.Reference4Ideal.Mix

end
-- ==== Proof.MixValue.lean ====
/- The blocks of the call after the experts at coordinates, its result entry by entry, and its equality with the reference's. -/
module

public import proofs.«01_k».proof.Proof.MixTile
public import proofs.«01_k».proof.Proof.MixRef
public import Idealize.ShloMosaic.Lib.Pipeline.ValueKit.Geometry

@[expose] public section

set_option maxRecDepth 16384

noncomputable section

namespace Cert.Kernel4Ideal.Result

open Idealize.ShloMosaic Idealize.ShloMosaic.TcCoe Cert.Kernel4Ideal Cert.Kernel4Ideal.Gen Cert.Kernel4Ideal.Value Cert.Dense Cert.Mix

section
variable {F : FTy → Type} [FloatOps F]
variable (m : (ℓ : Loc nD τ sig) → Buf (Elt F) ℓ)

theorem coord_batch (t : Fin grid0.N) : (grid0.coords t 0).val = t.val / 16 := by
  have h := Pipeline.Grid.coords_val (G := grid0) t 0 (S := 16) (B := 2) (by decide) rfl
  have ht : t.val < 32 := lt_of_lt_of_eq t.isLt N_0
  omega

theorem coord_block (t : Fin grid0.N) : (grid0.coords t 1).val = t.val % 16 := by
  have h := Pipeline.Grid.coords_val (G := grid0) t 1 (S := 1) (B := 16) (by decide) rfl
  omega

theorem word_batch (t : Fin grid0.N) : (BitVec.ofNat 32 (grid0.coords t 0).val).toNat = t.val / 16 := by
  have ht : t.val < 32 := lt_of_lt_of_eq t.isLt N_0
  rw [coord_batch, BitVec.toNat_ofNat, Nat.mod_eq_of_lt (by omega)]

theorem word_block (t : Fin grid0.N) : (BitVec.ofNat 32 (grid0.coords t 1).val).toNat = t.val % 16 := by
  rw [coord_block, BitVec.toNat_ofNat, Nat.mod_eq_of_lt (by omega)]

/-- A block of one expert's outputs, for the first and for the second. -/
theorem first_block (c : Dev nD) (t : Fin cfg0.N) (r : Fin 528) (d : Fin 1024) (b : Fin 2) (ρ : Fin 8448) (hb : b.val = t.val / 16)
    (hρ : ρ.val = t.val % 16 * 528 + r.val) :
    iblk m c 0 t (ValueIdx.ix4 (0 : Fin 1) (0 : Fin 1) r d) = V m c main_arg0 (ValueIdx.ix4 (0 : Fin 2) b ρ d) := by
  refine congrArg (V m c main_arg0) (funext fun x => Fin.ext ?_)
  match x with
  | ⟨0, _⟩ => rfl
  | ⟨1, _⟩ =>
    refine (congrArg (fun z => z * 1 + 1 * 0) (word_batch t)).trans ?_
    show _ = b.val
    omega
  | ⟨2, _⟩ =>
    refine (congrArg (fun z => z * 528 + 1 * r.val) (word_block t)).trans ?_
    show _ = ρ.val
    omega
  | ⟨3, _⟩ => exact (show 0 * 1024 + 1 * d.val = d.val by omega)

theorem second_block (c : Dev nD) (t : Fin cfg0.N) (r : Fin 528) (d : Fin 1024) (b : Fin 2) (ρ : Fin 8448) (hb : b.val = t.val / 16)
    (hρ : ρ.val = t.val % 16 * 528 + r.val) :
    iblk m c 1 t (ValueIdx.ix4 (0 : Fin 1) (0 : Fin 1) r d) = V m c main_arg0 (ValueIdx.ix4 (1 : Fin 2) b ρ d) := by
  refine congrArg (V m c main_arg0) (funext fun x => Fin.ext ?_)
  match x with
  | ⟨0, _⟩ => rfl
  | ⟨1, _⟩ =>
    refine (congrArg (fun z => z * 1 + 1 * 0) (word_batch t)).trans ?_
    show _ = b.val
    omega
  | ⟨2, _⟩ =>
    refine (congrArg (fun z => z * 528 + 1 * r.val) (word_block t)).trans ?_
    show _ = ρ.val
    omega
  | ⟨3, _⟩ => exact (show 0 * 1024 + 1 * d.val = d.val by omega)

/-- A block of the routing's weights. -/
theorem route_block (c : Dev nD) (t : Fin cfg0.N) (r : Fin 528) (k : Fin 128) (b : Fin 2) (ρ : Fin 8448) (hb : b.val = t.val / 16)
    (hρ : ρ.val = t.val % 16 * 528 + r.val) :
    iblk m c 2 t (ValueIdx.ix3 (0 : Fin 1) r k) = V m c main_arg1 (ValueIdx.ix3 b ρ k) := by
  refine congrArg (V m c main_arg1) (funext fun x => Fin.ext ?_)
  match x with
  | ⟨0, _⟩ =>
    refine (congrArg (fun z => z * 1 + 1 * 0) (word_batch t)).trans ?_
    show _ = b.val
    omega
  | ⟨1, _⟩ =>
    refine (congrArg (fun z => z * 528 + 1 * r.val) (word_block t)).trans ?_
    show _ = ρ.val
    omega
  | ⟨2, _⟩ => exact (show 0 * 128 + 1 * k.val = k.val by omega)

/-- A block of residual rows, read off any contents of its array. -/
theorem rows_block (Z : Vec F S2x8448x1024 .f32) (t : Fin cfg0.N) (r : Fin 528) (d : Fin 1024) (b : Fin 2) (ρ : Fin 8448) (hb : b.val = t.val / 16)
    (hρ : ρ.val = t.val % 16 * 528 + r.val) :
    ((cfg0.win 3).blk t).view.read (Elt F) Z (ValueIdx.ix3 (0 : Fin 1) r d) = Z (ValueIdx.ix3 b ρ d) := by
  refine congrArg Z (funext fun x => Fin.ext ?_)
  match x with
  | ⟨0, _⟩ =>
    refine (congrArg (fun z => z * 1 + 1 * 0) (word_batch t)).trans ?_
    show _ = b.val
    omega
  | ⟨1, _⟩ =>
    refine (congrArg (fun z => z * 528 + 1 * r.val) (word_block t)).trans ?_
    show _ = ρ.val
    omega
  | ⟨2, _⟩ => exact (show 0 * 1024 + 1 * d.val = d.val by omega)

/-- The modulation's block. -/
theorem mod_block (c : Dev nD) (t : Fin cfg0.N) (k : Fin 2) (j : Fin 6144) (b : Fin 2) (hb : b.val = t.val / 16) :
    iblk m c 4 t (ValueIdx.ix3 (0 : Fin 1) k j) = V m c main_arg3 (ValueIdx.ix3 b k j) := by
  refine congrArg (V m c main_arg3) (funext fun x => Fin.ext ?_)
  match x with
  | ⟨0, _⟩ =>
    refine (congrArg (fun z => z * 1 + 1 * 0) (word_batch t)).trans ?_
    show _ = b.val
    omega
  | ⟨1, _⟩ => exact (show 0 * 2 + 1 * k.val = k.val by omega)
  | ⟨2, _⟩ => exact (show 0 * 6144 + 1 * j.val = j.val by omega)

/-- The gains' block. -/
theorem gain_block (c : Dev nD) (t : Fin cfg0.N) (d : Fin 1024) : iblk m c 5 t (ValueIdx.ix2 (0 : Fin 1) d) = V m c main_arg4 (ValueIdx.ix2 (0 : Fin 1) d) := by
  refine congrArg (V m c main_arg4) (funext fun x => Fin.ext ?_)
  match x with
  | ⟨0, _⟩ => rfl
  | ⟨1, _⟩ => exact (show 0 * 1024 + 1 * d.val = d.val by omega)

/-- An entry of the result array is the entry of the block that its grid point leaves. -/
theorem array_block (c : Dev nD) (t : Fin cfg0.N) (r : Fin 528) (d : Fin 1024) (b : Fin 2) (ρ : Fin 8448) (hb : b.val = t.val / 16)
    (hρ : ρ.val = t.val % 16 * 528 + r.val) :
    (dats m 0 c).arrAt 6 cfg0.N (ValueIdx.ix3 b ρ d)
      = out0_6 (grid0.coords t) (iblk m c 0 t) (iblk m c 1 t) (iblk m c 2 t) (iblk m c 3 t) (iblk m c 4 t) (iblk m c 5 t) (ValueIdx.ix3 (0 : Fin 1) r d) := by
  have h := congrFun ((blocks6 m c t (flush0_6 t)).trans (flushed6 m c t)) (ValueIdx.ix3 (0 : Fin 1) r d)
  exact (rows_block ((dats m 0 c).arrAt 6 cfg0.N) t r d b ρ hb hρ).symm.trans h

end

variable (m : (ℓ : Loc nD τ sig) → Buf (Elt Ideal) ℓ)

/-- The result array at an entry. -/
theorem array_at (c : Dev nD) (b : Fin 2) (ρ : Fin 8448) (d : Fin 1024) :
    (dats m 0 c).arrAt 6 cfg0.N (ValueIdx.ix3 b ρ d)
      = mixRow (fun k => m ((c : Thread nD τ).loc main_arg1) (ValueIdx.ix3 b ρ (⟨k.val, by omega⟩ : Fin 128)))
          (fun k d => m ((c : Thread nD τ).loc main_arg0) (ValueIdx.ix4 k b ρ d)) (fun k => m ((c : Thread nD τ).loc main_arg2) (ValueIdx.ix3 b ρ k))
          (fun k => m ((c : Thread nD τ).loc main_arg4) (ValueIdx.ix2 (0 : Fin 1) k)) (fun j => m ((c : Thread nD τ).loc main_arg3) (ValueIdx.ix3 b (kind ρ) j)) d := by
  have hb := b.isLt
  have hρ := ρ.isLt
  have hlt : 16 * b.val + ρ.val / 528 < cfg0.N := by rw [show cfg0.N = 32 from N_0]; omega
  have h1 : b.val = (16 * b.val + ρ.val / 528) / 16 := by omega
  have h2 : ρ.val = (16 * b.val + ρ.val / 528) % 16 * 528 + ρ.val % 528 := by omega
  generalize 16 * b.val + ρ.val / 528 = n at hlt h1 h2
  have hc : ρ.val = (grid0.coords ⟨n, hlt⟩ 1).val * 528 + ρ.val % 528 := by rw [coord_block]; exact h2
  refine (array_block m c ⟨n, hlt⟩ ⟨ρ.val % 528, Nat.mod_lt _ (by decide)⟩ d b ρ h1 h2).trans ?_
  exact Tile.rows_of (grid0.coords ⟨n, hlt⟩) _ _ _ _ _ _ ⟨ρ.val % 528, Nat.mod_lt _ (by decide)⟩ ρ hc _ _ _ _ _
    (fun k => (first_block m c ⟨n, hlt⟩ _ k b ρ h1 h2).trans (congrFun (V_main_arg0 m c) _))
    (fun k => (second_block m c ⟨n, hlt⟩ _ k b ρ h1 h2).trans (congrFun (V_main_arg0 m c) _))
    (fun k => (route_block m c ⟨n, hlt⟩ _ _ b ρ h1 h2).trans (congrFun (V_main_arg1 m c) _))
    (fun k => (rows_block (V m c main_arg2) ⟨n, hlt⟩ _ k b ρ h1 h2).trans (congrFun (V_main_arg2 m c) _))
    (fun j => (mod_block m c ⟨n, hlt⟩ (kind ρ) j b h1).trans (congrFun (V_main_arg3 m c) _))
    (fun k => (gain_block m c ⟨n, hlt⟩ k).trans (congrFun (V_main_arg4 m c) _)) d

/-- The call's result is the reference's function of the arguments. -/
theorem result_eq (c : Dev nD) :
    (dats m 0 c).arrAt 6 cfg0.N = Cert.Reference4Ideal.Read.val_main_v57 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  funext i
  have hi : i = ValueIdx.ix3 (i 0) (i 1) (i 2) := funext fun a => match a with
    | ⟨0, _⟩ => rfl
    | ⟨1, _⟩ => rfl
    | ⟨2, _⟩ => rfl
  rw [hi]
  exact (array_at m c (i 0) (i 1) (i 2)).trans (Cert.Reference4Ideal.Mix.result_at _ _ _ _ _ (i 0) (i 1) (i 2)).symm

end Cert.Kernel4Ideal.Result

end
-- ==== Proof.ModEntry.lean ====
/- One entry of the modulation. -/
module

public import Idealize.ShloMosaic.PureOps.Ideal

@[expose] public section

noncomputable section

namespace Cert.Mod

open Idealize.ShloMosaic

/-- A conditioning row passed through `z · logistic z`, times a column of the weights, plus its bias. -/
def modAt (x w : Fin 1024 → EReal) (b : EReal) : EReal := (∑ c, x c * Ideal.logistic (x c) * w c) + b

end Cert.Mod

end
-- ==== Proof.ModRef.lean ====
/- The fifth reference's result, entry by entry. -/
module

public import proofs.«01_k».proof.Proof.Gen.Reference5Ideal.Read
public import proofs.«01_k».proof.Proof.ModEntry
public import Idealize.ShloMosaic.Lib.Pointwise

@[expose] public section

noncomputable section

namespace Cert.Reference5Ideal.Mod

open Idealize.ShloMosaic Idealize.ShloMosaic.TcCoe Cert.Reference5Ideal Cert.Reference5Ideal.Gen Cert.Reference5Ideal.Read Cert.Mod

variable (x0 : Vec Ideal S8x1024 .f32) (x1 : Vec Ideal S4x1024x6144 .f32) (x2 : Vec Ideal S4x6144 .f32)

/-- The conditioning rows passed through `z · logistic z`. -/
theorem act_at (r : Fin 8) (c : Fin 1024) :
    val_main_v0 (F := Ideal) x0 (ValueIdx.ix2 r c) = x0 (ValueIdx.ix2 r c) * Ideal.logistic (x0 (ValueIdx.ix2 r c)) := by
  unfold val_main_v0 val_main_call0_v5 val_main_call0_v4 val_main_call0_cst_0 val_main_call0_v3 val_main_call0_v2 val_main_call0_cst
    val_main_call0_v1 val_main_call0_v0
  pointwise
  rfl

/-- A layer's modulation, as the product of any rows with the layer's weights plus its biases. -/
theorem layer0_at (r : Fin 8) (d : Fin 6144) :
    val_main_v8 (F := Ideal) x0 x1 x2 (ValueIdx.ix2 r d)
      = ((∑ c : Fin 1024, val_main_v0 (F := Ideal) x0 (ValueIdx.ix2 r c) * x1 (ValueIdx.ix3 (0 : Fin 4) c d) : EReal) + x2 (ValueIdx.ix2 (0 : Fin 4) d) : EReal) := by
  unfold val_main_v8 val_main_v3 val_main_v7 val_main_v6 val_main_v5 val_main_v4 val_main_v2 val_main_v1
  generalize val_main_v0 (F := Ideal) x0 = y
  pointwise
  rfl

theorem layer1_at (r : Fin 8) (d : Fin 6144) :
    val_main_v16 (F := Ideal) x0 x1 x2 (ValueIdx.ix2 r d)
      = ((∑ c : Fin 1024, val_main_v0 (F := Ideal) x0 (ValueIdx.ix2 r c) * x1 (ValueIdx.ix3 (1 : Fin 4) c d) : EReal) + x2 (ValueIdx.ix2 (1 : Fin 4) d) : EReal) := by
  unfold val_main_v16 val_main_v11 val_main_v15 val_main_v14 val_main_v13 val_main_v12 val_main_v10 val_main_v9
  generalize val_main_v0 (F := Ideal) x0 = y
  pointwise
  rfl

theorem layer2_at (r : Fin 8) (d : Fin 6144) :
    val_main_v24 (F := Ideal) x0 x1 x2 (ValueIdx.ix2 r d)
      = ((∑ c : Fin 1024, val_main_v0 (F := Ideal) x0 (ValueIdx.ix2 r c) * x1 (ValueIdx.ix3 (2 : Fin 4) c d) : EReal) + x2 (ValueIdx.ix2 (2 : Fin 4) d) : EReal) := by
  unfold val_main_v24 val_main_v19 val_main_v23 val_main_v22 val_main_v21 val_main_v20 val_main_v18 val_main_v17
  generalize val_main_v0 (F := Ideal) x0 = y
  pointwise
  rfl

theorem layer3_at (r : Fin 8) (d : Fin 6144) :
    val_main_v32 (F := Ideal) x0 x1 x2 (ValueIdx.ix2 r d)
      = ((∑ c : Fin 1024, val_main_v0 (F := Ideal) x0 (ValueIdx.ix2 r c) * x1 (ValueIdx.ix3 (3 : Fin 4) c d) : EReal) + x2 (ValueIdx.ix2 (3 : Fin 4) d) : EReal) := by
  unfold val_main_v32 val_main_v27 val_main_v31 val_main_v30 val_main_v29 val_main_v28 val_main_v26 val_main_v25
  generalize val_main_v0 (F := Ideal) x0 = y
  pointwise
  rfl

/-- The four layers, one after the other. -/
theorem stacked_at (y0 y1 y2 y3 : FVec Ideal S8x6144 .f32) (r : Fin 8) (d : Fin 6144) :
    (∀ l : Fin 4, concatenate S4x8x6144 0 [⟨S1x8x6144, broadcastInDim S1x8x6144 ![1, 2] bcast_S8x6144_S1x8x6144_1_2 y0⟩,
        ⟨S1x8x6144, broadcastInDim S1x8x6144 ![1, 2] bcast_S8x6144_S1x8x6144_1_2 y1⟩, ⟨S1x8x6144, broadcastInDim S1x8x6144 ![1, 2] bcast_S8x6144_S1x8x6144_1_2 y2⟩,
        ⟨S1x8x6144, broadcastInDim S1x8x6144 ![1, 2] bcast_S8x6144_S1x8x6144_1_2 y3⟩] concatenates_S1x8x6144_S1x8x6144_S1x8x6144_S1x8x6144_S4x8x6144_d0 (ValueIdx.ix3 l r d)
      = (![y0, y1, y2, y3] l) (ValueIdx.ix2 r d)) := by
  intro l
  fin_cases l <;> (pointwise; rfl)

/-- The result. -/
theorem result_at (l : Fin 4) (r : Fin 8) (d : Fin 6144) :
    val_main_v37 (F := Ideal) x0 x1 x2 (ValueIdx.ix3 l r d)
      = modAt (fun c => x0 (ValueIdx.ix2 r c)) (fun c => x1 (ValueIdx.ix3 l c d)) (x2 (ValueIdx.ix2 l d)) := by
  unfold modAt
  refine (stacked_at _ _ _ _ r d l).trans ?_
  simp only [← act_at x0 r]
  fin_cases l
  · exact layer0_at x0 x1 x2 r d
  · exact layer1_at x0 x1 x2 r d
  · exact layer2_at x0 x1 x2 r d
  · exact layer3_at x0 x1 x2 r d

end Cert.Reference5Ideal.Mod

end
-- ==== Proof.ModValue.lean ====
/- The modulation's blocks at coordinates, its result entry by entry, and its equality with the reference's. -/
module

public import proofs.«01_k».proof.Proof.Gen.Kernel5Ideal.Value
public import proofs.«01_k».proof.Proof.ModRef
public import Idealize.ShloMosaic.Lib.Pipeline.ValueKit.Geometry
public import Idealize.ShloMosaic.Lib.StableHlo.RunRead

@[expose] public section

set_option maxRecDepth 16384

noncomputable section

namespace Cert.Kernel5Ideal.Result

open Idealize.ShloMosaic Idealize.ShloMosaic.TcCoe Idealize.ShloMosaic.Tactic Cert.Kernel5Ideal Cert.Kernel5Ideal.Gen Cert.Kernel5Ideal.Value Cert.Mod

theorem zero2 : (![0, 0] : Fin 2 → Nat) = fun _ => 0 := funext fun a => by fin_cases a <;> rfl
theorem zero3 : (![0, 0, 0] : Fin 3 → Nat) = fun _ => 0 := funext fun a => by fin_cases a <;> rfl

theorem word_layer (t : Fin grid0.N) : (BitVec.ofNat 32 (grid0.coords t 0).val).toNat = t.val / 6 := by
  have h := Pipeline.Grid.coords_val (G := grid0) t 0 (S := 6) (B := 4) (by decide) rfl
  have ht : t.val < 24 := lt_of_lt_of_eq t.isLt N_0
  rw [BitVec.toNat_ofNat, Nat.mod_eq_of_lt (by omega)]
  omega

theorem word_part (t : Fin grid0.N) : (BitVec.ofNat 32 (grid0.coords t 1).val).toNat = t.val % 6 := by
  have h := Pipeline.Grid.coords_val (G := grid0) t 1 (S := 1) (B := 6) (by decide) rfl
  rw [BitVec.toNat_ofNat, Nat.mod_eq_of_lt (by omega)]
  omega

section
variable {F : FTy → Type} [FloatOps F]
variable (m : (ℓ : Loc nD τ sig) → Buf (Elt F) ℓ)

/-- What a grid point leaves. -/
theorem leaves (x0 : Vec F S8x1024 .f32) (x1 : Vec F S1x1024x1024 .f32) (x2 : Vec F S1x1x1024 .f32) : out0_3 x0 x1 x2 = k0_pay1 x0 x1 x2 := by
  unfold out0_3
  rw [View.canon_cons_unit_zero (S := S1x8x1024) zero3]
  simp only [View.ld_unit_zero (S := S8x1024) zero2, View.ld_unit_zero (S := S1x1024x1024) zero3, View.ld_unit_zero (S := S1x1x1024) zero3]

/-- The conditioning rows' block. -/
theorem cond_block (c : Dev nD) (t : Fin cfg0.N) (r : Fin 8) (k : Fin 1024) : iblk m c 0 t (ValueIdx.ix2 r k) = V m c main_arg0 (ValueIdx.ix2 r k) := by
  refine congrArg (V m c main_arg0) (funext fun x => Fin.ext ?_)
  match x with
  | ⟨0, _⟩ => exact (show 0 * 8 + 1 * r.val = r.val by omega)
  | ⟨1, _⟩ => exact (show 0 * 1024 + 1 * k.val = k.val by omega)

/-- The weights' block. -/
theorem weight_block (c : Dev nD) (t : Fin cfg0.N) (k d : Fin 1024) (l : Fin 4) (j : Fin 6144) (hl : l.val = t.val / 6) (hj : j.val = t.val % 6 * 1024 + d.val) :
    iblk m c 1 t (ValueIdx.ix3 (0 : Fin 1) k d) = V m c main_arg1 (ValueIdx.ix3 l k j) := by
  refine congrArg (V m c main_arg1) (funext fun x => Fin.ext ?_)
  match x with
  | ⟨0, _⟩ =>
    refine (congrArg (fun z => z * 1 + 1 * 0) (word_layer t)).trans ?_
    show _ = l.val
    omega
  | ⟨1, _⟩ => exact (show 0 * 1024 + 1 * k.val = k.val by omega)
  | ⟨2, _⟩ =>
    refine (congrArg (fun z => z * 1024 + 1 * d.val) (word_part t)).trans ?_
    show _ = j.val
    omega

/-- The biases' block. -/
theorem bias_block (c : Dev nD) (t : Fin cfg0.N) (d : Fin 1024) (l : Fin 4) (j : Fin 6144) (hl : l.val = t.val / 6) (hj : j.val = t.val % 6 * 1024 + d.val) :
    iblk m c 2 t (ValueIdx.ix3 (0 : Fin 1) (0 : Fin 1) d) = V m c main_v0 (ValueIdx.ix3 l (0 : Fin 1) j) := by
  refine congrArg (V m c main_v0) (funext fun x => Fin.ext ?_)
  match x with
  | ⟨0, _⟩ =>
    refine (congrArg (fun z => z * 1 + 1 * 0) (word_layer t)).trans ?_
    show _ = l.val
    omega
  | ⟨1, _⟩ => rfl
  | ⟨2, _⟩ =>
    refine (congrArg (fun z => z * 1024 + 1 * d.val) (word_part t)).trans ?_
    show _ = j.val
    omega

/-- A block of the result, read off any contents of its array. -/
theorem result_block (Z : Vec F S4x8x6144 .f32) (t : Fin cfg0.N) (r : Fin 8) (d : Fin 1024) (l : Fin 4) (j : Fin 6144) (hl : l.val = t.val / 6)
    (hj : j.val = t.val % 6 * 1024 + d.val) :
    ((cfg0.win 3).blk t).view.read (Elt F) Z (ValueIdx.ix3 (0 : Fin 1) r d) = Z (ValueIdx.ix3 l r j) := by
  refine congrArg Z (funext fun x => Fin.ext ?_)
  match x with
  | ⟨0, _⟩ =>
    refine (congrArg (fun z => z * 1 + 1 * 0) (word_layer t)).trans ?_
    show _ = l.val
    omega
  | ⟨1, _⟩ => exact (show 0 * 8 + 1 * r.val = r.val by omega)
  | ⟨2, _⟩ =>
    refine (congrArg (fun z => z * 1024 + 1 * d.val) (word_part t)).trans ?_
    show _ = j.val
    omega

/-- The biases the host prepares. -/
theorem V_bias (c : Dev nD) : V m c main_v0 = shapeCast S4x1x6144 (m ((c : Thread nD τ).loc main_arg2)) shapeCasts_S4x6144_S4x1x6144 := by
  unfold V hostOps0
  after_reads_simp
  rfl

/-- An entry of the result array is the entry of the block that its grid point leaves. -/
theorem array_block (c : Dev nD) (t : Fin cfg0.N) (r : Fin 8) (d : Fin 1024) (l : Fin 4) (j : Fin 6144) (hl : l.val = t.val / 6)
    (hj : j.val = t.val % 6 * 1024 + d.val) :
    (dats m 0 c).arrAt 3 cfg0.N (ValueIdx.ix3 l r j) = out0_3 (iblk m c 0 t) (iblk m c 1 t) (iblk m c 2 t) (ValueIdx.ix3 (0 : Fin 1) r d) := by
  have h := congrFun ((blocks3 m c t (flush0_3 t)).trans (flushed3 m c t)) (ValueIdx.ix3 (0 : Fin 1) r d)
  exact (result_block ((dats m 0 c).arrAt 3 cfg0.N) t r d l j hl hj).symm.trans h

end

/-- The block's arithmetic. -/
theorem pay1_at (x0 : Vec Ideal S8x1024 .f32) (x1 : Vec Ideal S1x1024x1024 .f32) (x2 : Vec Ideal S1x1x1024 .f32) (r : Fin 8) (d : Fin 1024) :
    k0_pay1 (F := Ideal) x0 x1 x2 (ValueIdx.ix3 (0 : Fin 1) r d)
      = modAt (fun k => x0 (ValueIdx.ix2 r k)) (fun k => x1 (ValueIdx.ix3 (0 : Fin 1) k d)) (x2 (ValueIdx.ix3 (0 : Fin 1) (0 : Fin 1) d)) := by
  unfold k0_pay1
  pointwise
  rfl

/-- A bias in its reshaped array. -/
theorem bias_at (z : Vec Ideal S4x6144 .f32) (l : Fin 4) (j : Fin 6144) :
    shapeCast S4x1x6144 z shapeCasts_S4x6144_S4x1x6144 (ValueIdx.ix3 l (0 : Fin 1) j) = z (ValueIdx.ix2 l j) := by
  pointwise
  rfl

variable (m : (ℓ : Loc nD τ sig) → Buf (Elt Ideal) ℓ)

/-- The result array at an entry. -/
theorem array_at (c : Dev nD) (l : Fin 4) (r : Fin 8) (j : Fin 6144) :
    (dats m 0 c).arrAt 3 cfg0.N (ValueIdx.ix3 l r j)
      = modAt (fun k => m ((c : Thread nD τ).loc main_arg0) (ValueIdx.ix2 r k)) (fun k => m ((c : Thread nD τ).loc main_arg1) (ValueIdx.ix3 l k j))
          (m ((c : Thread nD τ).loc main_arg2) (ValueIdx.ix2 l j)) := by
  have hl := l.isLt
  have hj := j.isLt
  have hlt : 6 * l.val + j.val / 1024 < cfg0.N := by rw [show cfg0.N = 24 from N_0]; omega
  have h1 : l.val = (6 * l.val + j.val / 1024) / 6 := by omega
  have h2 : j.val = (6 * l.val + j.val / 1024) % 6 * 1024 + j.val % 1024 := by omega
  generalize 6 * l.val + j.val / 1024 = n at hlt h1 h2
  refine (array_block m c ⟨n, hlt⟩ r ⟨j.val % 1024, Nat.mod_lt _ (by decide)⟩ l j h1 h2).trans ?_
  rw [leaves]
  refine (pay1_at _ _ _ r _).trans ?_
  have e0 := fun k => (cond_block m c ⟨n, hlt⟩ r k).trans (congrFun (V_main_arg0 m c) _)
  have e1 := fun k => (weight_block m c ⟨n, hlt⟩ k ⟨j.val % 1024, Nat.mod_lt _ (by decide)⟩ l j h1 h2).trans (congrFun (V_main_arg1 m c) _)
  have e2 := ((bias_block m c ⟨n, hlt⟩ ⟨j.val % 1024, Nat.mod_lt _ (by decide)⟩ l j h1 h2).trans (congrFun (V_bias m c) _)).trans (bias_at _ l j)
  exact congr (congrArg₂ modAt (funext e0) (funext e1)) e2

/-- The modulation is the reference's function of the arguments. -/
theorem result_eq (c : Dev nD) :
    (dats m 0 c).arrAt 3 cfg0.N = Cert.Reference5Ideal.Read.val_main_v37 (F := Ideal) (m ((c : Thread nD τ).loc main_arg0)) (m ((c : Thread nD τ).loc main_arg1))
      (m ((c : Thread nD τ).loc main_arg2)) := by
  funext i
  have hi : i = ValueIdx.ix3 (i 0) (i 1) (i 2) := funext fun a => match a with
    | ⟨0, _⟩ => rfl
    | ⟨1, _⟩ => rfl
    | ⟨2, _⟩ => rfl
  rw [hi]
  exact (array_at m c (i 0) (i 1) (i 2)).trans (Cert.Reference5Ideal.Mod.result_at _ _ _ (i 0) (i 1) (i 2)).symm

end Cert.Kernel5Ideal.Result

end
-- ==== Proof.NormTile.lean ====
/- The rows that a grid point of the norm before the experts leaves, over the reals, entry by entry. -/
module

public import proofs.«01_k».proof.Proof.Gen.Kernel6Ideal.Value
public import proofs.«01_k».proof.Proof.DenseTile

@[expose] public section

set_option maxRecDepth 16384

noncomputable section

namespace Cert.Kernel6Ideal.Tile

open Idealize.ShloMosaic Idealize.ShloMosaic.TcCoe Cert.Kernel6Ideal Cert.Kernel6Ideal.Gen Cert.Dense

theorem zero2 : (![0, 0] : Fin 2 → Nat) = fun _ => 0 := funext fun a => by fin_cases a <;> rfl
theorem zero3 : (![0, 0, 0] : Fin 3 → Nat) = fun _ => 0 := funext fun a => by fin_cases a <;> rfl

section
variable {F : FTy → Type} [FloatOps F]

/-- One of a batch's two rows of modulation: the 1024 entries from a given column on. -/
abbrev mod1_3 (x1 : Vec F S1x2x6144 .f32) : Vec F S1x1x1024 .f32 := View.ld x1 (Rect.unit ![0, 1, 3072] ![1, 1, 1024] inb_S1x2x6144_S1x1x1024_0_1_3072)
abbrev mod0_3 (x1 : Vec F S1x2x6144 .f32) : Vec F S1x1x1024 .f32 := View.ld x1 (Rect.unit ![0, 0, 3072] ![1, 1, 1024] inb_S1x2x6144_S1x1x1024_0_0_3072)
abbrev mod1_4 (x1 : Vec F S1x2x6144 .f32) : Vec F S1x1x1024 .f32 := View.ld x1 (Rect.unit ![0, 1, 4096] ![1, 1, 1024] inb_S1x2x6144_S1x1x1024_0_1_4096)
abbrev mod0_4 (x1 : Vec F S1x2x6144 .f32) : Vec F S1x1x1024 .f32 := View.ld x1 (Rect.unit ![0, 0, 4096] ![1, 1, 1024] inb_S1x2x6144_S1x1x1024_0_0_4096)

/-- What a grid point leaves in the first result. -/
theorem leaves (i : grid0.Coords) (x0 : Vec F S1x528x1024 .f32) (x1 : Vec F S1x2x6144 .f32) (x2 : Vec F S1x1024 .f32) (x3 : Vec F S1024x128 .f32) :
    out0_4 i x0 x1 x2 x3 = k0_pay7 (k0_pay2 i (mod1_3 x1) (mod0_3 x1)) (k0_pay3 i (mod1_4 x1) (mod0_4 x1)) (k0_pay4 x0) (k0_pay5 x0) x2 := by
  unfold out0_4 k0_pay16 k0_pay15 k0_pay14 k0_pay13
  rw [View.canon_cons_unit_zero (S := S1x528x1024) zero3]
  simp only [View.ld_unit_zero (S := S1x528x1024) zero3, View.ld_unit_zero (S := S1x1024) zero2]

end

theorem pay2_at (i : grid0.Coords) (u v : Vec Ideal S1x1x1024 .f32) (r : Fin 528) (d : Fin 1024) :
    k0_pay2 (F := Ideal) i u v (ValueIdx.ix2 r d)
      = Scalar.select (IntOp.cmpi CmpIPredicate.sge (IntOp.addi (Scalar.muli (BitVec.ofNat 32 (i 1).val) 528#32) (BitVec.ofNat 32 r.val)) 8192#32)
          (u (ValueIdx.ix3 (0 : Fin 1) (0 : Fin 1) d)) (v (ValueIdx.ix3 (0 : Fin 1) (0 : Fin 1) d)) := by
  unfold k0_pay2
  pointwise
  rfl

theorem pay3_at (i : grid0.Coords) (u v : Vec Ideal S1x1x1024 .f32) (r : Fin 528) (d : Fin 1024) :
    k0_pay3 (F := Ideal) i u v (ValueIdx.ix2 r d) = k0_pay2 (F := Ideal) i u v (ValueIdx.ix2 r d) := rfl

/-- The shift of a row. -/
theorem shift_at (i : grid0.Coords) (x1 : Vec Ideal S1x2x6144 .f32) (r : Fin 528) (d : Fin 1024) (t : Fin 8448) (ht : t.val = (i 1).val * 528 + r.val) :
    k0_pay2 (F := Ideal) i (mod1_3 x1) (mod0_3 x1) (ValueIdx.ix2 r d) = x1 (ValueIdx.ix3 (0 : Fin 1) (kind t) (⟨3072 + d.val, by omega⟩ : Fin 6144)) := by
  refine (pay2_at i _ _ r d).trans (Eq.trans ?_ (Cert.Kernel2Ideal.Tile.pick_at (i 1) r t ht fun k => x1 (ValueIdx.ix3 (0 : Fin 1) k (⟨3072 + d.val, by omega⟩ : Fin 6144))))
  exact congrArg₂ _ (Cert.Kernel2Ideal.Tile.cols_at x1 1 3072 inb_S1x2x6144_S1x1x1024_0_1_3072 d _ rfl)
    (Cert.Kernel2Ideal.Tile.cols_at x1 0 3072 inb_S1x2x6144_S1x1x1024_0_0_3072 d _ rfl)

/-- The scale of a row. -/
theorem scale_at (i : grid0.Coords) (x1 : Vec Ideal S1x2x6144 .f32) (r : Fin 528) (d : Fin 1024) (t : Fin 8448) (ht : t.val = (i 1).val * 528 + r.val) :
    k0_pay3 (F := Ideal) i (mod1_4 x1) (mod0_4 x1) (ValueIdx.ix2 r d) = x1 (ValueIdx.ix3 (0 : Fin 1) (kind t) (⟨4096 + d.val, by omega⟩ : Fin 6144)) := by
  refine ((pay3_at i _ _ r d).trans (pay2_at i _ _ r d)).trans
    (Eq.trans ?_ (Cert.Kernel2Ideal.Tile.pick_at (i 1) r t ht fun k => x1 (ValueIdx.ix3 (0 : Fin 1) k (⟨4096 + d.val, by omega⟩ : Fin 6144))))
  exact congrArg₂ _ (Cert.Kernel2Ideal.Tile.cols_at x1 1 4096 inb_S1x2x6144_S1x1x1024_0_1_4096 d _ rfl)
    (Cert.Kernel2Ideal.Tile.cols_at x1 0 4096 inb_S1x2x6144_S1x1x1024_0_0_4096 d _ rfl)

/-- The normalised rows with any shifts and scales. -/
theorem pay7_at (s t : Vec Ideal S528x1024 .f32) (x0 : Vec Ideal S1x528x1024 .f32) (x2 : Vec Ideal S1x1024 .f32) (r : Fin 528) (d : Fin 1024) :
    k0_pay7 (F := Ideal) s t (k0_pay4 x0) (k0_pay5 x0) x2 (ValueIdx.ix3 (0 : Fin 1) r d)
      = modulated (fun c => x0 (ValueIdx.ix3 (0 : Fin 1) r c)) (fun c => x2 (ValueIdx.ix2 (0 : Fin 1) c)) (fun c => t (ValueIdx.ix2 r c)) (fun c => s (ValueIdx.ix2 r c)) d := by
  unfold k0_pay7 k0_pay6 k0_pay5 k0_pay4
  pointwise
  rfl

/-- The rows that a grid point leaves, over blocks read off their arrays. -/
theorem rows_of (i : grid0.Coords) (x0 : Vec Ideal S1x528x1024 .f32) (x1 : Vec Ideal S1x2x6144 .f32) (x2 : Vec Ideal S1x1024 .f32) (x3 : Vec Ideal S1024x128 .f32)
    (r : Fin 528) (t : Fin 8448) (ht : t.val = (i 1).val * 528 + r.val) (X g : Fin 1024 → EReal) (M : Fin 6144 → EReal)
    (h0 : ∀ k, x0 (ValueIdx.ix3 (0 : Fin 1) r k) = X k) (h1 : ∀ j, x1 (ValueIdx.ix3 (0 : Fin 1) (kind t) j) = M j)
    (h2 : ∀ k, x2 (ValueIdx.ix2 (0 : Fin 1) k) = g k) (d : Fin 1024) :
    out0_4 (F := Ideal) i x0 x1 x2 x3 (ValueIdx.ix3 (0 : Fin 1) r d)
      = modulated X g (fun d => M ⟨4096 + d.val, by omega⟩) (fun d => M ⟨3072 + d.val, by omega⟩) d := by
  rw [leaves]
  refine (pay7_at _ _ x0 x2 r d).trans ?_
  simp only [h0, h2, shift_at i x1 r _ t ht, scale_at i x1 r _ t ht, h1]

end Cert.Kernel6Ideal.Tile

end
-- ==== Proof.NormRef.lean ====
/- The sixth reference's result, entry by entry. -/
module

public import proofs.«01_k».proof.Proof.Gen.Reference6Ideal.Read
public import proofs.«01_k».proof.Proof.DenseRef

@[expose] public section

noncomputable section

namespace Cert.Reference6Ideal.Norm

open Idealize.ShloMosaic Idealize.ShloMosaic.TcCoe Cert.Reference6Ideal Cert.Reference6Ideal.Gen Cert.Reference6Ideal.Read Cert.Dense

variable (x0 : Vec Ideal S2x8448x1024 .f32) (x1 : Vec Ideal S2x2x6144 .f32) (x2 : Vec Ideal S1x1024 .f32)

/-- The input rows of the first part of the sequence. -/
theorem lat_in (b : Fin 2) (t : Fin 8192) (d : Fin 1024) :
    val_main_v34 (F := Ideal) x0 x1 x2 (ValueIdx.ix3 b t d)
      = modulated (fun c => x0 (ValueIdx.ix3 b (⟨t.val, by omega⟩ : Fin 8448) c)) (fun c => x2 (ValueIdx.ix2 (0 : Fin 1) c))
          (fun c => x1 (ValueIdx.ix3 b (0 : Fin 2) (⟨4096 + c.val, by omega⟩ : Fin 6144))) (fun c => x1 (ValueIdx.ix3 b (0 : Fin 2) (⟨3072 + c.val, by omega⟩ : Fin 6144))) d := by
  unfold val_main_v34 val_main_v32 val_main_v33 val_main_v31 val_main_v30 val_main_v29 val_main_cst_2 val_main_v28 val_main_v27 val_main_v26
    val_main_v25 val_main_v24 val_main_v23 val_main_v22 val_main_v21 val_main_cst_1 val_main_v20 val_main_v19 val_main_cst_0 val_main_v18
    val_main_v17 val_main_cst val_main_v16 val_main_v0 val_main_v6 val_main_v7 val_main_v2
  pointwise
  rfl

/-- The input rows of the last part of the sequence. -/
theorem ctx_in (b : Fin 2) (t : Fin 256) (d : Fin 1024) :
    val_main_v53 (F := Ideal) x0 x1 x2 (ValueIdx.ix3 b t d)
      = modulated (fun c => x0 (ValueIdx.ix3 b (⟨8192 + t.val, by omega⟩ : Fin 8448) c)) (fun c => x2 (ValueIdx.ix2 (0 : Fin 1) c))
          (fun c => x1 (ValueIdx.ix3 b (1 : Fin 2) (⟨4096 + c.val, by omega⟩ : Fin 6144))) (fun c => x1 (ValueIdx.ix3 b (1 : Fin 2) (⟨3072 + c.val, by omega⟩ : Fin 6144))) d := by
  unfold val_main_v53 val_main_v51 val_main_v52 val_main_v50 val_main_v49 val_main_v48 val_main_cst_6 val_main_v47 val_main_v46 val_main_v45
    val_main_v44 val_main_v43 val_main_v42 val_main_v41 val_main_v40 val_main_cst_5 val_main_v39 val_main_v38 val_main_cst_4 val_main_v37
    val_main_v36 val_main_cst_3 val_main_v35 val_main_v1 val_main_v13 val_main_v14 val_main_v9
  pointwise
  rfl

/-- The result. -/
theorem result_at (b : Fin 2) (t : Fin 8448) (d : Fin 1024) :
    val_main_v55 (F := Ideal) x0 x1 x2 (ValueIdx.ix3 b t d)
      = modulated (fun c => x0 (ValueIdx.ix3 b t c)) (fun c => x2 (ValueIdx.ix2 (0 : Fin 1) c))
          (fun c => x1 (ValueIdx.ix3 b (kind t) (⟨4096 + c.val, by omega⟩ : Fin 6144))) (fun c => x1 (ValueIdx.ix3 b (kind t) (⟨3072 + c.val, by omega⟩ : Fin 6144))) d := by
  refine (Cert.Reference2Ideal.Dense.stacked_at _ _ b t d).trans ?_
  by_cases h : t.val < 8192
  · rw [dif_pos h, Cert.Reference2Ideal.Dense.kind_lo t h, lat_in]
  · rw [dif_neg h, Cert.Reference2Ideal.Dense.kind_hi t h, ctx_in, Cert.Reference2Ideal.Dense.back t h]

end Cert.Reference6Ideal.Norm

end
-- ==== Proof.NormValue.lean ====
/- The blocks of the norm before the experts at coordinates, its first result entry by entry, and its equality with the reference's. -/
module

public import proofs.«01_k».proof.Proof.NormTile
public import proofs.«01_k».proof.Proof.NormRef
public import Idealize.ShloMosaic.Lib.Pipeline.ValueKit.Geometry

@[expose] public section

set_option maxRecDepth 16384

noncomputable section

namespace Cert.Kernel6Ideal.Result

open Idealize.ShloMosaic Idealize.ShloMosaic.TcCoe Cert.Kernel6Ideal Cert.Kernel6Ideal.Gen Cert.Kernel6Ideal.Value Cert.Dense
open Idealize.ShloMosaic.Pipeline (Dat Cfg Window)

section
variable {F : FTy → Type} [FloatOps F]
variable (m : (ℓ : Loc nD τ sig) → Buf (Elt F) ℓ)

theorem coord_batch (t : Fin grid0.N) : (grid0.coords t 0).val = t.val / 16 := by
  have h := Pipeline.Grid.coords_val (G := grid0) t 0 (S := 16) (B := 2) (by decide) rfl
  have ht : t.val < 32 := lt_of_lt_of_eq t.isLt N_0
  omega

theorem coord_block (t : Fin grid0.N) : (grid0.coords t 1).val = t.val % 16 := by
  have h := Pipeline.Grid.coords_val (G := grid0) t 1 (S := 1) (B := 16) (by decide) rfl
  omega

theorem word_batch (t : Fin grid0.N) : (BitVec.ofNat 32 (grid0.coords t 0).val).toNat = t.val / 16 := by
  have ht : t.val < 32 := lt_of_lt_of_eq t.isLt N_0
  rw [coord_batch, BitVec.toNat_ofNat, Nat.mod_eq_of_lt (by omega)]

theorem word_block (t : Fin grid0.N) : (BitVec.ofNat 32 (grid0.coords t 1).val).toNat = t.val % 16 := by
  rw [coord_block, BitVec.toNat_ofNat, Nat.mod_eq_of_lt (by omega)]

/-- A block of residual rows, read off any contents of its array. -/
theorem rows_block (Z : Vec F S2x8448x1024 .f32) (t : Fin cfg0.N) (r : Fin 528) (d : Fin 1024) (b : Fin 2) (ρ : Fin 8448) (hb : b.val = t.val / 16)
    (hρ : ρ.val = t.val % 16 * 528 + r.val) :
    ((cfg0.win 0).blk t).view.read (Elt F) Z (ValueIdx.ix3 (0 : Fin 1) r d) = Z (ValueIdx.ix3 b ρ d) := by
  refine congrArg Z (funext fun x => Fin.ext ?_)
  match x with
  | ⟨0, _⟩ =>
    refine (congrArg (fun z => z * 1 + 1 * 0) (word_batch t)).trans ?_
    show _ = b.val
    omega
  | ⟨1, _⟩ =>
    refine (congrArg (fun z => z * 528 + 1 * r.val) (word_block t)).trans ?_
    show _ = ρ.val
    omega
  | ⟨2, _⟩ => exact (show 0 * 1024 + 1 * d.val = d.val by omega)

/-- A block of the result's rows, read off any contents of its array. -/
theorem result_block (Z : Vec F S2x8448x1024 .bf16) (t : Fin cfg0.N) (r : Fin 528) (d : Fin 1024) (b : Fin 2) (ρ : Fin 8448) (hb : b.val = t.val / 16)
    (hρ : ρ.val = t.val % 16 * 528 + r.val) :
    ((cfg0.win 4).blk t).view.read (Elt F) Z (ValueIdx.ix3 (0 : Fin 1) r d) = Z (ValueIdx.ix3 b ρ d) := by
  refine congrArg Z (funext fun x => Fin.ext ?_)
  match x with
  | ⟨0, _⟩ =>
    refine (congrArg (fun z => z * 1 + 1 * 0) (word_batch t)).trans ?_
    show _ = b.val
    omega
  | ⟨1, _⟩ =>
    refine (congrArg (fun z => z * 528 + 1 * r.val) (word_block t)).trans ?_
    show _ = ρ.val
    omega
  | ⟨2, _⟩ => exact (show 0 * 1024 + 1 * d.val = d.val by omega)

/-- The modulation's block. -/
theorem mod_block (c : Dev nD) (t : Fin cfg0.N) (k : Fin 2) (j : Fin 6144) (b : Fin 2) (hb : b.val = t.val / 16) :
    iblk m c 1 t (ValueIdx.ix3 (0 : Fin 1) k j) = V m c main_arg1 (ValueIdx.ix3 b k j) := by
  refine congrArg (V m c main_arg1) (funext fun x => Fin.ext ?_)
  match x with
  | ⟨0, _⟩ =>
    refine (congrArg (fun z => z * 1 + 1 * 0) (word_batch t)).trans ?_
    show _ = b.val
    omega
  | ⟨1, _⟩ => exact (show 0 * 2 + 1 * k.val = k.val by omega)
  | ⟨2, _⟩ => exact (show 0 * 6144 + 1 * j.val = j.val by omega)

/-- The gains' block. -/
theorem gain_block (c : Dev nD) (t : Fin cfg0.N) (d : Fin 1024) : iblk m c 2 t (ValueIdx.ix2 (0 : Fin 1) d) = V m c main_arg2 (ValueIdx.ix2 (0 : Fin 1) d) := by
  refine congrArg (V m c main_arg2) (funext fun x => Fin.ext ?_)
  match x with
  | ⟨0, _⟩ => rfl
  | ⟨1, _⟩ => exact (show 0 * 1024 + 1 * d.val = d.val by omega)

/-- An entry of the result array is the entry of the block that its grid point leaves. -/
theorem array_block (c : Dev nD) (t : Fin cfg0.N) (r : Fin 528) (d : Fin 1024) (b : Fin 2) (ρ : Fin 8448) (hb : b.val = t.val / 16)
    (hρ : ρ.val = t.val % 16 * 528 + r.val) :
    (dats m 0 c).arrAt 4 cfg0.N (ValueIdx.ix3 b ρ d)
      = out0_4 (grid0.coords t) (iblk m c 0 t) (iblk m c 1 t) (iblk m c 2 t) (iblk m c 3 t) (ValueIdx.ix3 (0 : Fin 1) r d) := by
  have h := congrFun ((blocks4 m c t (flush0_4 t)).trans (flushed4 m c t)) (ValueIdx.ix3 (0 : Fin 1) r d)
  exact (result_block ((dats m 0 c).arrAt 4 cfg0.N) t r d b ρ hb hρ).symm.trans h

end

variable (m : (ℓ : Loc nD τ sig) → Buf (Elt Ideal) ℓ)

/-- The result array at an entry. -/
theorem array_at (c : Dev nD) (b : Fin 2) (ρ : Fin 8448) (d : Fin 1024) :
    (dats m 0 c).arrAt 4 cfg0.N (ValueIdx.ix3 b ρ d)
      = modulated (fun k => m ((c : Thread nD τ).loc main_arg0) (ValueIdx.ix3 b ρ k)) (fun k => m ((c : Thread nD τ).loc main_arg2) (ValueIdx.ix2 (0 : Fin 1) k))
          (fun k => m ((c : Thread nD τ).loc main_arg1) (ValueIdx.ix3 b (kind ρ) (⟨4096 + k.val, by omega⟩ : Fin 6144)))
          (fun k => m ((c : Thread nD τ).loc main_arg1) (ValueIdx.ix3 b (kind ρ) (⟨3072 + k.val, by omega⟩ : Fin 6144))) d := by
  have hb := b.isLt
  have hρ := ρ.isLt
  have hlt : 16 * b.val + ρ.val / 528 < cfg0.N := by rw [show cfg0.N = 32 from N_0]; omega
  have h1 : b.val = (16 * b.val + ρ.val / 528) / 16 := by omega
  have h2 : ρ.val = (16 * b.val + ρ.val / 528) % 16 * 528 + ρ.val % 528 := by omega
  generalize 16 * b.val + ρ.val / 528 = n at hlt h1 h2
  have hc : ρ.val = (grid0.coords ⟨n, hlt⟩ 1).val * 528 + ρ.val % 528 := by rw [coord_block]; exact h2
  refine (array_block m c ⟨n, hlt⟩ ⟨ρ.val % 528, Nat.mod_lt _ (by decide)⟩ d b ρ h1 h2).trans ?_
  exact Tile.rows_of (grid0.coords ⟨n, hlt⟩) _ _ _ _ ⟨ρ.val % 528, Nat.mod_lt _ (by decide)⟩ ρ hc _ _
    (fun j => m ((c : Thread nD τ).loc main_arg1) (ValueIdx.ix3 b (kind ρ) j))
    (fun k => (rows_block (V m c main_arg0) ⟨n, hlt⟩ _ k b ρ h1 h2).trans (congrFun (V_main_arg0 m c) _))
    (fun j => (mod_block m c ⟨n, hlt⟩ (kind ρ) j b h1).trans (congrFun (V_main_arg1 m c) _))
    (fun k => (gain_block m c ⟨n, hlt⟩ k).trans (congrFun (V_main_arg2 m c) _)) d

/-- The call's first result is the reference's function of the arguments. -/
theorem result_eq (c : Dev nD) :
    (dats m 0 c).arrAt 4 cfg0.N = Cert.Reference6Ideal.Read.val_main_v55 (F := Ideal) (m ((c : Thread nD τ).loc main_arg0)) (m ((c : Thread nD τ).loc main_arg1))
      (m ((c : Thread nD τ).loc main_arg2)) := by
  funext i
  have hi : i = ValueIdx.ix3 (i 0) (i 1) (i 2) := funext fun a => match a with
    | ⟨0, _⟩ => rfl
    | ⟨1, _⟩ => rfl
    | ⟨2, _⟩ => rfl
  rw [hi]
  exact (array_at m c (i 0) (i 1) (i 2)).trans (Cert.Reference6Ideal.Norm.result_at _ _ _ (i 0) (i 1) (i 2)).symm

end Cert.Kernel6Ideal.Result

end
-- ==== Proof.ProjEntry.lean ====
/- One row of the input projection, written out: eleven slices of 256 entries, four of them turned by a table of angles and three
   scaled. -/
module

public import proofs.«01_k».proof.Proof.DenseEntry

@[expose] public section

noncomputable section

namespace Cert.Proj

open Idealize.ShloMosaic

/-- The entry that an entry of a slice is turned with: the other half's, in its group of `2 * q` entries. -/
def partner (q : Nat) (l : Fin 256) : Fin 256 :=
  if l.val % (2 * q) < q then ⟨(l.val + q) % 256, Nat.mod_lt _ (by decide)⟩ else ⟨(l.val + 256 - q) % 256, Nat.mod_lt _ (by decide)⟩

/-- A slice turned by its tables, at an entry. -/
def turned (q : Nat) (z co si : Fin 256 → EReal) (l : Fin 256) : EReal := z l * co l + z (partner q l) * si l

/-- The product of a row and the weights' columns of slice `j`. -/
def slice (h : Fin 1024 → EReal) (w : Fin 1024 → Fin 2816 → EReal) (j : Fin 11) (l : Fin 256) : EReal :=
  ∑ k : Fin 1024, h k * w k ⟨256 * j.val + l.val, by omega⟩

/-- Slice `j` of the projected row. -/
def part (h : Fin 1024 → EReal) (w : Fin 1024 → Fin 2816 → EReal) (cd sd cr sr : Fin 256 → EReal) (j : Fin 11) (l : Fin 256) : EReal :=
  (![turned 8 (slice h w 0) cd sd l * Ideal.ofBits .f32 0x3E8293EE#32, turned 8 (slice h w 1) cd sd l, slice h w 2 l,
      turned 16 (slice h w 3) cr sr l, turned 16 (slice h w 4) cr sr l * Ideal.ofBits .f32 0x3E000000#32, slice h w 5 l, slice h w 6 l,
      slice h w 7 l * Ideal.ofBits .f32 0x3E000000#32, slice h w 8 l, slice h w 9 l, slice h w 10 l] : Fin 11 → EReal) j

/-- The projected row at an entry. -/
def projected (h : Fin 1024 → EReal) (w : Fin 1024 → Fin 2816 → EReal) (cd sd cr sr : Fin 256 → EReal) (e : Fin 2816) : EReal :=
  part h w cd sd cr sr ⟨e.val / 256, by omega⟩ ⟨e.val % 256, Nat.mod_lt _ (by decide)⟩

theorem projected_at (h : Fin 1024 → EReal) (w : Fin 1024 → Fin 2816 → EReal) (cd sd cr sr : Fin 256 → EReal) (j : Fin 11) (l : Fin 256) (e : Fin 2816)
    (he : e.val = 256 * j.val + l.val) : projected h w cd sd cr sr e = part h w cd sd cr sr j l := by
  unfold projected
  exact congrArg₂ (part h w cd sd cr sr) (Fin.ext (show e.val / 256 = j.val by omega)) (Fin.ext (show e.val % 256 = l.val by omega))

end Cert.Proj

end
-- ==== Proof.ProjPiece.lean ====
/- The pieces that a grid point of the input projection leaves in its first result, entry by entry over the reals. -/
module

public import proofs.«01_k».proof.Proof.Gen.Kernel7Ideal.Value
public import proofs.«01_k».proof.Proof.ProjEntry
public import Idealize.ShloMosaic.Lib.Pointwise

@[expose] public section

set_option maxRecDepth 16384

noncomputable section

namespace Cert.Kernel7Ideal.Piece

open Idealize.ShloMosaic Idealize.ShloMosaic.TcCoe Cert.Kernel7Ideal Cert.Kernel7Ideal.Gen Cert.Proj

/-- Whether a lane is in the first half of its group of `n` lanes, as the kernel computes it on words. -/
def inFirst (n q l : BitVec 32) : BitVec 1 :=
  IntOp.cmpi CmpIPredicate.slt
    (Scalar.select
      (IntOp.andi
        (IntOp.xori (IntOp.cmpi CmpIPredicate.slt (IntOp.remsi ArithUnit.vector l (Scalar.select (Scalar.cmpi CmpIPredicate.eq n 0#32) 1#32 n)) 0#32)
          (Scalar.cmpi CmpIPredicate.slt (Scalar.select (Scalar.cmpi CmpIPredicate.eq n 0#32) 1#32 n) 0#32))
        (IntOp.cmpi CmpIPredicate.ne (IntOp.remsi ArithUnit.vector l (Scalar.select (Scalar.cmpi CmpIPredicate.eq n 0#32) 1#32 n)) 0#32))
      (IntOp.addi (IntOp.remsi ArithUnit.vector l (Scalar.select (Scalar.cmpi CmpIPredicate.eq n 0#32) 1#32 n)) (Scalar.select (Scalar.cmpi CmpIPredicate.eq n 0#32) 1#32 n))
      (IntOp.remsi ArithUnit.vector l (Scalar.select (Scalar.cmpi CmpIPredicate.eq n 0#32) 1#32 n)))
    q

theorem first8 : ∀ l : Fin 256, inFirst 16#32 8#32 (BitVec.ofNat 32 l.val) = if l.val % (2 * 8) < 8 then 1#1 else 0#1 := by decide +kernel
theorem first16 : ∀ l : Fin 256, inFirst 32#32 16#32 (BitVec.ofNat 32 l.val) = if l.val % (2 * 16) < 16 then 1#1 else 0#1 := by decide +kernel

/-- Choosing between two rotations of a slice is choosing an entry's partner. -/
theorem turn_of (q : Nat) (c : BitVec 1) (z co si : Fin 256 → EReal) (l u v : Fin 256) (hc : c = if l.val % (2 * q) < q then 1#1 else 0#1)
    (hu : u.val = (l.val + q) % 256) (hv : v.val = (l.val + 256 - q) % 256) :
    z l * co l + Scalar.select c (z u) (z v) * si l = turned q z co si l := by
  refine congrArg (fun a => z l * co l + a * si l) ?_
  subst hc
  unfold partner
  by_cases h : l.val % (2 * q) < q
  · rw [if_pos h, if_pos h]
    exact congrArg z (Fin.ext hu)
  · rw [if_neg h, if_neg h]
    exact congrArg z (Fin.ext hv)

/-- A slice of the product. -/
theorem dot_at (h : Vec Ideal S768x1024 .bf16) (w : Vec Ideal S1024x256 .bf16) (r : Fin 768) (l : Fin 256) :
    k0_pay12 (F := Ideal) h w (ValueIdx.ix2 r l) = ∑ k : Fin 1024, h (ValueIdx.ix2 r k) * w (ValueIdx.ix2 k l) := by
  unfold k0_pay12
  pointwise
  rfl

section
variable (z x4 x5 : Vec Ideal S768x256 .f32) (r : Fin 768) (l : Fin 256)

theorem turn0 :
    k0_pay10 (F := Ideal) z x4 x5 k0_pay8 248#32 (ValueIdx.ix3 (0 : Fin 1) r l)
      = turned 8 (fun l => z (ValueIdx.ix2 r l)) (fun l => x4 (ValueIdx.ix2 r l)) (fun l => x5 (ValueIdx.ix2 r l)) l * Ideal.ofBits .f32 0x3E8293EE#32 := by
  unfold k0_pay10 k0_pay9 k0_pay8
  pointwise
  exact congrArg (· * Ideal.ofBits .f32 0x3E8293EE#32) (turn_of 8 _ (fun l => z (ValueIdx.ix2 r l)) (fun l => x4 (ValueIdx.ix2 r l)) (fun l => x5 (ValueIdx.ix2 r l)) l ⟨(l.val + 256 - 248) % 256, Nat.mod_lt _ (by decide)⟩ ⟨(l.val + 256 - 8) % 256, Nat.mod_lt _ (by decide)⟩ (first8 l) (by show _ % 256 = _; omega) rfl)

theorem turn1 :
    k0_pay16 (F := Ideal) z x4 x5 k0_pay13 k0_pay14 k0_pay15 (ValueIdx.ix3 (0 : Fin 1) r l)
      = turned 8 (fun l => z (ValueIdx.ix2 r l)) (fun l => x4 (ValueIdx.ix2 r l)) (fun l => x5 (ValueIdx.ix2 r l)) l := by
  unfold k0_pay16 k0_pay15 k0_pay14 k0_pay13
  pointwise
  exact turn_of 8 _ (fun l => z (ValueIdx.ix2 r l)) (fun l => x4 (ValueIdx.ix2 r l)) (fun l => x5 (ValueIdx.ix2 r l)) l ⟨(l.val + 256 - 248) % 256, Nat.mod_lt _ (by decide)⟩ ⟨(l.val + 256 - 8) % 256, Nat.mod_lt _ (by decide)⟩ (first8 l) (by show _ % 256 = _; omega) rfl

theorem turn4 :
    k0_pay24 (F := Ideal) z x4 x5 (ValueIdx.ix3 (0 : Fin 1) r l)
      = turned 16 (fun l => z (ValueIdx.ix2 r l)) (fun l => x4 (ValueIdx.ix2 r l)) (fun l => x5 (ValueIdx.ix2 r l)) l * Ideal.ofBits .f32 0x3E000000#32 := by
  unfold k0_pay24
  pointwise
  exact congrArg (· * Ideal.ofBits .f32 0x3E000000#32) (turn_of 16 _ (fun l => z (ValueIdx.ix2 r l)) (fun l => x4 (ValueIdx.ix2 r l)) (fun l => x5 (ValueIdx.ix2 r l)) l ⟨(l.val + 256 - 240) % 256, Nat.mod_lt _ (by decide)⟩ ⟨(l.val + 256 - 16) % 256, Nat.mod_lt _ (by decide)⟩ (first16 l) (by show _ % 256 = _; omega) rfl)

end

section
variable (h : Vec Ideal S768x1024 .bf16) (w : Vec Ideal S1024x256 .bf16) (x6 x7 : Vec Ideal S768x256 .f32) (r : Fin 768) (l : Fin 256)

/-- The turned slice whose product stands in the same term. -/
theorem turn3 :
    k0_pay22 (F := Ideal) h (k0_pay21 w) x6 x7 (ValueIdx.ix3 (0 : Fin 1) r l)
      = turned 16 (fun l => k0_pay12 (F := Ideal) h w (ValueIdx.ix2 r l)) (fun l => x6 (ValueIdx.ix2 r l)) (fun l => x7 (ValueIdx.ix2 r l)) l := by
  have e : matmul dot_S768x1024_S1024x256_S768x256_1_0_0_1_n_n none h (k0_pay21 w) (constant (F := Ideal) S768x256 .f32 0x00000000#32) = k0_pay12 (F := Ideal) h w := rfl
  unfold k0_pay22
  dsimp only
  rw [e]
  generalize k0_pay12 (F := Ideal) h w = z
  pointwise
  exact turn_of 16 _ (fun l => z (ValueIdx.ix2 r l)) (fun l => x6 (ValueIdx.ix2 r l)) (fun l => x7 (ValueIdx.ix2 r l)) l ⟨(l.val + 256 - 240) % 256, Nat.mod_lt _ (by decide)⟩ ⟨(l.val + 256 - 16) % 256, Nat.mod_lt _ (by decide)⟩ (first16 l) (by show _ % 256 = _; omega) rfl

/-- The slices that are left as the product gives them, and the one that is only scaled. -/
theorem plain_at : k0_pay31 (F := Ideal) h w (ValueIdx.ix3 (0 : Fin 1) r l) = ∑ k : Fin 1024, h (ValueIdx.ix2 r k) * w (ValueIdx.ix2 k l) := by
  unfold k0_pay31 k0_pay30
  pointwise
  rfl

theorem scaled_at : k0_pay27 (F := Ideal) h w (ValueIdx.ix3 (0 : Fin 1) r l) = (∑ k : Fin 1024, h (ValueIdx.ix2 r k) * w (ValueIdx.ix2 k l)) * Ideal.ofBits .f32 0x3E000000#32 := by
  unfold k0_pay27
  pointwise
  rfl

theorem plain2 : k0_pay18 (F := Ideal) h w = k0_pay31 h w := rfl
theorem plain5 : k0_pay25 (F := Ideal) h w = k0_pay31 h w := rfl
theorem plain6 : k0_pay26 (F := Ideal) h w = k0_pay31 h w := rfl
theorem plain8 : k0_pay28 (F := Ideal) h w = k0_pay31 h w := rfl
theorem plain9 : k0_pay29 (F := Ideal) h w = k0_pay31 h w := rfl

end

end Cert.Kernel7Ideal.Piece

end
-- ==== Proof.ProjBlock.lean ====
/- What a grid point of the input projection leaves in its first result, as the payloads of the blocks it reads: eleven slices of 256
   columns, side by side. -/
module

public import proofs.«01_k».proof.Proof.ProjPiece

@[expose] public section

set_option maxRecDepth 16384

noncomputable section

namespace Cert.Kernel7Ideal.Gen

open Idealize.ShloMosaic Idealize.ShloMosaic.TcCoe Idealize.ShloMosaic.Tactic
open Idealize.ShloMosaic.Pipeline (Dat Cfg Window)

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- One of a batch's two rows of modulation: the 1024 entries from a given column on. -/
abbrev mod1_0 (x1 : Vec F S1x2x6144 .f32) : Vec F S1x1x1024 .f32 := View.ld x1 (Rect.unit ![0, 1, 0] ![1, 1, 1024] inb_S1x2x6144_S1x1x1024_0_1_0)
abbrev mod0_0 (x1 : Vec F S1x2x6144 .f32) : Vec F S1x1x1024 .f32 := View.ld x1 (Rect.unit ![0, 0, 0] ![1, 1, 1024] inb_S1x2x6144_S1x1x1024_0_0_0)
abbrev mod1_1 (x1 : Vec F S1x2x6144 .f32) : Vec F S1x1x1024 .f32 := View.ld x1 (Rect.unit ![0, 1, 1024] ![1, 1, 1024] inb_S1x2x6144_S1x1x1024_0_1_1024)
abbrev mod0_1 (x1 : Vec F S1x2x6144 .f32) : Vec F S1x1x1024 .f32 := View.ld x1 (Rect.unit ![0, 0, 1024] ![1, 1, 1024] inb_S1x2x6144_S1x1x1024_0_0_1024)

/-- The input rows: normalised, scaled and shifted. -/
def rowsIn (i : grid0.Coords) (x0 : Vec F S1x768x1024 .f32) (x1 : Vec F S1x2x6144 .f32) (x2 : Vec F S1x1024 .f32) : Vec F S768x1024 .bf16 :=
  k0_pay6 (k0_pay2 i (mod1_0 x1) (mod0_0 x1)) (k0_pay3 i (mod1_1 x1) (mod0_1 x1)) (k0_pay4 x0) (k0_pay5 x0) x2

/-- The weights' 256 columns from a given column on. -/
abbrev cols (x3 : Vec F S1024x2816 .bf16) (o : Nat) (h : ∀ a, (![0, o] : Fin 2 → Nat) a + S1024x256.size a ≤ S1024x2816.size a) : Vec F S1024x256 .bf16 :=
  View.ld x3 (Rect.unit ![0, o] ![1024, 256] h)

/-- Where a slice stands in the result's block. -/
abbrev at_ (o : Nat) (h : ∀ a, (![0, 0, o] : Fin 3 → Nat) a + S1x768x256.size a ≤ S1x768x2816.size a) : Rect S1x768x2816 :=
  Rect.unit ![0, 0, o] ![1, 768, 256] h

/-- The eleven slices, the last first. -/
def slices (h : Vec F S768x1024 .bf16) (x3 : Vec F S1024x2816 .bf16) (x4 x5 x6 x7 : Vec F S768x256 .f32) : List (View.Piece (Elt F) S1x768x2816 .bf16) :=
  [⟨at_ 2560 inb_S1x768x2816_S1x768x256_0_0_2560, k0_pay31 h (cols x3 2560 inb_S1024x2816_S1024x256_0_2560)⟩,
    ⟨at_ 2304 inb_S1x768x2816_S1x768x256_0_0_2304, k0_pay29 h (cols x3 2304 inb_S1024x2816_S1024x256_0_2304)⟩,
    ⟨at_ 2048 inb_S1x768x2816_S1x768x256_0_0_2048, k0_pay28 h (cols x3 2048 inb_S1024x2816_S1024x256_0_2048)⟩,
    ⟨at_ 1792 inb_S1x768x2816_S1x768x256_0_0_1792, k0_pay27 h (cols x3 1792 inb_S1024x2816_S1024x256_0_1792)⟩,
    ⟨at_ 1536 inb_S1x768x2816_S1x768x256_0_0_1536, k0_pay26 h (cols x3 1536 inb_S1024x2816_S1024x256_0_1536)⟩,
    ⟨at_ 1280 inb_S1x768x2816_S1x768x256_0_0_1280, k0_pay25 h (cols x3 1280 inb_S1024x2816_S1024x256_0_1280)⟩,
    ⟨at_ 1024 inb_S1x768x2816_S1x768x256_0_0_1024, k0_pay24 (k0_pay12 h (cols x3 1024 inb_S1024x2816_S1024x256_0_1024)) x6 x7⟩,
    ⟨at_ 768 inb_S1x768x2816_S1x768x256_0_0_768, k0_pay22 h (k0_pay21 (cols x3 768 inb_S1024x2816_S1024x256_0_768)) x6 x7⟩,
    ⟨at_ 512 inb_S1x768x2816_S1x768x256_0_0_512, k0_pay18 h (cols x3 512 inb_S1024x2816_S1024x256_0_512)⟩,
    ⟨at_ 256 inb_S1x768x2816_S1x768x256_0_0_256, k0_pay16 (k0_pay12 h (cols x3 256 inb_S1024x2816_S1024x256_0_256)) x4 x5 k0_pay13 k0_pay14 k0_pay15⟩,
    ⟨at_ 0 inb_S1x768x2816_S1x768x256_0_0_0, k0_pay10 (k0_pay12 h (cols x3 0 inb_S1024x2816_S1024x256_0_0)) x4 x5 k0_pay8 248#32⟩]

/-- The slices cover the block. -/
theorem covers (h : Vec F S768x1024 .bf16) (x3 : Vec F S1024x2816 .bf16) (x4 x5 x6 x7 : Vec F S768x256 .f32) (y : S1x768x2816.Idx) :
    ∃ p ∈ slices h x3 x4 x5 x6 x7, y ∈ p.1.set :=
  View.cover_of_tiledL (slices h x3 x4 x5 x6 x7) S1x768x256.size (by sl_kernel_rfl) y

/-- What the point stores in the first result's block. -/
theorem pieces (c : Dev nD) (i : grid0.Coords) (arg2 : Memref sig .tc .vmem S1x768x1024 .f32) (harg2 : arg2.IsWhole) (arg3 : Memref sig .tc .vmem S1x2x6144 .f32) (harg3 : arg3.IsWhole) (arg4 : Memref sig .tc .vmem S1x1024 .f32) (harg4 : arg4.IsWhole) (arg5 : Memref sig .tc .vmem S1024x2816 .bf16) (harg5 : arg5.IsWhole) (arg6 : Memref sig .tc .vmem S768x256 .f32) (harg6 : arg6.IsWhole) (arg7 : Memref sig .tc .vmem S768x256 .f32) (harg7 : arg7.IsWhole) (arg8 : Memref sig .tc .vmem S768x256 .f32) (harg8 : arg8.IsWhole) (arg9 : Memref sig .tc .vmem S768x256 .f32) (harg9 : arg9.IsWhole) (arg10 : Memref sig .tc .vmem S1x768x2816 .bf16) (harg10 : arg10.IsWhole) (arg11 : Memref sig .tc .vmem S1x256x768 .bf16) (harg11 : arg11.IsWhole) (arg12 : Memref sig .tc .vmem S1x4x80x768 .bf16) (harg12 : arg12.IsWhole) (arg13 : Memref sig .tc .vmem S1x96x2048 .bf16) (harg13 : arg13.IsWhole) (arg14 : Memref sig .tc .vmem S2x768x128 .f32) (harg14 : arg14.IsWhole)
    (x0 : Vec F S1x768x1024 .f32) (x1 : Vec F S1x2x6144 .f32) (x2 : Vec F S1x1024 .f32) (x3 : Vec F S1024x2816 .bf16) (x4 : Vec F S768x256 .f32) (x5 : Vec F S768x256 .f32) (x6 : Vec F S768x256 .f32) (x7 : Vec F S768x256 .f32) :
    (kernelRun0_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).1 = slices (rowsIn i x0 x1 x2) x3 x4 x5 x6 x7 := by
  unfold kernelRun0_A
  dsimp only
  sl_unfold_words
  simp only [View.readAt_eq_ld, harg2.read_unread, harg3.read_unread, harg4.read_unread, harg5.read_unread, harg6.read_unread, harg7.read_unread, harg8.read_unread, harg9.read_unread,
    View.ld_unit_zero (S := S1x768x1024) zero3, View.ld_unit_zero (S := S1x1024) zero2, View.ld_unit_zero (S := S768x256) zero2]
  rfl

end Cert.Kernel7Ideal.Gen

end
-- ==== Proof.ProjTile.lean ====
/- The block of rows that a grid point of the input projection leaves in its first result, over the reals, entry by entry. -/
module

public import proofs.«01_k».proof.Proof.ProjBlock
public import proofs.«01_k».proof.Proof.DenseTile

@[expose] public section

set_option maxRecDepth 16384

noncomputable section

namespace Cert.Kernel7Ideal.Tile

open Idealize.ShloMosaic Idealize.ShloMosaic.TcCoe Cert.Kernel7Ideal Cert.Kernel7Ideal.Gen Cert.Kernel7Ideal.Piece Cert.Dense Cert.Proj

/-- Selecting by a row's number against 8192, at a row of block `n`. -/
theorem pick_at (n : Fin 11) (r : Fin 768) (t : Fin 8448) (ht : t.val = n.val * 768 + r.val) (u : Fin 2 → EReal) :
    Scalar.select (IntOp.cmpi CmpIPredicate.sge (IntOp.addi (Scalar.muli (BitVec.ofNat 32 n.val) 768#32) (BitVec.ofNat 32 r.val)) 8192#32) (u 1) (u 0)
      = u (kind t) := by
  have e : IntOp.addi (Scalar.muli (BitVec.ofNat 32 n.val) 768#32) (BitVec.ofNat 32 r.val) = BitVec.ofNat 32 t.val := by
    have h1 : Scalar.muli (BitVec.ofNat 32 n.val) 768#32 = BitVec.ofNat 32 (n.val * 768) := WordCmp.muli_ofNat n.val 768
    rw [h1, WordCmp.addi_ofNat, ht]
  rw [e]
  have hc : IntOp.cmpi CmpIPredicate.sge (BitVec.ofNat 32 t.val) 8192#32 = 1#1 ↔ 8192 ≤ t.val :=
    StableHlo.Predicate.sle_ofNat_iff 8192 t.val (by omega) (by omega)
  unfold kind
  by_cases h : 8192 ≤ t.val
  · rw [if_pos h]
    exact if_pos (hc.2 h)
  · rw [if_neg h]
    exact if_neg (fun h' => h (hc.1 h'))

theorem pay2_at (i : grid0.Coords) (u v : Vec Ideal S1x1x1024 .f32) (r : Fin 768) (d : Fin 1024) :
    k0_pay2 (F := Ideal) i u v (ValueIdx.ix2 r d)
      = Scalar.select (IntOp.cmpi CmpIPredicate.sge (IntOp.addi (Scalar.muli (BitVec.ofNat 32 (i 1).val) 768#32) (BitVec.ofNat 32 r.val)) 8192#32)
          (u (ValueIdx.ix3 (0 : Fin 1) (0 : Fin 1) d)) (v (ValueIdx.ix3 (0 : Fin 1) (0 : Fin 1) d)) := by
  unfold k0_pay2
  pointwise
  rfl

theorem pay3_at (i : grid0.Coords) (u v : Vec Ideal S1x1x1024 .f32) (r : Fin 768) (d : Fin 1024) :
    k0_pay3 (F := Ideal) i u v (ValueIdx.ix2 r d) = k0_pay2 (F := Ideal) i u v (ValueIdx.ix2 r d) := rfl

/-- The shift of a row. -/
theorem shift_at (i : grid0.Coords) (x1 : Vec Ideal S1x2x6144 .f32) (r : Fin 768) (d : Fin 1024) (t : Fin 8448) (ht : t.val = (i 1).val * 768 + r.val) :
    k0_pay2 (F := Ideal) i (mod1_0 x1) (mod0_0 x1) (ValueIdx.ix2 r d) = x1 (ValueIdx.ix3 (0 : Fin 1) (kind t) (⟨d.val, by omega⟩ : Fin 6144)) := by
  refine (pay2_at i _ _ r d).trans (Eq.trans ?_ (pick_at (i 1) r t ht fun k => x1 (ValueIdx.ix3 (0 : Fin 1) k (⟨d.val, by omega⟩ : Fin 6144))))
  exact congrArg₂ _ (Cert.Kernel2Ideal.Tile.cols_at x1 1 0 inb_S1x2x6144_S1x1x1024_0_1_0 d _ (by show d.val = 0 + d.val; omega))
    (Cert.Kernel2Ideal.Tile.cols_at x1 0 0 inb_S1x2x6144_S1x1x1024_0_0_0 d _ (by show d.val = 0 + d.val; omega))

/-- The scale of a row. -/
theorem scale_at (i : grid0.Coords) (x1 : Vec Ideal S1x2x6144 .f32) (r : Fin 768) (d : Fin 1024) (t : Fin 8448) (ht : t.val = (i 1).val * 768 + r.val) :
    k0_pay3 (F := Ideal) i (mod1_1 x1) (mod0_1 x1) (ValueIdx.ix2 r d) = x1 (ValueIdx.ix3 (0 : Fin 1) (kind t) (⟨1024 + d.val, by omega⟩ : Fin 6144)) := by
  refine ((pay3_at i _ _ r d).trans (pay2_at i _ _ r d)).trans
    (Eq.trans ?_ (pick_at (i 1) r t ht fun k => x1 (ValueIdx.ix3 (0 : Fin 1) k (⟨1024 + d.val, by omega⟩ : Fin 6144))))
  exact congrArg₂ _ (Cert.Kernel2Ideal.Tile.cols_at x1 1 1024 inb_S1x2x6144_S1x1x1024_0_1_1024 d _ rfl)
    (Cert.Kernel2Ideal.Tile.cols_at x1 0 1024 inb_S1x2x6144_S1x1x1024_0_0_1024 d _ rfl)

/-- The normalised rows with any shifts and scales. -/
theorem pay6_at (s t : Vec Ideal S768x1024 .f32) (x0 : Vec Ideal S1x768x1024 .f32) (x2 : Vec Ideal S1x1024 .f32) (r : Fin 768) (d : Fin 1024) :
    k0_pay6 (F := Ideal) s t (k0_pay4 x0) (k0_pay5 x0) x2 (ValueIdx.ix2 r d)
      = modulated (fun c => x0 (ValueIdx.ix3 (0 : Fin 1) r c)) (fun c => x2 (ValueIdx.ix2 (0 : Fin 1) c)) (fun c => t (ValueIdx.ix2 r c)) (fun c => s (ValueIdx.ix2 r c)) d := by
  unfold k0_pay6 k0_pay5 k0_pay4
  pointwise
  rfl

/-- The input rows, over blocks read off their arrays. -/
theorem rowsIn_at (i : grid0.Coords) (x0 : Vec Ideal S1x768x1024 .f32) (x1 : Vec Ideal S1x2x6144 .f32) (x2 : Vec Ideal S1x1024 .f32)
    (r : Fin 768) (t : Fin 8448) (ht : t.val = (i 1).val * 768 + r.val) (d : Fin 1024) :
    rowsIn (F := Ideal) i x0 x1 x2 (ValueIdx.ix2 r d)
      = modulated (fun c => x0 (ValueIdx.ix3 (0 : Fin 1) r c)) (fun c => x2 (ValueIdx.ix2 (0 : Fin 1) c))
          (fun d => x1 (ValueIdx.ix3 (0 : Fin 1) (kind t) (⟨1024 + d.val, by omega⟩ : Fin 6144))) (fun d => x1 (ValueIdx.ix3 (0 : Fin 1) (kind t) (⟨d.val, by omega⟩ : Fin 6144))) d := by
  refine (pay6_at _ _ x0 x2 r d).trans ?_
  simp only [shift_at i x1 r _ t ht, scale_at i x1 r _ t ht]

section
variable (h : Vec Ideal S768x1024 .bf16) (x3 : Vec Ideal S1024x2816 .bf16) (x4 x5 x6 x7 : Vec Ideal S768x256 .f32)

/-- The weights' columns of a slice. -/
theorem cols_at (o : Nat) (hb : ∀ a, (![0, o] : Fin 2 → Nat) a + S1024x256.size a ≤ S1024x2816.size a) (j : Fin 11) (ho : 256 * j.val = o) (k : Fin 1024) (l : Fin 256) :
    cols (F := Ideal) x3 o hb (ValueIdx.ix2 k l) = x3 (ValueIdx.ix2 k (⟨256 * j.val + l.val, by omega⟩ : Fin 2816)) := by
  refine View.ld_unit_apply_of x3 _ _ hb _ _ fun a => ?_
  match a with
  | ⟨0, _⟩ => exact (show k.val = 0 + k.val by omega)
  | ⟨1, _⟩ => exact (show 256 * j.val + l.val = o + l.val by omega)

/-- The product's slice, at an entry. -/
theorem slice_at (o : Nat) (hb : ∀ a, (![0, o] : Fin 2 → Nat) a + S1024x256.size a ≤ S1024x2816.size a) (j : Fin 11) (ho : 256 * j.val = o) (r : Fin 768) (l : Fin 256) :
    ∑ k : Fin 1024, h (ValueIdx.ix2 r k) * cols (F := Ideal) x3 o hb (ValueIdx.ix2 k l) = slice (fun k => h (ValueIdx.ix2 r k)) (fun k e => x3 (ValueIdx.ix2 k e)) j l :=
  Finset.sum_congr rfl fun k _ => congrArg (h (ValueIdx.ix2 r k) * ·) (cols_at x3 o hb j ho k l)

/-- The block's rows as one function of its index. -/
def rowsOut (y : S1x768x2816.Idx) : EReal :=
  projected (fun k => h (ValueIdx.ix2 (y 1) k)) (fun k e => x3 (ValueIdx.ix2 k e)) (fun l => x4 (ValueIdx.ix2 (y 1) l)) (fun l => x5 (ValueIdx.ix2 (y 1) l))
    (fun l => x6 (ValueIdx.ix2 (y 1) l)) (fun l => x7 (ValueIdx.ix2 (y 1) l)) (y 2)

/-- A slice of 256 columns that holds its part of every row stands where that function has it. -/
theorem stands (o : Nat) (hb : ∀ a, (![0, 0, o] : Fin 3 → Nat) a + S1x768x256.size a ≤ S1x768x2816.size a) (j : Fin 11) (ho : 256 * j.val = o) (p : Vec Ideal S1x768x256 .bf16)
    (hp : ∀ (r : Fin 768) (l : Fin 256), p (ValueIdx.ix3 (0 : Fin 1) r l)
      = part (fun k => h (ValueIdx.ix2 r k)) (fun k e => x3 (ValueIdx.ix2 k e)) (fun l => x4 (ValueIdx.ix2 r l)) (fun l => x5 (ValueIdx.ix2 r l))
          (fun l => x6 (ValueIdx.ix2 r l)) (fun l => x7 (ValueIdx.ix2 r l)) j l)
    (x : (at_ o hb).shape.Idx) : p x = rowsOut h x3 x4 x5 x6 x7 ((at_ o hb).emb x) := by
  have hx : x = ValueIdx.ix3 (0 : Fin 1) (x 1) (x 2) := funext fun a => match a with
    | ⟨0, _⟩ => Fin.ext (by have h0 : (x 0).val < 1 := (x 0).isLt; show (x 0).val = 0; omega)
    | ⟨1, _⟩ => rfl
    | ⟨2, _⟩ => rfl
  have h1 : ((at_ o hb).emb x) 1 = (x 1 : Fin 768) := Fin.ext (by show 0 + 1 * (x 1).val = (x 1).val; omega)
  refine (congrArg p hx).trans ((hp (x 1) (x 2)).trans ?_)
  unfold rowsOut
  rw [h1]
  exact (projected_at _ _ _ _ _ _ j (x 2) _ (by show o + 1 * (x 2).val = 256 * j.val + (x 2).val; omega)).symm

/-- Every slice holds its part of every row. -/
theorem slices_at : ∀ p ∈ slices h x3 x4 x5 x6 x7, ∀ x : p.1.shape.Idx, p.2 x = rowsOut h x3 x4 x5 x6 x7 (p.1.emb x) := by
  unfold slices
  simp only [List.forall_mem_cons]
  refine ⟨?_, ?_, ?_, ?_, ?_, ?_, ?_, ?_, ?_, ?_, ?_, fun _ hp => absurd hp List.not_mem_nil⟩
  · exact stands h x3 x4 x5 x6 x7 2560 _ 10 rfl _ fun r l => (plain_at h _ r l).trans (slice_at h x3 2560 _ 10 rfl r l)
  · exact stands h x3 x4 x5 x6 x7 2304 _ 9 rfl _ fun r l => (plain_at h _ r l).trans (slice_at h x3 2304 _ 9 rfl r l)
  · exact stands h x3 x4 x5 x6 x7 2048 _ 8 rfl _ fun r l => (plain_at h _ r l).trans (slice_at h x3 2048 _ 8 rfl r l)
  · exact stands h x3 x4 x5 x6 x7 1792 _ 7 rfl _ fun r l => (scaled_at h _ r l).trans (congrArg (· * Ideal.ofBits .f32 0x3E000000#32) (slice_at h x3 1792 _ 7 rfl r l))
  · exact stands h x3 x4 x5 x6 x7 1536 _ 6 rfl _ fun r l => (plain_at h _ r l).trans (slice_at h x3 1536 _ 6 rfl r l)
  · exact stands h x3 x4 x5 x6 x7 1280 _ 5 rfl _ fun r l => (plain_at h _ r l).trans (slice_at h x3 1280 _ 5 rfl r l)
  · exact stands h x3 x4 x5 x6 x7 1024 _ 4 rfl _ fun r l => (turn4 _ x6 x7 r l).trans
      (congrArg (fun z => turned 16 z _ _ l * Ideal.ofBits .f32 0x3E000000#32) (funext fun l => (dot_at h _ r l).trans (slice_at h x3 1024 _ 4 rfl r l)))
  · exact stands h x3 x4 x5 x6 x7 768 _ 3 rfl _ fun r l => (turn3 h _ x6 x7 r l).trans
      (congrArg (fun z => turned 16 z _ _ l) (funext fun l => (dot_at h _ r l).trans (slice_at h x3 768 _ 3 rfl r l)))
  · exact stands h x3 x4 x5 x6 x7 512 _ 2 rfl _ fun r l => (plain_at h _ r l).trans (slice_at h x3 512 _ 2 rfl r l)
  · exact stands h x3 x4 x5 x6 x7 256 _ 1 rfl _ fun r l => (turn1 _ x4 x5 r l).trans
      (congrArg (fun z => turned 8 z _ _ l) (funext fun l => (dot_at h _ r l).trans (slice_at h x3 256 _ 1 rfl r l)))
  · exact stands h x3 x4 x5 x6 x7 0 _ 0 rfl _ fun r l => (turn0 _ x4 x5 r l).trans
      (congrArg (fun z => turned 8 z _ _ l * Ideal.ofBits .f32 0x3E8293EE#32) (funext fun l => (dot_at h _ r l).trans (slice_at h x3 0 _ 0 rfl r l)))

end

end Cert.Kernel7Ideal.Tile

end
-- ==== Proof.ProjTurn.lean ====
/- How the seventh reference turns a slice of the projection, entry by entry. -/
module

public import proofs.«01_k».proof.Proof.Gen.Reference7Ideal.Read
public import proofs.«01_k».proof.Proof.DenseRef
public import proofs.«01_k».proof.Proof.ProjEntry

@[expose] public section

noncomputable section

namespace Cert.Reference7Ideal.Proj

open Idealize.ShloMosaic Idealize.ShloMosaic.TcCoe Cert.Reference7Ideal Cert.Reference7Ideal.Gen Cert.Reference7Ideal.Read Cert.Dense Cert.Proj

/-! ### Turning by halves of 8 entries -/

/-- The first and the second halves of a slice's groups of 16 entries. -/
def lo8 (z : Vec Ideal S2x8448x256 .f32) : FVec Ideal S2x8448x16x8 .f32 :=
  shapeCast S2x8448x16x8 (extractStridedSlice S2x8448x16x1x8 ![0, 0, 0, 0, 0] (shapeCast S2x8448x16x2x8 z shapeCasts_S2x8448x256_S2x8448x16x2x8) slices_S2x8448x16x2x8_S2x8448x16x1x8_0_0_0_0_0) shapeCasts_S2x8448x16x1x8_S2x8448x16x8
def hi8 (z : Vec Ideal S2x8448x256 .f32) : FVec Ideal S2x8448x16x8 .f32 :=
  shapeCast S2x8448x16x8 (extractStridedSlice S2x8448x16x1x8 ![0, 0, 0, 1, 0] (shapeCast S2x8448x16x2x8 z shapeCasts_S2x8448x256_S2x8448x16x2x8) slices_S2x8448x16x2x8_S2x8448x16x1x8_0_0_0_1_0) shapeCasts_S2x8448x16x1x8_S2x8448x16x8

/-- The same of a table, for both batches. -/
def tabLo8 (x : Vec Ideal S8448x256 .f32) : FVec Ideal S2x8448x16x8 .f32 :=
  broadcastInDim S2x8448x16x8 ![0, 1, 2, 3] bcast_S1x8448x16x8_S2x8448x16x8_0_1_2_3 (broadcastInDim S1x8448x16x8 ![1, 2, 3] bcast_S8448x16x8_S1x8448x16x8_1_2_3
    (shapeCast S8448x16x8 (extractStridedSlice S8448x16x1x8 ![0, 0, 0, 0] (shapeCast S8448x16x2x8 x shapeCasts_S8448x256_S8448x16x2x8) slices_S8448x16x2x8_S8448x16x1x8_0_0_0_0) shapeCasts_S8448x16x1x8_S8448x16x8))
def tabHi8 (x : Vec Ideal S8448x256 .f32) : FVec Ideal S2x8448x16x8 .f32 :=
  broadcastInDim S2x8448x16x8 ![0, 1, 2, 3] bcast_S1x8448x16x8_S2x8448x16x8_0_1_2_3 (broadcastInDim S1x8448x16x8 ![1, 2, 3] bcast_S8448x16x8_S1x8448x16x8_1_2_3
    (shapeCast S8448x16x8 (extractStridedSlice S8448x16x1x8 ![0, 0, 1, 0] (shapeCast S8448x16x2x8 x shapeCasts_S8448x256_S8448x16x2x8) slices_S8448x16x2x8_S8448x16x1x8_0_0_1_0) shapeCasts_S8448x16x1x8_S8448x16x8))

/-- Both halves, put back together. -/
def both8 (u v : FVec Ideal S2x8448x16x8 .f32) : Vec Ideal S2x8448x256 .f32 :=
  shapeCast S2x8448x256 (concatenate S2x8448x16x2x8 3 [⟨S2x8448x16x1x8, broadcastInDim S2x8448x16x1x8 ![0, 1, 2, 4] bcast_S2x8448x16x8_S2x8448x16x1x8_0_1_2_4 u⟩,
    ⟨S2x8448x16x1x8, broadcastInDim S2x8448x16x1x8 ![0, 1, 2, 4] bcast_S2x8448x16x8_S2x8448x16x1x8_0_1_2_4 v⟩] concatenates_S2x8448x16x1x8_S2x8448x16x1x8_S2x8448x16x2x8_d3) shapeCasts_S2x8448x16x2x8_S2x8448x256

/-- A slice turned by its tables. -/
def swing8 (z : Vec Ideal S2x8448x256 .f32) (co si : Vec Ideal S8448x256 .f32) : Vec Ideal S2x8448x256 .f32 :=
  both8 (addf (mulf (lo8 z) (tabLo8 co)) (mulf (hi8 z) (tabLo8 si))) (addf (mulf (hi8 z) (tabHi8 co)) (mulf (lo8 z) (tabHi8 si)))

theorem lo8_at (z : Vec Ideal S2x8448x256 .f32) (b : Fin 2) (t : Fin 8448) (g : Fin 16) (i : Fin 8) :
    lo8 z (ValueIdx.ix4 b t g i) = z (ValueIdx.ix3 b t (⟨g.val * 16 + i.val, by omega⟩ : Fin 256)) := by
  unfold lo8
  pointwise
  rfl
theorem hi8_at (z : Vec Ideal S2x8448x256 .f32) (b : Fin 2) (t : Fin 8448) (g : Fin 16) (i : Fin 8) :
    hi8 z (ValueIdx.ix4 b t g i) = z (ValueIdx.ix3 b t (⟨g.val * 16 + 8 + i.val, by omega⟩ : Fin 256)) := by
  unfold hi8
  pointwise
  rfl
theorem tabLo8_at (x : Vec Ideal S8448x256 .f32) (b : Fin 2) (t : Fin 8448) (g : Fin 16) (i : Fin 8) :
    tabLo8 x (ValueIdx.ix4 b t g i) = x (ValueIdx.ix2 t (⟨g.val * 16 + i.val, by omega⟩ : Fin 256)) := by
  unfold tabLo8
  pointwise
  rfl
theorem tabHi8_at (x : Vec Ideal S8448x256 .f32) (b : Fin 2) (t : Fin 8448) (g : Fin 16) (i : Fin 8) :
    tabHi8 x (ValueIdx.ix4 b t g i) = x (ValueIdx.ix2 t (⟨g.val * 16 + 8 + i.val, by omega⟩ : Fin 256)) := by
  unfold tabHi8
  pointwise
  rfl
theorem both8_at (u v : FVec Ideal S2x8448x16x8 .f32) (b : Fin 2) (t : Fin 8448) (l : Fin 256) :
    both8 u v (ValueIdx.ix3 b t l) = if l.val / 8 % 2 < 1 then u (ValueIdx.ix4 b t ⟨l.val / 16, by omega⟩ ⟨l.val % 8, Nat.mod_lt _ (by decide)⟩)
      else v (ValueIdx.ix4 b t ⟨l.val / 16, by omega⟩ ⟨l.val % 8, Nat.mod_lt _ (by decide)⟩) := by
  unfold both8
  pointwise
  rfl

theorem swing8_at (z : Vec Ideal S2x8448x256 .f32) (co si : Vec Ideal S8448x256 .f32) (b : Fin 2) (t : Fin 8448) (l : Fin 256) :
    swing8 z co si (ValueIdx.ix3 b t l) = turned 8 (fun l => z (ValueIdx.ix3 b t l)) (fun l => co (ValueIdx.ix2 t l)) (fun l => si (ValueIdx.ix2 t l)) l := by
  have hl := l.isLt
  refine (both8_at _ _ b t l).trans ?_
  unfold turned partner
  by_cases h : l.val / 8 % 2 < 1
  · rw [if_pos h, if_pos (show l.val % (2 * 8) < 8 by omega)]
    refine congrArg₂ (· + ·) (congrArg₂ (· * ·) ((lo8_at z b t _ _).trans (congrArg (fun l => z (ValueIdx.ix3 b t l)) (Fin.ext ?_))) ((tabLo8_at co b t _ _).trans (congrArg (fun l => co (ValueIdx.ix2 t l)) (Fin.ext ?_))))
      (congrArg₂ (· * ·) ((hi8_at z b t _ _).trans (congrArg (fun l => z (ValueIdx.ix3 b t l)) (Fin.ext ?_))) ((tabLo8_at si b t _ _).trans (congrArg (fun l => si (ValueIdx.ix2 t l)) (Fin.ext ?_)))) <;> dsimp only <;> omega
  · rw [if_neg h, if_neg (show ¬l.val % (2 * 8) < 8 by omega)]
    refine congrArg₂ (· + ·) (congrArg₂ (· * ·) ((hi8_at z b t _ _).trans (congrArg (fun l => z (ValueIdx.ix3 b t l)) (Fin.ext ?_))) ((tabHi8_at co b t _ _).trans (congrArg (fun l => co (ValueIdx.ix2 t l)) (Fin.ext ?_))))
      (congrArg₂ (· * ·) ((lo8_at z b t _ _).trans (congrArg (fun l => z (ValueIdx.ix3 b t l)) (Fin.ext ?_))) ((tabHi8_at si b t _ _).trans (congrArg (fun l => si (ValueIdx.ix2 t l)) (Fin.ext ?_)))) <;> dsimp only <;> omega

/-! ### Turning by halves of 16 entries -/

/-- The first and the second halves of a slice's groups of 32 entries. -/
def lo16 (z : Vec Ideal S2x8448x256 .f32) : FVec Ideal S2x8448x8x16 .f32 :=
  shapeCast S2x8448x8x16 (extractStridedSlice S2x8448x8x1x16 ![0, 0, 0, 0, 0] (shapeCast S2x8448x8x2x16 z shapeCasts_S2x8448x256_S2x8448x8x2x16) slices_S2x8448x8x2x16_S2x8448x8x1x16_0_0_0_0_0) shapeCasts_S2x8448x8x1x16_S2x8448x8x16
def hi16 (z : Vec Ideal S2x8448x256 .f32) : FVec Ideal S2x8448x8x16 .f32 :=
  shapeCast S2x8448x8x16 (extractStridedSlice S2x8448x8x1x16 ![0, 0, 0, 1, 0] (shapeCast S2x8448x8x2x16 z shapeCasts_S2x8448x256_S2x8448x8x2x16) slices_S2x8448x8x2x16_S2x8448x8x1x16_0_0_0_1_0) shapeCasts_S2x8448x8x1x16_S2x8448x8x16

/-- The same of a table, for both batches. -/
def tabLo16 (x : Vec Ideal S8448x256 .f32) : FVec Ideal S2x8448x8x16 .f32 :=
  broadcastInDim S2x8448x8x16 ![0, 1, 2, 3] bcast_S1x8448x8x16_S2x8448x8x16_0_1_2_3 (broadcastInDim S1x8448x8x16 ![1, 2, 3] bcast_S8448x8x16_S1x8448x8x16_1_2_3
    (shapeCast S8448x8x16 (extractStridedSlice S8448x8x1x16 ![0, 0, 0, 0] (shapeCast S8448x8x2x16 x shapeCasts_S8448x256_S8448x8x2x16) slices_S8448x8x2x16_S8448x8x1x16_0_0_0_0) shapeCasts_S8448x8x1x16_S8448x8x16))
def tabHi16 (x : Vec Ideal S8448x256 .f32) : FVec Ideal S2x8448x8x16 .f32 :=
  broadcastInDim S2x8448x8x16 ![0, 1, 2, 3] bcast_S1x8448x8x16_S2x8448x8x16_0_1_2_3 (broadcastInDim S1x8448x8x16 ![1, 2, 3] bcast_S8448x8x16_S1x8448x8x16_1_2_3
    (shapeCast S8448x8x16 (extractStridedSlice S8448x8x1x16 ![0, 0, 1, 0] (shapeCast S8448x8x2x16 x shapeCasts_S8448x256_S8448x8x2x16) slices_S8448x8x2x16_S8448x8x1x16_0_0_1_0) shapeCasts_S8448x8x1x16_S8448x8x16))

/-- Both halves, put back together. -/
def both16 (u v : FVec Ideal S2x8448x8x16 .f32) : Vec Ideal S2x8448x256 .f32 :=
  shapeCast S2x8448x256 (concatenate S2x8448x8x2x16 3 [⟨S2x8448x8x1x16, broadcastInDim S2x8448x8x1x16 ![0, 1, 2, 4] bcast_S2x8448x8x16_S2x8448x8x1x16_0_1_2_4 u⟩,
    ⟨S2x8448x8x1x16, broadcastInDim S2x8448x8x1x16 ![0, 1, 2, 4] bcast_S2x8448x8x16_S2x8448x8x1x16_0_1_2_4 v⟩] concatenates_S2x8448x8x1x16_S2x8448x8x1x16_S2x8448x8x2x16_d3) shapeCasts_S2x8448x8x2x16_S2x8448x256

/-- A slice turned by its tables. -/
def swing16 (z : Vec Ideal S2x8448x256 .f32) (co si : Vec Ideal S8448x256 .f32) : Vec Ideal S2x8448x256 .f32 :=
  both16 (addf (mulf (lo16 z) (tabLo16 co)) (mulf (hi16 z) (tabLo16 si))) (addf (mulf (hi16 z) (tabHi16 co)) (mulf (lo16 z) (tabHi16 si)))

theorem lo16_at (z : Vec Ideal S2x8448x256 .f32) (b : Fin 2) (t : Fin 8448) (g : Fin 8) (i : Fin 16) :
    lo16 z (ValueIdx.ix4 b t g i) = z (ValueIdx.ix3 b t (⟨g.val * 32 + i.val, by omega⟩ : Fin 256)) := by
  unfold lo16
  pointwise
  rfl
theorem hi16_at (z : Vec Ideal S2x8448x256 .f32) (b : Fin 2) (t : Fin 8448) (g : Fin 8) (i : Fin 16) :
    hi16 z (ValueIdx.ix4 b t g i) = z (ValueIdx.ix3 b t (⟨g.val * 32 + 16 + i.val, by omega⟩ : Fin 256)) := by
  unfold hi16
  pointwise
  rfl
theorem tabLo16_at (x : Vec Ideal S8448x256 .f32) (b : Fin 2) (t : Fin 8448) (g : Fin 8) (i : Fin 16) :
    tabLo16 x (ValueIdx.ix4 b t g i) = x (ValueIdx.ix2 t (⟨g.val * 32 + i.val, by omega⟩ : Fin 256)) := by
  unfold tabLo16
  pointwise
  rfl
theorem tabHi16_at (x : Vec Ideal S8448x256 .f32) (b : Fin 2) (t : Fin 8448) (g : Fin 8) (i : Fin 16) :
    tabHi16 x (ValueIdx.ix4 b t g i) = x (ValueIdx.ix2 t (⟨g.val * 32 + 16 + i.val, by omega⟩ : Fin 256)) := by
  unfold tabHi16
  pointwise
  rfl
theorem both16_at (u v : FVec Ideal S2x8448x8x16 .f32) (b : Fin 2) (t : Fin 8448) (l : Fin 256) :
    both16 u v (ValueIdx.ix3 b t l) = if l.val / 16 % 2 < 1 then u (ValueIdx.ix4 b t ⟨l.val / 32, by omega⟩ ⟨l.val % 16, Nat.mod_lt _ (by decide)⟩)
      else v (ValueIdx.ix4 b t ⟨l.val / 32, by omega⟩ ⟨l.val % 16, Nat.mod_lt _ (by decide)⟩) := by
  unfold both16
  pointwise
  rfl

theorem swing16_at (z : Vec Ideal S2x8448x256 .f32) (co si : Vec Ideal S8448x256 .f32) (b : Fin 2) (t : Fin 8448) (l : Fin 256) :
    swing16 z co si (ValueIdx.ix3 b t l) = turned 16 (fun l => z (ValueIdx.ix3 b t l)) (fun l => co (ValueIdx.ix2 t l)) (fun l => si (ValueIdx.ix2 t l)) l := by
  have hl := l.isLt
  refine (both16_at _ _ b t l).trans ?_
  unfold turned partner
  by_cases h : l.val / 16 % 2 < 1
  · rw [if_pos h, if_pos (show l.val % (2 * 16) < 16 by omega)]
    refine congrArg₂ (· + ·) (congrArg₂ (· * ·) ((lo16_at z b t _ _).trans (congrArg (fun l => z (ValueIdx.ix3 b t l)) (Fin.ext ?_))) ((tabLo16_at co b t _ _).trans (congrArg (fun l => co (ValueIdx.ix2 t l)) (Fin.ext ?_))))
      (congrArg₂ (· * ·) ((hi16_at z b t _ _).trans (congrArg (fun l => z (ValueIdx.ix3 b t l)) (Fin.ext ?_))) ((tabLo16_at si b t _ _).trans (congrArg (fun l => si (ValueIdx.ix2 t l)) (Fin.ext ?_)))) <;> dsimp only <;> omega
  · rw [if_neg h, if_neg (show ¬l.val % (2 * 16) < 16 by omega)]
    refine congrArg₂ (· + ·) (congrArg₂ (· * ·) ((hi16_at z b t _ _).trans (congrArg (fun l => z (ValueIdx.ix3 b t l)) (Fin.ext ?_))) ((tabHi16_at co b t _ _).trans (congrArg (fun l => co (ValueIdx.ix2 t l)) (Fin.ext ?_))))
      (congrArg₂ (· * ·) ((lo16_at z b t _ _).trans (congrArg (fun l => z (ValueIdx.ix3 b t l)) (Fin.ext ?_))) ((tabHi16_at si b t _ _).trans (congrArg (fun l => si (ValueIdx.ix2 t l)) (Fin.ext ?_)))) <;> dsimp only <;> omega

end Cert.Reference7Ideal.Proj

end
-- ==== Proof.ProjRef.lean ====
/- The seventh reference's result, entry by entry. -/
module

public import proofs.«01_k».proof.Proof.ProjTurn

@[expose] public section

noncomputable section

namespace Cert.Reference7Ideal.Proj

open Idealize.ShloMosaic Idealize.ShloMosaic.TcCoe Cert.Reference7Ideal Cert.Reference7Ideal.Gen Cert.Reference7Ideal.Read Cert.Dense Cert.Proj

/-- Eleven slices side by side, at an entry of one of them. -/
theorem eleven_at (y : Fin 11 → Vec Ideal S2x8448x256 .f32) (b : Fin 2) (t : Fin 8448) (j : Fin 11) (l : Fin 256) (e : Fin 2816) (he : e.val = 256 * j.val + l.val) :
    concatenate S2x8448x2816 2 [⟨S2x8448x256, y 0⟩, ⟨S2x8448x256, y 1⟩, ⟨S2x8448x256, y 2⟩, ⟨S2x8448x256, y 3⟩, ⟨S2x8448x256, y 4⟩, ⟨S2x8448x256, y 5⟩,
        ⟨S2x8448x256, y 6⟩, ⟨S2x8448x256, y 7⟩, ⟨S2x8448x256, y 8⟩, ⟨S2x8448x256, y 9⟩, ⟨S2x8448x256, y 10⟩]
        concatenates_S2x8448x256_S2x8448x256_S2x8448x256_S2x8448x256_S2x8448x256_S2x8448x256_S2x8448x256_S2x8448x256_S2x8448x256_S2x8448x256_S2x8448x256_S2x8448x2816_d2
        (ValueIdx.ix3 b t e) = y j (ValueIdx.ix3 b t l) := by
  refine concatenate_ofFn_apply (t := S2x8448x2816) (s₁ := S2x8448x256) 2 y
    concatenates_S2x8448x256_S2x8448x256_S2x8448x256_S2x8448x256_S2x8448x256_S2x8448x256_S2x8448x256_S2x8448x256_S2x8448x256_S2x8448x256_S2x8448x256_S2x8448x2816_d2
    rfl 256 rfl (ValueIdx.ix3 b t e) j (by show e.val / 256 = j.val; omega) (ValueIdx.ix3 b t l) (by show l.val = e.val % 256; omega) fun a ha => ?_
  match a with
  | ⟨0, _⟩ => rfl
  | ⟨1, _⟩ => rfl
  | ⟨2, _⟩ => exact absurd rfl ha

section
variable (x0 : Vec Ideal S2x8448x1024 .f32) (x1 : Vec Ideal S2x2x6144 .f32) (x2 : Vec Ideal S1x1024 .f32) (x3 : Vec Ideal S1024x2816 .f32)
  (x4 x5 x6 x7 : Vec Ideal S8448x256 .f32)

/-- The input rows of the first part of the sequence. -/
theorem lat_in (b : Fin 2) (t : Fin 8192) (d : Fin 1024) :
    val_main_v34 (F := Ideal) x0 x1 x2 (ValueIdx.ix3 b t d)
      = modulated (fun c => x0 (ValueIdx.ix3 b (⟨t.val, by omega⟩ : Fin 8448) c)) (fun c => x2 (ValueIdx.ix2 (0 : Fin 1) c))
          (fun c => x1 (ValueIdx.ix3 b (0 : Fin 2) (⟨1024 + c.val, by omega⟩ : Fin 6144))) (fun c => x1 (ValueIdx.ix3 b (0 : Fin 2) (⟨c.val, by omega⟩ : Fin 6144))) d := by
  unfold val_main_v34 val_main_v32 val_main_v33 val_main_v31 val_main_v30 val_main_v29 val_main_cst_2 val_main_v28 val_main_v27 val_main_v26
    val_main_v25 val_main_v24 val_main_v23 val_main_v22 val_main_v21 val_main_cst_1 val_main_v20 val_main_v19 val_main_cst_0 val_main_v18
    val_main_v17 val_main_cst val_main_v16 val_main_v0 val_main_v4 val_main_v3 val_main_v2
  pointwise
  rfl

/-- The input rows of the last part of the sequence. -/
theorem ctx_in (b : Fin 2) (t : Fin 256) (d : Fin 1024) :
    val_main_v53 (F := Ideal) x0 x1 x2 (ValueIdx.ix3 b t d)
      = modulated (fun c => x0 (ValueIdx.ix3 b (⟨8192 + t.val, by omega⟩ : Fin 8448) c)) (fun c => x2 (ValueIdx.ix2 (0 : Fin 1) c))
          (fun c => x1 (ValueIdx.ix3 b (1 : Fin 2) (⟨1024 + c.val, by omega⟩ : Fin 6144))) (fun c => x1 (ValueIdx.ix3 b (1 : Fin 2) (⟨c.val, by omega⟩ : Fin 6144))) d := by
  unfold val_main_v53 val_main_v51 val_main_v52 val_main_v50 val_main_v49 val_main_v48 val_main_cst_6 val_main_v47 val_main_v46 val_main_v45
    val_main_v44 val_main_v43 val_main_v42 val_main_v41 val_main_v40 val_main_cst_5 val_main_v39 val_main_v38 val_main_cst_4 val_main_v37
    val_main_v36 val_main_cst_3 val_main_v35 val_main_v1 val_main_v11 val_main_v10 val_main_v9
  pointwise
  rfl

/-- The input rows. -/
abbrev inRow (b : Fin 2) (t : Fin 8448) : Fin 1024 → EReal :=
  modulated (fun c => x0 (ValueIdx.ix3 b t c)) (fun c => x2 (ValueIdx.ix2 (0 : Fin 1) c))
    (fun c => x1 (ValueIdx.ix3 b (kind t) (⟨1024 + c.val, by omega⟩ : Fin 6144))) (fun c => x1 (ValueIdx.ix3 b (kind t) (⟨c.val, by omega⟩ : Fin 6144)))

theorem in_at (b : Fin 2) (t : Fin 8448) (d : Fin 1024) : val_main_v54 (F := Ideal) x0 x1 x2 (ValueIdx.ix3 b t d) = inRow x0 x1 x2 b t d := by
  refine (Cert.Reference2Ideal.Dense.stacked_at _ _ b t d).trans ?_
  unfold inRow
  by_cases h : t.val < 8192
  · rw [dif_pos h, Cert.Reference2Ideal.Dense.kind_lo t h, lat_in]
  · rw [dif_neg h, Cert.Reference2Ideal.Dense.kind_hi t h, ctx_in, Cert.Reference2Ideal.Dense.back t h]

/-- The product, at an entry. -/
theorem dot_at (b : Fin 2) (t : Fin 8448) (e : Fin 2816) :
    val_main_v55 (F := Ideal) x0 x1 x2 x3 (ValueIdx.ix3 b t e) = ∑ k : Fin 1024, inRow x0 x1 x2 b t k * x3 (ValueIdx.ix2 k e) := by
  refine Eq.trans ?_ (Finset.sum_congr rfl fun k _ => congrArg (· * x3 (ValueIdx.ix2 k e)) (in_at x0 x1 x2 b t k))
  unfold val_main_v55
  generalize val_main_v54 (F := Ideal) x0 x1 x2 = h
  pointwise
  rfl

/-- A slice of the product, cut out at its column. -/
theorem cut_at (o : Nat) (hs : S2x8448x2816.Slices ![0, 0, o] S2x8448x256) (j : Fin 11) (ho : 256 * j.val = o) (b : Fin 2) (t : Fin 8448) (l : Fin 256) :
    extractStridedSlice S2x8448x256 ![0, 0, o] (val_main_v55 (F := Ideal) x0 x1 x2 x3) hs (ValueIdx.ix3 b t l)
      = slice (inRow x0 x1 x2 b t) (fun k e => x3 (ValueIdx.ix2 k e)) j l := by
  subst ho
  refine Eq.trans (congrArg (val_main_v55 (F := Ideal) x0 x1 x2 x3) (funext fun a => Fin.ext ?_)) (dot_at x0 x1 x2 x3 b t ⟨256 * j.val + l.val, by omega⟩)
  match a with
  | ⟨0, _⟩ => exact (show 0 + b.val = b.val by omega)
  | ⟨1, _⟩ => exact (show 0 + t.val = t.val by omega)
  | ⟨2, _⟩ => rfl

/-- The eleven slices of the result. -/
def outs : Fin 11 → Vec Ideal S2x8448x256 .f32 :=
  ![val_main_v101 (F := Ideal) x0 x1 x2 x3 x4 x5, val_main_v134 (F := Ideal) x0 x1 x2 x3 x4 x5, val_main_v58 (F := Ideal) x0 x1 x2 x3,
    val_main_v167 (F := Ideal) x0 x1 x2 x3 x6 x7, val_main_v202 (F := Ideal) x0 x1 x2 x3 x6 x7, val_main_v61 (F := Ideal) x0 x1 x2 x3,
    val_main_v62 (F := Ideal) x0 x1 x2 x3, val_main_v204 (F := Ideal) x0 x1 x2 x3, val_main_v64 (F := Ideal) x0 x1 x2 x3,
    val_main_v65 (F := Ideal) x0 x1 x2 x3, val_main_v66 (F := Ideal) x0 x1 x2 x3]

theorem swing0 : val_main_v99 (F := Ideal) x0 x1 x2 x3 x4 x5 = swing8 (val_main_v56 (F := Ideal) x0 x1 x2 x3) x4 x5 := rfl
theorem swing1 : val_main_v134 (F := Ideal) x0 x1 x2 x3 x4 x5 = swing8 (val_main_v57 (F := Ideal) x0 x1 x2 x3) x4 x5 := rfl
theorem swing3 : val_main_v167 (F := Ideal) x0 x1 x2 x3 x6 x7 = swing16 (val_main_v59 (F := Ideal) x0 x1 x2 x3) x6 x7 := rfl
theorem swing4 : val_main_v200 (F := Ideal) x0 x1 x2 x3 x6 x7 = swing16 (val_main_v60 (F := Ideal) x0 x1 x2 x3) x6 x7 := rfl

theorem outs_at (j : Fin 11) (b : Fin 2) (t : Fin 8448) (l : Fin 256) :
    outs x0 x1 x2 x3 x4 x5 x6 x7 j (ValueIdx.ix3 b t l)
      = part (inRow x0 x1 x2 b t) (fun k e => x3 (ValueIdx.ix2 k e)) (fun l => x4 (ValueIdx.ix2 t l)) (fun l => x5 (ValueIdx.ix2 t l))
          (fun l => x6 (ValueIdx.ix2 t l)) (fun l => x7 (ValueIdx.ix2 t l)) j l := by
  have cut := fun o hs j ho => cut_at x0 x1 x2 x3 o hs j ho b t
  match j with
  | ⟨0, _⟩ => exact congrArg (· * Ideal.ofBits .f32 0x3E8293EE#32) (((congrFun (swing0 x0 x1 x2 x3 x4 x5) _).trans (swing8_at _ x4 x5 b t l)).trans
      (congrArg (fun z => turned 8 z _ _ l) (funext fun l => cut 0 slices_S2x8448x2816_S2x8448x256_0_0_0 0 rfl l)))
  | ⟨1, _⟩ => exact ((congrFun (swing1 x0 x1 x2 x3 x4 x5) _).trans (swing8_at _ x4 x5 b t l)).trans (congrArg (fun z => turned 8 z _ _ l) (funext fun l => cut 256 slices_S2x8448x2816_S2x8448x256_0_0_256 1 rfl l))
  | ⟨2, _⟩ => exact cut 512 slices_S2x8448x2816_S2x8448x256_0_0_512 2 rfl l
  | ⟨3, _⟩ => exact ((congrFun (swing3 x0 x1 x2 x3 x6 x7) _).trans (swing16_at _ x6 x7 b t l)).trans (congrArg (fun z => turned 16 z _ _ l) (funext fun l => cut 768 slices_S2x8448x2816_S2x8448x256_0_0_768 3 rfl l))
  | ⟨4, _⟩ => exact congrArg (· * Ideal.ofBits .f32 0x3E000000#32) (((congrFun (swing4 x0 x1 x2 x3 x6 x7) _).trans (swing16_at _ x6 x7 b t l)).trans
      (congrArg (fun z => turned 16 z _ _ l) (funext fun l => cut 1024 slices_S2x8448x2816_S2x8448x256_0_0_1024 4 rfl l)))
  | ⟨5, _⟩ => exact cut 1280 slices_S2x8448x2816_S2x8448x256_0_0_1280 5 rfl l
  | ⟨6, _⟩ => exact cut 1536 slices_S2x8448x2816_S2x8448x256_0_0_1536 6 rfl l
  | ⟨7, _⟩ => exact congrArg (· * Ideal.ofBits .f32 0x3E000000#32) (cut 1792 slices_S2x8448x2816_S2x8448x256_0_0_1792 7 rfl l)
  | ⟨8, _⟩ => exact cut 2048 slices_S2x8448x2816_S2x8448x256_0_0_2048 8 rfl l
  | ⟨9, _⟩ => exact cut 2304 slices_S2x8448x2816_S2x8448x256_0_0_2304 9 rfl l
  | ⟨10, _⟩ => exact cut 2560 slices_S2x8448x2816_S2x8448x256_0_0_2560 10 rfl l

/-- The result. -/
theorem result_at (b : Fin 2) (t : Fin 8448) (e : Fin 2816) :
    val_main_v206 (F := Ideal) x0 x1 x2 x3 x4 x5 x6 x7 (ValueIdx.ix3 b t e)
      = projected (inRow x0 x1 x2 b t) (fun k e => x3 (ValueIdx.ix2 k e)) (fun l => x4 (ValueIdx.ix2 t l)) (fun l => x5 (ValueIdx.ix2 t l))
          (fun l => x6 (ValueIdx.ix2 t l)) (fun l => x7 (ValueIdx.ix2 t l)) e :=
  (eleven_at (outs x0 x1 x2 x3 x4 x5 x6 x7) b t ⟨e.val / 256, by omega⟩ ⟨e.val % 256, Nat.mod_lt _ (by decide)⟩ e (by show e.val = 256 * (e.val / 256) + e.val % 256; omega)).trans
    (outs_at x0 x1 x2 x3 x4 x5 x6 x7 _ b t _)

end

end Cert.Reference7Ideal.Proj

end
-- ==== Proof.ProjValue.lean ====
/- The blocks of the input projection at coordinates, its first result entry by entry, and its equality with the reference's. -/
module

public import proofs.«01_k».proof.Proof.ProjTile
public import proofs.«01_k».proof.Proof.ProjRef
public import Idealize.ShloMosaic.Lib.Pipeline.ValueKit.Geometry
public import Idealize.ShloMosaic.Lib.StableHlo.RunRead

@[expose] public section

set_option maxRecDepth 16384

noncomputable section

namespace Cert.Kernel7Ideal.Result

open Idealize.ShloMosaic Idealize.ShloMosaic.TcCoe Idealize.ShloMosaic.Tactic Cert.Kernel7Ideal Cert.Kernel7Ideal.Gen Cert.Kernel7Ideal.Value Cert.Dense Cert.Proj
open Idealize.ShloMosaic.Pipeline (Dat Cfg Window)

section
variable {F : FTy → Type} [FloatOps F]
variable (m : (ℓ : Loc nD τ sig) → Buf (Elt F) ℓ)

theorem coord_batch (t : Fin grid0.N) : (grid0.coords t 0).val = t.val / 11 := by
  have h := Pipeline.Grid.coords_val (G := grid0) t 0 (S := 11) (B := 2) (by decide) rfl
  have ht : t.val < 22 := lt_of_lt_of_eq t.isLt N_0
  omega

theorem coord_block (t : Fin grid0.N) : (grid0.coords t 1).val = t.val % 11 := by
  have h := Pipeline.Grid.coords_val (G := grid0) t 1 (S := 1) (B := 11) (by decide) rfl
  omega

theorem word_batch (t : Fin grid0.N) : (BitVec.ofNat 32 (grid0.coords t 0).val).toNat = t.val / 11 := by
  have ht : t.val < 22 := lt_of_lt_of_eq t.isLt N_0
  rw [coord_batch, BitVec.toNat_ofNat, Nat.mod_eq_of_lt (by omega)]

theorem word_block (t : Fin grid0.N) : (BitVec.ofNat 32 (grid0.coords t 1).val).toNat = t.val % 11 := by
  rw [coord_block, BitVec.toNat_ofNat, Nat.mod_eq_of_lt (by omega)]

/-- A block of residual rows, read off any contents of its array. -/
theorem rows_block (Z : Vec F S2x8448x1024 .f32) (t : Fin cfg0.N) (r : Fin 768) (d : Fin 1024) (b : Fin 2) (ρ : Fin 8448) (hb : b.val = t.val / 11)
    (hρ : ρ.val = t.val % 11 * 768 + r.val) :
    ((cfg0.win 0).blk t).view.read (Elt F) Z (ValueIdx.ix3 (0 : Fin 1) r d) = Z (ValueIdx.ix3 b ρ d) := by
  refine congrArg Z (funext fun x => Fin.ext ?_)
  match x with
  | ⟨0, _⟩ =>
    refine (congrArg (fun z => z * 1 + 1 * 0) (word_batch t)).trans ?_
    show _ = b.val
    omega
  | ⟨1, _⟩ =>
    refine (congrArg (fun z => z * 768 + 1 * r.val) (word_block t)).trans ?_
    show _ = ρ.val
    omega
  | ⟨2, _⟩ => exact (show 0 * 1024 + 1 * d.val = d.val by omega)

/-- A block of the result's rows, read off any contents of its array. -/
theorem result_block (Z : Vec F S2x8448x2816 .bf16) (t : Fin cfg0.N) (r : Fin 768) (d : Fin 2816) (b : Fin 2) (ρ : Fin 8448) (hb : b.val = t.val / 11)
    (hρ : ρ.val = t.val % 11 * 768 + r.val) :
    ((cfg0.win 8).blk t).view.read (Elt F) Z (ValueIdx.ix3 (0 : Fin 1) r d) = Z (ValueIdx.ix3 b ρ d) := by
  refine congrArg Z (funext fun x => Fin.ext ?_)
  match x with
  | ⟨0, _⟩ =>
    refine (congrArg (fun z => z * 1 + 1 * 0) (word_batch t)).trans ?_
    show _ = b.val
    omega
  | ⟨1, _⟩ =>
    refine (congrArg (fun z => z * 768 + 1 * r.val) (word_block t)).trans ?_
    show _ = ρ.val
    omega
  | ⟨2, _⟩ => exact (show 0 * 2816 + 1 * d.val = d.val by omega)

/-- The modulation's block. -/
theorem mod_block (c : Dev nD) (t : Fin cfg0.N) (k : Fin 2) (j : Fin 6144) (b : Fin 2) (hb : b.val = t.val / 11) :
    iblk m c 1 t (ValueIdx.ix3 (0 : Fin 1) k j) = V m c main_arg1 (ValueIdx.ix3 b k j) := by
  refine congrArg (V m c main_arg1) (funext fun x => Fin.ext ?_)
  match x with
  | ⟨0, _⟩ =>
    refine (congrArg (fun z => z * 1 + 1 * 0) (word_batch t)).trans ?_
    show _ = b.val
    omega
  | ⟨1, _⟩ => exact (show 0 * 2 + 1 * k.val = k.val by omega)
  | ⟨2, _⟩ => exact (show 0 * 6144 + 1 * j.val = j.val by omega)

/-- The gains' block. -/
theorem gain_block (c : Dev nD) (t : Fin cfg0.N) (d : Fin 1024) : iblk m c 2 t (ValueIdx.ix2 (0 : Fin 1) d) = V m c main_arg2 (ValueIdx.ix2 (0 : Fin 1) d) := by
  refine congrArg (V m c main_arg2) (funext fun x => Fin.ext ?_)
  match x with
  | ⟨0, _⟩ => rfl
  | ⟨1, _⟩ => exact (show 0 * 1024 + 1 * d.val = d.val by omega)

/-- The weights' block. -/
theorem weights_block (c : Dev nD) (t : Fin cfg0.N) (k : Fin 1024) (e : Fin 2816) : iblk m c 3 t (ValueIdx.ix2 k e) = V m c main_v0 (ValueIdx.ix2 k e) := by
  refine congrArg (V m c main_v0) (funext fun x => Fin.ext ?_)
  match x with
  | ⟨0, _⟩ => exact (show 0 * 1024 + 1 * k.val = k.val by omega)
  | ⟨1, _⟩ => exact (show 0 * 2816 + 1 * e.val = e.val by omega)

theorem V_weights (c : Dev nD) : V m c main_v0 = truncf .bf16 (m ((c : Thread nD τ).loc main_arg3)) bitsLt_bf16_f32 := by
  unfold V hostOps0
  after_reads_simp

/-- The tables' blocks, read off any contents of their arrays. -/
theorem table4_block (Z : Vec F S8448x256 .f32) (t : Fin cfg0.N) (r : Fin 768) (l : Fin 256) (ρ : Fin 8448) (hρ : ρ.val = t.val % 11 * 768 + r.val) :
    ((cfg0.win 4).blk t).view.read (Elt F) Z (ValueIdx.ix2 r l) = Z (ValueIdx.ix2 ρ l) := by
  refine congrArg Z (funext fun x => Fin.ext ?_)
  match x with
  | ⟨0, _⟩ =>
    refine (congrArg (fun z => z * 768 + 1 * r.val) (word_block t)).trans ?_
    show _ = ρ.val
    omega
  | ⟨1, _⟩ => exact (show 0 * 256 + 1 * l.val = l.val by omega)

theorem table5_block (Z : Vec F S8448x256 .f32) (t : Fin cfg0.N) (r : Fin 768) (l : Fin 256) (ρ : Fin 8448) (hρ : ρ.val = t.val % 11 * 768 + r.val) :
    ((cfg0.win 5).blk t).view.read (Elt F) Z (ValueIdx.ix2 r l) = Z (ValueIdx.ix2 ρ l) := by
  refine congrArg Z (funext fun x => Fin.ext ?_)
  match x with
  | ⟨0, _⟩ =>
    refine (congrArg (fun z => z * 768 + 1 * r.val) (word_block t)).trans ?_
    show _ = ρ.val
    omega
  | ⟨1, _⟩ => exact (show 0 * 256 + 1 * l.val = l.val by omega)

theorem table6_block (Z : Vec F S8448x256 .f32) (t : Fin cfg0.N) (r : Fin 768) (l : Fin 256) (ρ : Fin 8448) (hρ : ρ.val = t.val % 11 * 768 + r.val) :
    ((cfg0.win 6).blk t).view.read (Elt F) Z (ValueIdx.ix2 r l) = Z (ValueIdx.ix2 ρ l) := by
  refine congrArg Z (funext fun x => Fin.ext ?_)
  match x with
  | ⟨0, _⟩ =>
    refine (congrArg (fun z => z * 768 + 1 * r.val) (word_block t)).trans ?_
    show _ = ρ.val
    omega
  | ⟨1, _⟩ => exact (show 0 * 256 + 1 * l.val = l.val by omega)

theorem table7_block (Z : Vec F S8448x256 .f32) (t : Fin cfg0.N) (r : Fin 768) (l : Fin 256) (ρ : Fin 8448) (hρ : ρ.val = t.val % 11 * 768 + r.val) :
    ((cfg0.win 7).blk t).view.read (Elt F) Z (ValueIdx.ix2 r l) = Z (ValueIdx.ix2 ρ l) := by
  refine congrArg Z (funext fun x => Fin.ext ?_)
  match x with
  | ⟨0, _⟩ =>
    refine (congrArg (fun z => z * 768 + 1 * r.val) (word_block t)).trans ?_
    show _ = ρ.val
    omega
  | ⟨1, _⟩ => exact (show 0 * 256 + 1 * l.val = l.val by omega)

/-- A block that a grid point leaves, as the slices that the point computes. -/
theorem flushed_at (c : Dev nD) (t : Fin cfg0.N) :
    (dats m 0 c).flushed 8 t = View.canon (slices (rowsIn (grid0.coords t) (iblk m c 0 t) (iblk m c 1 t) (iblk m c 2 t)) (iblk m c 3 t) (iblk m c 4 t) (iblk m c 5 t) (iblk m c 6 t) (iblk m c 7 t)) := by
  rw [flushed8_A]
  refine (View.read_writes_eq_canon _ _ _ fun y => cover0_A_8 c (grid0.coords t) _ _ _ _ _ _ _ _ _ _ _ _ _ _ _ _ _ _ _ _ _ _ _ _ _ _ _ _ _ _ _ _ _ _ y).trans ?_
  rw [pieces]

/-- An entry of the result array is the entry of the block that its grid point leaves. -/
theorem array_block (c : Dev nD) (t : Fin cfg0.N) (r : Fin 768) (e : Fin 2816) (b : Fin 2) (ρ : Fin 8448) (hb : b.val = t.val / 11)
    (hρ : ρ.val = t.val % 11 * 768 + r.val) :
    (dats m 0 c).arrAt 8 cfg0.N (ValueIdx.ix3 b ρ e) = View.canon (slices (rowsIn (grid0.coords t) (iblk m c 0 t) (iblk m c 1 t) (iblk m c 2 t)) (iblk m c 3 t) (iblk m c 4 t) (iblk m c 5 t) (iblk m c 6 t) (iblk m c 7 t)) (ValueIdx.ix3 (0 : Fin 1) r e) := by
  have h := congrFun ((blocks8 m c t (flush0_8 t)).trans (flushed_at m c t)) (ValueIdx.ix3 (0 : Fin 1) r e)
  exact (result_block ((dats m 0 c).arrAt 8 cfg0.N) t r e b ρ hb hρ).symm.trans h

end

variable (m : (ℓ : Loc nD τ sig) → Buf (Elt Ideal) ℓ)

/-- The result array at an entry. -/
theorem array_at (c : Dev nD) (b : Fin 2) (ρ : Fin 8448) (e : Fin 2816) :
    (dats m 0 c).arrAt 8 cfg0.N (ValueIdx.ix3 b ρ e)
      = projected (Cert.Reference7Ideal.Proj.inRow (m ((c : Thread nD τ).loc main_arg0)) (m ((c : Thread nD τ).loc main_arg1)) (m ((c : Thread nD τ).loc main_arg2)) b ρ)
          (fun k e => m ((c : Thread nD τ).loc main_arg3) (ValueIdx.ix2 k e)) (fun l => m ((c : Thread nD τ).loc main_arg4) (ValueIdx.ix2 ρ l))
          (fun l => m ((c : Thread nD τ).loc main_arg5) (ValueIdx.ix2 ρ l)) (fun l => m ((c : Thread nD τ).loc main_arg6) (ValueIdx.ix2 ρ l))
          (fun l => m ((c : Thread nD τ).loc main_arg7) (ValueIdx.ix2 ρ l)) e := by
  have hb := b.isLt
  have hρ := ρ.isLt
  have hlt : 11 * b.val + ρ.val / 768 < cfg0.N := by rw [show cfg0.N = 22 from N_0]; omega
  have h1 : b.val = (11 * b.val + ρ.val / 768) / 11 := by omega
  have h2 : ρ.val = (11 * b.val + ρ.val / 768) % 11 * 768 + ρ.val % 768 := by omega
  generalize 11 * b.val + ρ.val / 768 = n at hlt h1 h2
  have hc : ρ.val = (grid0.coords ⟨n, hlt⟩ 1).val * 768 + ρ.val % 768 := by rw [coord_block]; exact h2
  refine (array_block m c ⟨n, hlt⟩ ⟨ρ.val % 768, Nat.mod_lt _ (by decide)⟩ e b ρ h1 h2).trans ?_
  refine (View.canon_apply_of_pieces (Val := Elt Ideal) (S := S1x768x2816) (e := .bf16) (Tile.rowsOut _ _ _ _ _ _) _ (Tile.slices_at _ _ _ _ _ _) _ (covers _ _ _ _ _ _ _)).trans ?_
  unfold Tile.rowsOut
  have e0 : ∀ k, rowsIn (F := Ideal) (grid0.coords ⟨n, hlt⟩) (iblk m c 0 ⟨n, hlt⟩) (iblk m c 1 ⟨n, hlt⟩) (iblk m c 2 ⟨n, hlt⟩) (ValueIdx.ix2 (⟨ρ.val % 768, Nat.mod_lt _ (by decide)⟩ : Fin 768) k)
      = Cert.Reference7Ideal.Proj.inRow (m ((c : Thread nD τ).loc main_arg0)) (m ((c : Thread nD τ).loc main_arg1)) (m ((c : Thread nD τ).loc main_arg2)) b ρ k := fun k => by
    refine (Tile.rowsIn_at (grid0.coords ⟨n, hlt⟩) _ _ _ _ ρ hc k).trans ?_
    have i0 : ∀ k, iblk m c 0 ⟨n, hlt⟩ (ValueIdx.ix3 (0 : Fin 1) (⟨ρ.val % 768, Nat.mod_lt _ (by decide)⟩ : Fin 768) k) = m ((c : Thread nD τ).loc main_arg0) (ValueIdx.ix3 b ρ k) :=
      fun k => (rows_block (V m c main_arg0) ⟨n, hlt⟩ _ k b ρ h1 h2).trans (congrFun (V_main_arg0 m c) _)
    have i1 : ∀ j, iblk m c 1 ⟨n, hlt⟩ (ValueIdx.ix3 (0 : Fin 1) (kind ρ) j) = m ((c : Thread nD τ).loc main_arg1) (ValueIdx.ix3 b (kind ρ) j) :=
      fun j => (mod_block m c ⟨n, hlt⟩ (kind ρ) j b h1).trans (congrFun (V_main_arg1 m c) _)
    have i2 : ∀ k, iblk m c 2 ⟨n, hlt⟩ (ValueIdx.ix2 (0 : Fin 1) k) = m ((c : Thread nD τ).loc main_arg2) (ValueIdx.ix2 (0 : Fin 1) k) :=
      fun k => (gain_block m c ⟨n, hlt⟩ k).trans (congrFun (V_main_arg2 m c) _)
    exact congr (congr (congr (congr (congrArg modulated (funext i0)) (funext i2)) (funext fun d => i1 _)) (funext fun d => i1 _)) rfl
  have e3 : ∀ k e, iblk m c 3 ⟨n, hlt⟩ (ValueIdx.ix2 k e) = m ((c : Thread nD τ).loc main_arg3) (ValueIdx.ix2 k e) :=
    fun k e => (weights_block m c ⟨n, hlt⟩ k e).trans (congrFun (V_weights m c) _)
  exact congr (congr (congr (congr (congr (congr (congrArg projected (funext e0)) (funext fun k => funext fun e => e3 k e))
    (funext fun l => (table4_block (V m c main_arg4) ⟨n, hlt⟩ _ l ρ h2).trans (congrFun (V_main_arg4 m c) _)))
    (funext fun l => (table5_block (V m c main_arg5) ⟨n, hlt⟩ _ l ρ h2).trans (congrFun (V_main_arg5 m c) _)))
    (funext fun l => (table6_block (V m c main_arg6) ⟨n, hlt⟩ _ l ρ h2).trans (congrFun (V_main_arg6 m c) _)))
    (funext fun l => (table7_block (V m c main_arg7) ⟨n, hlt⟩ _ l ρ h2).trans (congrFun (V_main_arg7 m c) _))) rfl

/-- The call's first result is the reference's function of the arguments. -/
theorem result_eq (c : Dev nD) :
    (dats m 0 c).arrAt 8 cfg0.N = Cert.Reference7Ideal.Read.val_main_v206 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) := by
  funext i
  have hi : i = ValueIdx.ix3 (i 0) (i 1) (i 2) := funext fun a => match a with
    | ⟨0, _⟩ => rfl
    | ⟨1, _⟩ => rfl
    | ⟨2, _⟩ => rfl
  rw [hi]
  exact (array_at m c (i 0) (i 1) (i 2)).trans (Cert.Reference7Ideal.Proj.result_at _ _ _ _ _ _ _ _ (i 0) (i 1) (i 2)).symm

end Cert.Kernel7Ideal.Result

end
-- ==== Proof.lean ====
/- The certificate's claim, assembled from the modules under Proof. -/
module

public import proofs.«01_k».proof.Defs
public import proofs.«01_k».proof.Proof.Agree
public import proofs.«01_k».proof.Proof.OkBits
public import proofs.«01_k».proof.Proof.RunBits
public import proofs.«01_k».proof.Proof.DenseValue
public import proofs.«01_k».proof.Proof.OutValue
public import proofs.«01_k».proof.Proof.MixValue
public import proofs.«01_k».proof.Proof.ModValue
public import proofs.«01_k».proof.Proof.NormValue
public import proofs.«01_k».proof.Proof.ProjValue
public import proofs.«01_k».proof.Proof.Gen.Kernel2.Frame
public import proofs.«01_k».proof.Proof.Gen.Reference2Ideal.Run
public import proofs.«01_k».proof.Proof.Gen.Kernel3.Frame
public import proofs.«01_k».proof.Proof.Gen.Reference3Ideal.Run
public import proofs.«01_k».proof.Proof.Gen.Kernel4.Frame
public import proofs.«01_k».proof.Proof.Gen.Reference4Ideal.Run
public import proofs.«01_k».proof.Proof.Gen.Kernel5.Frame
public import proofs.«01_k».proof.Proof.Gen.Reference5Ideal.Run
public import proofs.«01_k».proof.Proof.Gen.Kernel6.Frame
public import proofs.«01_k».proof.Proof.Gen.Kernel7.Frame
public import proofs.«01_k».proof.Proof.Gen.Reference7Ideal.Run
public import proofs.«01_k».proof.Proof.Gen.Reference6Ideal.Run

@[expose] public section

set_option maxRecDepth 16384

noncomputable section

namespace Cert.Proof

open Idealize.ShloMosaic Idealize.ShloMosaic.TcCoe

local instance : Cert.Pre_experts_in_range.Facts := Cert.Range.preFacts

/-- The kernel's frame: the prefetched tables' side condition holds of every memory. -/
theorem frame_kernel : Cert.quiescent_Kernel := fun m ρ _ => Cert.Kernel.Gen.frame m ρ (Cert.Kernel.Gen.ok m)

/-- The ideal kernel's frame. -/
theorem frame_ideal : Cert.quiescent_KernelIdeal := fun m ρ _ => Cert.KernelIdeal.Gen.frame m ρ (Cert.KernelIdeal.Gen.ok m)

/-- The reference's frame: its run, read at the arguments; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two programs end with equal results. -/
theorem agree : Cert.algebraic_KernelIdeal_ReferenceIdeal_pre_experts_in_range := by
  intro m ρ m' ρ' hp harg
  have hO := Cert.KernelIdeal.Gen.ok m
  refine ⟨fun c => Cert.ReferenceIdeal.Read.val_main_v147 (F := Ideal)
      (m ((c : Thread Cert.KernelIdeal.nD Cert.KernelIdeal.τ).loc Cert.KernelIdeal.main_arg0)) (m ((c : Thread Cert.KernelIdeal.nD Cert.KernelIdeal.τ).loc Cert.KernelIdeal.main_arg1))
      (m ((c : Thread Cert.KernelIdeal.nD Cert.KernelIdeal.τ).loc Cert.KernelIdeal.main_arg2)) (m ((c : Thread Cert.KernelIdeal.nD Cert.KernelIdeal.τ).loc Cert.KernelIdeal.main_arg3))
      (m ((c : Thread Cert.KernelIdeal.nD Cert.KernelIdeal.τ).loc Cert.KernelIdeal.main_arg4)), ?_, ?_⟩
  · refine (θ_run Cert.KernelIdeal.defs _ _).mono (fun r h c => ⟨?_, h.2 c⟩)
      (θ_run_and (Cert.KernelIdeal.Gen.run_main m ρ hO) (Cert.KernelIdeal.Gen.unchanged m ρ hO))
    obtain rfl : c = 0 := Subsingleton.elim _ _
    exact ((h.1 0).2 Cert.KernelIdeal.main_v67 (by decide : Cert.KernelIdeal.main_v67 ∈ Pipeline.restRefs Cert.KernelIdeal.sig Cert.KernelIdeal.spec0)).trans
      ((Cert.KernelIdeal.Tail.result_eq m hO 0).trans (Cert.Agree.result_eq m hO hp))
  · refine (θ_run Cert.ReferenceIdeal.defs _ _).mono (fun r h c => ⟨?_, (h c).2⟩) (Cert.ReferenceIdeal.Value.run (F := Ideal) m' ρ')
    obtain ⟨e0, e1, e2, e3, e4⟩ := harg c
    have hv := Cert.ReferenceIdeal.Read.val_main_v147_eq (F := Ideal) (StableHlo.launchContents m' c)
    refine ((h c).1.trans hv).trans ?_
    show Cert.ReferenceIdeal.Read.val_main_v147 (F := Ideal) (m' ((c : Thread Cert.ReferenceIdeal.nD Cert.ReferenceIdeal.τ).loc Cert.ReferenceIdeal.main_arg0))
      (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg2))
      (m' ((c : Thread Cert.ReferenceIdeal.nD Cert.ReferenceIdeal.τ).loc Cert.ReferenceIdeal.main_arg3)) (m' ((c : Thread Cert.ReferenceIdeal.nD Cert.ReferenceIdeal.τ).loc Cert.ReferenceIdeal.main_arg4)) = _
    rw [e0, e1, e2, e3, e4]

/-! ## The dense feed-forward -/

theorem frame_dense : Cert.quiescent_Kernel2 := fun m ρ _ => Cert.Kernel2.Gen.frame m ρ

theorem frame_denseIdeal : Cert.quiescent_Kernel2Ideal := fun m ρ _ => Cert.Kernel2Ideal.Gen.frame m ρ

theorem frame_denseReference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The two programs end with equal results. -/
theorem agree_dense : Cert.algebraic_Kernel2Ideal_Reference2Ideal := by
  intro m ρ m' ρ' _ harg
  refine ⟨fun c => Cert.Reference2Ideal.Read.val_main_v94 (F := Ideal)
      (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1))
      (m ((c : Thread Cert.Kernel2Ideal.nD Cert.Kernel2Ideal.τ).loc Cert.Kernel2Ideal.main_arg2)) (m ((c : Thread Cert.Kernel2Ideal.nD Cert.Kernel2Ideal.τ).loc Cert.Kernel2Ideal.main_arg3))
      (m ((c : Thread Cert.Kernel2Ideal.nD Cert.Kernel2Ideal.τ).loc Cert.Kernel2Ideal.main_arg4)) (m ((c : Thread Cert.Kernel2Ideal.nD Cert.Kernel2Ideal.τ).loc Cert.Kernel2Ideal.main_arg5))
      (m ((c : Thread Cert.Kernel2Ideal.nD Cert.Kernel2Ideal.τ).loc Cert.Kernel2Ideal.main_arg6)), ?_, ?_⟩
  · exact (θ_run Cert.Kernel2Ideal.defs _ _).mono (fun r h c => ⟨(h c).1.trans (Cert.Kernel2Ideal.Result.result_eq m c), (h c).2⟩) (Cert.Kernel2Ideal.Value.run m ρ)
  · refine (θ_run Cert.Reference2Ideal.defs _ _).mono (fun r h c => ⟨?_, (h c).2⟩) (Cert.Reference2Ideal.Value.run (F := Ideal) m' ρ')
    obtain ⟨e0, e1, e2, e3, e4, e5, e6⟩ := harg c
    have hv := Cert.Reference2Ideal.Read.val_main_v94_eq (F := Ideal) m' c
    refine ((h c).1.trans hv).trans ?_
    show Cert.Reference2Ideal.Read.val_main_v94 (F := Ideal)
      (m' ((c : Thread Cert.Reference2Ideal.nD Cert.Reference2Ideal.τ).loc Cert.Reference2Ideal.main_arg0)) (m' ((c : Thread Cert.Reference2Ideal.nD Cert.Reference2Ideal.τ).loc Cert.Reference2Ideal.main_arg1))
      (m' ((c : Thread Cert.Reference2Ideal.nD Cert.Reference2Ideal.τ).loc Cert.Reference2Ideal.main_arg2)) (m' ((c : Thread Cert.Reference2Ideal.nD Cert.Reference2Ideal.τ).loc Cert.Reference2Ideal.main_arg3))
      (m' ((c : Thread Cert.Reference2Ideal.nD Cert.Reference2Ideal.τ).loc Cert.Reference2Ideal.main_arg4)) (m' ((c : Thread Cert.Reference2Ideal.nD Cert.Reference2Ideal.τ).loc Cert.Reference2Ideal.main_arg5))
      (m' ((c : Thread Cert.Reference2Ideal.nD Cert.Reference2Ideal.τ).loc Cert.Reference2Ideal.main_arg6)) = _
    rw [e0, e1, e2, e3, e4, e5, e6]

/-! ## The output projection -/

theorem frame_out : Cert.quiescent_Kernel3 := fun m ρ _ => Cert.Kernel3.Gen.frame m ρ

theorem frame_outIdeal : Cert.quiescent_Kernel3Ideal := fun m ρ _ => Cert.Kernel3Ideal.Gen.frame m ρ

theorem frame_outReference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The two programs end with equal results. -/
theorem agree_out : Cert.algebraic_Kernel3Ideal_Reference3Ideal := by
  intro m ρ m' ρ' _ harg
  refine ⟨fun c => Cert.Reference3Ideal.Read.val_main_v62 (F := Ideal)
      (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1))
      (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3))
      (m ((c : Thread Cert.Kernel3Ideal.nD Cert.Kernel3Ideal.τ).loc Cert.Kernel3Ideal.main_arg4)) (m ((c : Thread Cert.Kernel3Ideal.nD Cert.Kernel3Ideal.τ).loc Cert.Kernel3Ideal.main_arg5))
      (m ((c : Thread Cert.Kernel3Ideal.nD Cert.Kernel3Ideal.τ).loc Cert.Kernel3Ideal.main_arg6)) (m ((c : Thread Cert.Kernel3Ideal.nD Cert.Kernel3Ideal.τ).loc Cert.Kernel3Ideal.main_arg7)), ?_, ?_⟩
  · exact (θ_run Cert.Kernel3Ideal.defs _ _).mono (fun r h c => ⟨(h c).1.trans (Cert.Kernel3Ideal.Result.result_eq m c), (h c).2⟩) (Cert.Kernel3Ideal.Value.run_blocks m ρ)
  · refine (θ_run Cert.Reference3Ideal.defs _ _).mono (fun r h c => ⟨?_, (h c).2⟩) (Cert.Reference3Ideal.Value.run (F := Ideal) m' ρ')
    obtain ⟨e0, e1, e2, e3, e4, e5, e6, e7⟩ := harg c
    have hv := Cert.Reference3Ideal.Read.val_main_v62_eq (F := Ideal) m' c
    refine ((h c).1.trans hv).trans ?_
    show Cert.Reference3Ideal.Read.val_main_v62 (F := Ideal)
      (m' ((c : Thread Cert.Reference3Ideal.nD Cert.Reference3Ideal.τ).loc Cert.Reference3Ideal.main_arg0)) (m' ((c : Thread Cert.Reference3Ideal.nD Cert.Reference3Ideal.τ).loc Cert.Reference3Ideal.main_arg1))
      (m' ((c : Thread Cert.Reference3Ideal.nD Cert.Reference3Ideal.τ).loc Cert.Reference3Ideal.main_arg2)) (m' ((c : Thread Cert.Reference3Ideal.nD Cert.Reference3Ideal.τ).loc Cert.Reference3Ideal.main_arg3))
      (m' ((c : Thread Cert.Reference3Ideal.nD Cert.Reference3Ideal.τ).loc Cert.Reference3Ideal.main_arg4)) (m' ((c : Thread Cert.Reference3Ideal.nD Cert.Reference3Ideal.τ).loc Cert.Reference3Ideal.main_arg5))
      (m' ((c : Thread Cert.Reference3Ideal.nD Cert.Reference3Ideal.τ).loc Cert.Reference3Ideal.main_arg6)) (m' ((c : Thread Cert.Reference3Ideal.nD Cert.Reference3Ideal.τ).loc Cert.Reference3Ideal.main_arg7)) = _
    rw [e0, e1, e2, e3, e4, e5, e6, e7]

/-! ## The residual after the experts -/

theorem frame_mix : Cert.quiescent_Kernel4 := fun m ρ _ => Cert.Kernel4.Gen.frame m ρ

theorem frame_mixIdeal : Cert.quiescent_Kernel4Ideal := fun m ρ _ => Cert.Kernel4Ideal.Gen.frame m ρ

theorem frame_mixReference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The two programs end with equal results. -/
theorem agree_mix : Cert.algebraic_Kernel4Ideal_Reference4Ideal := by
  intro m ρ m' ρ' _ harg
  refine ⟨fun c => Cert.Reference4Ideal.Read.val_main_v57 (F := Ideal)
      (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1))
      (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3))
      (m ((c : Thread Cert.Kernel4Ideal.nD Cert.Kernel4Ideal.τ).loc Cert.Kernel4Ideal.main_arg4)), ?_, ?_⟩
  · exact (θ_run Cert.Kernel4Ideal.defs _ _).mono (fun r h c => ⟨(h c).1.trans (Cert.Kernel4Ideal.Result.result_eq m c), (h c).2⟩) (Cert.Kernel4Ideal.Value.run_blocks m ρ)
  · refine (θ_run Cert.Reference4Ideal.defs _ _).mono (fun r h c => ⟨?_, (h c).2⟩) (Cert.Reference4Ideal.Value.run (F := Ideal) m' ρ')
    obtain ⟨e0, e1, e2, e3, e4⟩ := harg c
    have hv := Cert.Reference4Ideal.Read.val_main_v57_eq (F := Ideal) m' c
    refine ((h c).1.trans hv).trans ?_
    show Cert.Reference4Ideal.Read.val_main_v57 (F := Ideal)
      (m' ((c : Thread Cert.Reference4Ideal.nD Cert.Reference4Ideal.τ).loc Cert.Reference4Ideal.main_arg0)) (m' ((c : Thread Cert.Reference4Ideal.nD Cert.Reference4Ideal.τ).loc Cert.Reference4Ideal.main_arg1))
      (m' ((c : Thread Cert.Reference4Ideal.nD Cert.Reference4Ideal.τ).loc Cert.Reference4Ideal.main_arg2)) (m' ((c : Thread Cert.Reference4Ideal.nD Cert.Reference4Ideal.τ).loc Cert.Reference4Ideal.main_arg3))
      (m' ((c : Thread Cert.Reference4Ideal.nD Cert.Reference4Ideal.τ).loc Cert.Reference4Ideal.main_arg4)) = _
    rw [e0, e1, e2, e3, e4]

/-! ## The modulation -/

theorem frame_mod : Cert.quiescent_Kernel5 := fun m ρ _ => Cert.Kernel5.Gen.frame m ρ

theorem frame_modIdeal : Cert.quiescent_Kernel5Ideal := fun m ρ _ => Cert.Kernel5Ideal.Gen.frame m ρ

theorem frame_modReference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The two programs end with equal results. -/
theorem agree_mod : Cert.algebraic_Kernel5Ideal_Reference5Ideal := by
  intro m ρ m' ρ' _ harg
  refine ⟨fun c => Cert.Reference5Ideal.Read.val_main_v37 (F := Ideal)
      (m ((c : Thread Cert.Kernel5Ideal.nD Cert.Kernel5Ideal.τ).loc Cert.Kernel5Ideal.main_arg0))
      (m ((c : Thread Cert.Kernel5Ideal.nD Cert.Kernel5Ideal.τ).loc Cert.Kernel5Ideal.main_arg1))
      (m ((c : Thread Cert.Kernel5Ideal.nD Cert.Kernel5Ideal.τ).loc Cert.Kernel5Ideal.main_arg2)), ?_, ?_⟩
  · exact (θ_run Cert.Kernel5Ideal.defs _ _).mono (fun r h c => ⟨(h c).1.trans (Cert.Kernel5Ideal.Result.result_eq m c), (h c).2⟩) (Cert.Kernel5Ideal.Value.run_blocks m ρ)
  · refine (θ_run Cert.Reference5Ideal.defs _ _).mono (fun r h c => ⟨?_, (h c).2⟩) (Cert.Reference5Ideal.Value.run (F := Ideal) m' ρ')
    obtain ⟨e0, e1, e2⟩ := harg c
    have hv := Cert.Reference5Ideal.Read.val_main_v37_eq (F := Ideal)
      (m' ((c : Thread Cert.Reference5Ideal.nD Cert.Reference5Ideal.τ).loc Cert.Reference5Ideal.main_arg0))
      (m' ((c : Thread Cert.Reference5Ideal.nD Cert.Reference5Ideal.τ).loc Cert.Reference5Ideal.main_arg1))
      (m' ((c : Thread Cert.Reference5Ideal.nD Cert.Reference5Ideal.τ).loc Cert.Reference5Ideal.main_arg2))
    refine ((h c).1.trans hv).trans ?_
    rw [e0, e1, e2]

/-! ## The norm before the experts -/

theorem frame_norm : Cert.quiescent_Kernel6 := fun m ρ _ => Cert.Kernel6.Gen.frame m ρ

theorem frame_normIdeal : Cert.quiescent_Kernel6Ideal := fun m ρ _ => Cert.Kernel6Ideal.Gen.frame m ρ

theorem frame_normReference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The two programs end with equal results. -/
theorem agree_norm : Cert.algebraic_Kernel6Ideal_Reference6Ideal := by
  intro m ρ m' ρ' _ harg
  refine ⟨fun c => Cert.Reference6Ideal.Read.val_main_v55 (F := Ideal)
      (m ((c : Thread Cert.Kernel6Ideal.nD Cert.Kernel6Ideal.τ).loc Cert.Kernel6Ideal.main_arg0))
      (m ((c : Thread Cert.Kernel6Ideal.nD Cert.Kernel6Ideal.τ).loc Cert.Kernel6Ideal.main_arg1))
      (m ((c : Thread Cert.Kernel6Ideal.nD Cert.Kernel6Ideal.τ).loc Cert.Kernel6Ideal.main_arg2)), ?_, ?_⟩
  · exact (θ_run Cert.Kernel6Ideal.defs _ _).mono (fun r h c => ⟨(h c).1.trans (Cert.Kernel6Ideal.Result.result_eq m c), (h c).2.2⟩) (Cert.Kernel6Ideal.Value.run_blocks m ρ)
  · refine (θ_run Cert.Reference6Ideal.defs _ _).mono (fun r h c => ⟨?_, (h c).2⟩) (Cert.Reference6Ideal.Value.run (F := Ideal) m' ρ')
    obtain ⟨e0, e1, e2, _⟩ := harg c
    have hv := Cert.Reference6Ideal.Read.val_main_v55_eq (F := Ideal)
      (m' ((c : Thread Cert.Reference6Ideal.nD Cert.Reference6Ideal.τ).loc Cert.Reference6Ideal.main_arg0))
      (m' ((c : Thread Cert.Reference6Ideal.nD Cert.Reference6Ideal.τ).loc Cert.Reference6Ideal.main_arg1))
      (m' ((c : Thread Cert.Reference6Ideal.nD Cert.Reference6Ideal.τ).loc Cert.Reference6Ideal.main_arg2))
    refine ((h c).1.trans hv).trans ?_
    rw [e0, e1, e2]

/-! ## The input projection -/

theorem frame_proj : Cert.quiescent_Kernel7 := fun m ρ _ => Cert.Kernel7.Gen.frame m ρ

theorem frame_projIdeal : Cert.quiescent_Kernel7Ideal := fun m ρ _ => Cert.Kernel7Ideal.Gen.frame m ρ

theorem frame_projReference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The two programs end with equal results. -/
theorem agree_proj : Cert.algebraic_Kernel7Ideal_Reference7Ideal := by
  intro m ρ m' ρ' _ harg
  refine ⟨fun c => Cert.Reference7Ideal.Read.val_main_v206 (F := Ideal)
      (m ((c : Thread Cert.Kernel7Ideal.nD Cert.Kernel7Ideal.τ).loc Cert.Kernel7Ideal.main_arg0))
      (m ((c : Thread Cert.Kernel7Ideal.nD Cert.Kernel7Ideal.τ).loc Cert.Kernel7Ideal.main_arg1))
      (m ((c : Thread Cert.Kernel7Ideal.nD Cert.Kernel7Ideal.τ).loc Cert.Kernel7Ideal.main_arg2))
      (m ((c : Thread Cert.Kernel7Ideal.nD Cert.Kernel7Ideal.τ).loc Cert.Kernel7Ideal.main_arg3))
      (m ((c : Thread Cert.Kernel7Ideal.nD Cert.Kernel7Ideal.τ).loc Cert.Kernel7Ideal.main_arg4))
      (m ((c : Thread Cert.Kernel7Ideal.nD Cert.Kernel7Ideal.τ).loc Cert.Kernel7Ideal.main_arg5))
      (m ((c : Thread Cert.Kernel7Ideal.nD Cert.Kernel7Ideal.τ).loc Cert.Kernel7Ideal.main_arg6))
      (m ((c : Thread Cert.Kernel7Ideal.nD Cert.Kernel7Ideal.τ).loc Cert.Kernel7Ideal.main_arg7)), ?_, ?_⟩
  · exact (θ_run Cert.Kernel7Ideal.defs _ _).mono (fun r h c => ⟨(h c).1.trans (Cert.Kernel7Ideal.Result.result_eq m c), (h c).2.2.2.2⟩) (Cert.Kernel7Ideal.Value.run_blocks m ρ)
  · refine (θ_run Cert.Reference7Ideal.defs _ _).mono (fun r h c => ⟨?_, (h c).2⟩) (Cert.Reference7Ideal.Value.run (F := Ideal) m' ρ')
    obtain ⟨e0, e1, e2, e3, e4, e5, e6, e7⟩ := harg c
    refine ((h c).1.trans (Cert.Reference7Ideal.Read.val_main_v206_eq (F := Ideal) (StableHlo.launchContents m' c))).trans ?_
    change Cert.Reference7Ideal.Read.val_main_v206 (F := Ideal)
      (m' ((c : Thread Cert.Reference7Ideal.nD Cert.Reference7Ideal.τ).loc Cert.Reference7Ideal.main_arg0))
      (m' ((c : Thread Cert.Reference7Ideal.nD Cert.Reference7Ideal.τ).loc Cert.Reference7Ideal.main_arg1))
      (m' ((c : Thread Cert.Reference7Ideal.nD Cert.Reference7Ideal.τ).loc Cert.Reference7Ideal.main_arg2))
      (m' ((c : Thread Cert.Reference7Ideal.nD Cert.Reference7Ideal.τ).loc Cert.Reference7Ideal.main_arg3))
      (m' ((c : Thread Cert.Reference7Ideal.nD Cert.Reference7Ideal.τ).loc Cert.Reference7Ideal.main_arg4))
      (m' ((c : Thread Cert.Reference7Ideal.nD Cert.Reference7Ideal.τ).loc Cert.Reference7Ideal.main_arg5))
      (m' ((c : Thread Cert.Reference7Ideal.nD Cert.Reference7Ideal.τ).loc Cert.Reference7Ideal.main_arg6))
      (m' ((c : Thread Cert.Reference7Ideal.nD Cert.Reference7Ideal.τ).loc Cert.Reference7Ideal.main_arg7)) = _
    rw [e0, e1, e2, e3, e4, e5, e6, e7]

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Cert.Range.preFacts,
    frame_kernel, frame_ideal, fun m ρ _ => frame_ideal m ρ trivial, frame_reference, fun m ρ _ => frame_reference m ρ trivial,
    frame_dense, frame_denseIdeal, frame_denseReference, frame_out, frame_outIdeal, frame_outReference,
    frame_mix, frame_mixIdeal, frame_mixReference,
    frame_mod, frame_modIdeal, frame_modReference, frame_norm, frame_normIdeal, frame_normReference,
    frame_proj, frame_projIdeal, frame_projReference,
    trivial, agree, trivial, agree_dense, trivial, agree_out, trivial, agree_mix, trivial, agree_mod, trivial, agree_norm, trivial, agree_proj⟩

end Cert.Proof

end
